-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_in_range [hPre_gates_in_range : Cert.Pre_gates_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_gates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_gates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_in_range [hPre_gates_in_range : Cert.Pre_gates_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_gates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_gates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Late (m : (ℓ : Loc Cert.Late.nD Cert.Late.τ Cert.Late.sig) → Buf (Elt Bits) ℓ) : Prop :=
  True

def Pre_LateIdeal (m : (ℓ : Loc Cert.LateIdeal.nD Cert.LateIdeal.τ Cert.LateIdeal.sig) → Buf (Elt Ideal) ℓ) : Prop :=
  True

def Pre_LateRefIdeal (m : (ℓ : Loc Cert.LateRefIdeal.nD Cert.LateRefIdeal.τ Cert.LateRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_late_finite [hPre_late_finite : Cert.Pre_late_finite.Facts] (m : (ℓ : Loc Cert.OutIdeal.nD Cert.OutIdeal.τ Cert.OutIdeal.sig) → Buf (Elt Ideal) ℓ) : Prop :=
  ∀ c : Dev Cert.OutIdeal.nD,
    (Cert.Pre_late_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6))).1 = (fun _ => 1#1)
    ∧ (Cert.Pre_late_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6))).2.1 = (fun _ => 1#1)
    ∧ (Cert.Pre_late_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6))).2.2.1 = (fun _ => 1#1)
    ∧ (Cert.Pre_late_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6))).2.2.2.1 = (fun _ => 1#1)
    ∧ (Cert.Pre_late_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6))).2.2.2.2.1 = (fun _ => 1#1)
    ∧ (Cert.Pre_late_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6))).2.2.2.2.2.1 = (fun _ => 1#1)
    ∧ (Cert.Pre_late_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6))).2.2.2.2.2.2 = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_late_finite [hPre_late_finite : Cert.Pre_late_finite.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_late_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6))).1 = (fun _ => 1#1)
    ∧ (Cert.Pre_late_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6))).2.1 = (fun _ => 1#1)
    ∧ (Cert.Pre_late_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6))).2.2.1 = (fun _ => 1#1)
    ∧ (Cert.Pre_late_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6))).2.2.2.1 = (fun _ => 1#1)
    ∧ (Cert.Pre_late_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6))).2.2.2.2.1 = (fun _ => 1#1)
    ∧ (Cert.Pre_late_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6))).2.2.2.2.2.1 = (fun _ => 1#1)
    ∧ (Cert.Pre_late_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6))).2.2.2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.2.2.2.2 = (fun _ => 1#1)

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gates_in_range [hKernelIdeal : Cert.KernelIdeal.Facts] [hPre_gates_in_range : Cert.Pre_gates_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gates_in_range [hReferenceIdeal : Cert.ReferenceIdeal.Facts] [hPre_gates_in_range : Cert.Pre_gates_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Late [hLate : Cert.Late.Facts] : Prop :=
  ∀ (m : (ℓ : Loc Cert.Late.nD Cert.Late.τ Cert.Late.sig) → Buf (Elt Bits) ℓ) (g : Dev Cert.Late.nD → PrngReg), Pre_Late m →
    θ_run (Cert.Late.defs (F := Bits)) (onTc (τ := Cert.Late.τ) (Cert.Late.main (F := Bits))) ⟨m, fun _ => 0, g⟩ (fun r => (∀ c : Dev Cert.Late.nD,
      r.2.mem ((c.tc : Thread Cert.Late.nD Cert.Late.τ).loc Cert.Late.main_arg0) = m ((c.tc : Thread Cert.Late.nD Cert.Late.τ).loc Cert.Late.main_arg0)
      ∧ r.2.mem ((c.tc : Thread Cert.Late.nD Cert.Late.τ).loc Cert.Late.main_arg1) = m ((c.tc : Thread Cert.Late.nD Cert.Late.τ).loc Cert.Late.main_arg1))
      ∧ r.2.sem = fun _ => 0)

def quiescent_LateIdeal [hLateIdeal : Cert.LateIdeal.Facts] : Prop :=
  ∀ (m : (ℓ : Loc Cert.LateIdeal.nD Cert.LateIdeal.τ Cert.LateIdeal.sig) → Buf (Elt Ideal) ℓ) (g : Dev Cert.LateIdeal.nD → PrngReg), Pre_LateIdeal m →
    θ_run (Cert.LateIdeal.defs (F := Ideal)) (onTc (τ := Cert.LateIdeal.τ) (Cert.LateIdeal.main (F := Ideal))) ⟨m, fun _ => 0, g⟩ (fun r => (∀ c : Dev Cert.LateIdeal.nD,
      r.2.mem ((c.tc : Thread Cert.LateIdeal.nD Cert.LateIdeal.τ).loc Cert.LateIdeal.main_arg0) = m ((c.tc : Thread Cert.LateIdeal.nD Cert.LateIdeal.τ).loc Cert.LateIdeal.main_arg0)
      ∧ r.2.mem ((c.tc : Thread Cert.LateIdeal.nD Cert.LateIdeal.τ).loc Cert.LateIdeal.main_arg1) = m ((c.tc : Thread Cert.LateIdeal.nD Cert.LateIdeal.τ).loc Cert.LateIdeal.main_arg1))
      ∧ r.2.sem = fun _ => 0)

def quiescent_LateRefIdeal [hLateRefIdeal : Cert.LateRefIdeal.Facts] : Prop :=
  ∀ (m : (ℓ : Loc Cert.LateRefIdeal.nD Cert.LateRefIdeal.τ Cert.LateRefIdeal.sig) → Buf (Elt Ideal) ℓ) (g : Dev Cert.LateRefIdeal.nD → PrngReg), Pre_LateRefIdeal m →
    θ_run (Cert.LateRefIdeal.defs (F := Ideal)) (onTc (τ := Cert.LateRefIdeal.τ) (Cert.LateRefIdeal.main (F := Ideal))) ⟨m, fun _ => 0, g⟩ (fun r => (∀ c : Dev Cert.LateRefIdeal.nD,
      r.2.mem ((c.tc : Thread Cert.LateRefIdeal.nD Cert.LateRefIdeal.τ).loc Cert.LateRefIdeal.main_arg0) = m ((c.tc : Thread Cert.LateRefIdeal.nD Cert.LateRefIdeal.τ).loc Cert.LateRefIdeal.main_arg0)
      ∧ r.2.mem ((c.tc : Thread Cert.LateRefIdeal.nD Cert.LateRefIdeal.τ).loc Cert.LateRefIdeal.main_arg1) = m ((c.tc : Thread Cert.LateRefIdeal.nD Cert.LateRefIdeal.τ).loc Cert.LateRefIdeal.main_arg1))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutIdeal_pre_late_finite [hOutIdeal : Cert.OutIdeal.Facts] [hPre_late_finite : Cert.Pre_late_finite.Facts] : Prop :=
  ∀ (m : (ℓ : Loc Cert.OutIdeal.nD Cert.OutIdeal.τ Cert.OutIdeal.sig) → Buf (Elt Ideal) ℓ) (g : Dev Cert.OutIdeal.nD → PrngReg), Pre_OutIdeal_late_finite m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_OutRefIdeal_pre_late_finite [hOutRefIdeal : Cert.OutRefIdeal.Facts] [hPre_late_finite : Cert.Pre_late_finite.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_late_finite m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4)
      ∧ r.2.mem ((c.tc : Thread Cert.Join.nD Cert.Join.τ).loc Cert.Join.main_arg5) = m ((c.tc : Thread Cert.Join.nD Cert.Join.τ).loc Cert.Join.main_arg5)
      ∧ r.2.mem ((c.tc : Thread Cert.Join.nD Cert.Join.τ).loc Cert.Join.main_arg6) = m ((c.tc : Thread Cert.Join.nD Cert.Join.τ).loc Cert.Join.main_arg6)
      ∧ r.2.mem ((c.tc : Thread Cert.Join.nD Cert.Join.τ).loc Cert.Join.main_arg7) = m ((c.tc : Thread Cert.Join.nD Cert.Join.τ).loc Cert.Join.main_arg7))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6)
      ∧ r.2.mem ((c.tc : Thread Cert.JoinRefIdeal.nD Cert.JoinRefIdeal.τ).loc Cert.JoinRefIdeal.main_arg7) = m ((c.tc : Thread Cert.JoinRefIdeal.nD Cert.JoinRefIdeal.τ).loc Cert.JoinRefIdeal.main_arg7))
      ∧ r.2.sem = fun _ => 0)

def preserves_Kernel_KernelIdeal : Prop :=
  True

def algebraic_KernelIdeal_ReferenceIdeal_pre_gates_in_range [hKernelIdeal : Cert.KernelIdeal.Facts] [hReferenceIdeal : Cert.ReferenceIdeal.Facts] [hPre_gates_in_range : Cert.Pre_gates_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Back_BackIdeal : Prop :=
  True

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Late_LateIdeal : Prop :=
  True

def algebraic_LateIdeal_LateRefIdeal [hLateIdeal : Cert.LateIdeal.Facts] [hLateRefIdeal : Cert.LateRefIdeal.Facts] : Prop :=
  ∀ (m : (ℓ : Loc Cert.LateIdeal.nD Cert.LateIdeal.τ Cert.LateIdeal.sig) → Buf (Elt Ideal) ℓ) (g : Dev Cert.LateIdeal.nD → PrngReg)
    (m' : (ℓ : Loc Cert.LateRefIdeal.nD Cert.LateRefIdeal.τ Cert.LateRefIdeal.sig) → Buf (Elt Ideal) ℓ) (g' : Dev Cert.LateRefIdeal.nD → PrngReg), Pre_LateIdeal m →
    (∀ c : Dev Cert.LateIdeal.nD,
      m' ((c.tc : Thread Cert.LateRefIdeal.nD Cert.LateRefIdeal.τ).loc Cert.LateRefIdeal.main_arg0) = m ((c.tc : Thread Cert.LateIdeal.nD Cert.LateIdeal.τ).loc Cert.LateIdeal.main_arg0)
      ∧ m' ((c.tc : Thread Cert.LateRefIdeal.nD Cert.LateRefIdeal.τ).loc Cert.LateRefIdeal.main_arg1) = m ((c.tc : Thread Cert.LateIdeal.nD Cert.LateIdeal.τ).loc Cert.LateIdeal.main_arg1)) →
    ∃ (v0 : (c : Dev Cert.LateIdeal.nD) → Buf (Elt Ideal) ((c.tc : Thread Cert.LateIdeal.nD Cert.LateIdeal.τ).loc Cert.LateIdeal.main_v2)),
      θ_run (Cert.LateIdeal.defs (F := Ideal)) (onTc (τ := Cert.LateIdeal.τ) (Cert.LateIdeal.main (F := Ideal))) ⟨m, fun _ => 0, g⟩ (fun r => ∀ c : Dev Cert.LateIdeal.nD,
          r.2.mem ((c.tc : Thread Cert.LateIdeal.nD Cert.LateIdeal.τ).loc Cert.LateIdeal.main_v2) = v0 c
          ∧ r.2.mem ((c.tc : Thread Cert.LateIdeal.nD Cert.LateIdeal.τ).loc Cert.LateIdeal.main_arg0) = m ((c.tc : Thread Cert.LateIdeal.nD Cert.LateIdeal.τ).loc Cert.LateIdeal.main_arg0)
          ∧ r.2.mem ((c.tc : Thread Cert.LateIdeal.nD Cert.LateIdeal.τ).loc Cert.LateIdeal.main_arg1) = m ((c.tc : Thread Cert.LateIdeal.nD Cert.LateIdeal.τ).loc Cert.LateIdeal.main_arg1))
      ∧ θ_run (Cert.LateRefIdeal.defs (F := Ideal)) (onTc (τ := Cert.LateRefIdeal.τ) (Cert.LateRefIdeal.main (F := Ideal))) ⟨m', fun _ => 0, g'⟩ (fun r => ∀ c : Dev Cert.LateRefIdeal.nD,
          r.2.mem ((c.tc : Thread Cert.LateRefIdeal.nD Cert.LateRefIdeal.τ).loc Cert.LateRefIdeal.main_v2) = v0 c
          ∧ r.2.mem ((c.tc : Thread Cert.LateRefIdeal.nD Cert.LateRefIdeal.τ).loc Cert.LateRefIdeal.main_arg0) = m' ((c.tc : Thread Cert.LateRefIdeal.nD Cert.LateRefIdeal.τ).loc Cert.LateRefIdeal.main_arg0)
          ∧ r.2.mem ((c.tc : Thread Cert.LateRefIdeal.nD Cert.LateRefIdeal.τ).loc Cert.LateRefIdeal.main_arg1) = m' ((c.tc : Thread Cert.LateRefIdeal.nD Cert.LateRefIdeal.τ).loc Cert.LateRefIdeal.main_arg1))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v33)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v33) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v42) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6))

def preserves_Out_OutIdeal : Prop :=
  True

def algebraic_OutIdeal_OutRefIdeal_pre_late_finite [hOutIdeal : Cert.OutIdeal.Facts] [hOutRefIdeal : Cert.OutRefIdeal.Facts] [hPre_late_finite : Cert.Pre_late_finite.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_late_finite m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v46_0)) (v1 : (c : Dev Cert.OutIdeal.nD) → Buf (Elt Ideal) ((c.tc : Thread Cert.OutIdeal.nD Cert.OutIdeal.τ).loc Cert.OutIdeal.main_v46_1)) (v2 : (c : Dev Cert.OutIdeal.nD) → Buf (Elt Ideal) ((c.tc : Thread Cert.OutIdeal.nD Cert.OutIdeal.τ).loc Cert.OutIdeal.main_v46_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v46_0) = v0 c
          ∧ r.2.mem ((c.tc : Thread Cert.OutIdeal.nD Cert.OutIdeal.τ).loc Cert.OutIdeal.main_v46_1) = v1 c
          ∧ r.2.mem ((c.tc : Thread Cert.OutIdeal.nD Cert.OutIdeal.τ).loc Cert.OutIdeal.main_v46_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v68) = v0 c
          ∧ r.2.mem ((c.tc : Thread Cert.OutRefIdeal.nD Cert.OutRefIdeal.τ).loc Cert.OutRefIdeal.main_v69) = v1 c
          ∧ r.2.mem ((c.tc : Thread Cert.OutRefIdeal.nD Cert.OutRefIdeal.τ).loc Cert.OutRefIdeal.main_v67) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v49_0)) (v1 : (c : Dev Cert.MixIdeal.nD) → Buf (Elt Ideal) ((c.tc : Thread Cert.MixIdeal.nD Cert.MixIdeal.τ).loc Cert.MixIdeal.main_v49_1)) (v2 : (c : Dev Cert.MixIdeal.nD) → Buf (Elt Ideal) ((c.tc : Thread Cert.MixIdeal.nD Cert.MixIdeal.τ).loc Cert.MixIdeal.main_v49_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v49_0) = v0 c
          ∧ r.2.mem ((c.tc : Thread Cert.MixIdeal.nD Cert.MixIdeal.τ).loc Cert.MixIdeal.main_v49_1) = v1 c
          ∧ r.2.mem ((c.tc : Thread Cert.MixIdeal.nD Cert.MixIdeal.τ).loc Cert.MixIdeal.main_v49_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v69) = v0 c
          ∧ r.2.mem ((c.tc : Thread Cert.MixRefIdeal.nD Cert.MixRefIdeal.τ).loc Cert.MixRefIdeal.main_v70) = v1 c
          ∧ r.2.mem ((c.tc : Thread Cert.MixRefIdeal.nD Cert.MixRefIdeal.τ).loc Cert.MixRefIdeal.main_v68) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)
      ∧ m' ((c.tc : Thread Cert.JoinRefIdeal.nD Cert.JoinRefIdeal.τ).loc Cert.JoinRefIdeal.main_arg1) = m ((c.tc : Thread Cert.JoinIdeal.nD Cert.JoinIdeal.τ).loc Cert.JoinIdeal.main_arg1)
      ∧ m' ((c.tc : Thread Cert.JoinRefIdeal.nD Cert.JoinRefIdeal.τ).loc Cert.JoinRefIdeal.main_arg2) = m ((c.tc : Thread Cert.JoinIdeal.nD Cert.JoinIdeal.τ).loc Cert.JoinIdeal.main_arg2)
      ∧ m' ((c.tc : Thread Cert.JoinRefIdeal.nD Cert.JoinRefIdeal.τ).loc Cert.JoinRefIdeal.main_arg3) = m ((c.tc : Thread Cert.JoinIdeal.nD Cert.JoinIdeal.τ).loc Cert.JoinIdeal.main_arg3)
      ∧ m' ((c.tc : Thread Cert.JoinRefIdeal.nD Cert.JoinRefIdeal.τ).loc Cert.JoinRefIdeal.main_arg4) = m ((c.tc : Thread Cert.JoinIdeal.nD Cert.JoinIdeal.τ).loc Cert.JoinIdeal.main_arg4)
      ∧ m' ((c.tc : Thread Cert.JoinRefIdeal.nD Cert.JoinRefIdeal.τ).loc Cert.JoinRefIdeal.main_arg5) = m ((c.tc : Thread Cert.JoinIdeal.nD Cert.JoinIdeal.τ).loc Cert.JoinIdeal.main_arg5)
      ∧ m' ((c.tc : Thread Cert.JoinRefIdeal.nD Cert.JoinRefIdeal.τ).loc Cert.JoinRefIdeal.main_arg6) = m ((c.tc : Thread Cert.JoinIdeal.nD Cert.JoinIdeal.τ).loc Cert.JoinIdeal.main_arg6)
      ∧ m' ((c.tc : Thread Cert.JoinRefIdeal.nD Cert.JoinRefIdeal.τ).loc Cert.JoinRefIdeal.main_arg7) = m ((c.tc : Thread Cert.JoinIdeal.nD Cert.JoinIdeal.τ).loc Cert.JoinIdeal.main_arg7)) →
    ∃ (v0 : (c : Dev Cert.JoinIdeal.nD) → Buf (Elt Ideal) ((c.tc : Thread Cert.JoinIdeal.nD Cert.JoinIdeal.τ).loc Cert.JoinIdeal.main_v49_0)) (v1 : (c : Dev Cert.JoinIdeal.nD) → Buf (Elt Ideal) ((c.tc : Thread Cert.JoinIdeal.nD Cert.JoinIdeal.τ).loc Cert.JoinIdeal.main_v49_1)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v49_0) = v0 c
          ∧ r.2.mem ((c.tc : Thread Cert.JoinIdeal.nD Cert.JoinIdeal.τ).loc Cert.JoinIdeal.main_v49_1) = v1 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
          ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
          ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
          ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v73) = v0 c
          ∧ r.2.mem ((c.tc : Thread Cert.JoinRefIdeal.nD Cert.JoinRefIdeal.τ).loc Cert.JoinRefIdeal.main_v75) = v1 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0)
          ∧ r.2.mem ((c.tc : Thread Cert.JoinRefIdeal.nD Cert.JoinRefIdeal.τ).loc Cert.JoinRefIdeal.main_arg1) = m' ((c.tc : Thread Cert.JoinRefIdeal.nD Cert.JoinRefIdeal.τ).loc Cert.JoinRefIdeal.main_arg1)
          ∧ r.2.mem ((c.tc : Thread Cert.JoinRefIdeal.nD Cert.JoinRefIdeal.τ).loc Cert.JoinRefIdeal.main_arg2) = m' ((c.tc : Thread Cert.JoinRefIdeal.nD Cert.JoinRefIdeal.τ).loc Cert.JoinRefIdeal.main_arg2)
          ∧ r.2.mem ((c.tc : Thread Cert.JoinRefIdeal.nD Cert.JoinRefIdeal.τ).loc Cert.JoinRefIdeal.main_arg3) = m' ((c.tc : Thread Cert.JoinRefIdeal.nD Cert.JoinRefIdeal.τ).loc Cert.JoinRefIdeal.main_arg3)
          ∧ r.2.mem ((c.tc : Thread Cert.JoinRefIdeal.nD Cert.JoinRefIdeal.τ).loc Cert.JoinRefIdeal.main_arg4) = m' ((c.tc : Thread Cert.JoinRefIdeal.nD Cert.JoinRefIdeal.τ).loc Cert.JoinRefIdeal.main_arg4)
          ∧ r.2.mem ((c.tc : Thread Cert.JoinRefIdeal.nD Cert.JoinRefIdeal.τ).loc Cert.JoinRefIdeal.main_arg5) = m' ((c.tc : Thread Cert.JoinRefIdeal.nD Cert.JoinRefIdeal.τ).loc Cert.JoinRefIdeal.main_arg5)
          ∧ r.2.mem ((c.tc : Thread Cert.JoinRefIdeal.nD Cert.JoinRefIdeal.τ).loc Cert.JoinRefIdeal.main_arg6) = m' ((c.tc : Thread Cert.JoinRefIdeal.nD Cert.JoinRefIdeal.τ).loc Cert.JoinRefIdeal.main_arg6)
          ∧ r.2.mem ((c.tc : Thread Cert.JoinRefIdeal.nD Cert.JoinRefIdeal.τ).loc Cert.JoinRefIdeal.main_arg7) = m' ((c.tc : Thread Cert.JoinRefIdeal.nD Cert.JoinRefIdeal.τ).loc Cert.JoinRefIdeal.main_arg7))

def Claim : Prop :=
  ∃ (hKernel : Cert.Kernel.Facts) (hKernelIdeal : Cert.KernelIdeal.Facts) (hReferenceIdeal : Cert.ReferenceIdeal.Facts) (hBack : Cert.Back.Facts) (hBackIdeal : Cert.BackIdeal.Facts) (hProj : Cert.Proj.Facts) (hProjIdeal : Cert.ProjIdeal.Facts) (hProjRefIdeal : Cert.ProjRefIdeal.Facts) (hLate : Cert.Late.Facts) (hLateIdeal : Cert.LateIdeal.Facts) (hLateRefIdeal : Cert.LateRefIdeal.Facts) (hLast : Cert.Last.Facts) (hLastIdeal : Cert.LastIdeal.Facts) (hLastRefIdeal : Cert.LastRefIdeal.Facts) (hOut : Cert.Out.Facts) (hOutIdeal : Cert.OutIdeal.Facts) (hOutRefIdeal : Cert.OutRefIdeal.Facts) (hMix : Cert.Mix.Facts) (hMixIdeal : Cert.MixIdeal.Facts) (hMixRefIdeal : Cert.MixRefIdeal.Facts) (hJoin : Cert.Join.Facts) (hJoinIdeal : Cert.JoinIdeal.Facts) (hJoinRefIdeal : Cert.JoinRefIdeal.Facts) (hPre_gates_in_range : Cert.Pre_gates_in_range.Facts) (hPre_late_finite : Cert.Pre_late_finite.Facts) (hPre_mix_finite : Cert.Pre_mix_finite.Facts),
    quiescent_Kernel (hKernel := hKernel)
    ∧ quiescent_KernelIdeal (hKernelIdeal := hKernelIdeal)
    ∧ quiescent_KernelIdeal_pre_gates_in_range (hKernelIdeal := hKernelIdeal) (hPre_gates_in_range := hPre_gates_in_range)
    ∧ quiescent_ReferenceIdeal (hReferenceIdeal := hReferenceIdeal)
    ∧ quiescent_ReferenceIdeal_pre_gates_in_range (hReferenceIdeal := hReferenceIdeal) (hPre_gates_in_range := hPre_gates_in_range)
    ∧ quiescent_Back (hBack := hBack)
    ∧ quiescent_BackIdeal (hBackIdeal := hBackIdeal)
    ∧ quiescent_Proj (hProj := hProj)
    ∧ quiescent_ProjIdeal (hProjIdeal := hProjIdeal)
    ∧ quiescent_ProjRefIdeal (hProjRefIdeal := hProjRefIdeal)
    ∧ quiescent_Late (hLate := hLate)
    ∧ quiescent_LateIdeal (hLateIdeal := hLateIdeal)
    ∧ quiescent_LateRefIdeal (hLateRefIdeal := hLateRefIdeal)
    ∧ quiescent_Last (hLast := hLast)
    ∧ quiescent_LastIdeal (hLastIdeal := hLastIdeal)
    ∧ quiescent_LastRefIdeal (hLastRefIdeal := hLastRefIdeal)
    ∧ quiescent_Out (hOut := hOut)
    ∧ quiescent_OutIdeal (hOutIdeal := hOutIdeal)
    ∧ quiescent_OutIdeal_pre_late_finite (hOutIdeal := hOutIdeal) (hPre_late_finite := hPre_late_finite)
    ∧ quiescent_OutRefIdeal (hOutRefIdeal := hOutRefIdeal)
    ∧ quiescent_OutRefIdeal_pre_late_finite (hOutRefIdeal := hOutRefIdeal) (hPre_late_finite := hPre_late_finite)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Join (hJoin := hJoin)
    ∧ quiescent_JoinIdeal (hJoinIdeal := hJoinIdeal)
    ∧ quiescent_JoinRefIdeal (hJoinRefIdeal := hJoinRefIdeal)
    ∧ preserves_Kernel_KernelIdeal
    ∧ algebraic_KernelIdeal_ReferenceIdeal_pre_gates_in_range (hKernelIdeal := hKernelIdeal) (hReferenceIdeal := hReferenceIdeal) (hPre_gates_in_range := hPre_gates_in_range)
    ∧ preserves_Back_BackIdeal
    ∧ preserves_Proj_ProjIdeal
    ∧ algebraic_ProjIdeal_ProjRefIdeal (hProjIdeal := hProjIdeal) (hProjRefIdeal := hProjRefIdeal)
    ∧ preserves_Late_LateIdeal
    ∧ algebraic_LateIdeal_LateRefIdeal (hLateIdeal := hLateIdeal) (hLateRefIdeal := hLateRefIdeal)
    ∧ preserves_Last_LastIdeal
    ∧ algebraic_LastIdeal_LastRefIdeal (hLastIdeal := hLastIdeal) (hLastRefIdeal := hLastRefIdeal)
    ∧ preserves_Out_OutIdeal
    ∧ algebraic_OutIdeal_OutRefIdeal_pre_late_finite (hOutIdeal := hOutIdeal) (hOutRefIdeal := hOutRefIdeal) (hPre_late_finite := hPre_late_finite)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Join_JoinIdeal
    ∧ algebraic_JoinIdeal_JoinRefIdeal (hJoinIdeal := hJoinIdeal) (hJoinRefIdeal := hJoinRefIdeal)
-- ==== Pre_gates_in_range.lean ====
abbrev S2x16640x6272 : Shape := ⟨3, ![2, 16640, 6272]⟩
abbrev S2x16x512 : Shape := ⟨3, ![2, 16, 512]⟩
abbrev S2x512 : Shape := ⟨2, ![2, 512]⟩
abbrev S2x16640x16 : Shape := ⟨3, ![2, 16640, 16]⟩
abbrev S1x16x512 : Shape := ⟨3, ![1, 16, 512]⟩
abbrev S16x512 : Shape := ⟨2, ![16, 512]⟩
abbrev S_ : Shape := ⟨0, ![]⟩
abbrev S2x16640x512 : Shape := ⟨3, ![2, 16640, 512]⟩
abbrev S1x512 : Shape := ⟨2, ![1, 512]⟩
abbrev S512 : Shape := ⟨1, ![512]⟩
abbrev S1x1x512 : Shape := ⟨3, ![1, 1, 512]⟩

class Facts : Prop where
  slices_S2x16640x6272_S2x16640x16_0_0_6144 : S2x16640x6272.Slices ![0, 0, 6144] S2x16640x16
  slices_S2x16x512_S1x16x512_0_0_0 : S2x16x512.Slices ![0, 0, 0] S1x16x512
  shapeCasts_S1x16x512_S16x512 : S1x16x512.ShapeCasts S16x512
  bcast_S_S2x16640x16 : S_.BroadcastsInDim S2x16640x16 (![] : Fin 0 → Fin S2x16640x16.rank)
  bcast_S_S16x512 : S_.BroadcastsInDim S16x512 (![] : Fin 0 → Fin S16x512.rank)
  slices_S2x512_S1x512_0_0 : S2x512.Slices ![0, 0] S1x512
  shapeCasts_S1x512_S512 : S1x512.ShapeCasts S512
  bcast_S512_S1x1x512_2 : S512.BroadcastsInDim S1x1x512 (![2] : Fin 1 → Fin S1x1x512.rank)
  bcast_S1x1x512_S2x16640x512_0_1_2 : S1x1x512.BroadcastsInDim S2x16640x512 (![0, 1, 2] : Fin 3 → Fin S2x16640x512.rank)
  bcast_S_S2x16640x512 : S_.BroadcastsInDim S2x16640x512 (![] : Fin 0 → Fin S2x16640x512.rank)
  dot_S2x16640x16_S16x512_S2x16640x512_2_0_01_1_n_n_wf : DotDims.WF S2x16640x16 S16x512 S2x16640x512 [2] [0] [0, 1] [1] [] []

variable [Facts]

def dot_S2x16640x16_S16x512_S2x16640x512_2_0_01_1_n_n : DotDims S2x16640x16 S16x512 S2x16640x512 where
  lhsContracting := [2]
  rhsContracting := [0]
  lhsNonContracting := [0, 1]
  rhsNonContracting := [1]
  lhsBatch := []
  rhsBatch := []
  wf := dot_S2x16640x16_S16x512_S2x16640x512_2_0_01_1_n_n_wf
def fn {F : FTy → Type} [FloatOps F] (main_arg0 : FVec F S2x16640x6272 .f32) (main_arg1 : FVec F S2x16x512 .f32) (main_arg2 : FVec F S2x512 .f32) : IVec S2x16640x16 1 × IVec S16x512 1 × IVec S2x16640x512 1 :=
  let main_v0 : FVec F S2x16640x16 .f32 := (extractStridedSlice S2x16640x16 ![0, 0, 6144] · slices_S2x16640x6272_S2x16640x16_0_0_6144) main_arg0
  let main_v1 : FVec F S1x16x512 .f32 := (extractStridedSlice S1x16x512 ![0, 0, 0] · slices_S2x16x512_S1x16x512_0_0_0) main_arg1
  let main_v2 : FVec F S16x512 .f32 := shapeCast S16x512 main_v1 shapeCasts_S1x16x512_S16x512
  let main_v3 : FVec F S2x16640x16 .f32 := Host.absf main_v0
  let main_cst : FVec F S_ .f32 := constant S_ .f32 0x7F800000#32
  let main_v4 : FVec F S2x16640x16 .f32 := broadcastInDim S2x16640x16 ![] bcast_S_S2x16640x16 main_cst
  let main_v5 : IVec S2x16640x16 1 := cmpf .olt main_v3 main_v4
  let main_v6 : FVec F S16x512 .f32 := Host.absf main_v2
  let main_cst_0 : FVec F S_ .f32 := constant S_ .f32 0x7F800000#32
  let main_v7 : FVec F S16x512 .f32 := broadcastInDim S16x512 ![] bcast_S_S16x512 main_cst_0
  let main_v8 : IVec S16x512 1 := cmpf .olt main_v6 main_v7
  let main_v9 : FVec F S2x16640x16 .f32 := (extractStridedSlice S2x16640x16 ![0, 0, 6144] · slices_S2x16640x6272_S2x16640x16_0_0_6144) main_arg0
  let main_v10 : FVec F S1x16x512 .f32 := (extractStridedSlice S1x16x512 ![0, 0, 0] · slices_S2x16x512_S1x16x512_0_0_0) main_arg1
  let main_v11 : FVec F S16x512 .f32 := shapeCast S16x512 main_v10 shapeCasts_S1x16x512_S16x512
  let main_v12 : FVec F S2x16640x512 .f32 := (fun l r => Host.dotGeneral dot_S2x16640x16_S16x512_S2x16640x512_2_0_01_1_n_n none l r) main_v9 main_v11
  let main_v13 : FVec F S1x512 .f32 := (extractStridedSlice S1x512 ![0, 0] · slices_S2x512_S1x512_0_0) main_arg2
  let main_v14 : FVec F S512 .f32 := shapeCast S512 main_v13 shapeCasts_S1x512_S512
  let main_v15 : FVec F S1x1x512 .f32 := broadcastInDim S1x1x512 ![2] bcast_S512_S1x1x512_2 main_v14
  let main_v16 : FVec F S2x16640x512 .f32 := broadcastInDim S2x16640x512 ![0, 1, 2] bcast_S1x1x512_S2x16640x512_0_1_2 main_v15
  let main_v17 : FVec F S2x16640x512 .f32 := addf main_v12 main_v16
  let main_cst_1 : FVec F S_ .f32 := constant S_ .f32 0xC21C0000#32
  let main_v18 : FVec F S2x16640x512 .f32 := broadcastInDim S2x16640x512 ![] bcast_S_S2x16640x512 main_cst_1
  let main_v19 : IVec S2x16640x512 1 := cmpf .oge main_v17 main_v18
  (main_v5, main_v8, main_v19)
-- ==== Pre_late_finite.lean ====
abbrev S2x16640x4096 : Shape := ⟨3, ![2, 16640, 4096]⟩
abbrev S4096x2048 : Shape := ⟨2, ![4096, 2048]⟩
abbrev S2x16640x2048 : Shape := ⟨3, ![2, 16640, 2048]⟩
abbrev S8x6x2048 : Shape := ⟨3, ![8, 6, 2048]⟩
abbrev S2048 : Shape := ⟨1, ![2048]⟩
abbrev S2048x16 : Shape := ⟨2, ![2048, 16]⟩
abbrev S3x3x2048 : Shape := ⟨3, ![3, 3, 2048]⟩
abbrev S_ : Shape := ⟨0, ![]⟩

class Facts : Prop where
  slices_S8x6x2048_S3x3x2048_0_2_0 : S8x6x2048.Slices ![0, 2, 0] S3x3x2048
  bcast_S_S2x16640x4096 : S_.BroadcastsInDim S2x16640x4096 (![] : Fin 0 → Fin S2x16640x4096.rank)
  bcast_S_S4096x2048 : S_.BroadcastsInDim S4096x2048 (![] : Fin 0 → Fin S4096x2048.rank)
  bcast_S_S2x16640x2048 : S_.BroadcastsInDim S2x16640x2048 (![] : Fin 0 → Fin S2x16640x2048.rank)
  bcast_S_S3x3x2048 : S_.BroadcastsInDim S3x3x2048 (![] : Fin 0 → Fin S3x3x2048.rank)
  bcast_S_S2048 : S_.BroadcastsInDim S2048 (![] : Fin 0 → Fin S2048.rank)
  bcast_S_S2048x16 : S_.BroadcastsInDim S2048x16 (![] : Fin 0 → Fin S2048x16.rank)

variable [Facts]

def fn_part1 {F : FTy → Type} [FloatOps F] (main_arg6 : FVec F S2048x16 .f32) (main_v3 : IVec S2x16640x4096 1) (main_v6 : IVec S4096x2048 1) (main_v9 : IVec S2x16640x2048 1) (main_v12 : IVec S3x3x2048 1) (main_v15 : IVec S2048 1) (main_v16 : FVec F S2048 .f32) (main_v17 : FVec F S2048 .f32) : IVec S2x16640x4096 1 × IVec S4096x2048 1 × IVec S2x16640x2048 1 × IVec S3x3x2048 1 × IVec S2048 1 × IVec S2048 1 × IVec S2048x16 1 :=
  let main_v18 : IVec S2048 1 := cmpf .olt main_v16 main_v17
  let main_v19 : FVec F S2048x16 .f32 := Host.absf main_arg6
  let main_cst_5 : FVec F S_ .f32 := constant S_ .f32 0x7F800000#32
  let main_v20 : FVec F S2048x16 .f32 := broadcastInDim S2048x16 ![] bcast_S_S2048x16 main_cst_5
  let main_v21 : IVec S2048x16 1 := cmpf .olt main_v19 main_v20
  (main_v3, main_v6, main_v9, main_v12, main_v15, main_v18, main_v21)

def fn {F : FTy → Type} [FloatOps F] (main_arg0 : FVec F S2x16640x4096 .bf16) (main_arg1 : FVec F S4096x2048 .f32) (main_arg2 : FVec F S2x16640x2048 .f32) (main_arg3 : FVec F S8x6x2048 .f32) (main_arg4 : FVec F S2048 .f32) (main_arg5 : FVec F S2048 .f32) (main_arg6 : FVec F S2048x16 .f32) : IVec S2x16640x4096 1 × IVec S4096x2048 1 × IVec S2x16640x2048 1 × IVec S3x3x2048 1 × IVec S2048 1 × IVec S2048 1 × IVec S2048x16 1 :=
  let main_v0 : FVec F S3x3x2048 .f32 := (extractStridedSlice S3x3x2048 ![0, 2, 0] · slices_S8x6x2048_S3x3x2048_0_2_0) main_arg3
  let main_v1 : FVec F S2x16640x4096 .bf16 := Host.absf main_arg0
  let main_cst : FVec F S_ .bf16 := constant S_ .bf16 0x7F80#16
  let main_v2 : FVec F S2x16640x4096 .bf16 := broadcastInDim S2x16640x4096 ![] bcast_S_S2x16640x4096 main_cst
  let main_v3 : IVec S2x16640x4096 1 := cmpf .olt main_v1 main_v2
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_v7 : FVec F S2x16640x2048 .f32 := Host.absf main_arg2
  let main_cst_1 : FVec F S_ .f32 := constant S_ .f32 0x7F800000#32
  let main_v8 : FVec F S2x16640x2048 .f32 := broadcastInDim S2x16640x2048 ![] bcast_S_S2x16640x2048 main_cst_1
  let main_v9 : IVec S2x16640x2048 1 := cmpf .olt main_v7 main_v8
  let main_v10 : FVec F S3x3x2048 .f32 := Host.absf main_v0
  let main_cst_2 : FVec F S_ .f32 := constant S_ .f32 0x7F800000#32
  let main_v11 : FVec F S3x3x2048 .f32 := broadcastInDim S3x3x2048 ![] bcast_S_S3x3x2048 main_cst_2
  let main_v12 : IVec S3x3x2048 1 := cmpf .olt main_v10 main_v11
  let main_v13 : FVec F S2048 .f32 := Host.absf main_arg4
  let main_cst_3 : FVec F S_ .f32 := constant S_ .f32 0x7F800000#32
  let main_v14 : FVec F S2048 .f32 := broadcastInDim S2048 ![] bcast_S_S2048 main_cst_3
  let main_v15 : IVec S2048 1 := cmpf .olt main_v13 main_v14
  let main_v16 : FVec F S2048 .f32 := Host.absf main_arg5
  let main_cst_4 : FVec F S_ .f32 := constant S_ .f32 0x7F800000#32
  let main_v17 : FVec F S2048 .f32 := broadcastInDim S2048 ![] bcast_S_S2048 main_cst_4
  fn_part1 (F := F) main_arg6 main_v3 main_v6 main_v9 main_v12 main_v15 main_v16 main_v17
-- ==== Pre_mix_finite.lean ====
abbrev S2x16640x1024 : Shape := ⟨3, ![2, 16640, 1024]⟩
abbrev S2048x2048 : Shape := ⟨2, ![2048, 2048]⟩
abbrev S2x16640x2048 : Shape := ⟨3, ![2, 16640, 2048]⟩
abbrev S8x6x2048 : Shape := ⟨3, ![8, 6, 2048]⟩
abbrev S2048 : Shape := ⟨1, ![2048]⟩
abbrev S2048x16 : Shape := ⟨2, ![2048, 16]⟩
abbrev S3x3x2048 : Shape := ⟨3, ![3, 3, 2048]⟩
abbrev S_ : Shape := ⟨0, ![]⟩

class Facts : Prop where
  slices_S8x6x2048_S3x3x2048_0_2_0 : S8x6x2048.Slices ![0, 2, 0] S3x3x2048
  bcast_S_S2x16640x1024 : S_.BroadcastsInDim S2x16640x1024 (![] : Fin 0 → Fin S2x16640x1024.rank)
  bcast_S_S2048x2048 : S_.BroadcastsInDim S2048x2048 (![] : Fin 0 → Fin S2048x2048.rank)
  bcast_S_S2x16640x2048 : S_.BroadcastsInDim S2x16640x2048 (![] : Fin 0 → Fin S2x16640x2048.rank)
  bcast_S_S3x3x2048 : S_.BroadcastsInDim S3x3x2048 (![] : Fin 0 → Fin S3x3x2048.rank)
  bcast_S_S2048 : S_.BroadcastsInDim S2048 (![] : Fin 0 → Fin S2048.rank)
  bcast_S_S2048x16 : S_.BroadcastsInDim S2048x16 (![] : Fin 0 → Fin S2048x16.rank)

variable [Facts]

def fn_part1 {F : FTy → Type} [FloatOps F] (main_arg6 : FVec F S2048 .f32) (main_arg7 : FVec F S2048x16 .f32) (main_v3 : IVec S2x16640x1024 1) (main_v6 : IVec S2x16640x1024 1) (main_v9 : IVec S2048x2048 1) (main_v12 : IVec S2x16640x2048 1) (main_v15 : IVec S3x3x2048 1) (main_v16 : FVec F S2048 .f32) (main_v17 : FVec F S2048 .f32) : IVec S2x16640x1024 1 × IVec S2x16640x1024 1 × IVec S2048x2048 1 × IVec S2x16640x2048 1 × IVec S3x3x2048 1 × IVec S2048 1 × IVec S2048 1 × IVec S2048x16 1 :=
  let main_v18 : IVec S2048 1 := cmpf .olt main_v16 main_v17
  let main_v19 : FVec F S2048 .f32 := Host.absf main_arg6
  let main_cst_5 : FVec F S_ .f32 := constant S_ .f32 0x7F800000#32
  let main_v20 : FVec F S2048 .f32 := broadcastInDim S2048 ![] bcast_S_S2048 main_cst_5
  let main_v21 : IVec S2048 1 := cmpf .olt main_v19 main_v20
  let main_v22 : FVec F S2048x16 .f32 := Host.absf main_arg7
  let main_cst_6 : FVec F S_ .f32 := constant S_ .f32 0x7F800000#32
  let main_v23 : FVec F S2048x16 .f32 := broadcastInDim S2048x16 ![] bcast_S_S2048x16 main_cst_6
  let main_v24 : IVec S2048x16 1 := cmpf .olt main_v22 main_v23
  (main_v3, main_v6, main_v9, main_v12, main_v15, main_v18, main_v21, main_v24)

def fn {F : FTy → Type} [FloatOps F] (main_arg0 : FVec F S2x16640x1024 .f32) (main_arg1 : FVec F S2x16640x1024 .bf16) (main_arg2 : FVec F S2048x2048 .f32) (main_arg3 : FVec F S2x16640x2048 .f32) (main_arg4 : FVec F S8x6x2048 .f32) (main_arg5 : FVec F S2048 .f32) (main_arg6 : FVec F S2048 .f32) (main_arg7 : FVec F S2048x16 .f32) : IVec S2x16640x1024 1 × IVec S2x16640x1024 1 × IVec S2048x2048 1 × IVec S2x16640x2048 1 × IVec S3x3x2048 1 × IVec S2048 1 × IVec S2048 1 × IVec S2048x16 1 :=
  let main_v0 : FVec F S3x3x2048 .f32 := (extractStridedSlice S3x3x2048 ![0, 2, 0] · slices_S8x6x2048_S3x3x2048_0_2_0) main_arg4
  let main_v1 : FVec F S2x16640x1024 .f32 := Host.absf main_arg0
  let main_cst : FVec F S_ .f32 := constant S_ .f32 0x7F800000#32
  let main_v2 : FVec F S2x16640x1024 .f32 := broadcastInDim S2x16640x1024 ![] bcast_S_S2x16640x1024 main_cst
  let main_v3 : IVec S2x16640x1024 1 := cmpf .olt main_v1 main_v2
  let main_v4 : FVec F S2x16640x1024 .bf16 := Host.absf main_arg1
  let main_cst_0 : FVec F S_ .bf16 := constant S_ .bf16 0x7F80#16
  let main_v5 : FVec F S2x16640x1024 .bf16 := broadcastInDim S2x16640x1024 ![] bcast_S_S2x16640x1024 main_cst_0
  let main_v6 : IVec S2x16640x1024 1 := cmpf .olt main_v4 main_v5
  let main_v7 : FVec F S2048x2048 .f32 := Host.absf main_arg2
  let main_cst_1 : FVec F S_ .f32 := constant S_ .f32 0x7F800000#32
  let main_v8 : FVec F S2048x2048 .f32 := broadcastInDim S2048x2048 ![] bcast_S_S2048x2048 main_cst_1
  let main_v9 : IVec S2048x2048 1 := cmpf .olt main_v7 main_v8
  let main_v10 : FVec F S2x16640x2048 .f32 := Host.absf main_arg3
  let main_cst_2 : FVec F S_ .f32 := constant S_ .f32 0x7F800000#32
  let main_v11 : FVec F S2x16640x2048 .f32 := broadcastInDim S2x16640x2048 ![] bcast_S_S2x16640x2048 main_cst_2
  let main_v12 : IVec S2x16640x2048 1 := cmpf .olt main_v10 main_v11
  let main_v13 : FVec F S3x3x2048 .f32 := Host.absf main_v0
  let main_cst_3 : FVec F S_ .f32 := constant S_ .f32 0x7F800000#32
  let main_v14 : FVec F S3x3x2048 .f32 := broadcastInDim S3x3x2048 ![] bcast_S_S3x3x2048 main_cst_3
  let main_v15 : IVec S3x3x2048 1 := cmpf .olt main_v13 main_v14
  let main_v16 : FVec F S2048 .f32 := Host.absf main_arg5
  let main_cst_4 : FVec F S_ .f32 := constant S_ .f32 0x7F800000#32
  let main_v17 : FVec F S2048 .f32 := broadcastInDim S2048 ![] bcast_S_S2048 main_cst_4
  fn_part1 (F := F) main_arg6 main_arg7 main_v3 main_v6 main_v9 main_v12 main_v15 main_v16 main_v17
-- ==== Kernel.lean ====
abbrev S2x16640x6272 : Shape := ⟨3, ![2, 16640, 6272]⟩
abbrev S2x16x512 : Shape := ⟨3, ![2, 16, 512]⟩
abbrev S2x512 : Shape := ⟨2, ![2, 512]⟩
abbrev S_ : Shape := ⟨0, ![]⟩
abbrev S2x128x512 : Shape := ⟨3, ![2, 128, 512]⟩
abbrev S1x16x512 : Shape := ⟨3, ![1, 16, 512]⟩
abbrev S16x512 : Shape := ⟨2, ![16, 512]⟩
abbrev S1 : Shape := ⟨1, ![1]⟩
abbrev S2 : Shape := ⟨1, ![2]⟩
abbrev S2x1x512 : Shape := ⟨3, ![2, 1, 512]⟩
abbrev S2x16640x1024 : Shape := ⟨3, ![2, 16640, 1024]⟩
abbrev S1x256x512 : Shape := ⟨3, ![1, 256, 512]⟩
abbrev S1x256x1024 : Shape := ⟨3, ![1, 256, 1024]⟩
abbrev S1x256x128 : Shape := ⟨3, ![1, 256, 128]⟩
abbrev S1x128x512 : Shape := ⟨3, ![1, 128, 512]⟩
abbrev S1x1x512 : Shape := ⟨3, ![1, 1, 512]⟩
abbrev S4x256x128 : Shape := ⟨3, ![4, 256, 128]⟩
abbrev S64x64 : Shape := ⟨2, ![64, 64]⟩
abbrev S256x128 : Shape := ⟨2, ![256, 128]⟩
abbrev S128x512 : Shape := ⟨2, ![128, 512]⟩
abbrev S256x512 : Shape := ⟨2, ![256, 512]⟩
abbrev S1x512 : Shape := ⟨2, ![1, 512]⟩
abbrev S256x1024 : Shape := ⟨2, ![256, 1024]⟩
abbrev S64x512 : Shape := ⟨2, ![64, 512]⟩
abbrev S64x128 : Shape := ⟨2, ![64, 128]⟩
abbrev S1x128 : Shape := ⟨2, ![1, 128]⟩
abbrev S64x256 : Shape := ⟨2, ![64, 256]⟩
abbrev S1x64x256 : Shape := ⟨3, ![1, 64, 256]⟩

abbrev nBuf : Space → Nat
  | .hbm => 23
  | .vmem => 13
  | .smem => 0
  | _ => 0

abbrev bufTy : (tb : Table) → Fin (tcTables nBuf tb) → BufTy
  | .hbm, ⟨0, _⟩ => ⟨S2x16640x6272, .f32⟩
  | .hbm, ⟨1, _⟩ => ⟨S2x16x512, .f32⟩
  | .hbm, ⟨2, _⟩ => ⟨S2x512, .f32⟩
  | .hbm, ⟨3, _⟩ => ⟨S_, .f32⟩
  | .hbm, ⟨4, _⟩ => ⟨S2x128x512, .f32⟩
  | .hbm, ⟨5, _⟩ => ⟨S1x16x512, .f32⟩
  | .hbm, ⟨6, _⟩ => ⟨S16x512, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S2x128x512, .f32⟩
  | .hbm, ⟨13, _⟩ => ⟨S1x16x512, .f32⟩
  | .hbm, ⟨14, _⟩ => ⟨S16x512, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S2x128x512, .f32⟩
  | .hbm, ⟨21, _⟩ => ⟨S2x1x512, .f32⟩
  | .hbm, ⟨22, _⟩ => ⟨S2x16640x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .f32⟩
  | .local _ .vmem, ⟨5, _⟩ => ⟨S1x256x1024, .f32⟩
  | .local _ .vmem, ⟨6, _⟩ => ⟨S1x256x128, .f32⟩
  | .local _ .vmem, ⟨7, _⟩ => ⟨S1x256x128, .f32⟩
  | .local _ .vmem, ⟨8, _⟩ => ⟨S1x128x512, .f32⟩
  | .local _ .vmem, ⟨9, _⟩ => ⟨S1x1x512, .f32⟩
  | .local _ .vmem, ⟨10, _⟩ => ⟨S1x256x1024, .f32⟩
  | .local _ .vmem, ⟨11, _⟩ => ⟨S1x256x1024, .f32⟩
  | .local _ .vmem, ⟨12, _⟩ => ⟨S4x256x128, .f32⟩
  | _, _ => ⟨S2x16640x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c65_i32 : BitVec 32 := 65#32
  let c0_i32 : BitVec 32 := 0#32
  let v1 : BitVec 1 := Scalar.cmpi .eq c65_i32 c0_i32
  let c1_i32 : BitVec 32 := 1#32
  let v2 : BitVec 32 := Scalar.select v1 c1_i32 c65_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c6_i32 : BitVec 32 := 6#32
  let c0_i32_3 : BitVec 32 := 0#32
  ![arg0.toNat, v10.toNat, c6_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c65_i32 : BitVec 32 := 65#32
  let c0_i32 : BitVec 32 := 0#32
  let v1 : BitVec 1 := Scalar.cmpi .eq c65_i32 c0_i32
  let c1_i32 : BitVec 32 := 1#32
  let v2 : BitVec 32 := Scalar.select v1 c1_i32 c65_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c7_i32 : BitVec 32 := 7#32
  let c0_i32_3 : BitVec 32 := 0#32
  ![arg0.toNat, v10.toNat, c7_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c65_i32 : BitVec 32 := 65#32
  let c0_i32 : BitVec 32 := 0#32
  let v1 : BitVec 1 := Scalar.cmpi .eq c65_i32 c0_i32
  let c1_i32 : BitVec 32 := 1#32
  let v2 : BitVec 32 := Scalar.select v1 c1_i32 c65_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32 : BitVec 32 := 4#32
  let c0_i32_3 : BitVec 32 := 0#32
  ![arg0.toNat, v10.toNat, c4_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c65_i32 : BitVec 32 := 65#32
  let c0_i32 : BitVec 32 := 0#32
  let v1 : BitVec 1 := Scalar.cmpi .eq c65_i32 c0_i32
  let c1_i32 : BitVec 32 := 1#32
  let v2 : BitVec 32 := Scalar.select v1 c1_i32 c65_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c48_i32 : BitVec 32 := 48#32
  let c0_i32_3 : BitVec 32 := 0#32
  ![arg0.toNat, v10.toNat, c48_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c65_i32 : BitVec 32 := 65#32
  let c0_i32 : BitVec 32 := 0#32
  let v1 : BitVec 1 := Scalar.cmpi .eq c65_i32 c0_i32
  let c1_i32 : BitVec 32 := 1#32
  let v2 : BitVec 32 := Scalar.select v1 c1_i32 c65_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![arg0.toNat, v10.toNat, c0_i32_3.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x16640x6272 : Shape := ⟨3, ![2, 16640, 6272]⟩
abbrev S2x16x512 : Shape := ⟨3, ![2, 16, 512]⟩
abbrev S2x512 : Shape := ⟨2, ![2, 512]⟩
abbrev S2x256x6272 : Shape := ⟨3, ![2, 256, 6272]⟩
abbrev S2x16384x6272 : Shape := ⟨3, ![2, 16384, 6272]⟩
abbrev S2x16640x16 : Shape := ⟨3, ![2, 16640, 16]⟩
abbrev S1x16x512 : Shape := ⟨3, ![1, 16, 512]⟩
abbrev S16x512 : Shape := ⟨2, ![16, 512]⟩
abbrev S2x16640x512 : Shape := ⟨3, ![2, 16640, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S2x16640x4x128 : Shape := ⟨4, ![2, 16640, 4, 128]⟩
abbrev S2x16640x1024 : Shape := ⟨3, ![2, 16640, 1024]⟩
abbrev S2x16640x4x256 : Shape := ⟨4, ![2, 16640, 4, 256]⟩
abbrev S64x64 : Shape := ⟨2, ![64, 64]⟩
abbrev S1x64x64x1x1 : Shape := ⟨5, ![1, 64, 64, 1, 1]⟩
abbrev S2x4x128x256 : Shape := ⟨4, ![2, 4, 128, 256]⟩
abbrev S2x260x64x4x128 : Shape := ⟨5, ![2, 260, 64, 4, 128]⟩
abbrev S260x2x64x4x128 : Shape := ⟨5, ![260, 2, 64, 4, 128]⟩
abbrev S2x260x64x4x256 : Shape := ⟨5, ![2, 260, 64, 4, 256]⟩
abbrev S260x2x64x4x256 : Shape := ⟨5, ![260, 2, 64, 4, 256]⟩
abbrev S1x2x64x4x128 : Shape := ⟨5, ![1, 2, 64, 4, 128]⟩
abbrev S2x64x4x128 : Shape := ⟨4, ![2, 64, 4, 128]⟩
abbrev S1x2x64x4x256 : Shape := ⟨5, ![1, 2, 64, 4, 256]⟩
abbrev S2x64x4x256 : Shape := ⟨4, ![2, 64, 4, 256]⟩
abbrev S2x64x1x4x128 : Shape := ⟨5, ![2, 64, 1, 4, 128]⟩
abbrev S2x1x64x4x128 : Shape := ⟨5, ![2, 1, 64, 4, 128]⟩
abbrev S2x64x64x4x128 : Shape := ⟨5, ![2, 64, 64, 4, 128]⟩
abbrev S2x64x64x4 : Shape := ⟨4, ![2, 64, 64, 4]⟩
abbrev S2x4x64x64 : Shape := ⟨4, ![2, 4, 64, 64]⟩
abbrev S2x4x256x64 : Shape := ⟨4, ![2, 4, 256, 64]⟩
abbrev S2x1x4x128 : Shape := ⟨4, ![2, 1, 4, 128]⟩
abbrev S2x4x128 : Shape := ⟨3, ![2, 4, 128]⟩
abbrev S2x4x128x1 : Shape := ⟨4, ![2, 4, 128, 1]⟩
abbrev S2x16384x1024 : Shape := ⟨3, ![2, 16384, 1024]⟩
abbrev S2x256x1024 : Shape := ⟨3, ![2, 256, 1024]⟩

abbrev nBuf : Space → Nat
  | .hbm => 159
  | .vmem => 0
  | .smem => 0
  | _ => 0

abbrev hbmTy0_0 (i : Nat) : BufTy := match i % 128 with
  | 0 => ⟨S2x16640x6272, .f32⟩
  | 1 => ⟨S2x16x512, .f32⟩
  | 2 => ⟨S2x512, .f32⟩
  | 3 => ⟨S2x256x6272, .f32⟩
  | 4 => ⟨S2x16384x6272, .f32⟩
  | 5 => ⟨S2x16640x6272, .f32⟩
  | 6 => ⟨S2x16640x16, .f32⟩
  | 7 => ⟨S1x16x512, .f32⟩
  | 8 => ⟨S16x512, .f32⟩
  | 9 => ⟨S2x16640x512, .f32⟩
  | 10 => ⟨S1x512, .f32⟩
  | 11 => ⟨S512, .f32⟩
  | 12 => ⟨S1x1x512, .f32⟩
  | 13 => ⟨S2x16640x512, .f32⟩
  | 14 => ⟨S2x16640x512, .f32⟩
  | 15 => ⟨S2x16640x512, .f32⟩
  | 16 => ⟨S_, .f32⟩
  | 17 => ⟨S2x16640x512, .f32⟩
  | 18 => ⟨S2x16640x512, .f32⟩
  | 19 => ⟨S2x16640x512, .f32⟩
  | 20 => ⟨S2x16640x512, .f32⟩
  | 21 => ⟨S2x16640x512, .i1⟩
  | 22 => ⟨S2x16640x512, .f32⟩
  | 23 => ⟨S2x16640x512, .f32⟩
  | 24 => ⟨S2x16640x512, .f32⟩
  | 25 => ⟨S2x16640x512, .f32⟩
  | 26 => ⟨S2x16640x512, .f32⟩
  | 27 => ⟨S2x16640x512, .f32⟩
  | 28 => ⟨S2x16640x512, .f32⟩
  | 29 => ⟨S2x16640x512, .f32⟩
  | 30 => ⟨S2x16640x512, .f32⟩
  | 31 => ⟨S_, .f32⟩
  | 32 => ⟨S2x16640x512, .f32⟩
  | 33 => ⟨S2x16640x512, .f32⟩
  | 34 => ⟨S2x16640x512, .f32⟩
  | 35 => ⟨S2x16640x4x128, .f32⟩
  | 36 => ⟨S_, .f32⟩
  | 37 => ⟨S2x16640x4x128, .f32⟩
  | 38 => ⟨S2x16640x4x128, .f32⟩
  | 39 => ⟨S2x16640x512, .f32⟩
  | 40 => ⟨S2x16640x4x128, .f32⟩
  | 41 => ⟨S2x16640x1024, .f32⟩
  | 42 => ⟨S2x16640x4x256, .f32⟩
  | 43 => ⟨S2x16640x4x128, .f32⟩
  | 44 => ⟨S_, .i1⟩
  | 45 => ⟨S64x64, .i1⟩
  | 46 => ⟨S64x64, .i32⟩
  | 47 => ⟨S_, .i32⟩
  | 48 => ⟨S64x64, .i32⟩
  | 49 => ⟨S64x64, .i32⟩
  | 50 => ⟨S64x64, .i32⟩
  | 51 => ⟨S64x64, .i1⟩
  | 52 => ⟨S_, .i1⟩
  | 53 => ⟨S64x64, .i1⟩
  | 54 => ⟨S64x64, .i1⟩
  | 55 => ⟨S1x64x64x1x1, .i1⟩
  | 56 => ⟨S_, .f32⟩
  | 57 => ⟨S2x4x128x256, .f32⟩
  | 58 => ⟨S2x260x64x4x128, .f32⟩
  | 59 => ⟨S260x2x64x4x128, .f32⟩
  | 60 => ⟨S2x260x64x4x128, .f32⟩
  | 61 => ⟨S260x2x64x4x128, .f32⟩
  | 62 => ⟨S2x260x64x4x256, .f32⟩
  | 63 => ⟨S260x2x64x4x256, .f32⟩
  | 64 => ⟨S2x260x64x4x128, .f32⟩
  | 65 => ⟨S260x2x64x4x128, .f32⟩
  | 66 => ⟨S_, .f32⟩
  | 67 => ⟨S260x2x64x4x256, .f32⟩
  | 68 => ⟨S_, .i32⟩
  | 69 => ⟨S260x2x64x4x128, .f32⟩
  | 70 => ⟨S260x2x64x4x128, .f32⟩
  | 71 => ⟨S260x2x64x4x256, .f32⟩
  | 72 => ⟨S260x2x64x4x128, .f32⟩
  | 73 => ⟨S1x64x64x1x1, .i1⟩
  | 74 => ⟨S_, .i32⟩
  | 75 => ⟨S2x4x128x256, .f32⟩
  | 76 => ⟨S260x2x64x4x256, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S1x2x64x4x128, .f32⟩
  | 84 => ⟨S2x64x4x128, .f32⟩
  | 85 => ⟨S_, .i32⟩
  | 86 => ⟨S_, .i32⟩
  | 87 => ⟨S_, .i32⟩
  | 88 => ⟨S_, .i32⟩
  | 89 => ⟨S1x2x64x4x128, .f32⟩
  | 90 => ⟨S2x64x4x128, .f32⟩
  | 91 => ⟨S_, .i32⟩
  | 92 => ⟨S_, .i32⟩
  | 93 => ⟨S_, .i32⟩
  | 94 => ⟨S_, .i32⟩
  | 95 => ⟨S1x2x64x4x256, .f32⟩
  | 96 => ⟨S2x64x4x256, .f32⟩
  | 97 => ⟨S_, .i32⟩
  | 98 => ⟨S_, .i32⟩
  | 99 => ⟨S_, .i32⟩
  | 100 => ⟨S_, .i32⟩
  | 101 => ⟨S1x2x64x4x128, .f32⟩
  | 102 => ⟨S2x64x4x128, .f32⟩
  | 103 => ⟨S_, .f32⟩
  | 104 => ⟨S_, .f32⟩
  | 105 => ⟨S2x64x4x128, .f32⟩
  | 106 => ⟨S2x64x1x4x128, .f32⟩
  | 107 => ⟨S2x1x64x4x128, .f32⟩
  | 108 => ⟨S2x64x64x4x128, .f32⟩
  | 109 => ⟨S2x64x64x4x128, .f32⟩
  | 110 => ⟨S2x64x64x4x128, .f32⟩
  | 111 => ⟨S_, .f32⟩
  | 112 => ⟨S_, .f32⟩
  | 113 => ⟨S2x64x64x4x128, .i1⟩
  | 114 => ⟨S2x64x64x4x128, .f32⟩
  | 115 => ⟨S2x64x64x4x128, .f32⟩
  | 116 => ⟨S2x64x64x4x128, .f32⟩
  | 117 => ⟨S2x64x1x4x128, .f32⟩
  | 118 => ⟨S2x1x64x4x128, .f32⟩
  | 119 => ⟨S2x64x64x4x128, .f32⟩
  | 120 => ⟨S2x64x64x4x128, .f32⟩
  | 121 => ⟨S2x64x64x4x128, .f32⟩
  | 122 => ⟨S2x64x64x4x128, .f32⟩
  | 123 => ⟨S_, .f32⟩
  | 124 => ⟨S2x64x64x4, .f32⟩
  | 125 => ⟨S2x4x64x64, .f32⟩
  | 126 => ⟨S2x4x256x64, .f32⟩
  | 127 => ⟨S2x64x4x256, .f32⟩
  | _ => ⟨S2x16640x6272, .f32⟩

abbrev hbmTy0_1 (i : Nat) : BufTy := match i % 128 with
  | 0 => ⟨S2x64x4x128, .f32⟩
  | 1 => ⟨S2x64x4x128, .f32⟩
  | 2 => ⟨S2x4x256x64, .f32⟩
  | 3 => ⟨S2x64x4x256, .f32⟩
  | 4 => ⟨S2x64x4x256, .f32⟩
  | 5 => ⟨S2x1x4x128, .f32⟩
  | 6 => ⟨S2x64x4x128, .f32⟩
  | 7 => ⟨S2x64x4x128, .f32⟩
  | 8 => ⟨S2x64x4x128, .f32⟩
  | 9 => ⟨S2x1x4x128, .f32⟩
  | 10 => ⟨S2x4x128, .f32⟩
  | 11 => ⟨S2x4x128, .f32⟩
  | 12 => ⟨S2x4x128x1, .f32⟩
  | 13 => ⟨S2x4x128x256, .f32⟩
  | 14 => ⟨S2x4x128x256, .f32⟩
  | 15 => ⟨S2x64x4x128, .f32⟩
  | 16 => ⟨S2x4x128x256, .f32⟩
  | 17 => ⟨S2x4x128x256, .f32⟩
  | 18 => ⟨S1x2x64x4x256, .f32⟩
  | 19 => ⟨S_, .i32⟩
  | 20 => ⟨S_, .i32⟩
  | 21 => ⟨S_, .i32⟩
  | 22 => ⟨S_, .i32⟩
  | 23 => ⟨S260x2x64x4x256, .f32⟩
  | 24 => ⟨S_, .i32⟩
  | 25 => ⟨S_, .i32⟩
  | 26 => ⟨S2x260x64x4x256, .f32⟩
  | 27 => ⟨S2x16640x1024, .f32⟩
  | 28 => ⟨S2x16384x1024, .f32⟩
  | 29 => ⟨S2x256x1024, .f32⟩
  | 30 => ⟨S2x16640x1024, .f32⟩
  | _ => ⟨S2x16640x6272, .f32⟩

abbrev hbmTy (i : Nat) : BufTy := match i / 128 with
  | 0 => hbmTy0_0 i
  | 1 => hbmTy0_1 i
  | _ => ⟨S2x16640x6272, .f32⟩

abbrev bufTy : (tb : Table) → Fin (tcTables nBuf tb) → BufTy
  | .hbm, ⟨i, _⟩ => hbmTy i
  | _, _ => ⟨S2x16640x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c : Ref sig .tc := ⟨.hbm, 44, rfl⟩
abbrev main_v26 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_0 : Ref sig .tc := ⟨.hbm, 52, rfl⟩
abbrev main_call1_v5 : Ref sig .tc := ⟨.hbm, 53, rfl⟩
abbrev main_v27 : Ref sig .tc := ⟨.hbm, 54, rfl⟩
abbrev main_v28 : Ref sig .tc := ⟨.hbm, 55, rfl⟩
abbrev main_cst_1 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_2 : Ref sig .tc := ⟨.hbm, 66, rfl⟩
abbrev main_v38 : Ref sig .tc := ⟨.hbm, 67, rfl⟩
abbrev main_c_3 : Ref sig .tc := ⟨.hbm, 68, rfl⟩
abbrev main_v39_0 : Ref sig .tc := ⟨.hbm, 69, rfl⟩
abbrev main_v39_1 : Ref sig .tc := ⟨.hbm, 70, rfl⟩
abbrev main_v39_2 : Ref sig .tc := ⟨.hbm, 71, rfl⟩
abbrev main_v39_3 : Ref sig .tc := ⟨.hbm, 72, rfl⟩
abbrev main_v39_4 : Ref sig .tc := ⟨.hbm, 73, rfl⟩
abbrev main_v39_5 : Ref sig .tc := ⟨.hbm, 74, rfl⟩
abbrev main_v39_6 : Ref sig .tc := ⟨.hbm, 75, rfl⟩
abbrev main_v39_7 : Ref sig .tc := ⟨.hbm, 76, rfl⟩
abbrev main_while0c_c_11 : Ref sig .tc := ⟨.hbm, 77, rfl⟩
abbrev main_while0c_v45 : Ref sig .tc := ⟨.hbm, 78, rfl⟩
abbrev main_while0b_call2_c : Ref sig .tc := ⟨.hbm, 79, rfl⟩
abbrev main_while0b_call2_c_0 : Ref sig .tc := ⟨.hbm, 80, rfl⟩
abbrev main_while0b_call2_c_1 : Ref sig .tc := ⟨.hbm, 81, rfl⟩
abbrev main_while0b_call2_c_2 : Ref sig .tc := ⟨.hbm, 82, rfl⟩
abbrev main_while0b_call2_v0 : Ref sig .tc := ⟨.hbm, 83, rfl⟩
abbrev main_while0b_v45 : Ref sig .tc := ⟨.hbm, 84, rfl⟩
abbrev main_while0b_call3_c : Ref sig .tc := ⟨.hbm, 85, rfl⟩
abbrev main_while0b_call3_c_0 : Ref sig .tc := ⟨.hbm, 86, rfl⟩
abbrev main_while0b_call3_c_1 : Ref sig .tc := ⟨.hbm, 87, rfl⟩
abbrev main_while0b_call3_c_2 : Ref sig .tc := ⟨.hbm, 88, rfl⟩
abbrev main_while0b_call3_v0 : Ref sig .tc := ⟨.hbm, 89, rfl⟩
abbrev main_while0b_v46 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_call4_c_1 : Ref sig .tc := ⟨.hbm, 93, rfl⟩
abbrev main_while0b_call4_c_2 : Ref sig .tc := ⟨.hbm, 94, rfl⟩
abbrev main_while0b_call4_v0 : Ref sig .tc := ⟨.hbm, 95, rfl⟩
abbrev main_while0b_v47 : Ref sig .tc := ⟨.hbm, 96, rfl⟩
abbrev main_while0b_call5_c : Ref sig .tc := ⟨.hbm, 97, rfl⟩
abbrev main_while0b_call5_c_0 : Ref sig .tc := ⟨.hbm, 98, rfl⟩
abbrev main_while0b_call5_c_1 : Ref sig .tc := ⟨.hbm, 99, rfl⟩
abbrev main_while0b_call5_c_2 : Ref sig .tc := ⟨.hbm, 100, rfl⟩
abbrev main_while0b_call5_v0 : Ref sig .tc := ⟨.hbm, 101, rfl⟩
abbrev main_while0b_v48 : Ref sig .tc := ⟨.hbm, 102, rfl⟩
abbrev main_while0b_call6_call0_cst : Ref sig .tc := ⟨.hbm, 103, rfl⟩
abbrev main_while0b_call6_call0_v0 : Ref sig .tc := ⟨.hbm, 104, rfl⟩
abbrev main_while0b_v49 : Ref sig .tc := ⟨.hbm, 105, rfl⟩
abbrev main_while0b_v50 : Ref sig .tc := ⟨.hbm, 106, rfl⟩
abbrev main_while0b_v51 : Ref sig .tc := ⟨.hbm, 107, rfl⟩
abbrev main_while0b_v52 : Ref sig .tc := ⟨.hbm, 108, rfl⟩
abbrev main_while0b_v53 : Ref sig .tc := ⟨.hbm, 109, rfl⟩
abbrev main_while0b_v54 : Ref sig .tc := ⟨.hbm, 110, rfl⟩
abbrev main_while0b_cst_11 : Ref sig .tc := ⟨.hbm, 111, rfl⟩
abbrev main_while0b_call7_v0 : Ref sig .tc := ⟨.hbm, 112, rfl⟩
abbrev main_while0b_call7_v1 : Ref sig .tc := ⟨.hbm, 113, rfl⟩
abbrev main_while0b_call7_v2 : Ref sig .tc := ⟨.hbm, 114, rfl⟩
abbrev main_while0b_v55 : Ref sig .tc := ⟨.hbm, 115, rfl⟩
abbrev main_while0b_v56 : Ref sig .tc := ⟨.hbm, 116, rfl⟩
abbrev main_while0b_v57 : Ref sig .tc := ⟨.hbm, 117, rfl⟩
abbrev main_while0b_v58 : Ref sig .tc := ⟨.hbm, 118, rfl⟩
abbrev main_while0b_v59 : Ref sig .tc := ⟨.hbm, 119, rfl⟩
abbrev main_while0b_v60 : Ref sig .tc := ⟨.hbm, 120, rfl⟩
abbrev main_while0b_v61 : Ref sig .tc := ⟨.hbm, 121, rfl⟩
abbrev main_while0b_v62 : Ref sig .tc := ⟨.hbm, 122, rfl⟩
abbrev main_while0b_cst_12 : Ref sig .tc := ⟨.hbm, 123, rfl⟩
abbrev main_while0b_v63 : Ref sig .tc := ⟨.hbm, 124, rfl⟩
abbrev main_while0b_v64 : Ref sig .tc := ⟨.hbm, 125, rfl⟩
abbrev main_while0b_v65 : Ref sig .tc := ⟨.hbm, 126, rfl⟩
abbrev main_while0b_v66 : Ref sig .tc := ⟨.hbm, 127, rfl⟩
abbrev main_while0b_v67 : Ref sig .tc := ⟨.hbm, 128, rfl⟩
abbrev main_while0b_v68 : Ref sig .tc := ⟨.hbm, 129, rfl⟩
abbrev main_while0b_v69 : Ref sig .tc := ⟨.hbm, 130, rfl⟩
abbrev main_while0b_v70 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_v74 : Ref sig .tc := ⟨.hbm, 135, rfl⟩
abbrev main_while0b_v75 : Ref sig .tc := ⟨.hbm, 136, rfl⟩
abbrev main_while0b_v76 : Ref sig .tc := ⟨.hbm, 137, rfl⟩
abbrev main_while0b_v77 : Ref sig .tc := ⟨.hbm, 138, rfl⟩
abbrev main_while0b_v78 : Ref sig .tc := ⟨.hbm, 139, rfl⟩
abbrev main_while0b_v79 : Ref sig .tc := ⟨.hbm, 140, rfl⟩
abbrev main_while0b_v80 : Ref sig .tc := ⟨.hbm, 141, rfl⟩
abbrev main_while0b_v81 : Ref sig .tc := ⟨.hbm, 142, rfl⟩
abbrev main_while0b_v82 : Ref sig .tc := ⟨.hbm, 143, rfl⟩
abbrev main_while0b_v83 : Ref sig .tc := ⟨.hbm, 144, rfl⟩
abbrev main_while0b_v84 : Ref sig .tc := ⟨.hbm, 145, rfl⟩
abbrev main_while0b_call8_v0 : Ref sig .tc := ⟨.hbm, 146, rfl⟩
abbrev main_while0b_call8_c : Ref sig .tc := ⟨.hbm, 147, rfl⟩
abbrev main_while0b_call8_c_0 : Ref sig .tc := ⟨.hbm, 148, rfl⟩
abbrev main_while0b_call8_c_1 : Ref sig .tc := ⟨.hbm, 149, rfl⟩
abbrev main_while0b_call8_c_2 : Ref sig .tc := ⟨.hbm, 150, rfl⟩
abbrev main_while0b_v85 : Ref sig .tc := ⟨.hbm, 151, rfl⟩
abbrev main_while0b_c_13 : Ref sig .tc := ⟨.hbm, 152, rfl⟩
abbrev main_while0b_v86 : Ref sig .tc := ⟨.hbm, 153, rfl⟩
abbrev main_v40 : Ref sig .tc := ⟨.hbm, 154, rfl⟩
abbrev main_v41 : Ref sig .tc := ⟨.hbm, 155, rfl⟩
abbrev main_v42 : Ref sig .tc := ⟨.hbm, 156, rfl⟩
abbrev main_v43 : Ref sig .tc := ⟨.hbm, 157, rfl⟩
abbrev main_v44 : Ref sig .tc := ⟨.hbm, 158, rfl⟩

abbrev nD : Nat := 1
abbrev τ : Topo := Topo.v7x

variable {F : FTy → Type} [FloatOps F]

abbrev main_while0_count : Scf.Loop 32 := ⟨0#32, 260#32, 1#32⟩
-- ==== Back.lean ====
abbrev S2x16640x6272 : Shape := ⟨3, ![2, 16640, 6272]⟩
abbrev S2x16x512 : Shape := ⟨3, ![2, 16, 512]⟩
abbrev S2x512 : Shape := ⟨2, ![2, 512]⟩
abbrev S2x16640x1024 : Shape := ⟨3, ![2, 16640, 1024]⟩
abbrev S1024 : Shape := ⟨1, ![1024]⟩
abbrev S_ : Shape := ⟨0, ![]⟩
abbrev S2x128x512 : Shape := ⟨3, ![2, 128, 512]⟩
abbrev S1x16x512 : Shape := ⟨3, ![1, 16, 512]⟩
abbrev S16x512 : Shape := ⟨2, ![16, 512]⟩
abbrev S1 : Shape := ⟨1, ![1]⟩
abbrev S2 : Shape := ⟨1, ![2]⟩
abbrev S2x1x512 : Shape := ⟨3, ![2, 1, 512]⟩
abbrev S1x1024 : Shape := ⟨2, ![1, 1024]⟩
abbrev S1x256x512 : Shape := ⟨3, ![1, 256, 512]⟩
abbrev S1x256x1024 : Shape := ⟨3, ![1, 256, 1024]⟩
abbrev S1x256x128 : Shape := ⟨3, ![1, 256, 128]⟩
abbrev S1x128x512 : Shape := ⟨3, ![1, 128, 512]⟩
abbrev S1x1x512 : Shape := ⟨3, ![1, 1, 512]⟩
abbrev S4x256x128 : Shape := ⟨3, ![4, 256, 128]⟩
abbrev S64x64 : Shape := ⟨2, ![64, 64]⟩
abbrev S256x128 : Shape := ⟨2, ![256, 128]⟩
abbrev S128x512 : Shape := ⟨2, ![128, 512]⟩
abbrev S256x512 : Shape := ⟨2, ![256, 512]⟩
abbrev S1x512 : Shape := ⟨2, ![1, 512]⟩
abbrev S256x1024 : Shape := ⟨2, ![256, 1024]⟩
abbrev S64x512 : Shape := ⟨2, ![64, 512]⟩
abbrev S64x128 : Shape := ⟨2, ![64, 128]⟩
abbrev S1x128 : Shape := ⟨2, ![1, 128]⟩
abbrev S64x256 : Shape := ⟨2, ![64, 256]⟩
abbrev S1x64x256 : Shape := ⟨3, ![1, 64, 256]⟩
abbrev S64 : Shape := ⟨1, ![64]⟩
abbrev S64x1 : Shape := ⟨2, ![64, 1]⟩
abbrev S1x256 : Shape := ⟨2, ![1, 256]⟩

abbrev nBuf : Space → Nat
  | .hbm => 26
  | .vmem => 18
  | .smem => 0
  | _ => 0

abbrev bufTy : (tb : Table) → Fin (tcTables nBuf tb) → BufTy
  | .hbm, ⟨0, _⟩ => ⟨S2x16640x6272, .f32⟩
  | .hbm, ⟨1, _⟩ => ⟨S2x16x512, .f32⟩
  | .hbm, ⟨2, _⟩ => ⟨S2x512, .f32⟩
  | .hbm, ⟨3, _⟩ => ⟨S2x16640x1024, .f32⟩
  | .hbm, ⟨4, _⟩ => ⟨S1024, .f32⟩
  | .hbm, ⟨5, _⟩ => ⟨S_, .f32⟩
  | .hbm, ⟨6, _⟩ => ⟨S2x128x512, .f32⟩
  | .hbm, ⟨7, _⟩ => ⟨S1x16x512, .f32⟩
  | .hbm, ⟨8, _⟩ => ⟨S16x512, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S2x128x512, .f32⟩
  | .hbm, ⟨15, _⟩ => ⟨S1x16x512, .f32⟩
  | .hbm, ⟨16, _⟩ => ⟨S16x512, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S2x128x512, .f32⟩
  | .hbm, ⟨23, _⟩ => ⟨S2x1x512, .f32⟩
  | .hbm, ⟨24, _⟩ => ⟨S1x1024, .f32⟩
  | .hbm, ⟨25, _⟩ => ⟨S2x16640x1024, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .f32⟩
  | .local _ .vmem, ⟨5, _⟩ => ⟨S1x256x1024, .f32⟩
  | .local _ .vmem, ⟨6, _⟩ => ⟨S1x256x128, .f32⟩
  | .local _ .vmem, ⟨7, _⟩ => ⟨S1x256x128, .f32⟩
  | .local _ .vmem, ⟨8, _⟩ => ⟨S1x128x512, .f32⟩
  | .local _ .vmem, ⟨9, _⟩ => ⟨S1x1x512, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x1024, .f32⟩
  | .local _ .vmem, ⟨15, _⟩ => ⟨S1x256x1024, .bf16⟩
  | .local _ .vmem, ⟨16, _⟩ => ⟨S1x256x1024, .bf16⟩
  | .local _ .vmem, ⟨17, _⟩ => ⟨S4x256x128, .f32⟩
  | _, _ => ⟨S2x16640x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c6_i32 : BitVec 32 := 6#32
  let c0_i32 : BitVec 32 := 0#32
  ![arg0.toNat, v0.toNat, c6_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c7_i32 : BitVec 32 := 7#32
  let c0_i32 : BitVec 32 := 0#32
  ![arg0.toNat, v0.toNat, c7_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c4_i32 : BitVec 32 := 4#32
  let c0_i32 : BitVec 32 := 0#32
  ![arg0.toNat, v0.toNat, c4_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c48_i32 : BitVec 32 := 48#32
  let c0_i32 : BitVec 32 := 0#32
  ![arg0.toNat, v0.toNat, c48_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c5_i32 : BitVec 32 := 5#32
  let c0_i32 : BitVec 32 := 0#32
  ![arg0.toNat, v0.toNat, c5_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  ![arg0.toNat, v0.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Proj.lean ====
abbrev S2x16640x2048 : Shape := ⟨3, ![2, 16640, 2048]⟩
abbrev S2048x6176 : Shape := ⟨2, ![2048, 6176]⟩
abbrev S_ : Shape := ⟨0, ![]⟩
abbrev S2048x6272 : Shape := ⟨2, ![2048, 6272]⟩
abbrev S1 : Shape := ⟨1, ![1]⟩
abbrev S33280x2048 : Shape := ⟨2, ![33280, 2048]⟩
abbrev S33280x6272 : Shape := ⟨2, ![33280, 6272]⟩
abbrev S1280x2048 : Shape := ⟨2, ![1280, 2048]⟩
abbrev S2048x896 : Shape := ⟨2, ![2048, 896]⟩
abbrev S1280x896 : Shape := ⟨2, ![1280, 896]⟩

abbrev nBuf : Space → Nat
  | .hbm => 10
  | .vmem => 6
  | .smem => 0
  | _ => 0

abbrev bufTy : (tb : Table) → Fin (tcTables nBuf tb) → BufTy
  | .hbm, ⟨0, _⟩ => ⟨S2x16640x2048, .bf16⟩
  | .hbm, ⟨1, _⟩ => ⟨S2048x6176, .f32⟩
  | .hbm, ⟨2, _⟩ => ⟨S_, .bf16⟩
  | .hbm, ⟨3, _⟩ => ⟨S2048x6272, .bf16⟩
  | .hbm, ⟨4, _⟩ => ⟨S2048x6176, .bf16⟩
  | .hbm, ⟨5, _⟩ => ⟨S_, .i32⟩
  | .hbm, ⟨6, _⟩ => ⟨S1, .i32⟩
  | .hbm, ⟨7, _⟩ => ⟨S2048x6272, .bf16⟩
  | .hbm, ⟨8, _⟩ => ⟨S33280x2048, .bf16⟩
  | .hbm, ⟨9, _⟩ => ⟨S33280x6272, .f32⟩
  | .local _ .vmem, ⟨0, _⟩ => ⟨S1280x2048, .bf16⟩
  | .local _ .vmem, ⟨1, _⟩ => ⟨S1280x2048, .bf16⟩
  | .local _ .vmem, ⟨2, _⟩ => ⟨S2048x896, .bf16⟩
  | .local _ .vmem, ⟨3, _⟩ => ⟨S2048x896, .bf16⟩
  | .local _ .vmem, ⟨4, _⟩ => ⟨S1280x896, .f32⟩
  | .local _ .vmem, ⟨5, _⟩ => ⟨S1280x896, .f32⟩
  | _, _ => ⟨S2x16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![26, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S2x16640x2048 : Shape := ⟨3, ![2, 16640, 2048]⟩
abbrev S2048x6176 : Shape := ⟨2, ![2048, 6176]⟩
abbrev S33280x2048 : Shape := ⟨2, ![33280, 2048]⟩
abbrev S33280x6176 : Shape := ⟨2, ![33280, 6176]⟩
abbrev S_ : Shape := ⟨0, ![]⟩
abbrev S33280x6272 : Shape := ⟨2, ![33280, 6272]⟩

abbrev nBuf : Space → Nat
  | .hbm => 8
  | .vmem => 0
  | .smem => 0
  | _ => 0

abbrev bufTy : (tb : Table) → Fin (tcTables nBuf tb) → BufTy
  | .hbm, ⟨0, _⟩ => ⟨S2x16640x2048, .bf16⟩
  | .hbm, ⟨1, _⟩ => ⟨S2048x6176, .f32⟩
  | .hbm, ⟨2, _⟩ => ⟨S33280x2048, .bf16⟩
  | .hbm, ⟨3, _⟩ => ⟨S33280x2048, .f32⟩
  | .hbm, ⟨4, _⟩ => ⟨S33280x6176, .f32⟩
  | .hbm, ⟨5, _⟩ => ⟨S_, .i32⟩
  | .hbm, ⟨6, _⟩ => ⟨S_, .f32⟩
  | .hbm, ⟨7, _⟩ => ⟨S33280x6272, .f32⟩
  | _, _ => ⟨S2x16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Late.lean ====
abbrev S2x16640x2048 : Shape := ⟨3, ![2, 16640, 2048]⟩
abbrev S2048x10368 : Shape := ⟨2, ![2048, 10368]⟩
abbrev S33280x2048 : Shape := ⟨2, ![33280, 2048]⟩
abbrev S33280x10368 : Shape := ⟨2, ![33280, 10368]⟩
abbrev S1280x2048 : Shape := ⟨2, ![1280, 2048]⟩
abbrev S2048x1152 : Shape := ⟨2, ![2048, 1152]⟩
abbrev S1280x1152 : Shape := ⟨2, ![1280, 1152]⟩

abbrev nBuf : Space → Nat
  | .hbm => 5
  | .vmem => 6
  | .smem => 0
  | _ => 0

abbrev bufTy : (tb : Table) → Fin (tcTables nBuf tb) → BufTy
  | .hbm, ⟨0, _⟩ => ⟨S2x16640x2048, .bf16⟩
  | .hbm, ⟨1, _⟩ => ⟨S2048x10368, .f32⟩
  | .hbm, ⟨2, _⟩ => ⟨S2048x10368, .bf16⟩
  | .hbm, ⟨3, _⟩ => ⟨S33280x2048, .bf16⟩
  | .hbm, ⟨4, _⟩ => ⟨S33280x10368, .f32⟩
  | .local _ .vmem, ⟨0, _⟩ => ⟨S1280x2048, .bf16⟩
  | .local _ .vmem, ⟨1, _⟩ => ⟨S1280x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1280x1152, .f32⟩
  | .local _ .vmem, ⟨5, _⟩ => ⟨S1280x1152, .f32⟩
  | _, _ => ⟨S2x16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![26, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LateRefIdeal.lean ====
abbrev S2x16640x2048 : Shape := ⟨3, ![2, 16640, 2048]⟩
abbrev S2048x10368 : Shape := ⟨2, ![2048, 10368]⟩
abbrev S33280x2048 : Shape := ⟨2, ![33280, 2048]⟩
abbrev S33280x10368 : Shape := ⟨2, ![33280, 10368]⟩

abbrev nBuf : Space → Nat
  | .hbm => 5
  | .vmem => 0
  | .smem => 0
  | _ => 0

abbrev bufTy : (tb : Table) → Fin (tcTables nBuf tb) → BufTy
  | .hbm, ⟨0, _⟩ => ⟨S2x16640x2048, .bf16⟩
  | .hbm, ⟨1, _⟩ => ⟨S2048x10368, .f32⟩
  | .hbm, ⟨2, _⟩ => ⟨S33280x2048, .bf16⟩
  | .hbm, ⟨3, _⟩ => ⟨S33280x2048, .f32⟩
  | .hbm, ⟨4, _⟩ => ⟨S33280x10368, .f32⟩
  | _, _ => ⟨S2x16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Last.lean ====
abbrev S33280x2048 : Shape := ⟨2, ![33280, 2048]⟩
abbrev S33280x128 : Shape := ⟨2, ![33280, 128]⟩
abbrev S2x16640x2048 : Shape := ⟨3, ![2, 16640, 2048]⟩
abbrev S8x6x2048 : Shape := ⟨3, ![8, 6, 2048]⟩
abbrev S2048 : Shape := ⟨1, ![2048]⟩
abbrev S2x1x2048 : Shape := ⟨3, ![2, 1, 2048]⟩
abbrev S2x2048 : Shape := ⟨2, ![2, 2048]⟩
abbrev S1x1x2048 : Shape := ⟨3, ![1, 1, 2048]⟩
abbrev S1x2048 : Shape := ⟨2, ![1, 2048]⟩
abbrev S2x2x2048 : Shape := ⟨3, ![2, 2, 2048]⟩
abbrev S_ : Shape := ⟨0, ![]⟩
abbrev S2x4x2048 : Shape := ⟨3, ![2, 4, 2048]⟩
abbrev S2x6x2048 : Shape := ⟨3, ![2, 6, 2048]⟩
abbrev S1x2x2048 : Shape := ⟨3, ![1, 2, 2048]⟩
abbrev S2x8x2048 : Shape := ⟨3, ![2, 8, 2048]⟩
abbrev S2x3x2048 : Shape := ⟨3, ![2, 3, 2048]⟩
abbrev S2x1x8x2048 : Shape := ⟨4, ![2, 1, 8, 2048]⟩
abbrev S2x2x8x2048 : Shape := ⟨4, ![2, 2, 8, 2048]⟩
abbrev S4x8x2048 : Shape := ⟨3, ![4, 8, 2048]⟩
abbrev S32768x2048 : Shape := ⟨2, ![32768, 2048]⟩
abbrev S256x2048 : Shape := ⟨2, ![256, 2048]⟩
abbrev S256x128 : Shape := ⟨2, ![256, 128]⟩
abbrev S256x1 : Shape := ⟨2, ![256, 1]⟩
abbrev S1x8x2048 : Shape := ⟨3, ![1, 8, 2048]⟩
abbrev S8x2048 : Shape := ⟨2, ![8, 2048]⟩
abbrev S256 : Shape := ⟨1, ![256]⟩

abbrev nBuf : Space → Nat
  | .hbm => 43
  | .vmem => 11
  | .smem => 0
  | _ => 0

abbrev bufTy : (tb : Table) → Fin (tcTables nBuf tb) → BufTy
  | .hbm, ⟨0, _⟩ => ⟨S33280x2048, .bf16⟩
  | .hbm, ⟨1, _⟩ => ⟨S33280x2048, .bf16⟩
  | .hbm, ⟨2, _⟩ => ⟨S33280x128, .f32⟩
  | .hbm, ⟨3, _⟩ => ⟨S2x16640x2048, .f32⟩
  | .hbm, ⟨4, _⟩ => ⟨S8x6x2048, .f32⟩
  | .hbm, ⟨5, _⟩ => ⟨S2048, .f32⟩
  | .hbm, ⟨6, _⟩ => ⟨S2048, .f32⟩
  | .hbm, ⟨7, _⟩ => ⟨S2x1x2048, .f32⟩
  | .hbm, ⟨8, _⟩ => ⟨S2x2048, .f32⟩
  | .hbm, ⟨9, _⟩ => ⟨S2x1x2048, .f32⟩
  | .hbm, ⟨10, _⟩ => ⟨S1x1x2048, .f32⟩
  | .hbm, ⟨11, _⟩ => ⟨S2048, .f32⟩
  | .hbm, ⟨12, _⟩ => ⟨S1x2048, .f32⟩
  | .hbm, ⟨13, _⟩ => ⟨S1x1x2048, .f32⟩
  | .hbm, ⟨14, _⟩ => ⟨S2x1x2048, .f32⟩
  | .hbm, ⟨15, _⟩ => ⟨S2x2x2048, .f32⟩
  | .hbm, ⟨16, _⟩ => ⟨S_, .f32⟩
  | .hbm, ⟨17, _⟩ => ⟨S2x4x2048, .f32⟩
  | .hbm, ⟨18, _⟩ => ⟨S2x1x2048, .f32⟩
  | .hbm, ⟨19, _⟩ => ⟨S2x2x2048, .f32⟩
  | .hbm, ⟨20, _⟩ => ⟨S2x1x2048, .f32⟩
  | .hbm, ⟨21, _⟩ => ⟨S2x2x2048, .f32⟩
  | .hbm, ⟨22, _⟩ => ⟨S2x6x2048, .f32⟩
  | .hbm, ⟨23, _⟩ => ⟨S1x2048, .f32⟩
  | .hbm, ⟨24, _⟩ => ⟨S1x2048, .f32⟩
  | .hbm, ⟨25, _⟩ => ⟨S2x2048, .f32⟩
  | .hbm, ⟨26, _⟩ => ⟨S1x2x2048, .f32⟩
  | .hbm, ⟨27, _⟩ => ⟨S2x2x2048, .f32⟩
  | .hbm, ⟨28, _⟩ => ⟨S2x8x2048, .f32⟩
  | .hbm, ⟨29, _⟩ => ⟨S33280x2048, .f32⟩
  | .hbm, ⟨30, _⟩ => ⟨S_, .f32⟩
  | .hbm, ⟨31, _⟩ => ⟨S2x3x2048, .f32⟩
  | .hbm, ⟨32, _⟩ => ⟨S2x3x2048, .f32⟩
  | .hbm, ⟨33, _⟩ => ⟨S2x2x2048, .f32⟩
  | .hbm, ⟨34, _⟩ => ⟨S2x8x2048, .f32⟩
  | .hbm, ⟨35, _⟩ => ⟨S2x3x2048, .f32⟩
  | .hbm, ⟨36, _⟩ => ⟨S2x2x2048, .f32⟩
  | .hbm, ⟨37, _⟩ => ⟨S2x8x2048, .f32⟩
  | .hbm, ⟨38, _⟩ => ⟨S2x1x8x2048, .f32⟩
  | .hbm, ⟨39, _⟩ => ⟨S2x1x8x2048, .f32⟩
  | .hbm, ⟨40, _⟩ => ⟨S2x2x8x2048, .f32⟩
  | .hbm, ⟨41, _⟩ => ⟨S4x8x2048, .f32⟩
  | .hbm, ⟨42, _⟩ => ⟨S32768x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x128, .f32⟩
  | .local _ .vmem, ⟨5, _⟩ => ⟨S256x128, .f32⟩
  | .local _ .vmem, ⟨6, _⟩ => ⟨S256x2048, .f32⟩
  | .local _ .vmem, ⟨7, _⟩ => ⟨S256x2048, .f32⟩
  | .local _ .vmem, ⟨8, _⟩ => ⟨S4x8x2048, .f32⟩
  | .local _ .vmem, ⟨9, _⟩ => ⟨S256x2048, .f32⟩
  | .local _ .vmem, ⟨10, _⟩ => ⟨S256x2048, .f32⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def k0_off1 (i : grid0.Coords) : Fin 3 → Nat :=
  let c2_i32 : BitVec 32 := 2#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c64_i32 : BitVec 32 := 64#32
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let v0 : BitVec 32 := Scalar.divsi arg0 c64_i32
  let c1_i32 : BitVec 32 := 1#32
  let v15 : BitVec 32 := Scalar.subi v0 c1_i32
  let v16 : BitVec 32 := Scalar.select v14 v15 v0
  let c65_i32 : BitVec 32 := 65#32
  let v17 : BitVec 32 := Scalar.muli v16 c65_i32
  let c64_i32_4 : BitVec 32 := 64#32
  let c0_i32_5 : BitVec 32 := 0#32
  let v18 : BitVec 1 := Scalar.cmpi .eq c64_i32_4 c0_i32_5
  let c1_i32_6 : BitVec 32 := 1#32
  let v19 : BitVec 32 := Scalar.select v18 c1_i32_6 c64_i32_4
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let v28 : BitVec 32 := Scalar.addi v17 v27
  let c0_i32_18 : BitVec 32 := 0#32
  let v44 : BitVec 1 := Scalar.cmpi .sgt v28 c0_i32_18
  let v45 : BitVec 32 := Scalar.extui v44
  let c0_i32_19 : BitVec 32 := 0#32
  let v46 : BitVec 1 := Scalar.cmpi .slt v28 c0_i32_19
  let v47 : BitVec 32 := Scalar.extui v46
  let v48 : BitVec 32 := Scalar.subi v45 v47
  let c65_i32_17 : BitVec 32 := 65#32
  let c0_i32_20 : BitVec 32 := 0#32
  let v49 : BitVec 1 := Scalar.cmpi .sgt c65_i32_17 c0_i32_20
  let v50 : BitVec 32 := Scalar.extui v49
  let c0_i32_21 : BitVec 32 := 0#32
  let v51 : BitVec 1 := Scalar.cmpi .slt c65_i32_17 c0_i32_21
  let v52 : BitVec 32 := Scalar.extui v51
  let v53 : BitVec 32 := Scalar.subi v50 v52
  let v54 : BitVec 1 := Scalar.cmpi .ne v48 v53
  let v55 : BitVec 32 := Scalar.remsi v28 c65_i32_17
  let c0_i32_22 : BitVec 32 := 0#32
  let v56 : BitVec 1 := Scalar.cmpi .ne v55 c0_i32_22
  let v57 : BitVec 1 := Scalar.andi v54 v56
  let v43 : BitVec 32 := Scalar.divsi v28 c65_i32_17
  let c1_i32_23 : BitVec 32 := 1#32
  let v58 : BitVec 32 := Scalar.subi v43 c1_i32_23
  let v59 : BitVec 32 := Scalar.select v57 v58 v43
  let v64 : BitVec 32 := Scalar.muli c2_i32 v59
  let c65_i32_24 : BitVec 32 := 65#32
  let v60 : BitVec 32 := Scalar.muli v59 c65_i32_24
  let v61 : BitVec 32 := Scalar.subi v28 v60
  let c64_i32_25 : BitVec 32 := 64#32
  let v62 : BitVec 1 := Scalar.cmpi .sge v61 c64_i32_25
  let v63 : BitVec 32 := Scalar.extui v62
  let v65 : BitVec 32 := Scalar.addi v64 v63
  let v66 : Index := Scalar.indexCast v65
  let c0_26 : Index := 0#32
  let c0_27 : Index := 0#32
  ![v66.toNat, 0, 0]
def cc0_transform_0 (i : grid0.Coords) : Fin 2 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c65_i32 : BitVec 32 := 65#32
  let v17 : BitVec 32 := Scalar.muli v16 c65_i32
  let c64_i32_4 : BitVec 32 := 64#32
  let c0_i32_5 : BitVec 32 := 0#32
  let v18 : BitVec 1 := Scalar.cmpi .eq c64_i32_4 c0_i32_5
  let c1_i32_6 : BitVec 32 := 1#32
  let v19 : BitVec 32 := Scalar.select v18 c1_i32_6 c64_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  let c0_i32_11 : BitVec 32 := 0#32
  ![v28.toNat, c0_i32_10.toNat]

def cc0_transform_1 (i : grid0.Coords) : Fin 2 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c65_i32 : BitVec 32 := 65#32
  let v17 : BitVec 32 := Scalar.muli v16 c65_i32
  let c64_i32_4 : BitVec 32 := 64#32
  let c0_i32_5 : BitVec 32 := 0#32
  let v18 : BitVec 1 := Scalar.cmpi .eq c64_i32_4 c0_i32_5
  let c1_i32_6 : BitVec 32 := 1#32
  let v19 : BitVec 32 := Scalar.select v18 c1_i32_6 c64_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  let c0_i32_11 : BitVec 32 := 0#32
  ![v28.toNat, c0_i32_10.toNat]

def cc0_transform_2 (i : grid0.Coords) : Fin 2 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c65_i32 : BitVec 32 := 65#32
  let v17 : BitVec 32 := Scalar.muli v16 c65_i32
  let c64_i32_4 : BitVec 32 := 64#32
  let c0_i32_5 : BitVec 32 := 0#32
  let v18 : BitVec 1 := Scalar.cmpi .eq c64_i32_4 c0_i32_5
  let c1_i32_6 : BitVec 32 := 1#32
  let v19 : BitVec 32 := Scalar.select v18 c1_i32_6 c64_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  let c0_i32_11 : BitVec 32 := 0#32
  ![v28.toNat, c0_i32_10.toNat]

def cc0_transform_3 (i : grid0.Coords) : Fin 2 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c65_i32 : BitVec 32 := 65#32
  let v17 : BitVec 32 := Scalar.muli v16 c65_i32
  let c64_i32_4 : BitVec 32 := 64#32
  let c0_i32_5 : BitVec 32 := 0#32
  let v18 : BitVec 1 := Scalar.cmpi .eq c64_i32_4 c0_i32_5
  let c1_i32_6 : BitVec 32 := 1#32
  let v19 : BitVec 32 := Scalar.select v18 c1_i32_6 c64_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  let c0_i32_11 : BitVec 32 := 0#32
  ![v28.toNat, c0_i32_10.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastRefIdeal.lean ====
abbrev S33280x2048 : Shape := ⟨2, ![33280, 2048]⟩
abbrev S33280x128 : Shape := ⟨2, ![33280, 128]⟩
abbrev S2x16640x2048 : Shape := ⟨3, ![2, 16640, 2048]⟩
abbrev S8x6x2048 : Shape := ⟨3, ![8, 6, 2048]⟩
abbrev S2048 : Shape := ⟨1, ![2048]⟩
abbrev S33280x1 : Shape := ⟨2, ![33280, 1]⟩
abbrev S2x16384x2048 : Shape := ⟨3, ![2, 16384, 2048]⟩
abbrev S_ : Shape := ⟨0, ![]⟩
abbrev S2x1x2048 : Shape := ⟨3, ![2, 1, 2048]⟩
abbrev S2x2048 : Shape := ⟨2, ![2, 2048]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 56
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S33280x2048, .bf16⟩
  | .hbm, ⟨2, _⟩ => ⟨S33280x128, .f32⟩
  | .hbm, ⟨3, _⟩ => ⟨S2x16640x2048, .f32⟩
  | .hbm, ⟨4, _⟩ => ⟨S8x6x2048, .f32⟩
  | .hbm, ⟨5, _⟩ => ⟨S2048, .f32⟩
  | .hbm, ⟨6, _⟩ => ⟨S2048, .f32⟩
  | .hbm, ⟨7, _⟩ => ⟨S33280x2048, .f32⟩
  | .hbm, ⟨8, _⟩ => ⟨S33280x1, .f32⟩
  | .hbm, ⟨9, _⟩ => ⟨S33280x2048, .f32⟩
  | .hbm, ⟨10, _⟩ => ⟨S33280x2048, .f32⟩
  | .hbm, ⟨11, _⟩ => ⟨S33280x2048, .f32⟩
  | .hbm, ⟨12, _⟩ => ⟨S33280x1, .f32⟩
  | .hbm, ⟨13, _⟩ => ⟨S33280x2048, .f32⟩
  | .hbm, ⟨14, _⟩ => ⟨S33280x2048, .f32⟩
  | .hbm, ⟨15, _⟩ => ⟨S33280x2048, .f32⟩
  | .hbm, ⟨16, _⟩ => ⟨S2x16640x2048, .f32⟩
  | .hbm, ⟨17, _⟩ => ⟨S2x16384x2048, .f32⟩
  | .hbm, ⟨18, _⟩ => ⟨S_, .f32⟩
  | .hbm, ⟨19, _⟩ => ⟨S2x16384x2048, .f32⟩
  | .hbm, ⟨20, _⟩ => ⟨S2x16384x2048, .f32⟩
  | .hbm, ⟨21, _⟩ => ⟨S2x1x2048, .f32⟩
  | .hbm, ⟨22, _⟩ => ⟨S2x2048, .f32⟩
  | .hbm, ⟨23, _⟩ => ⟨S2x1x2048, .f32⟩
  | .hbm, ⟨24, _⟩ => ⟨S2x16384x2048, .f32⟩
  | .hbm, ⟨25, _⟩ => ⟨S2x16384x2048, .f32⟩
  | .hbm, ⟨26, _⟩ => ⟨S2x16384x2048, .f32⟩
  | .hbm, ⟨27, _⟩ => ⟨S2x16384x2048, .f32⟩
  | .hbm, ⟨28, _⟩ => ⟨S_, .f32⟩
  | .hbm, ⟨29, _⟩ => ⟨S2x16384, .f32⟩
  | .hbm, ⟨30, _⟩ => ⟨S2x16384x1, .f32⟩
  | .hbm, ⟨31, _⟩ => ⟨S_, .f32⟩
  | .hbm, ⟨32, _⟩ => ⟨S2x16384x1, .f32⟩
  | .hbm, ⟨33, _⟩ => ⟨S2x16384x1, .f32⟩
  | .hbm, ⟨34, _⟩ => ⟨S2x16384x2048, .f32⟩
  | .hbm, ⟨35, _⟩ => ⟨S2x16384x2048, .f32⟩
  | .hbm, ⟨36, _⟩ => ⟨S2x16384x2048, .f32⟩
  | .hbm, ⟨37, _⟩ => ⟨S_, .f32⟩
  | .hbm, ⟨38, _⟩ => ⟨S2x16384, .f32⟩
  | .hbm, ⟨39, _⟩ => ⟨S2x16384x1, .f32⟩
  | .hbm, ⟨40, _⟩ => ⟨S_, .f32⟩
  | .hbm, ⟨41, _⟩ => ⟨S2x16384x1, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S2x16384x1, .f32⟩
  | .hbm, ⟨47, _⟩ => ⟨S2x16384x2048, .f32⟩
  | .hbm, ⟨48, _⟩ => ⟨S2x16384x2048, .f32⟩
  | .hbm, ⟨49, _⟩ => ⟨S1x1x2048, .f32⟩
  | .hbm, ⟨50, _⟩ => ⟨S2x16384x2048, .f32⟩
  | .hbm, ⟨51, _⟩ => ⟨S2x16384x2048, .f32⟩
  | .hbm, ⟨52, _⟩ => ⟨S1x1x2048, .f32⟩
  | .hbm, ⟨53, _⟩ => ⟨S2x16384x2048, .f32⟩
  | .hbm, ⟨54, _⟩ => ⟨S2x16384x2048, .f32⟩
  | .hbm, ⟨55, _⟩ => ⟨S32768x2048, .f32⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Out.lean ====
abbrev S2x16640x4096 : Shape := ⟨3, ![2, 16640, 4096]⟩
abbrev S4096x2048 : Shape := ⟨2, ![4096, 2048]⟩
abbrev S2x16640x2048 : Shape := ⟨3, ![2, 16640, 2048]⟩
abbrev S8x6x2048 : Shape := ⟨3, ![8, 6, 2048]⟩
abbrev S2048 : Shape := ⟨1, ![2048]⟩
abbrev S2048x16 : Shape := ⟨2, ![2048, 16]⟩
abbrev S2x1x2048 : Shape := ⟨3, ![2, 1, 2048]⟩
abbrev S2x2048 : Shape := ⟨2, ![2, 2048]⟩
abbrev S2x3x2048 : Shape := ⟨3, ![2, 3, 2048]⟩
abbrev S1x1x2048 : Shape := ⟨3, ![1, 1, 2048]⟩
abbrev S1x2048 : Shape := ⟨2, ![1, 2048]⟩
abbrev S3x2048 : Shape := ⟨2, ![3, 2048]⟩
abbrev S1x3x2048 : Shape := ⟨3, ![1, 3, 2048]⟩
abbrev S2x6x2048 : Shape := ⟨3, ![2, 6, 2048]⟩
abbrev S1x2x2048 : Shape := ⟨3, ![1, 2, 2048]⟩
abbrev S2x2x2048 : Shape := ⟨3, ![2, 2, 2048]⟩
abbrev S2x8x2048 : Shape := ⟨3, ![2, 8, 2048]⟩
abbrev S_ : Shape := ⟨0, ![]⟩
abbrev S2048x128 : Shape := ⟨2, ![2048, 128]⟩
abbrev S1 : Shape := ⟨1, ![1]⟩
abbrev S33280x4096 : Shape := ⟨2, ![33280, 4096]⟩
abbrev S33280x2048 : Shape := ⟨2, ![33280, 2048]⟩
abbrev S2x1x8x2048 : Shape := ⟨4, ![2, 1, 8, 2048]⟩
abbrev S2x2x8x2048 : Shape := ⟨4, ![2, 2, 8, 2048]⟩
abbrev S4x8x2048 : Shape := ⟨3, ![4, 8, 2048]⟩
abbrev S33280x128 : Shape := ⟨2, ![33280, 128]⟩
abbrev S512x4096 : Shape := ⟨2, ![512, 4096]⟩
abbrev S512x2048 : Shape := ⟨2, ![512, 2048]⟩
abbrev S512x128 : Shape := ⟨2, ![512, 128]⟩
abbrev S256x2048 : Shape := ⟨2, ![256, 2048]⟩
abbrev S1x8x2048 : Shape := ⟨3, ![1, 8, 2048]⟩
abbrev S8x2048 : Shape := ⟨2, ![8, 2048]⟩
abbrev S256 : Shape := ⟨1, ![256]⟩
abbrev S256x1 : Shape := ⟨2, ![256, 1]⟩
abbrev S256x128 : Shape := ⟨2, ![256, 128]⟩
abbrev S256x4096 : Shape := ⟨2, ![256, 4096]⟩

abbrev nBuf : Space → Nat
  | .hbm => 59
  | .vmem => 14
  | .smem => 0
  | _ => 0

abbrev bufTy : (tb : Table) → Fin (tcTables nBuf tb) → BufTy
  | .hbm, ⟨0, _⟩ => ⟨S2x16640x4096, .bf16⟩
  | .hbm, ⟨1, _⟩ => ⟨S4096x2048, .f32⟩
  | .hbm, ⟨2, _⟩ => ⟨S2x16640x2048, .f32⟩
  | .hbm, ⟨3, _⟩ => ⟨S8x6x2048, .f32⟩
  | .hbm, ⟨4, _⟩ => ⟨S2048, .f32⟩
  | .hbm, ⟨5, _⟩ => ⟨S2048, .f32⟩
  | .hbm, ⟨6, _⟩ => ⟨S2048x16, .f32⟩
  | .hbm, ⟨7, _⟩ => ⟨S2x1x2048, .f32⟩
  | .hbm, ⟨8, _⟩ => ⟨S2x2048, .f32⟩
  | .hbm, ⟨9, _⟩ => ⟨S2x1x2048, .f32⟩
  | .hbm, ⟨10, _⟩ => ⟨S2x2048, .f32⟩
  | .hbm, ⟨11, _⟩ => ⟨S2x1x2048, .f32⟩
  | .hbm, ⟨12, _⟩ => ⟨S2x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x3x2048, .f32⟩
  | .hbm, ⟨17, _⟩ => ⟨S1x1x2048, .f32⟩
  | .hbm, ⟨18, _⟩ => ⟨S2048, .f32⟩
  | .hbm, ⟨19, _⟩ => ⟨S1x1x2048, .f32⟩
  | .hbm, ⟨20, _⟩ => ⟨S2048, .f32⟩
  | .hbm, ⟨21, _⟩ => ⟨S1x1x2048, .f32⟩
  | .hbm, ⟨22, _⟩ => ⟨S2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S3x2048, .f32⟩
  | .hbm, ⟨27, _⟩ => ⟨S1x3x2048, .f32⟩
  | .hbm, ⟨28, _⟩ => ⟨S2x3x2048, .f32⟩
  | .hbm, ⟨29, _⟩ => ⟨S2x6x2048, .f32⟩
  | .hbm, ⟨30, _⟩ => ⟨S1x2048, .f32⟩
  | .hbm, ⟨31, _⟩ => ⟨S1x2048, .f32⟩
  | .hbm, ⟨32, _⟩ => ⟨S2x2048, .f32⟩
  | .hbm, ⟨33, _⟩ => ⟨S1x2x2048, .f32⟩
  | .hbm, ⟨34, _⟩ => ⟨S2x2x2048, .f32⟩
  | .hbm, ⟨35, _⟩ => ⟨S2x8x2048, .f32⟩
  | .hbm, ⟨36, _⟩ => ⟨S4096x2048, .bf16⟩
  | .hbm, ⟨37, _⟩ => ⟨S_, .f32⟩
  | .hbm, ⟨38, _⟩ => ⟨S2048x128, .f32⟩
  | .hbm, ⟨39, _⟩ => ⟨S_, .i32⟩
  | .hbm, ⟨40, _⟩ => ⟨S1, .i32⟩
  | .hbm, ⟨41, _⟩ => ⟨S2048x128, .f32⟩
  | .hbm, ⟨42, _⟩ => ⟨S33280x4096, .bf16⟩
  | .hbm, ⟨43, _⟩ => ⟨S33280x2048, .f32⟩
  | .hbm, ⟨44, _⟩ => ⟨S_, .f32⟩
  | .hbm, ⟨45, _⟩ => ⟨S2x3x2048, .f32⟩
  | .hbm, ⟨46, _⟩ => ⟨S2x3x2048, .f32⟩
  | .hbm, ⟨47, _⟩ => ⟨S2x2x2048, .f32⟩
  | .hbm, ⟨48, _⟩ => ⟨S2x8x2048, .f32⟩
  | .hbm, ⟨49, _⟩ => ⟨S2x3x2048, .f32⟩
  | .hbm, ⟨50, _⟩ => ⟨S2x2x2048, .f32⟩
  | .hbm, ⟨51, _⟩ => ⟨S2x8x2048, .f32⟩
  | .hbm, ⟨52, _⟩ => ⟨S2x1x8x2048, .f32⟩
  | .hbm, ⟨53, _⟩ => ⟨S2x1x8x2048, .f32⟩
  | .hbm, ⟨54, _⟩ => ⟨S2x2x8x2048, .f32⟩
  | .hbm, ⟨55, _⟩ => ⟨S4x8x2048, .f32⟩
  | .hbm, ⟨56, _⟩ => ⟨S33280x2048, .f32⟩
  | .hbm, ⟨57, _⟩ => ⟨S33280x2048, .bf16⟩
  | .hbm, ⟨58, _⟩ => ⟨S33280x128, .f32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S4x8x2048, .f32⟩
  | .local _ .vmem, ⟨6, _⟩ => ⟨S2048x128, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x128, .f32⟩
  | .local _ .vmem, ⟨12, _⟩ => ⟨S512x128, .f32⟩
  | .local _ .vmem, ⟨13, _⟩ => ⟨S512x2048, .f32⟩
  | _, _ => ⟨S2x16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst : Ref sig .tc := ⟨.hbm, 37, rfl⟩
abbrev main_v30 : Ref sig .tc := ⟨.hbm, 38, rfl⟩
abbrev main_c : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_0 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46_0 : Ref sig .tc := ⟨.hbm, 56, rfl⟩
abbrev main_v46_1 : Ref sig .tc := ⟨.hbm, 57, rfl⟩
abbrev main_v46_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![66], ![false]⟩

def k0_off1 (i : grid0.Coords) (c0_i32_2 : BitVec 32) : Fin 3 → Nat :=
  let c2_i32_13 : BitVec 32 := 2#32
  let arg0 : BitVec 32 := BitVec.ofNat 32 (i 0).val
  let c1_i32 : BitVec 32 := 1#32
  let v3 : BitVec 32 := Scalar.subi arg0 c1_i32
  let c0_i32_1 : BitVec 32 := 0#32
  let v4 : BitVec 32 := Scalar.maxsi v3 c0_i32_1
  let c2_i32 : BitVec 32 := 2#32
  let v5 : BitVec 32 := Scalar.muli v4 c2_i32
  let v6 : BitVec 32 := Scalar.addi v5 c0_i32_2
  let c0_i32_6 : BitVec 32 := 0#32
  let v11 : BitVec 1 := Scalar.cmpi .sgt v6 c0_i32_6
  let v12 : BitVec 32 := Scalar.extui v11
  let c0_i32_7 : BitVec 32 := 0#32
  let v13 : BitVec 1 := Scalar.cmpi .slt v6 c0_i32_7
  let v14 : BitVec 32 := Scalar.extui v13
  let v15 : BitVec 32 := Scalar.subi v12 v14
  let c65_i32 : BitVec 32 := 65#32
  let c0_i32_8 : BitVec 32 := 0#32
  let v16 : BitVec 1 := Scalar.cmpi .sgt c65_i32 c0_i32_8
  let v17 : BitVec 32 := Scalar.extui v16
  let c0_i32_9 : BitVec 32 := 0#32
  let v18 : BitVec 1 := Scalar.cmpi .slt c65_i32 c0_i32_9
  let v19 : BitVec 32 := Scalar.extui v18
  let v20 : BitVec 32 := Scalar.subi v17 v19
  let v21 : BitVec 1 := Scalar.cmpi .ne v15 v20
  let v22 : BitVec 32 := Scalar.remsi v6 c65_i32
  let c0_i32_10 : BitVec 32 := 0#32
  let v23 : BitVec 1 := Scalar.cmpi .ne v22 c0_i32_10
  let v24 : BitVec 1 := Scalar.andi v21 v23
  let v10 : BitVec 32 := Scalar.divsi v6 c65_i32
  let c1_i32_11 : BitVec 32 := 1#32
  let v25 : BitVec 32 := Scalar.subi v10 c1_i32_11
  let v26 : BitVec 32 := Scalar.select v24 v25 v10
  let v31 : BitVec 32 := Scalar.muli c2_i32_13 v26
  let c65_i32_12 : BitVec 32 := 65#32
  let v27 : BitVec 32 := Scalar.muli v26 c65_i32_12
  let v28 : BitVec 32 := Scalar.subi v6 v27
  let c64_i32 : BitVec 32 := 64#32
  let v29 : BitVec 1 := Scalar.cmpi .sge v28 c64_i32
  let v30 : BitVec 32 := Scalar.extui v29
  let v32 : BitVec 32 := Scalar.addi v31 v30
  let v33 : Index := Scalar.indexCast v32
  let c0_14 : Index := 0#32
  let c0_15 : Index := 0#32
  ![v33.toNat, 0, 0]
def cc0_transform_0 (i : grid0.Coords) : Fin 2 → Nat :=
  let arg0 : BitVec 32 := BitVec.ofNat 32 (i 0).val
  let c64_i32 : BitVec 32 := 64#32
  let v0 : BitVec 32 := Scalar.minsi arg0 c64_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S2x16640x4096 : Shape := ⟨3, ![2, 16640, 4096]⟩
abbrev S4096x2048 : Shape := ⟨2, ![4096, 2048]⟩
abbrev S2x16640x2048 : Shape := ⟨3, ![2, 16640, 2048]⟩
abbrev S8x6x2048 : Shape := ⟨3, ![8, 6, 2048]⟩
abbrev S2048 : Shape := ⟨1, ![2048]⟩
abbrev S2048x16 : Shape := ⟨2, ![2048, 16]⟩
abbrev S_ : Shape := ⟨0, ![]⟩
abbrev S16640 : Shape := ⟨1, ![16640]⟩
abbrev S1x16640x1 : Shape := ⟨3, ![1, 16640, 1]⟩
abbrev S2x1x2048 : Shape := ⟨3, ![2, 1, 2048]⟩
abbrev S2x2048 : Shape := ⟨2, ![2, 2048]⟩
abbrev S1x1x2048 : Shape := ⟨3, ![1, 1, 2048]⟩
abbrev S2x16640 : Shape := ⟨2, ![2, 16640]⟩
abbrev S2x16640x1 : Shape := ⟨3, ![2, 16640, 1]⟩
abbrev S33280x2048 : Shape := ⟨2, ![33280, 2048]⟩
abbrev S33280x16 : Shape := ⟨2, ![33280, 16]⟩
abbrev S33280x128 : Shape := ⟨2, ![33280, 128]⟩

abbrev nBuf : Space → Nat
  | .hbm => 98
  | .vmem => 0
  | .smem => 0
  | _ => 0

abbrev bufTy : (tb : Table) → Fin (tcTables nBuf tb) → BufTy
  | .hbm, ⟨0, _⟩ => ⟨S2x16640x4096, .bf16⟩
  | .hbm, ⟨1, _⟩ => ⟨S4096x2048, .f32⟩
  | .hbm, ⟨2, _⟩ => ⟨S2x16640x2048, .f32⟩
  | .hbm, ⟨3, _⟩ => ⟨S8x6x2048, .f32⟩
  | .hbm, ⟨4, _⟩ => ⟨S2048, .f32⟩
  | .hbm, ⟨5, _⟩ => ⟨S2048, .f32⟩
  | .hbm, ⟨6, _⟩ => ⟨S2048x16, .f32⟩
  | .hbm, ⟨7, _⟩ => ⟨S2x16640x4096, .f32⟩
  | .hbm, ⟨8, _⟩ => ⟨S2x16640x2048, .f32⟩
  | .hbm, ⟨9, _⟩ => ⟨S_, .f32⟩
  | .hbm, ⟨10, _⟩ => ⟨S2x16640x2048, .f32⟩
  | .hbm, ⟨11, _⟩ => ⟨S2x16640x2048, .f32⟩
  | .hbm, ⟨12, _⟩ => ⟨S16640, .i32⟩
  | .hbm, ⟨13, _⟩ => ⟨S_, .i32⟩
  | .hbm, ⟨14, _⟩ => ⟨S16640, .i32⟩
  | .hbm, ⟨15, _⟩ => ⟨S16640, .i1⟩
  | .hbm, ⟨16, _⟩ => ⟨S1x16640x1, .i1⟩
  | .hbm, ⟨17, _⟩ => ⟨S2x1x2048, .f32⟩
  | .hbm, ⟨18, _⟩ => ⟨S2x2048, .f32⟩
  | .hbm, ⟨19, _⟩ => ⟨S2x1x2048, .f32⟩
  | .hbm, ⟨20, _⟩ => ⟨S1x1x2048, .f32⟩
  | .hbm, ⟨21, _⟩ => ⟨S2048, .f32⟩
  | .hbm, ⟨22, _⟩ => ⟨S1x1x2048, .f32⟩
  | .hbm, ⟨23, _⟩ => ⟨S2x16640x2048, .i1⟩
  | .hbm, ⟨24, _⟩ => ⟨S2x16640x2048, .f32⟩
  | .hbm, ⟨25, _⟩ => ⟨S2x16640x2048, .f32⟩
  | .hbm, ⟨26, _⟩ => ⟨S2x16640x2048, .f32⟩
  | .hbm, ⟨27, _⟩ => ⟨S2x16640x2048, .f32⟩
  | .hbm, ⟨28, _⟩ => ⟨S2x16640x2048, .f32⟩
  | .hbm, ⟨29, _⟩ => ⟨S_, .f32⟩
  | .hbm, ⟨30, _⟩ => ⟨S2x16640, .f32⟩
  | .hbm, ⟨31, _⟩ => ⟨S2x16640x1, .f32⟩
  | .hbm, ⟨32, _⟩ => ⟨S_, .f32⟩
  | .hbm, ⟨33, _⟩ => ⟨S2x16640x1, .f32⟩
  | .hbm, ⟨34, _⟩ => ⟨S2x16640x1, .f32⟩
  | .hbm, ⟨35, _⟩ => ⟨S2x16640x2048, .f32⟩
  | .hbm, ⟨36, _⟩ => ⟨S2x16640x2048, .f32⟩
  | .hbm, ⟨37, _⟩ => ⟨S2x16640x2048, .f32⟩
  | .hbm, ⟨38, _⟩ => ⟨S_, .f32⟩
  | .hbm, ⟨39, _⟩ => ⟨S2x16640, .f32⟩
  | .hbm, ⟨40, _⟩ => ⟨S2x16640x1, .f32⟩
  | .hbm, ⟨41, _⟩ => ⟨S_, .f32⟩
  | .hbm, ⟨42, _⟩ => ⟨S2x16640x1, .f32⟩
  | .hbm, ⟨43, _⟩ => ⟨S2x16640x1, .f32⟩
  | .hbm, ⟨44, _⟩ => ⟨S_, .f32⟩
  | .hbm, ⟨45, _⟩ => ⟨S2x16640x1, .f32⟩
  | .hbm, ⟨46, _⟩ => ⟨S2x16640x1, .f32⟩
  | .hbm, ⟨47, _⟩ => ⟨S2x16640x1, .f32⟩
  | .hbm, ⟨48, _⟩ => ⟨S2x16640x2048, .f32⟩
  | .hbm, ⟨49, _⟩ => ⟨S2x16640x2048, .f32⟩
  | .hbm, ⟨50, _⟩ => ⟨S1x1x2048, .f32⟩
  | .hbm, ⟨51, _⟩ => ⟨S2x16640x2048, .f32⟩
  | .hbm, ⟨52, _⟩ => ⟨S2x16640x2048, .f32⟩
  | .hbm, ⟨53, _⟩ => ⟨S1x1x2048, .f32⟩
  | .hbm, ⟨54, _⟩ => ⟨S2x16640x2048, .f32⟩
  | .hbm, ⟨55, _⟩ => ⟨S2x16640x2048, .f32⟩
  | .hbm, ⟨56, _⟩ => ⟨S16640, .i32⟩
  | .hbm, ⟨57, _⟩ => ⟨S_, .i32⟩
  | .hbm, ⟨58, _⟩ => ⟨S16640, .i32⟩
  | .hbm, ⟨59, _⟩ => ⟨S16640, .i1⟩
  | .hbm, ⟨60, _⟩ => ⟨S1x16640x1, .i1⟩
  | .hbm, ⟨61, _⟩ => ⟨S2x1x2048, .f32⟩
  | .hbm, ⟨62, _⟩ => ⟨S2x2048, .f32⟩
  | .hbm, ⟨63, _⟩ => ⟨S2x1x2048, .f32⟩
  | .hbm, ⟨64, _⟩ => ⟨S1x1x2048, .f32⟩
  | .hbm, ⟨65, _⟩ => ⟨S2048, .f32⟩
  | .hbm, ⟨66, _⟩ => ⟨S1x1x2048, .f32⟩
  | .hbm, ⟨67, _⟩ => ⟨S2x16640x2048, .i1⟩
  | .hbm, ⟨68, _⟩ => ⟨S2x16640x2048, .f32⟩
  | .hbm, ⟨69, _⟩ => ⟨S2x16640x2048, .f32⟩
  | .hbm, ⟨70, _⟩ => ⟨S2x16640x2048, .f32⟩
  | .hbm, ⟨71, _⟩ => ⟨S_, .f32⟩
  | .hbm, ⟨72, _⟩ => ⟨S2x16640x2048, .f32⟩
  | .hbm, ⟨73, _⟩ => ⟨S2x16640x2048, .f32⟩
  | .hbm, ⟨74, _⟩ => ⟨S2x16640x2048, .f32⟩
  | .hbm, ⟨75, _⟩ => ⟨S16640, .i32⟩
  | .hbm, ⟨76, _⟩ => ⟨S_, .i32⟩
  | .hbm, ⟨77, _⟩ => ⟨S16640, .i32⟩
  | .hbm, ⟨78, _⟩ => ⟨S16640, .i1⟩
  | .hbm, ⟨79, _⟩ => ⟨S1x16640x1, .i1⟩
  | .hbm, ⟨80, _⟩ => ⟨S2x1x2048, .f32⟩
  | .hbm, ⟨81, _⟩ => ⟨S2x2048, .f32⟩
  | .hbm, ⟨82, _⟩ => ⟨S2x1x2048, .f32⟩
  | .hbm, ⟨83, _⟩ => ⟨S1x1x2048, .f32⟩
  | .hbm, ⟨84, _⟩ => ⟨S2048, .f32⟩
  | .hbm, ⟨85, _⟩ => ⟨S1x1x2048, .f32⟩
  | .hbm, ⟨86, _⟩ => ⟨S2x16640x2048, .i1⟩
  | .hbm, ⟨87, _⟩ => ⟨S2x16640x2048, .f32⟩
  | .hbm, ⟨88, _⟩ => ⟨S2x16640x2048, .f32⟩
  | .hbm, ⟨89, _⟩ => ⟨S2x16640x2048, .f32⟩
  | .hbm, ⟨90, _⟩ => ⟨S2x16640x2048, .f32⟩
  | .hbm, ⟨91, _⟩ => ⟨S33280x2048, .f32⟩
  | .hbm, ⟨92, _⟩ => ⟨S33280x16, .f32⟩
  | .hbm, ⟨93, _⟩ => ⟨S_, .i32⟩
  | .hbm, ⟨94, _⟩ => ⟨S_, .f32⟩
  | .hbm, ⟨95, _⟩ => ⟨S33280x128, .f32⟩
  | .hbm, ⟨96, _⟩ => ⟨S33280x2048, .f32⟩
  | .hbm, ⟨97, _⟩ => ⟨S33280x2048, .bf16⟩
  | _, _ => ⟨S2x16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_8 : Ref sig .tc := ⟨.hbm, 93, rfl⟩
abbrev main_call3_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Mix.lean ====
abbrev S2x16640x1024 : Shape := ⟨3, ![2, 16640, 1024]⟩
abbrev S2048x2048 : Shape := ⟨2, ![2048, 2048]⟩
abbrev S2x16640x2048 : Shape := ⟨3, ![2, 16640, 2048]⟩
abbrev S8x6x2048 : Shape := ⟨3, ![8, 6, 2048]⟩
abbrev S2048 : Shape := ⟨1, ![2048]⟩
abbrev S2048x16 : Shape := ⟨2, ![2048, 16]⟩
abbrev S2x1x2048 : Shape := ⟨3, ![2, 1, 2048]⟩
abbrev S2x2048 : Shape := ⟨2, ![2, 2048]⟩
abbrev S2x3x2048 : Shape := ⟨3, ![2, 3, 2048]⟩
abbrev S1x1x2048 : Shape := ⟨3, ![1, 1, 2048]⟩
abbrev S1x2048 : Shape := ⟨2, ![1, 2048]⟩
abbrev S3x2048 : Shape := ⟨2, ![3, 2048]⟩
abbrev S1x3x2048 : Shape := ⟨3, ![1, 3, 2048]⟩
abbrev S2x6x2048 : Shape := ⟨3, ![2, 6, 2048]⟩
abbrev S1x2x2048 : Shape := ⟨3, ![1, 2, 2048]⟩
abbrev S2x2x2048 : Shape := ⟨3, ![2, 2, 2048]⟩
abbrev S2x8x2048 : Shape := ⟨3, ![2, 8, 2048]⟩
abbrev S1024x2048 : Shape := ⟨2, ![1024, 2048]⟩
abbrev S_ : Shape := ⟨0, ![]⟩
abbrev S2048x128 : Shape := ⟨2, ![2048, 128]⟩
abbrev S1 : Shape := ⟨1, ![1]⟩
abbrev S33280x1024 : Shape := ⟨2, ![33280, 1024]⟩
abbrev S33280x2048 : Shape := ⟨2, ![33280, 2048]⟩
abbrev S2x1x8x2048 : Shape := ⟨4, ![2, 1, 8, 2048]⟩
abbrev S2x2x8x2048 : Shape := ⟨4, ![2, 2, 8, 2048]⟩
abbrev S4x8x2048 : Shape := ⟨3, ![4, 8, 2048]⟩
abbrev S33280x128 : Shape := ⟨2, ![33280, 128]⟩
abbrev S512x1024 : Shape := ⟨2, ![512, 1024]⟩
abbrev S512x2048 : Shape := ⟨2, ![512, 2048]⟩
abbrev S512x128 : Shape := ⟨2, ![512, 128]⟩
abbrev S256x2048 : Shape := ⟨2, ![256, 2048]⟩
abbrev S1x8x2048 : Shape := ⟨3, ![1, 8, 2048]⟩
abbrev S8x2048 : Shape := ⟨2, ![8, 2048]⟩
abbrev S256 : Shape := ⟨1, ![256]⟩
abbrev S256x1 : Shape := ⟨2, ![256, 1]⟩
abbrev S256x128 : Shape := ⟨2, ![256, 128]⟩
abbrev S256x1024 : Shape := ⟨2, ![256, 1024]⟩

abbrev nBuf : Space → Nat
  | .hbm => 63
  | .vmem => 17
  | .smem => 0
  | _ => 0

abbrev bufTy : (tb : Table) → Fin (tcTables nBuf tb) → BufTy
  | .hbm, ⟨0, _⟩ => ⟨S2x16640x1024, .f32⟩
  | .hbm, ⟨1, _⟩ => ⟨S2x16640x1024, .bf16⟩
  | .hbm, ⟨2, _⟩ => ⟨S2048x2048, .f32⟩
  | .hbm, ⟨3, _⟩ => ⟨S2x16640x2048, .f32⟩
  | .hbm, ⟨4, _⟩ => ⟨S8x6x2048, .f32⟩
  | .hbm, ⟨5, _⟩ => ⟨S2048, .f32⟩
  | .hbm, ⟨6, _⟩ => ⟨S2048, .f32⟩
  | .hbm, ⟨7, _⟩ => ⟨S2048x16, .f32⟩
  | .hbm, ⟨8, _⟩ => ⟨S2048x2048, .bf16⟩
  | .hbm, ⟨9, _⟩ => ⟨S2x1x2048, .f32⟩
  | .hbm, ⟨10, _⟩ => ⟨S2x2048, .f32⟩
  | .hbm, ⟨11, _⟩ => ⟨S2x1x2048, .f32⟩
  | .hbm, ⟨12, _⟩ => ⟨S2x2048, .f32⟩
  | .hbm, ⟨13, _⟩ => ⟨S2x1x2048, .f32⟩
  | .hbm, ⟨14, _⟩ => ⟨S2x2048, .f32⟩
  | .hbm, ⟨15, _⟩ => ⟨S2x1x2048, .f32⟩
  | .hbm, ⟨16, _⟩ => ⟨S2x1x2048, .f32⟩
  | .hbm, ⟨17, _⟩ => ⟨S2x1x2048, .f32⟩
  | .hbm, ⟨18, _⟩ => ⟨S2x3x2048, .f32⟩
  | .hbm, ⟨19, _⟩ => ⟨S1x1x2048, .f32⟩
  | .hbm, ⟨20, _⟩ => ⟨S2048, .f32⟩
  | .hbm, ⟨21, _⟩ => ⟨S1x1x2048, .f32⟩
  | .hbm, ⟨22, _⟩ => ⟨S2048, .f32⟩
  | .hbm, ⟨23, _⟩ => ⟨S1x1x2048, .f32⟩
  | .hbm, ⟨24, _⟩ => ⟨S2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S3x2048, .f32⟩
  | .hbm, ⟨29, _⟩ => ⟨S1x3x2048, .f32⟩
  | .hbm, ⟨30, _⟩ => ⟨S2x3x2048, .f32⟩
  | .hbm, ⟨31, _⟩ => ⟨S2x6x2048, .f32⟩
  | .hbm, ⟨32, _⟩ => ⟨S1x2048, .f32⟩
  | .hbm, ⟨33, _⟩ => ⟨S1x2048, .f32⟩
  | .hbm, ⟨34, _⟩ => ⟨S2x2048, .f32⟩
  | .hbm, ⟨35, _⟩ => ⟨S1x2x2048, .f32⟩
  | .hbm, ⟨36, _⟩ => ⟨S2x2x2048, .f32⟩
  | .hbm, ⟨37, _⟩ => ⟨S2x8x2048, .f32⟩
  | .hbm, ⟨38, _⟩ => ⟨S1024x2048, .bf16⟩
  | .hbm, ⟨39, _⟩ => ⟨S1024x2048, .bf16⟩
  | .hbm, ⟨40, _⟩ => ⟨S_, .f32⟩
  | .hbm, ⟨41, _⟩ => ⟨S2048x128, .f32⟩
  | .hbm, ⟨42, _⟩ => ⟨S_, .i32⟩
  | .hbm, ⟨43, _⟩ => ⟨S1, .i32⟩
  | .hbm, ⟨44, _⟩ => ⟨S2048x128, .f32⟩
  | .hbm, ⟨45, _⟩ => ⟨S33280x1024, .f32⟩
  | .hbm, ⟨46, _⟩ => ⟨S33280x1024, .bf16⟩
  | .hbm, ⟨47, _⟩ => ⟨S33280x2048, .f32⟩
  | .hbm, ⟨48, _⟩ => ⟨S_, .f32⟩
  | .hbm, ⟨49, _⟩ => ⟨S2x3x2048, .f32⟩
  | .hbm, ⟨50, _⟩ => ⟨S2x3x2048, .f32⟩
  | .hbm, ⟨51, _⟩ => ⟨S2x2x2048, .f32⟩
  | .hbm, ⟨52, _⟩ => ⟨S2x8x2048, .f32⟩
  | .hbm, ⟨53, _⟩ => ⟨S2x3x2048, .f32⟩
  | .hbm, ⟨54, _⟩ => ⟨S2x2x2048, .f32⟩
  | .hbm, ⟨55, _⟩ => ⟨S2x8x2048, .f32⟩
  | .hbm, ⟨56, _⟩ => ⟨S2x1x8x2048, .f32⟩
  | .hbm, ⟨57, _⟩ => ⟨S2x1x8x2048, .f32⟩
  | .hbm, ⟨58, _⟩ => ⟨S2x2x8x2048, .f32⟩
  | .hbm, ⟨59, _⟩ => ⟨S4x8x2048, .f32⟩
  | .hbm, ⟨60, _⟩ => ⟨S33280x2048, .f32⟩
  | .hbm, ⟨61, _⟩ => ⟨S33280x2048, .bf16⟩
  | .hbm, ⟨62, _⟩ => ⟨S33280x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S4x8x2048, .f32⟩
  | .local _ .vmem, ⟨9, _⟩ => ⟨S2048x128, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x128, .f32⟩
  | .local _ .vmem, ⟨15, _⟩ => ⟨S512x128, .f32⟩
  | .local _ .vmem, ⟨16, _⟩ => ⟨S512x2048, .f32⟩
  | _, _ => ⟨S2x16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst : Ref sig .tc := ⟨.hbm, 40, rfl⟩
abbrev main_v32 : Ref sig .tc := ⟨.hbm, 41, rfl⟩
abbrev main_c : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_0 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49_0 : Ref sig .tc := ⟨.hbm, 60, rfl⟩
abbrev main_v49_1 : Ref sig .tc := ⟨.hbm, 61, rfl⟩
abbrev main_v49_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![66], ![false]⟩

def k0_off1 (i : grid0.Coords) (c0_i32_2 : BitVec 32) : Fin 3 → Nat :=
  let c2_i32_13 : BitVec 32 := 2#32
  let arg0 : BitVec 32 := BitVec.ofNat 32 (i 0).val
  let c1_i32 : BitVec 32 := 1#32
  let v3 : BitVec 32 := Scalar.subi arg0 c1_i32
  let c0_i32_1 : BitVec 32 := 0#32
  let v4 : BitVec 32 := Scalar.maxsi v3 c0_i32_1
  let c2_i32 : BitVec 32 := 2#32
  let v5 : BitVec 32 := Scalar.muli v4 c2_i32
  let v6 : BitVec 32 := Scalar.addi v5 c0_i32_2
  let c0_i32_6 : BitVec 32 := 0#32
  let v11 : BitVec 1 := Scalar.cmpi .sgt v6 c0_i32_6
  let v12 : BitVec 32 := Scalar.extui v11
  let c0_i32_7 : BitVec 32 := 0#32
  let v13 : BitVec 1 := Scalar.cmpi .slt v6 c0_i32_7
  let v14 : BitVec 32 := Scalar.extui v13
  let v15 : BitVec 32 := Scalar.subi v12 v14
  let c65_i32 : BitVec 32 := 65#32
  let c0_i32_8 : BitVec 32 := 0#32
  let v16 : BitVec 1 := Scalar.cmpi .sgt c65_i32 c0_i32_8
  let v17 : BitVec 32 := Scalar.extui v16
  let c0_i32_9 : BitVec 32 := 0#32
  let v18 : BitVec 1 := Scalar.cmpi .slt c65_i32 c0_i32_9
  let v19 : BitVec 32 := Scalar.extui v18
  let v20 : BitVec 32 := Scalar.subi v17 v19
  let v21 : BitVec 1 := Scalar.cmpi .ne v15 v20
  let v22 : BitVec 32 := Scalar.remsi v6 c65_i32
  let c0_i32_10 : BitVec 32 := 0#32
  let v23 : BitVec 1 := Scalar.cmpi .ne v22 c0_i32_10
  let v24 : BitVec 1 := Scalar.andi v21 v23
  let v10 : BitVec 32 := Scalar.divsi v6 c65_i32
  let c1_i32_11 : BitVec 32 := 1#32
  let v25 : BitVec 32 := Scalar.subi v10 c1_i32_11
  let v26 : BitVec 32 := Scalar.select v24 v25 v10
  let v31 : BitVec 32 := Scalar.muli c2_i32_13 v26
  let c65_i32_12 : BitVec 32 := 65#32
  let v27 : BitVec 32 := Scalar.muli v26 c65_i32_12
  let v28 : BitVec 32 := Scalar.subi v6 v27
  let c64_i32 : BitVec 32 := 64#32
  let v29 : BitVec 1 := Scalar.cmpi .sge v28 c64_i32
  let v30 : BitVec 32 := Scalar.extui v29
  let v32 : BitVec 32 := Scalar.addi v31 v30
  let v33 : Index := Scalar.indexCast v32
  let c0_14 : Index := 0#32
  let c0_15 : Index := 0#32
  ![v33.toNat, 0, 0]
def cc0_transform_0 (i : grid0.Coords) : Fin 2 → Nat :=
  let arg0 : BitVec 32 := BitVec.ofNat 32 (i 0).val
  let c64_i32 : BitVec 32 := 64#32
  let v0 : BitVec 32 := Scalar.minsi arg0 c64_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.minsi arg0 c64_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S2x16640x1024 : Shape := ⟨3, ![2, 16640, 1024]⟩
abbrev S2048x2048 : Shape := ⟨2, ![2048, 2048]⟩
abbrev S2x16640x2048 : Shape := ⟨3, ![2, 16640, 2048]⟩
abbrev S8x6x2048 : Shape := ⟨3, ![8, 6, 2048]⟩
abbrev S2048 : Shape := ⟨1, ![2048]⟩
abbrev S2048x16 : Shape := ⟨2, ![2048, 16]⟩
abbrev S_ : Shape := ⟨0, ![]⟩
abbrev S16640 : Shape := ⟨1, ![16640]⟩
abbrev S1x16640x1 : Shape := ⟨3, ![1, 16640, 1]⟩
abbrev S2x1x2048 : Shape := ⟨3, ![2, 1, 2048]⟩
abbrev S2x2048 : Shape := ⟨2, ![2, 2048]⟩
abbrev S1x1x2048 : Shape := ⟨3, ![1, 1, 2048]⟩
abbrev S2x16640 : Shape := ⟨2, ![2, 16640]⟩
abbrev S2x16640x1 : Shape := ⟨3, ![2, 16640, 1]⟩
abbrev S33280x2048 : Shape := ⟨2, ![33280, 2048]⟩
abbrev S33280x16 : Shape := ⟨2, ![33280, 16]⟩
abbrev S33280x128 : Shape := ⟨2, ![33280, 128]⟩

abbrev nBuf : Space → Nat
  | .hbm => 100
  | .vmem => 0
  | .smem => 0
  | _ => 0

abbrev bufTy : (tb : Table) → Fin (tcTables nBuf tb) → BufTy
  | .hbm, ⟨0, _⟩ => ⟨S2x16640x1024, .f32⟩
  | .hbm, ⟨1, _⟩ => ⟨S2x16640x1024, .bf16⟩
  | .hbm, ⟨2, _⟩ => ⟨S2048x2048, .f32⟩
  | .hbm, ⟨3, _⟩ => ⟨S2x16640x2048, .f32⟩
  | .hbm, ⟨4, _⟩ => ⟨S8x6x2048, .f32⟩
  | .hbm, ⟨5, _⟩ => ⟨S2048, .f32⟩
  | .hbm, ⟨6, _⟩ => ⟨S2048, .f32⟩
  | .hbm, ⟨7, _⟩ => ⟨S2048x16, .f32⟩
  | .hbm, ⟨8, _⟩ => ⟨S2x16640x1024, .f32⟩
  | .hbm, ⟨9, _⟩ => ⟨S2x16640x2048, .f32⟩
  | .hbm, ⟨10, _⟩ => ⟨S2x16640x2048, .f32⟩
  | .hbm, ⟨11, _⟩ => ⟨S_, .f32⟩
  | .hbm, ⟨12, _⟩ => ⟨S2x16640x2048, .f32⟩
  | .hbm, ⟨13, _⟩ => ⟨S2x16640x2048, .f32⟩
  | .hbm, ⟨14, _⟩ => ⟨S16640, .i32⟩
  | .hbm, ⟨15, _⟩ => ⟨S_, .i32⟩
  | .hbm, ⟨16, _⟩ => ⟨S16640, .i32⟩
  | .hbm, ⟨17, _⟩ => ⟨S16640, .i1⟩
  | .hbm, ⟨18, _⟩ => ⟨S1x16640x1, .i1⟩
  | .hbm, ⟨19, _⟩ => ⟨S2x1x2048, .f32⟩
  | .hbm, ⟨20, _⟩ => ⟨S2x2048, .f32⟩
  | .hbm, ⟨21, _⟩ => ⟨S2x1x2048, .f32⟩
  | .hbm, ⟨22, _⟩ => ⟨S1x1x2048, .f32⟩
  | .hbm, ⟨23, _⟩ => ⟨S2048, .f32⟩
  | .hbm, ⟨24, _⟩ => ⟨S1x1x2048, .f32⟩
  | .hbm, ⟨25, _⟩ => ⟨S2x16640x2048, .i1⟩
  | .hbm, ⟨26, _⟩ => ⟨S2x16640x2048, .f32⟩
  | .hbm, ⟨27, _⟩ => ⟨S2x16640x2048, .f32⟩
  | .hbm, ⟨28, _⟩ => ⟨S2x16640x2048, .f32⟩
  | .hbm, ⟨29, _⟩ => ⟨S2x16640x2048, .f32⟩
  | .hbm, ⟨30, _⟩ => ⟨S2x16640x2048, .f32⟩
  | .hbm, ⟨31, _⟩ => ⟨S_, .f32⟩
  | .hbm, ⟨32, _⟩ => ⟨S2x16640, .f32⟩
  | .hbm, ⟨33, _⟩ => ⟨S2x16640x1, .f32⟩
  | .hbm, ⟨34, _⟩ => ⟨S_, .f32⟩
  | .hbm, ⟨35, _⟩ => ⟨S2x16640x1, .f32⟩
  | .hbm, ⟨36, _⟩ => ⟨S2x16640x1, .f32⟩
  | .hbm, ⟨37, _⟩ => ⟨S2x16640x2048, .f32⟩
  | .hbm, ⟨38, _⟩ => ⟨S2x16640x2048, .f32⟩
  | .hbm, ⟨39, _⟩ => ⟨S2x16640x2048, .f32⟩
  | .hbm, ⟨40, _⟩ => ⟨S_, .f32⟩
  | .hbm, ⟨41, _⟩ => ⟨S2x16640, .f32⟩
  | .hbm, ⟨42, _⟩ => ⟨S2x16640x1, .f32⟩
  | .hbm, ⟨43, _⟩ => ⟨S_, .f32⟩
  | .hbm, ⟨44, _⟩ => ⟨S2x16640x1, .f32⟩
  | .hbm, ⟨45, _⟩ => ⟨S2x16640x1, .f32⟩
  | .hbm, ⟨46, _⟩ => ⟨S_, .f32⟩
  | .hbm, ⟨47, _⟩ => ⟨S2x16640x1, .f32⟩
  | .hbm, ⟨48, _⟩ => ⟨S2x16640x1, .f32⟩
  | .hbm, ⟨49, _⟩ => ⟨S2x16640x1, .f32⟩
  | .hbm, ⟨50, _⟩ => ⟨S2x16640x2048, .f32⟩
  | .hbm, ⟨51, _⟩ => ⟨S2x16640x2048, .f32⟩
  | .hbm, ⟨52, _⟩ => ⟨S1x1x2048, .f32⟩
  | .hbm, ⟨53, _⟩ => ⟨S2x16640x2048, .f32⟩
  | .hbm, ⟨54, _⟩ => ⟨S2x16640x2048, .f32⟩
  | .hbm, ⟨55, _⟩ => ⟨S1x1x2048, .f32⟩
  | .hbm, ⟨56, _⟩ => ⟨S2x16640x2048, .f32⟩
  | .hbm, ⟨57, _⟩ => ⟨S2x16640x2048, .f32⟩
  | .hbm, ⟨58, _⟩ => ⟨S16640, .i32⟩
  | .hbm, ⟨59, _⟩ => ⟨S_, .i32⟩
  | .hbm, ⟨60, _⟩ => ⟨S16640, .i32⟩
  | .hbm, ⟨61, _⟩ => ⟨S16640, .i1⟩
  | .hbm, ⟨62, _⟩ => ⟨S1x16640x1, .i1⟩
  | .hbm, ⟨63, _⟩ => ⟨S2x1x2048, .f32⟩
  | .hbm, ⟨64, _⟩ => ⟨S2x2048, .f32⟩
  | .hbm, ⟨65, _⟩ => ⟨S2x1x2048, .f32⟩
  | .hbm, ⟨66, _⟩ => ⟨S1x1x2048, .f32⟩
  | .hbm, ⟨67, _⟩ => ⟨S2048, .f32⟩
  | .hbm, ⟨68, _⟩ => ⟨S1x1x2048, .f32⟩
  | .hbm, ⟨69, _⟩ => ⟨S2x16640x2048, .i1⟩
  | .hbm, ⟨70, _⟩ => ⟨S2x16640x2048, .f32⟩
  | .hbm, ⟨71, _⟩ => ⟨S2x16640x2048, .f32⟩
  | .hbm, ⟨72, _⟩ => ⟨S2x16640x2048, .f32⟩
  | .hbm, ⟨73, _⟩ => ⟨S_, .f32⟩
  | .hbm, ⟨74, _⟩ => ⟨S2x16640x2048, .f32⟩
  | .hbm, ⟨75, _⟩ => ⟨S2x16640x2048, .f32⟩
  | .hbm, ⟨76, _⟩ => ⟨S2x16640x2048, .f32⟩
  | .hbm, ⟨77, _⟩ => ⟨S16640, .i32⟩
  | .hbm, ⟨78, _⟩ => ⟨S_, .i32⟩
  | .hbm, ⟨79, _⟩ => ⟨S16640, .i32⟩
  | .hbm, ⟨80, _⟩ => ⟨S16640, .i1⟩
  | .hbm, ⟨81, _⟩ => ⟨S1x16640x1, .i1⟩
  | .hbm, ⟨82, _⟩ => ⟨S2x1x2048, .f32⟩
  | .hbm, ⟨83, _⟩ => ⟨S2x2048, .f32⟩
  | .hbm, ⟨84, _⟩ => ⟨S2x1x2048, .f32⟩
  | .hbm, ⟨85, _⟩ => ⟨S1x1x2048, .f32⟩
  | .hbm, ⟨86, _⟩ => ⟨S2048, .f32⟩
  | .hbm, ⟨87, _⟩ => ⟨S1x1x2048, .f32⟩
  | .hbm, ⟨88, _⟩ => ⟨S2x16640x2048, .i1⟩
  | .hbm, ⟨89, _⟩ => ⟨S2x16640x2048, .f32⟩
  | .hbm, ⟨90, _⟩ => ⟨S2x16640x2048, .f32⟩
  | .hbm, ⟨91, _⟩ => ⟨S2x16640x2048, .f32⟩
  | .hbm, ⟨92, _⟩ => ⟨S2x16640x2048, .f32⟩
  | .hbm, ⟨93, _⟩ => ⟨S33280x2048, .f32⟩
  | .hbm, ⟨94, _⟩ => ⟨S33280x16, .f32⟩
  | .hbm, ⟨95, _⟩ => ⟨S_, .i32⟩
  | .hbm, ⟨96, _⟩ => ⟨S_, .f32⟩
  | .hbm, ⟨97, _⟩ => ⟨S33280x128, .f32⟩
  | .hbm, ⟨98, _⟩ => ⟨S33280x2048, .f32⟩
  | .hbm, ⟨99, _⟩ => ⟨S33280x2048, .bf16⟩
  | _, _ => ⟨S2x16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_8 : Ref sig .tc := ⟨.hbm, 95, rfl⟩
abbrev main_call3_v0 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]
-- ==== Join.lean ====
abbrev S33280x2048 : Shape := ⟨2, ![33280, 2048]⟩
abbrev S33280x128 : Shape := ⟨2, ![33280, 128]⟩
abbrev S2x16640x2048 : Shape := ⟨3, ![2, 16640, 2048]⟩
abbrev S8x6x2048 : Shape := ⟨3, ![8, 6, 2048]⟩
abbrev S2048 : Shape := ⟨1, ![2048]⟩
abbrev S2x1x2048 : Shape := ⟨3, ![2, 1, 2048]⟩
abbrev S2x2048 : Shape := ⟨2, ![2, 2048]⟩
abbrev S1x1x2048 : Shape := ⟨3, ![1, 1, 2048]⟩
abbrev S1x2048 : Shape := ⟨2, ![1, 2048]⟩
abbrev S2x2x2048 : Shape := ⟨3, ![2, 2, 2048]⟩
abbrev S1x2x2048 : Shape := ⟨3, ![1, 2, 2048]⟩
abbrev S2x4x2048 : Shape := ⟨3, ![2, 4, 2048]⟩
abbrev S2x6x2048 : Shape := ⟨3, ![2, 6, 2048]⟩
abbrev S2x8x2048 : Shape := ⟨3, ![2, 8, 2048]⟩
abbrev S_ : Shape := ⟨0, ![]⟩
abbrev S2x3x2048 : Shape := ⟨3, ![2, 3, 2048]⟩
abbrev S2x1x8x2048 : Shape := ⟨4, ![2, 1, 8, 2048]⟩
abbrev S2x2x8x2048 : Shape := ⟨4, ![2, 2, 8, 2048]⟩
abbrev S4x8x2048 : Shape := ⟨3, ![4, 8, 2048]⟩
abbrev S256x2048 : Shape := ⟨2, ![256, 2048]⟩
abbrev S256x128 : Shape := ⟨2, ![256, 128]⟩
abbrev S256x1 : Shape := ⟨2, ![256, 1]⟩
abbrev S1x8x2048 : Shape := ⟨3, ![1, 8, 2048]⟩
abbrev S8x2048 : Shape := ⟨2, ![8, 2048]⟩
abbrev S256 : Shape := ⟨1, ![256]⟩

abbrev nBuf : Space → Nat
  | .hbm => 60
  | .vmem => 13
  | .smem => 0
  | _ => 0

abbrev bufTy : (tb : Table) → Fin (tcTables nBuf tb) → BufTy
  | .hbm, ⟨0, _⟩ => ⟨S33280x2048, .bf16⟩
  | .hbm, ⟨1, _⟩ => ⟨S33280x2048, .bf16⟩
  | .hbm, ⟨2, _⟩ => ⟨S33280x128, .f32⟩
  | .hbm, ⟨3, _⟩ => ⟨S2x16640x2048, .f32⟩
  | .hbm, ⟨4, _⟩ => ⟨S8x6x2048, .f32⟩
  | .hbm, ⟨5, _⟩ => ⟨S8x6x2048, .f32⟩
  | .hbm, ⟨6, _⟩ => ⟨S2048, .f32⟩
  | .hbm, ⟨7, _⟩ => ⟨S2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S1x1x2048, .f32⟩
  | .hbm, ⟨12, _⟩ => ⟨S2048, .f32⟩
  | .hbm, ⟨13, _⟩ => ⟨S1x2048, .f32⟩
  | .hbm, ⟨14, _⟩ => ⟨S1x1x2048, .f32⟩
  | .hbm, ⟨15, _⟩ => ⟨S2x1x2048, .f32⟩
  | .hbm, ⟨16, _⟩ => ⟨S2x2x2048, .f32⟩
  | .hbm, ⟨17, _⟩ => ⟨S2x1x2048, .f32⟩
  | .hbm, ⟨18, _⟩ => ⟨S2x2048, .f32⟩
  | .hbm, ⟨19, _⟩ => ⟨S2x1x2048, .f32⟩
  | .hbm, ⟨20, _⟩ => ⟨S2x2048, .f32⟩
  | .hbm, ⟨21, _⟩ => ⟨S2x1x2048, .f32⟩
  | .hbm, ⟨22, _⟩ => ⟨S2x1x2048, .f32⟩
  | .hbm, ⟨23, _⟩ => ⟨S2x2x2048, .f32⟩
  | .hbm, ⟨24, _⟩ => ⟨S1x1x2048, .f32⟩
  | .hbm, ⟨25, _⟩ => ⟨S2048, .f32⟩
  | .hbm, ⟨26, _⟩ => ⟨S1x1x2048, .f32⟩
  | .hbm, ⟨27, _⟩ => ⟨S2048, .f32⟩
  | .hbm, ⟨28, _⟩ => ⟨S1x2048, .f32⟩
  | .hbm, ⟨29, _⟩ => ⟨S1x2048, .f32⟩
  | .hbm, ⟨30, _⟩ => ⟨S2x2048, .f32⟩
  | .hbm, ⟨31, _⟩ => ⟨S1x2x2048, .f32⟩
  | .hbm, ⟨32, _⟩ => ⟨S2x2x2048, .f32⟩
  | .hbm, ⟨33, _⟩ => ⟨S2x4x2048, .f32⟩
  | .hbm, ⟨34, _⟩ => ⟨S2x1x2048, .f32⟩
  | .hbm, ⟨35, _⟩ => ⟨S2x2x2048, .f32⟩
  | .hbm, ⟨36, _⟩ => ⟨S2x1x2048, .f32⟩
  | .hbm, ⟨37, _⟩ => ⟨S2x2x2048, .f32⟩
  | .hbm, ⟨38, _⟩ => ⟨S2x6x2048, .f32⟩
  | .hbm, ⟨39, _⟩ => ⟨S1x2048, .f32⟩
  | .hbm, ⟨40, _⟩ => ⟨S1x2048, .f32⟩
  | .hbm, ⟨41, _⟩ => ⟨S2x2048, .f32⟩
  | .hbm, ⟨42, _⟩ => ⟨S1x2x2048, .f32⟩
  | .hbm, ⟨43, _⟩ => ⟨S2x2x2048, .f32⟩
  | .hbm, ⟨44, _⟩ => ⟨S2x8x2048, .f32⟩
  | .hbm, ⟨45, _⟩ => ⟨S33280x2048, .f32⟩
  | .hbm, ⟨46, _⟩ => ⟨S_, .f32⟩
  | .hbm, ⟨47, _⟩ => ⟨S2x3x2048, .f32⟩
  | .hbm, ⟨48, _⟩ => ⟨S2x3x2048, .f32⟩
  | .hbm, ⟨49, _⟩ => ⟨S2x2x2048, .f32⟩
  | .hbm, ⟨50, _⟩ => ⟨S2x8x2048, .f32⟩
  | .hbm, ⟨51, _⟩ => ⟨S2x3x2048, .f32⟩
  | .hbm, ⟨52, _⟩ => ⟨S2x2x2048, .f32⟩
  | .hbm, ⟨53, _⟩ => ⟨S2x8x2048, .f32⟩
  | .hbm, ⟨54, _⟩ => ⟨S2x1x8x2048, .f32⟩
  | .hbm, ⟨55, _⟩ => ⟨S2x1x8x2048, .f32⟩
  | .hbm, ⟨56, _⟩ => ⟨S2x2x8x2048, .f32⟩
  | .hbm, ⟨57, _⟩ => ⟨S4x8x2048, .f32⟩
  | .hbm, ⟨58, _⟩ => ⟨S33280x2048, .f32⟩
  | .hbm, ⟨59, _⟩ => ⟨S33280x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x128, .f32⟩
  | .local _ .vmem, ⟨5, _⟩ => ⟨S256x128, .f32⟩
  | .local _ .vmem, ⟨6, _⟩ => ⟨S256x2048, .f32⟩
  | .local _ .vmem, ⟨7, _⟩ => ⟨S256x2048, .f32⟩
  | .local _ .vmem, ⟨8, _⟩ => ⟨S4x8x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49_0 : Ref sig .tc := ⟨.hbm, 58, rfl⟩
abbrev main_v49_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![130], ![false]⟩

def k0_off1 (i : grid0.Coords) : Fin 3 → Nat :=
  let c2_i32 : BitVec 32 := 2#32
  let arg0 : BitVec 32 := BitVec.ofNat 32 (i 0).val
  let c0_i32 : BitVec 32 := 0#32
  let v15 : BitVec 1 := Scalar.cmpi .sgt arg0 c0_i32
  let v16 : BitVec 32 := Scalar.extui v15
  let c0_i32_7 : BitVec 32 := 0#32
  let v17 : BitVec 1 := Scalar.cmpi .slt arg0 c0_i32_7
  let v18 : BitVec 32 := Scalar.extui v17
  let v19 : BitVec 32 := Scalar.subi v16 v18
  let c65_i32 : BitVec 32 := 65#32
  let c0_i32_8 : BitVec 32 := 0#32
  let v20 : BitVec 1 := Scalar.cmpi .sgt c65_i32 c0_i32_8
  let v21 : BitVec 32 := Scalar.extui v20
  let c0_i32_9 : BitVec 32 := 0#32
  let v22 : BitVec 1 := Scalar.cmpi .slt c65_i32 c0_i32_9
  let v23 : BitVec 32 := Scalar.extui v22
  let v24 : BitVec 32 := Scalar.subi v21 v23
  let v25 : BitVec 1 := Scalar.cmpi .ne v19 v24
  let v26 : BitVec 32 := Scalar.remsi arg0 c65_i32
  let c0_i32_10 : BitVec 32 := 0#32
  let v27 : BitVec 1 := Scalar.cmpi .ne v26 c0_i32_10
  let v28 : BitVec 1 := Scalar.andi v25 v27
  let v14 : BitVec 32 := Scalar.divsi arg0 c65_i32
  let c1_i32 : BitVec 32 := 1#32
  let v29 : BitVec 32 := Scalar.subi v14 c1_i32
  let v30 : BitVec 32 := Scalar.select v28 v29 v14
  let v35 : BitVec 32 := Scalar.muli c2_i32 v30
  let c65_i32_11 : BitVec 32 := 65#32
  let v31 : BitVec 32 := Scalar.muli v30 c65_i32_11
  let v32 : BitVec 32 := Scalar.subi arg0 v31
  let c64_i32 : BitVec 32 := 64#32
  let v33 : BitVec 1 := Scalar.cmpi .sge v32 c64_i32
  let v34 : BitVec 32 := Scalar.extui v33
  let v36 : BitVec 32 := Scalar.addi v35 v34
  let v37 : Index := Scalar.indexCast v36
  let c0_12 : Index := 0#32
  let c0_13 : Index := 0#32
  ![v37.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== JoinRefIdeal.lean ====
abbrev S33280x2048 : Shape := ⟨2, ![33280, 2048]⟩
abbrev S33280x128 : Shape := ⟨2, ![33280, 128]⟩
abbrev S2x16640x2048 : Shape := ⟨3, ![2, 16640, 2048]⟩
abbrev S8x6x2048 : Shape := ⟨3, ![8, 6, 2048]⟩
abbrev S2048 : Shape := ⟨1, ![2048]⟩
abbrev S33280x1 : Shape := ⟨2, ![33280, 1]⟩
abbrev S_ : Shape := ⟨0, ![]⟩
abbrev S16640 : Shape := ⟨1, ![16640]⟩
abbrev S1x16640x1 : Shape := ⟨3, ![1, 16640, 1]⟩
abbrev S2x1x2048 : Shape := ⟨3, ![2, 1, 2048]⟩
abbrev S2x2048 : Shape := ⟨2, ![2, 2048]⟩
abbrev S1x1x2048 : Shape := ⟨3, ![1, 1, 2048]⟩
abbrev S2x16640 : Shape := ⟨2, ![2, 16640]⟩
abbrev S2x16640x1 : Shape := ⟨3, ![2, 16640, 1]⟩

abbrev nBuf : Space → Nat
  | .hbm => 103
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S33280x2048, .bf16⟩
  | .hbm, ⟨2, _⟩ => ⟨S33280x128, .f32⟩
  | .hbm, ⟨3, _⟩ => ⟨S2x16640x2048, .f32⟩
  | .hbm, ⟨4, _⟩ => ⟨S8x6x2048, .f32⟩
  | .hbm, ⟨5, _⟩ => ⟨S8x6x2048, .f32⟩
  | .hbm, ⟨6, _⟩ => ⟨S2048, .f32⟩
  | .hbm, ⟨7, _⟩ => ⟨S2048, .f32⟩
  | .hbm, ⟨8, _⟩ => ⟨S33280x2048, .f32⟩
  | .hbm, ⟨9, _⟩ => ⟨S33280x1, .f32⟩
  | .hbm, ⟨10, _⟩ => ⟨S33280x2048, .f32⟩
  | .hbm, ⟨11, _⟩ => ⟨S33280x2048, .f32⟩
  | .hbm, ⟨12, _⟩ => ⟨S33280x2048, .f32⟩
  | .hbm, ⟨13, _⟩ => ⟨S33280x1, .f32⟩
  | .hbm, ⟨14, _⟩ => ⟨S33280x2048, .f32⟩
  | .hbm, ⟨15, _⟩ => ⟨S33280x2048, .f32⟩
  | .hbm, ⟨16, _⟩ => ⟨S33280x2048, .f32⟩
  | .hbm, ⟨17, _⟩ => ⟨S2x16640x2048, .f32⟩
  | .hbm, ⟨18, _⟩ => ⟨S_, .f32⟩
  | .hbm, ⟨19, _⟩ => ⟨S2x16640x2048, .f32⟩
  | .hbm, ⟨20, _⟩ => ⟨S2x16640x2048, .f32⟩
  | .hbm, ⟨21, _⟩ => ⟨S16640, .i32⟩
  | .hbm, ⟨22, _⟩ => ⟨S_, .i32⟩
  | .hbm, ⟨23, _⟩ => ⟨S16640, .i32⟩
  | .hbm, ⟨24, _⟩ => ⟨S16640, .i1⟩
  | .hbm, ⟨25, _⟩ => ⟨S1x16640x1, .i1⟩
  | .hbm, ⟨26, _⟩ => ⟨S2x1x2048, .f32⟩
  | .hbm, ⟨27, _⟩ => ⟨S2x2048, .f32⟩
  | .hbm, ⟨28, _⟩ => ⟨S2x1x2048, .f32⟩
  | .hbm, ⟨29, _⟩ => ⟨S1x1x2048, .f32⟩
  | .hbm, ⟨30, _⟩ => ⟨S2048, .f32⟩
  | .hbm, ⟨31, _⟩ => ⟨S1x1x2048, .f32⟩
  | .hbm, ⟨32, _⟩ => ⟨S2x16640x2048, .i1⟩
  | .hbm, ⟨33, _⟩ => ⟨S2x16640x2048, .f32⟩
  | .hbm, ⟨34, _⟩ => ⟨S2x16640x2048, .f32⟩
  | .hbm, ⟨35, _⟩ => ⟨S2x16640x2048, .f32⟩
  | .hbm, ⟨36, _⟩ => ⟨S2x16640x2048, .f32⟩
  | .hbm, ⟨37, _⟩ => ⟨S2x16640x2048, .f32⟩
  | .hbm, ⟨38, _⟩ => ⟨S_, .f32⟩
  | .hbm, ⟨39, _⟩ => ⟨S2x16640, .f32⟩
  | .hbm, ⟨40, _⟩ => ⟨S2x16640x1, .f32⟩
  | .hbm, ⟨41, _⟩ => ⟨S_, .f32⟩
  | .hbm, ⟨42, _⟩ => ⟨S2x16640x1, .f32⟩
  | .hbm, ⟨43, _⟩ => ⟨S2x16640x1, .f32⟩
  | .hbm, ⟨44, _⟩ => ⟨S2x16640x2048, .f32⟩
  | .hbm, ⟨45, _⟩ => ⟨S2x16640x2048, .f32⟩
  | .hbm, ⟨46, _⟩ => ⟨S2x16640x2048, .f32⟩
  | .hbm, ⟨47, _⟩ => ⟨S_, .f32⟩
  | .hbm, ⟨48, _⟩ => ⟨S2x16640, .f32⟩
  | .hbm, ⟨49, _⟩ => ⟨S2x16640x1, .f32⟩
  | .hbm, ⟨50, _⟩ => ⟨S_, .f32⟩
  | .hbm, ⟨51, _⟩ => ⟨S2x16640x1, .f32⟩
  | .hbm, ⟨52, _⟩ => ⟨S2x16640x1, .f32⟩
  | .hbm, ⟨53, _⟩ => ⟨S_, .f32⟩
  | .hbm, ⟨54, _⟩ => ⟨S2x16640x1, .f32⟩
  | .hbm, ⟨55, _⟩ => ⟨S2x16640x1, .f32⟩
  | .hbm, ⟨56, _⟩ => ⟨S2x16640x1, .f32⟩
  | .hbm, ⟨57, _⟩ => ⟨S2x16640x2048, .f32⟩
  | .hbm, ⟨58, _⟩ => ⟨S2x16640x2048, .f32⟩
  | .hbm, ⟨59, _⟩ => ⟨S1x1x2048, .f32⟩
  | .hbm, ⟨60, _⟩ => ⟨S2x16640x2048, .f32⟩
  | .hbm, ⟨61, _⟩ => ⟨S2x16640x2048, .f32⟩
  | .hbm, ⟨62, _⟩ => ⟨S1x1x2048, .f32⟩
  | .hbm, ⟨63, _⟩ => ⟨S2x16640x2048, .f32⟩
  | .hbm, ⟨64, _⟩ => ⟨S2x16640x2048, .f32⟩
  | .hbm, ⟨65, _⟩ => ⟨S16640, .i32⟩
  | .hbm, ⟨66, _⟩ => ⟨S_, .i32⟩
  | .hbm, ⟨67, _⟩ => ⟨S16640, .i32⟩
  | .hbm, ⟨68, _⟩ => ⟨S16640, .i1⟩
  | .hbm, ⟨69, _⟩ => ⟨S1x16640x1, .i1⟩
  | .hbm, ⟨70, _⟩ => ⟨S2x1x2048, .f32⟩
  | .hbm, ⟨71, _⟩ => ⟨S2x2048, .f32⟩
  | .hbm, ⟨72, _⟩ => ⟨S2x1x2048, .f32⟩
  | .hbm, ⟨73, _⟩ => ⟨S1x1x2048, .f32⟩
  | .hbm, ⟨74, _⟩ => ⟨S2048, .f32⟩
  | .hbm, ⟨75, _⟩ => ⟨S1x1x2048, .f32⟩
  | .hbm, ⟨76, _⟩ => ⟨S2x16640x2048, .i1⟩
  | .hbm, ⟨77, _⟩ => ⟨S2x16640x2048, .f32⟩
  | .hbm, ⟨78, _⟩ => ⟨S2x16640x2048, .f32⟩
  | .hbm, ⟨79, _⟩ => ⟨S2x16640x2048, .f32⟩
  | .hbm, ⟨80, _⟩ => ⟨S_, .f32⟩
  | .hbm, ⟨81, _⟩ => ⟨S2x16640x2048, .f32⟩
  | .hbm, ⟨82, _⟩ => ⟨S2x16640x2048, .f32⟩
  | .hbm, ⟨83, _⟩ => ⟨S2x16640x2048, .f32⟩
  | .hbm, ⟨84, _⟩ => ⟨S16640, .i32⟩
  | .hbm, ⟨85, _⟩ => ⟨S_, .i32⟩
  | .hbm, ⟨86, _⟩ => ⟨S16640, .i32⟩
  | .hbm, ⟨87, _⟩ => ⟨S16640, .i1⟩
  | .hbm, ⟨88, _⟩ => ⟨S1x16640x1, .i1⟩
  | .hbm, ⟨89, _⟩ => ⟨S2x1x2048, .f32⟩
  | .hbm, ⟨90, _⟩ => ⟨S2x2048, .f32⟩
  | .hbm, ⟨91, _⟩ => ⟨S2x1x2048, .f32⟩
  | .hbm, ⟨92, _⟩ => ⟨S1x1x2048, .f32⟩
  | .hbm, ⟨93, _⟩ => ⟨S2048, .f32⟩
  | .hbm, ⟨94, _⟩ => ⟨S1x1x2048, .f32⟩
  | .hbm, ⟨95, _⟩ => ⟨S2x16640x2048, .i1⟩
  | .hbm, ⟨96, _⟩ => ⟨S2x16640x2048, .f32⟩
  | .hbm, ⟨97, _⟩ => ⟨S2x16640x2048, .f32⟩
  | .hbm, ⟨98, _⟩ => ⟨S2x16640x2048, .f32⟩
  | .hbm, ⟨99, _⟩ => ⟨S2x16640x2048, .f32⟩
  | .hbm, ⟨100, _⟩ => ⟨S33280x2048, .f32⟩
  | .hbm, ⟨101, _⟩ => ⟨S33280x2048, .f32⟩
  | .hbm, ⟨102, _⟩ => ⟨S33280x2048, .bf16⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]
-- ==== Proof.RowNorm.lean ====
/- One row's layer normalisation over the extended reals, as both the kernels and the references compute it. -/
module

public import Idealize.ShloMosaic.Lib.ValueIdx
public import Idealize.ShloMosaic.Lib.Pointwise

@[expose] public section

noncomputable section

namespace Cert.RowNorm

open Idealize.ShloMosaic

/-- The number of lanes of a row, as the programs write it. -/
def lanes : EReal := Ideal.ofBits .f32 0x45000000#32

/-- The small number under the square root. -/
def small : EReal := Ideal.ofBits .f32 0x358637BD#32

/-- The weight of the residual. -/
def alpha : EReal := Ideal.ofBits .f32 0x3FB504F3#32

/-- One. -/
def unit : EReal := Ideal.ofBits .f32 0x3F800000#32

/-- The mean of a row. -/
def mean (v : Fin 2048 → EReal) : EReal := Ideal.div (∑ k, v k) lanes

/-- A row minus its mean. -/
def centred (v : Fin 2048 → EReal) (e : Fin 2048) : EReal := v e - mean v

/-- The scale a centred row is multiplied with. -/
def scale (v : Fin 2048 → EReal) : EReal := Ideal.rsqrt (Ideal.div (∑ k, centred v k * centred v k) lanes + small)

/-- The layer normalisation of a row, at one lane with its gain and bias. -/
def norm (v : Fin 2048 → EReal) (g b : EReal) (e : Fin 2048) : EReal := centred v e * scale v * g + b

end Cert.RowNorm

end
-- ==== Proof.RowBlock.lean ====
/- A block of 256 rows normalised and modulated, as the output projections of both layers compute it, index by index. -/
module

public import proofs.«01_k».proof.Proof.RowNorm
public import Idealize.ShloMosaic.Lib.Pipeline.ValueKit
public import Idealize.ShloMosaic.Lib.Pointwise
public import Idealize.ShloMosaic.Lib.ValueIdx

@[expose] public section

set_option maxRecDepth 16384

noncomputable section

namespace Cert.RowNorm

open Idealize.ShloMosaic

/-- A residual row with the modulated update added. -/
def update (x y m : Fin 2048 → EReal) (e : Fin 2048) : EReal := alpha * x e + m e * y e

/-- A row's token: the normalised row scaled and shifted. -/
def token (v g b s h : Fin 2048 → EReal) (e : Fin 2048) : EReal := norm v (g e) (b e) e * (unit + s e) + h e

end Cert.RowNorm

namespace Cert.RowBlock

open Idealize.ShloMosaic
open Cert.RowNorm (alpha unit lanes small)

abbrev S1x2048 : Shape := ⟨2, ![1, 2048]⟩
abbrev S8x2048 : Shape := ⟨2, ![8, 2048]⟩
abbrev S1x8x2048 : Shape := ⟨3, ![1, 8, 2048]⟩
abbrev S256 : Shape := ⟨1, ![256]⟩
abbrev S256x1 : Shape := ⟨2, ![256, 1]⟩
abbrev S256x2048 : Shape := ⟨2, ![256, 2048]⟩

/-- The parameter rows of a tile. -/
def table (p : FVec Ideal S1x8x2048 .f32) : FVec Ideal S8x2048 .f32 := shapeCast S8x2048 p (by decide)

/-- The rows before the normalisation. -/
def sumBlock (y x : FVec Ideal S256x2048 .f32) (p : FVec Ideal S8x2048 .f32) : FVec Ideal S256x2048 .f32 :=
  addf (mulf (broadcast S256x2048 (Scalar.ofBits (F := Ideal) .f32 0x3FB504F3#32)) x)
    (mulf (broadcastTo S256x2048 (extractStridedSlice S1x2048 ![0, 0] p (by decide)) (by decide)) y)

/-- The mean of every row. -/
def meanBlock (v : FVec Ideal S256x2048 .f32) : FVec Ideal S256x1 .f32 :=
  divf (shapeCast S256x1 (multiReduction .add [1] S256 v 0x00000000#32 (by decide) (.inl rfl) rfl) (by decide))
    (broadcast S256x1 (Scalar.ofBits (F := Ideal) .f32 0x45000000#32))

/-- The rows minus their means. -/
def centredBlock (v : FVec Ideal S256x2048 .f32) : FVec Ideal S256x2048 .f32 :=
  subf v (broadcastTo S256x2048 (meanBlock v) (by decide))

/-- The normalised rows. -/
def normBlock (v : FVec Ideal S256x2048 .f32) (p : FVec Ideal S8x2048 .f32) : FVec Ideal S256x2048 .f32 :=
  addf (mulf (mulf (centredBlock v) (broadcastTo S256x2048 (rsqrt (addf (meanBlock (mulf (centredBlock v) (centredBlock v)))
      (broadcast S256x1 (Scalar.ofBits (F := Ideal) .f32 0x358637BD#32)))) (by decide)))
      (broadcastTo S256x2048 (extractStridedSlice S1x2048 ![3, 0] p (by decide)) (by decide)))
    (broadcastTo S256x2048 (extractStridedSlice S1x2048 ![4, 0] p (by decide)) (by decide))

/-- The tokens: the normalised rows scaled and shifted. -/
def tokenBlock (w : FVec Ideal S256x2048 .f32) (p : FVec Ideal S8x2048 .f32) : FVec Ideal S256x2048 .f32 :=
  addf (mulf w (broadcastTo S256x2048 (addf (broadcast S1x2048 (Scalar.ofBits (F := Ideal) .f32 0x3F800000#32))
      (extractStridedSlice S1x2048 ![1, 0] p (by decide))) (by decide)))
    (broadcastTo S256x2048 (extractStridedSlice S1x2048 ![2, 0] p (by decide)) (by decide))

/-- A parameter row. -/
theorem table_apply (p : FVec Ideal S1x8x2048 .f32) (j : Fin 8) (e : Fin 2048) : (table p (ix2 j e) : EReal) = p (ix3 0 j e) := by
  unfold table
  refine shapeCast_apply _ _ _ _ ?_
  rw [Shape.rowMajor_val_three, Shape.rowMajor_val_two]
  show (0 * 8 + j.val) * 2048 + e.val = j.val * 2048 + e.val
  omega

/-- A row before the normalisation. -/
theorem sumBlock_apply (y x : FVec Ideal S256x2048 .f32) (p : FVec Ideal S8x2048 .f32) (r : Fin 256) (e : Fin 2048) :
    (sumBlock y x p (ix2 r e) : EReal) = RowNorm.update (fun e => x (ix2 r e)) (fun e => y (ix2 r e)) (fun e => p (ix2 0 e)) e := by
  unfold RowNorm.update RowNorm.alpha
  pointwise [sumBlock]

/-- The mean of a row. -/
theorem meanBlock_apply (v : FVec Ideal S256x2048 .f32) (r : Fin 256) :
    (meanBlock v (ix2 r 0) : EReal) = RowNorm.mean fun k => v (ix2 r k) := by
  unfold RowNorm.mean RowNorm.lanes
  pointwise [meanBlock]

/-- A row minus its mean. -/
theorem centredBlock_apply (v : FVec Ideal S256x2048 .f32) (r : Fin 256) (e : Fin 2048) :
    (centredBlock v (ix2 r e) : EReal) = RowNorm.centred (fun k => v (ix2 r k)) e := by
  unfold RowNorm.centred
  rw [← meanBlock_apply]
  unfold centredBlock
  generalize meanBlock v = w
  pointwise

/-- A normalised row. -/
theorem normBlock_apply (v : FVec Ideal S256x2048 .f32) (p : FVec Ideal S8x2048 .f32) (r : Fin 256) (e : Fin 2048) :
    (normBlock v p (ix2 r e) : EReal) = RowNorm.norm (fun k => v (ix2 r k)) (p (ix2 3 e)) (p (ix2 4 e)) e := by
  have hc := fun k => centredBlock_apply v r k
  have hm := meanBlock_apply (mulf (centredBlock v) (centredBlock v)) r
  unfold RowNorm.norm RowNorm.scale
  simp only [← hc]
  unfold normBlock
  generalize hM : meanBlock (mulf (centredBlock v) (centredBlock v)) = M at hm ⊢
  have hm' : (M (ix2 r 0) : EReal) = Ideal.div (∑ k, centredBlock v (ix2 r k) * centredBlock v (ix2 r k)) lanes := hm
  rw [← hm']
  generalize centredBlock v = w
  unfold RowNorm.small
  pointwise

/-- A token. -/
theorem tokenBlock_apply (w : FVec Ideal S256x2048 .f32) (p : FVec Ideal S8x2048 .f32) (r : Fin 256) (e : Fin 2048) :
    (tokenBlock w p (ix2 r e) : EReal) = w (ix2 r e) * (unit + p (ix2 1 e)) + p (ix2 2 e) := by
  unfold RowNorm.unit
  pointwise [tokenBlock]

/-- A token of the whole tile. -/
theorem tile_apply (y x : FVec Ideal S256x2048 .f32) (p : FVec Ideal S8x2048 .f32) (r : Fin 256) (e : Fin 2048) :
    (normBlock (sumBlock y x p) p (ix2 r e) : EReal)
        = RowNorm.norm (RowNorm.update (fun e => x (ix2 r e)) (fun e => y (ix2 r e)) (fun e => p (ix2 0 e))) (p (ix2 3 e)) (p (ix2 4 e)) e
    ∧ (tokenBlock (normBlock (sumBlock y x p) p) p (ix2 r e) : EReal)
        = RowNorm.token (RowNorm.update (fun e => x (ix2 r e)) (fun e => y (ix2 r e)) (fun e => p (ix2 0 e)))
            (fun e => p (ix2 3 e)) (fun e => p (ix2 4 e)) (fun e => p (ix2 1 e)) (fun e => p (ix2 2 e)) e := by
  have h := (normBlock_apply (sumBlock y x p) p r e).trans
    (congrArg (RowNorm.norm · (p (ix2 3 e)) (p (ix2 4 e)) e) (funext fun k => sumBlock_apply y x p r k))
  exact ⟨h, (tokenBlock_apply _ p r e).trans (congrArg (fun w => w * (unit + p (ix2 1 e)) + p (ix2 2 e)) h)⟩

end Cert.RowBlock

end
-- ==== Proof.HostBlock.lean ====
/-
  A host scatter of one window whose body returns the update: where each element of the window lands, and the result
  read at an element some update lands at or none does.
-/
module

public import Idealize.ShloMosaic.Lib.Routing.OpsSet
public import Idealize.ShloMosaic.Lib.ValueIdx

@[expose] public section

noncomputable section

namespace Cert.HostBlock

open Idealize.ShloMosaic

/-- An update lands at `ι` exactly when start plus window coordinate is `ι`'s coordinate on every axis. -/
theorem resultIdx_iff {s si u : Shape} {w : Nat} (d : ScatterDims s si u) (j : u.Idx) (idx : IVec si w) (ι : s.Idx) :
    d.resultIdx? j idx = some ι ↔ ∀ a, d.start j idx a + d.window j a = ((ι a).val : Int) := by
  unfold ScatterDims.resultIdx?
  constructor
  · intro h a
    split at h
    · next hin =>
      have e := congrArg Fin.val (congrFun (Option.some.inj h) a)
      have := hin a
      dsimp only at e
      omega
    · cases h
  · intro h
    have hin : ∀ a, 0 ≤ d.start j idx a + d.window j a ∧ d.start j idx a + d.window j a < s.size a := fun a => by
      have := h a
      have := (ι a).isLt
      omega
    rw [dif_pos hin]
    refine congrArg some (funext fun a => Fin.ext ?_)
    have := h a
    dsimp only
    omega

/-- Read at an element that update `k` lands at, when no two updates land at one element: the update. -/
theorem scatter_hit {α : Type} {s si u : Shape} {w : Nat} (d : ScatterDims s si u) (x : s.Idx → α) (idx : IVec si w) (upd : u.Idx → α)
    (ι : s.Idx) (k : u.Idx) (hk : ∀ a, d.start k idx a + d.window k a = ((ι a).val : Int))
    (hinj : ∀ j, (∀ a, d.start j idx a + d.window j a = ((ι a).val : Int)) → j = k) :
    Host.scatter d (fun _ b => b) x idx upd ι = upd k :=
  Routing.scatter_set_hit d x idx upd ι (upd k) (fun j hj => by rw [hinj j ((resultIdx_iff d j idx ι).1 hj)]) k ((resultIdx_iff d k idx ι).2 hk)

/-- Read at an element that no update lands at: the operand. -/
theorem scatter_miss {α : Type} {s si u : Shape} {w : Nat} (d : ScatterDims s si u) (x : s.Idx → α) (idx : IVec si w) (upd : u.Idx → α)
    (ι : s.Idx) (h : ∀ j, ∃ a, d.start j idx a + d.window j a ≠ ((ι a).val : Int)) :
    Host.scatter d (fun _ b => b) x idx upd ι = x ι :=
  Routing.scatter_set_miss d x idx upd ι fun j hj => by
    obtain ⟨a, ha⟩ := h j
    exact ha ((resultIdx_iff d j idx ι).1 hj a)

end Cert.HostBlock

end
-- ==== Proof.Router.lean ====
/- The router's weights as the output projections read them: their columns, then zero columns. -/
module

public import proofs.«01_k».proof.Proof.HostBlock
public import Idealize.ShloMosaic.Lib.Pipeline.ValueKit
public import Idealize.ShloMosaic.Lib.ValueIdx
public import Idealize.ShloMosaic.Lib.KernelVsHost

@[expose] public section

set_option maxRecDepth 16384

noncomputable section

namespace Cert.Router

open Idealize.ShloMosaic

abbrev S1 : Shape := ⟨1, ![1]⟩
abbrev S2048x16 : Shape := ⟨2, ![2048, 16]⟩
abbrev S2048x128 : Shape := ⟨2, ![2048, 128]⟩

/-- The columns of `w`, then zero columns. -/
def rpad (w : S2048x16.Idx → EReal) : S2048x128.Idx → EReal := fun i =>
  if h : (i 1).val < 16 then w (ix2 (i 0) ⟨(i 1).val, h⟩) else 0

/-- A window of the weights' shape scattered at the origin of a zero array is the padded weights. -/
theorem scatter_eq (d : ScatterDims S2048x128 S1 S2048x16) (hw0 : ∀ j, d.window j 0 = (j 0).val) (hw1 : ∀ j, d.window j 1 = (j 1).val)
    (w : S2048x16.Idx → EReal) (x : S2048x128.Idx → EReal) (hx : ∀ i, x i = 0) :
    Host.scatter d (fun _ b => b) x (fun _ => 0#32) w = rpad w := by
  have hpos : ∀ (j : S2048x16.Idx) (a : Fin 2), d.start j (fun _ => 0#32) a + d.window j a = ((j a).val : Int) := by
    intro j a
    have e0 : d.start j (fun _ => 0#32) a = 0 := by
      unfold ScatterDims.start; split <;> rfl
    rw [e0, zero_add]
    match a with
    | 0 => exact_mod_cast hw0 j
    | 1 => exact_mod_cast hw1 j
  funext i
  unfold rpad
  split
  · next h =>
    refine HostBlock.scatter_hit _ _ _ _ i (ix2 (i 0) ⟨(i 1).val, h⟩) (fun a => ?_) (fun j hj => ?_)
    · refine (hpos _ a).trans ?_
      match a with
      | 0 => rfl
      | 1 => rfl
    · have h0 := (hpos j 0).symm.trans (hj 0)
      have h1 := (hpos j 1).symm.trans (hj 1)
      refine (eq_ix2 j).trans ?_
      have e0 : j 0 = i 0 := Fin.ext (by exact_mod_cast h0)
      have e1 : j 1 = (⟨(i 1).val, h⟩ : Fin 16) := Fin.ext (by exact_mod_cast h1)
      rw [e0, e1]
  · next h =>
    rw [HostBlock.scatter_miss _ _ _ _ i fun j => ⟨1, fun hj => ?_⟩, hx]
    have h1 := (hpos j 1).symm.trans hj
    have : (j 1).val < 16 := (j 1).isLt
    omega

end Cert.Router

end
-- ==== Proof.PointBlock.lean ====
/- What one grid point of an output projection writes: 512 rows, two tiles of 256, each with its part's parameter rows. -/
module

public import proofs.«01_k».proof.Proof.RowBlock
public import proofs.«01_k».proof.Proof.Router
public import Idealize.ShloMosaic.Lib.Pipeline.ReadBack

@[expose] public section

set_option maxRecDepth 16384

noncomputable section

namespace Cert.PointBlock

open Idealize.ShloMosaic
open Cert.RowBlock (S256x2048 S1x8x2048 S8x2048)
open Cert.Router (S2048x128)

abbrev S512x2048 : Shape := ⟨2, ![512, 2048]⟩
abbrev S512x128 : Shape := ⟨2, ![512, 128]⟩
abbrev S4x8x2048 : Shape := ⟨3, ![4, 8, 2048]⟩

/-- Which part of the rows a row of a point's result block belongs to: the first sequence's latents, its context, the second's latents, its context. -/
def part (t r : ℕ) : ℕ := 2 * ((2 * (t - 1) + r / 256) / 65) + (if (2 * (t - 1) + r / 256) % 65 = 64 then 1 else 0)

/-- There are four parts. -/
theorem part_lt (t r : ℕ) (ht : t < 66) (hr : r < 512) : part t r < 4 := by
  unfold part
  split <;> omega

/-- Where a row of a point's result block lies among both sequences' rows, and which modulation vectors its part has. -/
theorem place (t r : ℕ) (ht0 : ¬t % 66 = 0) (ht : t < 66) (hr : r < 512) : ∃ (b : Fin 2) (n : Fin 16640) (s : Fin 8),
    (t - 1) * 512 + r = b.val * 16640 + n.val ∧ (s.val = if n.val < 16384 then b.val else 2)
      ∧ s.val = if (Fin.ofNat 4 (part t r)).val % 2 = 0 then (Fin.ofNat 4 (part t r)).val / 2 else 2 := by
  have hb : (t - 1) * 512 + r < 33280 := by omega
  refine ⟨⟨((t - 1) * 512 + r) / 16640, by omega⟩, ⟨((t - 1) * 512 + r) % 16640, by omega⟩,
    ⟨if ((t - 1) * 512 + r) % 16640 < 16384 then ((t - 1) * 512 + r) / 16640 else 2, by split <;> omega⟩, ?_, rfl, ?_⟩
  · show _ = ((t - 1) * 512 + r) / 16640 * 16640 + ((t - 1) * 512 + r) % 16640
    omega
  · have hp := part_lt t r ht hr
    show (if ((t - 1) * 512 + r) % 16640 < 16384 then ((t - 1) * 512 + r) / 16640 else 2)
      = if part t r % 4 % 2 = 0 then part t r % 4 / 2 else 2
    rw [Nat.mod_eq_of_lt hp]
    unfold part
    split <;> split <;> split at * <;> omega

/-- A parameter row of a row's part. -/
def par (A : FVec Ideal S4x8x2048 .f32) (t r : ℕ) (j : Fin 8) (e : Fin 2048) : EReal := A (ix3 (Fin.ofNat 4 (part t r)) j e)

/-- A row before the normalisation. -/
def row (s x : FVec Ideal S512x2048 .f32) (A : FVec Ideal S4x8x2048 .f32) (t : ℕ) (r : Fin 512) : Fin 2048 → EReal :=
  RowNorm.update (fun e => x (ix2 r e)) (fun e => s (ix2 r e)) (par A t r.val 0)

/-- The normalised rows. -/
def normed (s x : FVec Ideal S512x2048 .f32) (A : FVec Ideal S4x8x2048 .f32) (t : ℕ) : FVec Ideal S512x2048 .f32 :=
  fun y => RowNorm.norm (row s x A t (y 0)) (par A t (y 0).val 3 (y 1)) (par A t (y 0).val 4 (y 1)) (y 1)

/-- A row's token. -/
def token (s x : FVec Ideal S512x2048 .f32) (A : FVec Ideal S4x8x2048 .f32) (t : ℕ) (r : Fin 512) : Fin 2048 → EReal :=
  RowNorm.token (row s x A t r) (par A t r.val 3) (par A t r.val 4) (par A t r.val 1) (par A t r.val 2)

/-- A row's logits, from the token and the weights each split in two. -/
def logit (s x : FVec Ideal S512x2048 .f32) (A : FVec Ideal S4x8x2048 .f32) (w : FVec Ideal S2048x128 .f32) (t : ℕ) : FVec Ideal S512x128 .f32 :=
  fun y => (∑ k, token s x A t (y 0) k * w (ix2 k (y 1))) + (∑ k, token s x A t (y 0) k * (w (ix2 k (y 1)) - w (ix2 k (y 1))))
    + ∑ k, (token s x A t (y 0) k - token s x A t (y 0) k) * w (ix2 k (y 1))

/-- A tile cut from a block of rows. -/
theorem tile_ld {n N o : ℕ} {φ : EltTy} (A : (⟨2, ![N, n]⟩ : Shape).Idx → Elt Ideal φ)
    (h : ∀ a, (![o, 0] : Fin 2 → ℕ) a + (![256, n] : Fin 2 → ℕ) a ≤ (⟨2, ![N, n]⟩ : Shape).size a)
    (r : Fin 256) (e : Fin n) (R : Fin N) (hR : R.val = o + r.val) :
    View.ld (Val := Elt Ideal) (S := ⟨2, ![N, n]⟩) (e' := φ) A (Rect.unit ![o, 0] ![256, n] h) (ix2 r e) = A (ix2 R e) := by
  refine congrArg A (funext fun a => Fin.ext ((Rect.idx_unit_val (s := ⟨2, ![N, n]⟩) (off := ![o, 0]) (size := ![256, n]) (inb := h) (x := ix2 r e) (a := a)).trans ?_))
  match a with
  | 0 => exact hR.symm
  | 1 => exact Nat.zero_add _

/-- The parameter rows of a tile. -/
theorem par_ld (A : FVec Ideal S4x8x2048 .f32) (off : Fin 3 → ℕ) (h : ∀ a, off a + (![1, 8, 2048] : Fin 3 → ℕ) a ≤ S4x8x2048.size a)
    (t r : ℕ) (hq : off 0 = part t r) (h1 : off 1 = 0) (h2 : off 2 = 0) (j : Fin 8) (e : Fin 2048) :
    (View.ld (Val := Elt Ideal) (S := S4x8x2048) (e' := .f32) A (Rect.unit off ![1, 8, 2048] h) (ix3 0 j e) : EReal) = par A t r j e := by
  have hlt : off 0 + 1 ≤ 4 := h 0
  refine congrArg A (funext fun a => Fin.ext ((Rect.idx_unit_val (s := S4x8x2048) (off := off) (size := ![1, 8, 2048]) (inb := h) (x := ix3 0 j e) (a := a)).trans ?_))
  match a with
  | 0 => exact (show off 0 + 0 = part t r % 4 by omega)
  | 1 => exact (congrArg (· + j.val) h1).trans (Nat.zero_add _)
  | 2 => exact (congrArg (· + e.val) h2).trans (Nat.zero_add _)

/-- Rows of the same tile belong to the same part. -/
theorem part_tile (t o r : ℕ) (ho : o = 0 ∨ o = 256) (hr : r < 256) : part t (o + r) = part t o := by
  have : (o + r) / 256 = o / 256 := by omega
  unfold part
  rw [this]

/-- A tile's normalised rows and tokens are its rows of the block's. -/
theorem tile_eq (s x : FVec Ideal S512x2048 .f32) (A : FVec Ideal S4x8x2048 .f32) (s' x' : FVec Ideal S256x2048 .f32) (p : FVec Ideal S1x8x2048 .f32)
    (t o : ℕ) (ho : o = 0 ∨ o = 256) (hs : ∀ (r : Fin 256) e (R : Fin 512), R.val = o + r.val → (s' (ix2 r e) : EReal) = s (ix2 R e))
    (hx : ∀ (r : Fin 256) e (R : Fin 512), R.val = o + r.val → (x' (ix2 r e) : EReal) = x (ix2 R e))
    (hp : ∀ j e, (p (ix3 0 j e) : EReal) = par A t o j e) (r : Fin 256) (e : Fin 2048) (R : Fin 512) (hR : R.val = o + r.val) :
    (RowBlock.normBlock (RowBlock.sumBlock s' x' (RowBlock.table p)) (RowBlock.table p) (ix2 r e) : EReal) = normed s x A t (ix2 R e)
    ∧ (RowBlock.tokenBlock (RowBlock.normBlock (RowBlock.sumBlock s' x' (RowBlock.table p)) (RowBlock.table p)) (RowBlock.table p) (ix2 r e) : EReal)
      = token s x A t R e := by
  have hp' : ∀ j e, (RowBlock.table p (ix2 j e) : EReal) = par A t R.val j e := fun j e => by
    rw [RowBlock.table_apply, hp, hR]
    unfold par
    rw [part_tile t o r.val ho r.isLt]
  obtain ⟨h1, h2⟩ := RowBlock.tile_apply s' x' (RowBlock.table p) r e
  simp only [hp', fun e => hs r e R hR, fun e => hx r e R hR] at h1 h2
  exact ⟨h1, h2⟩

end Cert.PointBlock

end
-- ==== Proof.OutPoint.lean ====
/- One grid point of the last layer's output projection: what it leaves in its result blocks and in the rows it keeps for the next point. -/
module

public import proofs.«01_k».proof.Proof.PointBlock
public import proofs.«01_k».proof.Proof.Gen.OutIdeal.Value
public import Idealize.ShloMosaic.Lib.Pipeline.ValueKit
public import Idealize.ShloMosaic.Lib.Pointwise
public import Idealize.ShloMosaic.Lib.Pipeline.ReadBack
public import Idealize.ShloMosaic.Lib.ValueIdx

@[expose] public section

set_option maxRecDepth 16384

noncomputable section

namespace Cert.OutIdeal.Hand

open Cert.OutIdeal Cert.OutIdeal.Gen Idealize.ShloMosaic Idealize.ShloMosaic.TcCoe Idealize.SL.Sem
open Idealize.ShloMosaic.Pipeline (Dat)
open Cert.PointBlock (part)

variable (m : (ℓ : Loc nD τ sig) → Buf (Elt Ideal) ℓ) (ρ : Dev nD → PrngReg)

/-- Where the parameter rows of a point's two tiles start. -/
theorem off : ∀ t : Fin cfg0.N, ((k0_off1 (grid0.coords t) 0#32) 0 = part t.val 0 ∧ (k0_off1 (grid0.coords t) 0#32) 1 = 0 ∧ (k0_off1 (grid0.coords t) 0#32) 2 = 0)
    ∧ ((k0_off1 (grid0.coords t) 1#32) 0 = part t.val 256 ∧ (k0_off1 (grid0.coords t) 1#32) 1 = 0 ∧ (k0_off1 (grid0.coords t) 1#32) 2 = 0) :=
  (by decide +kernel : ∀ t : Fin grid0.N, _)

/-- The product of a block of rows with the weights. -/
def prodBlock (a : FVec Ideal S512x4096 .bf16) (w : FVec Ideal S4096x2048 .bf16) : FVec Ideal S512x2048 .f32 :=
  fun y => ∑ k : Fin 4096, (a (ix2 (y 0) k) : EReal) * w (ix2 k (y 1))

/-- One tile's product. -/
theorem prod_apply (a : FVec Ideal S256x4096 .bf16) (w : FVec Ideal S4096x2048 .bf16) (y : S256x2048.Idx) :
    (k0_pay2 (F := Ideal) a w y : EReal) = ∑ k : Fin 4096, (a (ix2 (y 0) k) : EReal) * w (ix2 k (y 1)) := by
  pointwise [k0_pay2]

/-- One tile's product is its rows of the block's. -/
theorem prod_tile (a : FVec Ideal S512x4096 .bf16) (w : FVec Ideal S4096x2048 .bf16) (o : ℕ)
    (h : ∀ b, (![o, 0] : Fin 2 → ℕ) b + (![256, 4096] : Fin 2 → ℕ) b ≤ S512x4096.size b) (x : S256x2048.Idx) (y : S512x2048.Idx)
    (h0 : (y 0).val = o + (x 0).val) (h1 : (y 1).val = (x 1).val) :
    (k0_pay2 (F := Ideal) (View.ld (Val := Elt Ideal) (S := S512x4096) (e' := .bf16) a (Rect.unit ![o, 0] ![256, 4096] h)) w x : EReal) = prodBlock a w y := by
  refine (prod_apply _ w x).trans (Finset.sum_congr rfl fun k _ => ?_)
  have e1 : x 1 = y 1 := Fin.ext h1.symm
  exact congr (congrArg HMul.hMul (PointBlock.tile_ld (φ := .bf16) a h (x 0) k (y 0) h0)) (congrArg (fun e => (w (ix2 k e) : EReal)) e1)

/-- The rows a point of the second kind keeps. -/
theorem st_B (c : Dev nD) (t : Fin cfg0.N) (h0 : ¬t.val % 66 = 0) :
    (outsAt0 m c t.val t.isLt).2.2.2 = prodBlock (iblk m c 0 t) (iblk m c 1 t) := by
  rw [outsAt0_B m c t h0]
  dsimp only
  frame_out
  funext y
  canon_tiles x hy
  · exact prod_tile (iblk m c 0 t) (iblk m c 1 t) 256 _ x y hy0 hy1
  · exact prod_tile (iblk m c 0 t) (iblk m c 1 t) 0 _ x y (by omega) hy1

/-- The rows the first point keeps. -/
theorem st_A (c : Dev nD) (t : Fin cfg0.N) (h0 : t.val % 66 = 0) :
    (outsAt0 m c t.val t.isLt).2.2.2 = prodBlock (iblk m c 0 t) (iblk m c 1 t) := by
  rw [outsAt0_A m c t h0]
  dsimp only
  frame_open
  simp (disch := decide) only [↓ View.readCov_skip, ↓ View.readCov_cons_toLoadRect, ↓ View.readCov_fill]
  frame_out
  funext y
  refine View.canon_append_of_piecesOf (Val := Elt Ideal) (e := .f32) (prodBlock (iblk m c 0 t) (iblk m c 1 t)) [_] [_, _] ⟨fun x => ?_, fun x => ?_, trivial⟩ y (View.cover_of_tiled _ ![256, 2048] (by rfl) y)
  · refine prod_tile (iblk m c 0 t) (iblk m c 1 t) 256 _ x _ ?_ ?_
    · exact Rect.idx_unit_val (s := S512x2048) (off := ![256, 0]) (size := ![256, 2048]) (inb := inb_S512x2048_S256x2048_256_0) (x := x) (a := 0)
    · exact (Rect.idx_unit_val (s := S512x2048) (off := ![256, 0]) (size := ![256, 2048]) (inb := inb_S512x2048_S256x2048_256_0) (x := x) (a := 1)).trans (Nat.zero_add _)
  · refine prod_tile (iblk m c 0 t) (iblk m c 1 t) 0 _ x _ ?_ ?_
    · exact Rect.idx_unit_val (s := S512x2048) (off := ![0, 0]) (size := ![256, 2048]) (inb := inb_S512x2048_S256x2048_0_0) (x := x) (a := 0)
    · exact (Rect.idx_unit_val (s := S512x2048) (off := ![0, 0]) (size := ![256, 2048]) (inb := inb_S512x2048_S256x2048_0_0) (x := x) (a := 1)).trans (Nat.zero_add _)

/-- The rows a point keeps: its block's product. -/
theorem st (c : Dev nD) (t : Fin cfg0.N) : (outsAt0 m c t.val t.isLt).2.2.2 = prodBlock (iblk m c 0 t) (iblk m c 1 t) := by
  by_cases h0 : t.val % 66 = 0
  · exact st_A m c t h0
  · exact st_B m c t h0

/-- What the point before left. -/
def kept (c : Dev nD) (t : Fin cfg0.N) : FVec Ideal S512x2048 .f32 :=
  (outsAt0 m c (t.val - 1) (Nat.lt_of_le_of_lt (Nat.sub_le _ _) t.isLt)).2.2.2

/-- A tile read as it is. -/
theorem pay5_eq (v : FVec Ideal S256x2048 .f32) : k0_pay5 (F := Ideal) v = v := by
  funext y
  pointwise [k0_pay5]

/-- The normalised rows and the tokens of a tile. -/
theorem tile (s x : FVec Ideal S512x2048 .f32) (A : FVec Ideal S4x8x2048 .f32) (t o : ℕ) (ho : o = 0 ∨ o = 256)
    (h : ∀ a, (![o, 0] : Fin 2 → ℕ) a + (![256, 2048] : Fin 2 → ℕ) a ≤ S512x2048.size a) (off : Fin 3 → ℕ)
    (h' : ∀ a, off a + (![1, 8, 2048] : Fin 3 → ℕ) a ≤ S4x8x2048.size a) (hq : off 0 = part t o ∧ off 1 = 0 ∧ off 2 = 0)
    (i : S256x2048.Idx) (y : S512x2048.Idx) (h0 : (y 0).val = o + (i 0).val) (h1 : (y 1).val = (i 1).val) :
    (k0_pay7 (F := Ideal) (View.ld (Val := Elt Ideal) (S := S512x2048) (e' := .f32) s (Rect.unit ![o, 0] ![256, 2048] h))
      (k0_pay5 (View.ld (Val := Elt Ideal) (S := S512x2048) (e' := .f32) x (Rect.unit ![o, 0] ![256, 2048] h)))
      (k0_pay6 (View.ld (Val := Elt Ideal) (S := S4x8x2048) (e' := .f32) A (Rect.unit off ![1, 8, 2048] h'))) i : EReal) = PointBlock.normed s x A t y
    ∧ (k0_pay8 (F := Ideal) (View.ld (Val := Elt Ideal) (S := S512x2048) (e' := .f32) s (Rect.unit ![o, 0] ![256, 2048] h))
      (k0_pay5 (View.ld (Val := Elt Ideal) (S := S512x2048) (e' := .f32) x (Rect.unit ![o, 0] ![256, 2048] h)))
      (k0_pay6 (View.ld (Val := Elt Ideal) (S := S4x8x2048) (e' := .f32) A (Rect.unit off ![1, 8, 2048] h'))) i : EReal) = PointBlock.token s x A t (y 0) (y 1) := by
  rw [pay5_eq]
  have e1 : i = ix2 (i 0) (y 1) := (eq_ix2 i).trans (congrArg (ix2 (i 0)) (Fin.ext h1.symm : (i 1 : Fin 2048) = y 1))
  have hy := PointBlock.tile_eq s x A (View.ld (Val := Elt Ideal) (S := S512x2048) (e' := .f32) s (Rect.unit ![o, 0] ![256, 2048] h))
    (View.ld (Val := Elt Ideal) (S := S512x2048) (e' := .f32) x (Rect.unit ![o, 0] ![256, 2048] h))
    (View.ld (Val := Elt Ideal) (S := S4x8x2048) (e' := .f32) A (Rect.unit off ![1, 8, 2048] h')) t o ho
    (fun r e R hR => PointBlock.tile_ld (φ := .f32) s h r e R hR) (fun r e R hR => PointBlock.tile_ld (φ := .f32) x h r e R hR)
    (fun j e => PointBlock.par_ld A off h' t o hq.1 hq.2.1 hq.2.2 j e) (i 0) (y 1) (y 0) h0
  rw [e1]
  exact ⟨hy.1.trans (congrArg _ (eq_ix2 y).symm), hy.2⟩

/-- The logits of a tile. -/
theorem logit_apply (v : FVec Ideal S256x2048 .f32) (w : FVec Ideal S2048x128 .f32) (r : Fin 256) (j : Fin 128) :
    (k0_pay1 (F := Ideal) v w (ix2 r j) : EReal) = (∑ k : Fin 2048, (v (ix2 r k) : EReal) * w (ix2 k j))
      + (∑ k : Fin 2048, (v (ix2 r k) : EReal) * ((w (ix2 k j) : EReal) - w (ix2 k j))) + ∑ k : Fin 2048, ((v (ix2 r k) : EReal) - v (ix2 r k)) * w (ix2 k j) := by
  pointwise [k0_pay1]

/-- The logits of a tile are its rows of the block's. -/
theorem logit_tile (s x : FVec Ideal S512x2048 .f32) (A : FVec Ideal S4x8x2048 .f32) (w : FVec Ideal S2048x128 .f32) (t : ℕ)
    (v : FVec Ideal S256x2048 .f32) (i : S256x128.Idx) (y : S512x128.Idx) (h1 : (y 1).val = (i 1).val)
    (hv : ∀ k : Fin 2048, (v (ix2 (i 0) k) : EReal) = PointBlock.token s x A t (y 0) k) :
    (k0_pay1 (F := Ideal) v w i : EReal) = PointBlock.logit s x A w t y := by
  have e1 : i = ix2 (i 0) (y 1) := (eq_ix2 i).trans (congrArg (ix2 (i 0)) (Fin.ext h1.symm : (i 1 : Fin 128) = y 1))
  rw [e1]
  refine (logit_apply v w (i 0) (y 1)).trans ?_
  simp only [hv]
  rfl

/-- The normalised rows a point writes. -/
theorem out5 (c : Dev nD) (t : Fin cfg0.N) (h0 : ¬t.val % 66 = 0) :
    (outsAt0 m c t.val t.isLt).1 = PointBlock.normed (kept m c t) (iblk m c 2 t) (iblk m c 3 t) t.val := by
  rw [outsAt0_B m c t h0]
  dsimp only
  frame_out
  simp only [read_unread_whole]
  funext y
  canon_tiles x hy
  · exact (tile (kept m c t) (iblk m c 2 t) (iblk m c 3 t) t.val 256 (.inr rfl) _ _ _ (off t).2 x y hy0 hy1).1
  · exact (tile (kept m c t) (iblk m c 2 t) (iblk m c 3 t) t.val 0 (.inl rfl) _ _ _ (off t).1 x y (by omega) hy1).1

/-- The tokens a point writes. -/
theorem out6 (c : Dev nD) (t : Fin cfg0.N) (h0 : ¬t.val % 66 = 0) (y : S512x2048.Idx) :
    ((outsAt0 m c t.val t.isLt).2.1 y : EReal) = PointBlock.token (kept m c t) (iblk m c 2 t) (iblk m c 3 t) t.val (y 0) (y 1) := by
  rw [outsAt0_B m c t h0]
  dsimp only
  frame_out
  simp only [read_unread_whole]
  canon_tiles x hy
  · exact (tile (kept m c t) (iblk m c 2 t) (iblk m c 3 t) t.val 256 (.inr rfl) _ _ _ (off t).2 x y hy0 hy1).2
  · exact (tile (kept m c t) (iblk m c 2 t) (iblk m c 3 t) t.val 0 (.inl rfl) _ _ _ (off t).1 x y (by omega) hy1).2

/-- The logits a point writes. -/
theorem out7 (c : Dev nD) (t : Fin cfg0.N) (h0 : ¬t.val % 66 = 0) :
    (outsAt0 m c t.val t.isLt).2.2.1 = PointBlock.logit (kept m c t) (iblk m c 2 t) (iblk m c 3 t) (iblk m c 4 t) t.val := by
  rw [outsAt0_B m c t h0]
  dsimp only
  frame_out
  simp only [read_unread_whole]
  funext y
  canon_tiles x hy
  · exact logit_tile (kept m c t) (iblk m c 2 t) (iblk m c 3 t) (iblk m c 4 t) t.val _ x y hy1
      fun k => (tile (kept m c t) (iblk m c 2 t) (iblk m c 3 t) t.val 256 (.inr rfl) _ _ _ (off t).2 (ix2 (x 0) k) (ix2 (y 0) k) hy0 rfl).2
  · exact logit_tile (kept m c t) (iblk m c 2 t) (iblk m c 3 t) (iblk m c 4 t) t.val _ x y hy1
      fun k => (tile (kept m c t) (iblk m c 2 t) (iblk m c 3 t) t.val 0 (.inl rfl) _ _ _ (off t).1 (ix2 (x 0) k) (ix2 (y 0) k) (by show (y 0).val = 0 + (x 0).val; omega) rfl).2

end Cert.OutIdeal.Hand

end
-- ==== Proof.Finite.lean ====
/- Finite values stay finite through a row's normalisation, and a finite token's product with the router's weights is not changed by splitting both. -/
module

public import proofs.«01_k».proof.Proof.RowBlock
public import Idealize.ShloMosaic.Lib.ValueIdx

@[expose] public section

noncomputable section

namespace Cert.RowNorm

open Idealize.ShloMosaic

/-- A row index below the number of latents, compared as words. -/
theorem select_latent {α : Type} (r : ℕ) (hr : r < 16640) (x y : α) :
    Scalar.select (IntOp.cmpi .slt (BitVec.ofNat 32 r) 16384#32) x y = if r < 16384 then x else y := by
  have e : (BitVec.ofNat 32 r).slt 16384#32 = decide (r < 16384) := by
    rw [BitVec.slt_eq_decide, BitVec.toInt_eq_toNat_of_lt (by rw [BitVec.toNat_ofNat]; omega), BitVec.toNat_ofNat, Nat.mod_eq_of_lt (by omega)]
    exact decide_eq_decide.mpr (by show (r : ℤ) < 16384 ↔ r < 16384; omega)
  unfold Scalar.select IntOp.cmpi
  simp only [e]
  by_cases h : r < 16384 <;> simp [h]

/-- Neither infinity. -/
def Finite (x : EReal) : Prop := ∃ r : ℝ, x = r

/-- Sums of finite numbers are finite. -/
theorem Finite.add {x y : EReal} : Finite x → Finite y → Finite (x + y) := fun ⟨a, ha⟩ ⟨b, hb⟩ => ⟨a + b, by rw [ha, hb, EReal.coe_add]⟩

/-- Differences of finite numbers are finite. -/
theorem Finite.sub {x y : EReal} : Finite x → Finite y → Finite (x - y) := fun ⟨a, ha⟩ ⟨b, hb⟩ => ⟨a - b, by rw [ha, hb, EReal.coe_sub]⟩

/-- Products of finite numbers are finite. -/
theorem Finite.mul {x y : EReal} : Finite x → Finite y → Finite (x * y) := fun ⟨a, ha⟩ ⟨b, hb⟩ => ⟨a * b, by rw [ha, hb, EReal.coe_mul]⟩

/-- A sum of real numbers among the extended reals. -/
theorem coe_sum {n : ℕ} (f : Fin n → ℝ) : (∑ k, (f k : EReal)) = ((∑ k, f k : ℝ) : EReal) :=
  (map_sum (⟨⟨Real.toEReal, EReal.coe_zero⟩, EReal.coe_add⟩ : ℝ →+ EReal) f Finset.univ).symm

/-- Finite sums of finite numbers are finite. -/
theorem Finite.sum {n : ℕ} {f : Fin n → EReal} (h : ∀ k, Finite (f k)) : Finite (∑ k, f k) := by
  choose g hg using h
  exact ⟨∑ k, g k, by rw [← coe_sum]; exact Finset.sum_congr rfl fun k _ => hg k⟩

/-- A finite number minus itself is zero. -/
theorem Finite.sub_self {x : EReal} : Finite x → x - x = 0 := fun ⟨a, ha⟩ => by rw [ha, ← EReal.coe_sub, _root_.sub_self, EReal.coe_zero]

/-- The number of lanes. -/
theorem lanes_eq : lanes = ((2048 : ℝ) : EReal) := by
  simp only [lanes, Ideal.ofBits, Ideal.ieee]
  simp
  rw [← EReal.coe_mul]
  norm_num

/-- The small number is positive. -/
theorem small_eq : ∃ r : ℝ, 0 < r ∧ small = (r : EReal) := by
  refine ⟨8796093 * (2 : ℝ) ^ (-43 : ℤ), by positivity, ?_⟩
  simp only [small, Ideal.ofBits, Ideal.ieee]
  simp

/-- The residual's factor is finite. -/
theorem alpha_finite : Finite alpha := by
  refine ⟨11863283 * (2 : ℝ) ^ (-23 : ℤ), ?_⟩
  simp only [alpha, Ideal.ofBits, Ideal.ieee]
  simp

/-- One is finite. -/
theorem unit_finite : Finite unit := by
  refine ⟨1, ?_⟩
  simp only [unit, Ideal.ofBits, Ideal.ieee]
  simp
  rw [← EReal.coe_mul]
  norm_num

/-- A real number divided by the number of lanes. -/
theorem div_lanes (x : ℝ) : Ideal.div (x : EReal) lanes = ((x / 2048 : ℝ) : EReal) := by
  rw [lanes_eq]
  unfold Ideal.div
  rw [if_neg (by norm_num), ← EReal.coe_inv, ← EReal.coe_mul, div_eq_mul_inv]

/-- A finite row's normalisation is finite. -/
theorem norm_finite {v : Fin 2048 → EReal} {g b : EReal} (hv : ∀ k, Finite (v k)) (hg : Finite g) (hb : Finite b) (e : Fin 2048) : Finite (norm v g b e) := by
  choose f hf using hv
  obtain rfl : v = fun k => (f k : EReal) := funext hf
  have hm : mean (fun k => (f k : EReal)) = (((∑ k, f k) / 2048 : ℝ) : EReal) := by
    unfold mean
    rw [coe_sum, div_lanes]
  have hc : ∀ k, centred (fun k => (f k : EReal)) k = ((f k - (∑ k, f k) / 2048 : ℝ) : EReal) := fun k => by
    unfold centred
    rw [hm, EReal.coe_sub]
  obtain ⟨s, hs, hs'⟩ := small_eq
  have hsc : Finite (scale fun k => (f k : EReal)) := by
    unfold scale
    simp only [hc, ← EReal.coe_mul]
    rw [coe_sum, div_lanes, hs', ← EReal.coe_add]
    have hpos : 0 < (∑ k, (f k - (∑ k, f k) / 2048) * (f k - (∑ k, f k) / 2048)) / 2048 + s :=
      add_pos_of_nonneg_of_pos (div_nonneg (Finset.sum_nonneg fun k _ => mul_self_nonneg _) (by norm_num)) hs
    generalize (∑ k, (f k - (∑ k, f k) / 2048) * (f k - (∑ k, f k) / 2048)) / 2048 + s = q at hpos ⊢
    refine ⟨(Real.sqrt q)⁻¹, ?_⟩
    show (if q < 0 then (⊥ : EReal) else if q = 0 then ⊤ else (((Real.sqrt q)⁻¹ : ℝ) : EReal)) = _
    rw [if_neg (not_lt.mpr hpos.le), if_neg hpos.ne']
  unfold norm
  exact ((Finite.mul ⟨_, hc e⟩ hsc).mul hg).add hb

/-- A finite row's token is finite. -/
theorem token_finite {v g b s h : Fin 2048 → EReal} (hv : ∀ k, Finite (v k)) (hg : ∀ k, Finite (g k)) (hb : ∀ k, Finite (b k))
    (hs : ∀ k, Finite (s k)) (hh : ∀ k, Finite (h k)) (e : Fin 2048) : Finite (token v g b s h e) :=
  ((norm_finite hv (hg e) (hb e) e).mul (unit_finite.add (hs e))).add (hh e)

/-- A finite update. -/
theorem update_finite {x y m : Fin 2048 → EReal} (hx : ∀ k, Finite (x k)) (hy : ∀ k, Finite (y k)) (hm : ∀ k, Finite (m k)) (e : Fin 2048) :
    Finite (update x y m e) := (alpha_finite.mul (hx e)).add ((hm e).mul (hy e))

/-- Tokens and weights split in two add up to their product. -/
theorem split_product {t w : Fin 2048 → EReal} (ht : ∀ k, Finite (t k)) (hw : ∀ k, Finite (w k)) :
    (∑ k, t k * w k) + (∑ k, t k * (w k - w k)) + ∑ k, (t k - t k) * w k = ∑ k, t k * w k := by
  simp only [fun k => (hw k).sub_self, fun k => (ht k).sub_self, mul_zero, zero_mul, Finset.sum_const_zero, add_zero]

end Cert.RowNorm

end
-- ==== Proof.OutRef.lean ====
/- The reference of the last layer's output projection, index by index. -/
module

public import proofs.«01_k».proof.Proof.Finite
public import proofs.«01_k».proof.Proof.Router
public import proofs.«01_k».proof.Proof.Gen.OutRefIdeal.Read
public import Idealize.ShloMosaic.Lib.Pipeline.ValueKit
public import Idealize.ShloMosaic.Lib.Pointwise
public import Idealize.ShloMosaic.Lib.ValueIdx
public import Idealize.ShloMosaic.Lib.KernelVsHost

@[expose] public section

set_option maxRecDepth 16384

noncomputable section

namespace Cert.OutRefIdeal.Hand

open Cert.OutRefIdeal Cert.OutRefIdeal.Read Idealize.ShloMosaic Idealize.ShloMosaic.TcCoe

variable (x0 : FVec Ideal S2x16640x4096 .bf16) (x1 : FVec Ideal S4096x2048 .f32) (x2 : FVec Ideal S2x16640x2048 .f32)
  (x3 : FVec Ideal S8x6x2048 .f32) (x4 x5 : FVec Ideal S2048 .f32) (x6 : FVec Ideal S2048x16 .f32)

/-- The product with the layer's output weights. -/
theorem product_apply (b : Fin 2) (r : Fin 16640) (e : Fin 2048) :
    (val_main_v1 (F := Ideal) x0 x1 (ix3 b r e) : EReal) = ∑ k : Fin 4096, x0 (ix3 b r k) * x1 (ix2 k e) := by
  rw [val_main_v1_apply]
  refine Finset.sum_congr rfl fun k _ => ?_
  rw [val_main_v0_apply]
  refine congr (congrArg HMul.hMul (congrArg x0 (funext fun a => ?_))) (congrArg x1 (funext fun a => ?_))
  · match a with
    | 0 => rfl
    | 1 => rfl
    | 2 => rfl
  · match a with
    | 0 => rfl
    | 1 => rfl

/-- The update's gate: the sequence's for the latents, the shared one for the context. -/
theorem gate_apply (b : Fin 2) (r : Fin 16640) (e : Fin 2048) (s : Fin 8) (hs : s.val = if r.val < 16384 then b.val else 2) :
    (val_main_v14 (F := Ideal) x3 (ix3 b r e) : EReal) = x3 (ix3 s 2 e) := by
  have he := e.isLt
  rw [val_main_v14_apply, val_main_call0_v0_apply, val_main_v7_apply, val_main_v6_apply, val_main_v4_apply, val_main_v5_apply, val_main_c_apply,
    val_main_call0_v1_apply, val_main_v10_apply, val_main_v9_apply, val_main_v8_apply, val_main_call0_v2_apply, val_main_v13_apply, val_main_v12_apply, val_main_v11_apply]
  refine (RowNorm.select_latent r.val r.isLt _ _).trans ?_
  by_cases h : r.val < 16384
  · rw [if_pos h] at hs ⊢
    refine congrArg x3 (funext fun a => ?_)
    match a with
    | 0 => exact Fin.ext (show (b.val * 2048 + e.val) / 2048 = s.val by omega)
    | 1 => rfl
    | 2 => exact Fin.ext (show (b.val * 2048 + e.val) % 2048 = e.val by omega)
  · rw [if_neg h] at hs ⊢
    refine congrArg x3 (funext fun a => ?_)
    match a with
    | 0 => exact Fin.ext hs.symm
    | 1 => rfl
    | 2 => exact Fin.ext (show e.val % 2048 = e.val by omega)

/-- The token's scale: the sequence's for the latents, the shared one for the context. -/
theorem scale_apply (b : Fin 2) (r : Fin 16640) (e : Fin 2048) (s : Fin 8) (hs : s.val = if r.val < 16384 then b.val else 2) :
    (val_main_v49 (F := Ideal) x3 (ix3 b r e) : EReal) = x3 (ix3 s 4 e) := by
  have he := e.isLt
  rw [val_main_v49_apply, val_main_call1_v0_apply, val_main_v42_apply, val_main_v41_apply, val_main_v39_apply, val_main_v40_apply, val_main_c_5_apply,
    val_main_call1_v1_apply, val_main_v45_apply, val_main_v44_apply, val_main_v43_apply, val_main_call1_v2_apply, val_main_v48_apply, val_main_v47_apply, val_main_v46_apply]
  refine (RowNorm.select_latent r.val r.isLt _ _).trans ?_
  by_cases h : r.val < 16384
  · rw [if_pos h] at hs ⊢
    refine congrArg x3 (funext fun a => ?_)
    match a with
    | 0 => exact Fin.ext (show (b.val * 2048 + e.val) / 2048 = s.val by omega)
    | 1 => rfl
    | 2 => exact Fin.ext (show (b.val * 2048 + e.val) % 2048 = e.val by omega)
  · rw [if_neg h] at hs ⊢
    refine congrArg x3 (funext fun a => ?_)
    match a with
    | 0 => exact Fin.ext hs.symm
    | 1 => rfl
    | 2 => exact Fin.ext (show e.val % 2048 = e.val by omega)

/-- The token's shift: the sequence's for the latents, the shared one for the context. -/
theorem shift_apply (b : Fin 2) (r : Fin 16640) (e : Fin 2048) (s : Fin 8) (hs : s.val = if r.val < 16384 then b.val else 2) :
    (val_main_v63 (F := Ideal) x3 (ix3 b r e) : EReal) = x3 (ix3 s 3 e) := by
  have he := e.isLt
  rw [val_main_v63_apply, val_main_call2_v0_apply, val_main_v56_apply, val_main_v55_apply, val_main_v53_apply, val_main_v54_apply, val_main_c_7_apply,
    val_main_call2_v1_apply, val_main_v59_apply, val_main_v58_apply, val_main_v57_apply, val_main_call2_v2_apply, val_main_v62_apply, val_main_v61_apply, val_main_v60_apply]
  refine (RowNorm.select_latent r.val r.isLt _ _).trans ?_
  by_cases h : r.val < 16384
  · rw [if_pos h] at hs ⊢
    refine congrArg x3 (funext fun a => ?_)
    match a with
    | 0 => exact Fin.ext (show (b.val * 2048 + e.val) / 2048 = s.val by omega)
    | 1 => rfl
    | 2 => exact Fin.ext (show (b.val * 2048 + e.val) % 2048 = e.val by omega)
  · rw [if_neg h] at hs ⊢
    refine congrArg x3 (funext fun a => ?_)
    match a with
    | 0 => exact Fin.ext hs.symm
    | 1 => rfl
    | 2 => exact Fin.ext (show e.val % 2048 = e.val by omega)

/-- The row before the normalisation. -/
def row (b : Fin 2) (r : Fin 16640) (s : Fin 8) : Fin 2048 → EReal :=
  RowNorm.update (fun e => x2 (ix3 b r e)) (fun e => val_main_v1 (F := Ideal) x0 x1 (ix3 b r e)) (fun e => x3 (ix3 s 2 e))

/-- The residual with the gated product added. -/
theorem row_apply (b : Fin 2) (r : Fin 16640) (e : Fin 2048) (s : Fin 8) (hs : s.val = if r.val < 16384 then b.val else 2) :
    (val_main_v16 (F := Ideal) x0 x1 x2 x3 (ix3 b r e) : EReal) = row x0 x1 x2 x3 b r s e := by
  rw [val_main_v16_apply, val_main_v3_apply, val_main_v2_apply, val_main_v15_apply, gate_apply x3 b r e s hs]
  rfl

/-- The zero a sum starts from. -/
theorem zero_add_const (x : EReal) : Ideal.ofBits .f32 0x00000000#32 + x = x := by
  simp [Ideal.ofBits, Ideal.ieee]

/-- A row minus its mean. -/
theorem centred_apply (b : Fin 2) (r : Fin 16640) (e : Fin 2048) :
    (val_main_v22 (F := Ideal) x0 x1 x2 x3 (ix3 b r e) : EReal)
      = RowNorm.centred (fun k => val_main_v16 (F := Ideal) x0 x1 x2 x3 (ix3 b r k)) e := by
  rw [val_main_v22_apply, val_main_v21_apply, val_main_v20_apply, val_main_v19_apply, val_main_v18_apply, val_main_v17_apply]
  have h : ∀ k, idx_main_v17 (idx_main_v18 (idx_main_v21 (ix3 b r e))) k = ix3 b r k := fun k => by
    funext a
    match a with
    | 0 => rfl
    | 1 => rfl
    | 2 => rfl
  simp only [h]
  show _ - Ideal.div (Ideal.ofBits .f32 0x00000000#32 + _) _ = _
  rw [zero_add_const]
  rfl

/-- The scale of a row. -/
theorem lift_apply (b : Fin 2) (r : Fin 16640) (e : Fin 2048) :
    (val_main_v31 (F := Ideal) x0 x1 x2 x3 (ix3 b r e) : EReal)
      = RowNorm.scale fun k => val_main_v16 (F := Ideal) x0 x1 x2 x3 (ix3 b r k) := by
  rw [val_main_v31_apply, val_main_v30_apply, val_main_v29_apply, val_main_v28_apply, val_main_v27_apply, val_main_v26_apply, val_main_v25_apply,
    val_main_v24_apply]
  have h : ∀ k, idx_main_v24 (idx_main_v25 (idx_main_v31 (ix3 b r e))) k = ix3 b r k := fun k => by
    funext a
    match a with
    | 0 => rfl
    | 1 => rfl
    | 2 => rfl
  simp only [h, val_main_v23_apply]
  have hc := fun k => centred_apply x0 x1 x2 x3 b r k
  unfold RowNorm.scale
  simp only [← hc]
  show Ideal.rsqrt (Ideal.div (Ideal.ofBits .f32 0x00000000#32 + _) _ + _) = _
  rw [zero_add_const]
  rfl

/-- The normalised rows. -/
theorem norm_apply (b : Fin 2) (r : Fin 16640) (e : Fin 2048) (s : Fin 8) (hs : s.val = if r.val < 16384 then b.val else 2) :
    (val_main_v38 (F := Ideal) x0 x1 x2 x3 x4 x5 (ix3 b r e) : EReal) = RowNorm.norm (row x0 x1 x2 x3 b r s) (x4 (ix1 e)) (x5 (ix1 e)) e := by
  rw [val_main_v38_apply, val_main_v37_apply, val_main_v36_apply, val_main_v35_apply, val_main_v34_apply, val_main_v33_apply, val_main_v32_apply]
  have h5 : idx_main_v33 (idx_main_v34 (ix3 b r e)) = ix1 e := by
    funext a
    match a with
    | 0 => rfl
  have h6 : idx_main_v36 (idx_main_v37 (ix3 b r e)) = ix1 e := by
    funext a
    match a with
    | 0 => rfl
  rw [h5, h6]
  refine Eq.trans ?_ (congrArg (fun v => RowNorm.norm v (x4 (ix1 e)) (x5 (ix1 e)) e) (funext fun k => row_apply x0 x1 x2 x3 b r k s hs))
  exact congr (congrArg HAdd.hAdd (congr (congrArg HMul.hMul (congr (congrArg HMul.hMul (centred_apply x0 x1 x2 x3 b r e)) (lift_apply x0 x1 x2 x3 b r e))) rfl)) rfl

/-- A row's token. -/
def tok (b : Fin 2) (r : Fin 16640) (s : Fin 8) : Fin 2048 → EReal :=
  RowNorm.token (row x0 x1 x2 x3 b r s) (fun e => x4 (ix1 e)) (fun e => x5 (ix1 e)) (fun e => x3 (ix3 s 4 e)) (fun e => x3 (ix3 s 3 e))

/-- The tokens. -/
theorem token_apply (b : Fin 2) (r : Fin 16640) (e : Fin 2048) (s : Fin 8) (hs : s.val = if r.val < 16384 then b.val else 2) :
    (val_main_v64 (F := Ideal) x0 x1 x2 x3 x4 x5 (ix3 b r e) : EReal) = tok x0 x1 x2 x3 x4 x5 b r s e := by
  rw [val_main_v64_apply, val_main_v52_apply, val_main_v51_apply, val_main_v50_apply, shift_apply x3 b r e s hs, scale_apply x3 b r e s hs,
    norm_apply x0 x1 x2 x3 x4 x5 b r e s hs]
  rfl

/-- The normalised rows of both sequences, stacked. -/
theorem stacked_norm_apply (b : Fin 2) (r : Fin 16640) (e : Fin 2048) (s : Fin 8) (hs : s.val = if r.val < 16384 then b.val else 2)
    (i : S33280x2048.Idx) (h0 : (i 0).val = b.val * 16640 + r.val) (h1 : (i 1).val = e.val) :
    (val_main_v68 (F := Ideal) x0 x1 x2 x3 x4 x5 i : EReal) = RowNorm.norm (row x0 x1 x2 x3 b r s) (x4 (ix1 e)) (x5 (ix1 e)) e := by
  have he := e.isLt
  rw [val_main_v68_apply]
  refine Eq.trans (congrArg _ (funext fun a => ?_)) (norm_apply x0 x1 x2 x3 x4 x5 b r e s hs)
  match a with
  | 0 => exact Fin.ext (show ((i 0).val * 2048 + (i 1).val) / 34078720 = b.val by omega)
  | 1 => exact Fin.ext (show ((i 0).val * 2048 + (i 1).val) / 2048 % 16640 = r.val by omega)
  | 2 => exact Fin.ext (show ((i 0).val * 2048 + (i 1).val) % 2048 = e.val by omega)

/-- The tokens of both sequences, stacked. -/
theorem stacked_token_apply (b : Fin 2) (r : Fin 16640) (e : Fin 2048) (s : Fin 8) (hs : s.val = if r.val < 16384 then b.val else 2)
    (i : S33280x2048.Idx) (h0 : (i 0).val = b.val * 16640 + r.val) (h1 : (i 1).val = e.val) :
    (val_main_v65 (F := Ideal) x0 x1 x2 x3 x4 x5 i : EReal) = tok x0 x1 x2 x3 x4 x5 b r s e := by
  have he := e.isLt
  rw [val_main_v65_apply]
  refine Eq.trans (congrArg _ (funext fun a => ?_)) (token_apply x0 x1 x2 x3 x4 x5 b r e s hs)
  match a with
  | 0 => exact Fin.ext (show ((i 0).val * 2048 + (i 1).val) / 34078720 = b.val by omega)
  | 1 => exact Fin.ext (show ((i 0).val * 2048 + (i 1).val) / 2048 % 16640 = r.val by omega)
  | 2 => exact Fin.ext (show ((i 0).val * 2048 + (i 1).val) % 2048 = e.val by omega)

/-- The stored tokens. -/
theorem stored_token_apply (i : S33280x2048.Idx) :
    (val_main_v69 (F := Ideal) x0 x1 x2 x3 x4 x5 i : EReal) = val_main_v65 (F := Ideal) x0 x1 x2 x3 x4 x5 i := by
  rw [val_main_v69_apply]
  rfl

/-- The router's logits: the tokens' products with the router's columns, then zero columns. -/
theorem logit_apply (b : Fin 2) (r : Fin 16640) (s : Fin 8) (hs : s.val = if r.val < 16384 then b.val else 2)
    (i : S33280x128.Idx) (h0 : (i 0).val = b.val * 16640 + r.val) :
    (val_main_v67 (F := Ideal) x0 x1 x2 x3 x4 x5 x6 i : EReal)
      = ∑ k : Fin 2048, tok x0 x1 x2 x3 x4 x5 b r s k * Router.rpad x6 (ix2 k (i 1)) := by
  unfold val_main_v67 Router.rpad
  by_cases h : (i 1).val < 16
  · refine Eq.trans (pad_apply_of_inside _ _ _ _ _ _ _ i (ix2 (i 0) (⟨(i 1).val, h⟩ : Fin 16)) (fun a => ?_)) ?_
    rotate_left
    · refine Eq.trans (val_main_v66_apply _ _ _ _ _ _ _ _) ?_
      refine Finset.sum_congr rfl fun k _ => ?_
      rw [dif_pos (show ((ix2 k (i 1) : Router.S2048x128.Idx) 1).val < 16 from h)]
      refine congr (congrArg HMul.hMul (stacked_token_apply x0 x1 x2 x3 x4 x5 b r k s hs _ h0 rfl)) (congrArg x6 (funext fun a => ?_))
      match a with
      | 0 => rfl
      | 1 => rfl
    · match a with
      | 0 => show (i 0).val = 0 + (i 0).val * (0 + 1); omega
      | 1 => show (i 1).val = 0 + (i 1).val * (0 + 1); omega
  · refine Eq.trans (pad_apply_of_not_inside _ _ _ _ _ _ _ i 1 (fun hin => h (by
      have : ((i 1).val - 0) / (0 + 1) < 16 := hin.2.2
      omega))) ?_
    have e : ∀ k : Fin 2048, (if h : ((ix2 k (i 1) : Router.S2048x128.Idx) 1).val < 16 then x6 (ix2 ((ix2 k (i 1) : Router.S2048x128.Idx) 0) ⟨_, h⟩) else (0 : EReal)) = 0 :=
      fun k => dif_neg h
    simp only [e, mul_zero, Finset.sum_const_zero]
    show FloatOps.sitofp (F := Ideal) .f32 (0#32) = 0
    simp [FloatOps.sitofp]

end Cert.OutRefIdeal.Hand

end
-- ==== Proof.Table.lean ====
/-
  The table of parameters a call that ends in a layer norm reads: for every sequence eight rows for its latents and
  eight for its context, made from the modulation vectors and the norm's gain and bias.
-/
module

public import Idealize.ShloMosaic.Lib.Pipeline.ValueKit
public import Idealize.ShloMosaic.Lib.Pointwise
public import Idealize.ShloMosaic.Lib.ValueIdx
public import Idealize.ShloMosaic.Lib.KernelVsHost

@[expose] public section

set_option maxRecDepth 16384

noncomputable section

namespace Cert.Table

open Idealize.ShloMosaic

abbrev S1x2048 : Shape := ⟨2, ![1, 2048]⟩
abbrev S2x2048 : Shape := ⟨2, ![2, 2048]⟩
abbrev S2048 : Shape := ⟨1, ![2048]⟩
abbrev S1x2x2048 : Shape := ⟨3, ![1, 2, 2048]⟩
abbrev S2x2x2048 : Shape := ⟨3, ![2, 2, 2048]⟩
abbrev S2x3x2048 : Shape := ⟨3, ![2, 3, 2048]⟩
abbrev S2x6x2048 : Shape := ⟨3, ![2, 6, 2048]⟩
abbrev S2x8x2048 : Shape := ⟨3, ![2, 8, 2048]⟩
abbrev S2x1x8x2048 : Shape := ⟨4, ![2, 1, 8, 2048]⟩
abbrev S2x2x8x2048 : Shape := ⟨4, ![2, 2, 8, 2048]⟩
abbrev S4x8x2048 : Shape := ⟨3, ![4, 8, 2048]⟩

/-- Three, two and three rows make eight. -/
theorem cat_three : Shape.Concatenates [S2x3x2048, S2x2x2048, S2x3x2048] S2x8x2048 1 := by decide

/-- The latents' rows and the context's stand side by side. -/
theorem cat_pair : Shape.Concatenates [S2x1x8x2048, S2x1x8x2048] S2x2x8x2048 1 := by decide

/-- The gain and the bias make two rows. -/
theorem cat_gb : Shape.Concatenates [S1x2048, S1x2048] S2x2048 0 := by decide

/-- Six rows and two make eight. -/
theorem cat_six : Shape.Concatenates [S2x6x2048, S2x2x2048] S2x8x2048 1 := by decide

/-- Three rows, two rows and three more rows stacked. -/
def cat3 (a : S2x3x2048.Idx → EReal) (l : S2x2x2048.Idx → EReal) (z : S2x3x2048.Idx → EReal) : S2x8x2048.Idx → EReal :=
  concatenate S2x8x2048 1 [⟨S2x3x2048, a⟩, ⟨S2x2x2048, l⟩, ⟨S2x3x2048, z⟩] cat_three

/-- The first three rows of the stack. -/
theorem cat3_fst (a : S2x3x2048.Idx → EReal) (l : S2x2x2048.Idx → EReal) (z : S2x3x2048.Idx → EReal) (b : Fin 2) (j : Fin 3) (j' : Fin 8)
    (hj : j'.val = j.val) (e : Fin 2048) : cat3 a l z (ix3 b j' e) = a (ix3 b j e) := by
  refine concatenate_apply_piece (t := S2x8x2048) 1 _ _ _ 0 (by simp) S2x3x2048 a rfl rfl 0 rfl _ (fun x hx => ?_) ?_
  · match x with
    | 0 => rfl
    | 1 => exact absurd rfl hx
    | 2 => rfl
  · show 0 + j.val = j'.val
    omega

/-- The two rows after them. -/
theorem cat3_snd (a : S2x3x2048.Idx → EReal) (l : S2x2x2048.Idx → EReal) (z : S2x3x2048.Idx → EReal) (b : Fin 2) (j : Fin 2) (j' : Fin 8)
    (hj : j'.val = 3 + j.val) (e : Fin 2048) : cat3 a l z (ix3 b j' e) = l (ix3 b j e) := by
  refine concatenate_apply_piece (t := S2x8x2048) 1 _ _ _ 1 (by simp) S2x2x2048 l rfl rfl 3 rfl _ (fun x hx => ?_) ?_
  · match x with
    | 0 => rfl
    | 1 => exact absurd rfl hx
    | 2 => rfl
  · show 3 + j.val = j'.val
    omega

/-- The latents' rows and the context's, one sequence after the other. -/
def stack (a b : S2x8x2048.Idx → EReal) : S4x8x2048.Idx → EReal :=
  shapeCast S4x8x2048 (concatenate S2x2x8x2048 1
    [⟨S2x1x8x2048, broadcastInDim S2x1x8x2048 ![0, 2, 3] (by decide) a⟩, ⟨S2x1x8x2048, broadcastInDim S2x1x8x2048 ![0, 2, 3] (by decide) b⟩] cat_pair) (by decide)

/-- The latents' rows of a sequence. -/
theorem stack_lat (x y : S2x8x2048.Idx → EReal) (b : Fin 2) (p : Fin 4) (hp : p.val = 2 * b.val) (j : Fin 8) (e : Fin 2048) :
    stack x y (ix3 p j e) = x (ix3 b j e) := by
  unfold stack
  refine (shapeCast_apply _ _ _ (ix4 b 0 j e) ?_).trans ?_
  · rw [Shape.rowMajor_val_three, Shape.rowMajor_val_four]
    show ((b.val * 2 + 0) * 8 + j.val) * 2048 + e.val = (p.val * 8 + j.val) * 2048 + e.val
    omega
  · refine (concatenate_apply_piece (t := S2x2x8x2048) 1 _ _ _ 0 (by simp) S2x1x8x2048 _ rfl rfl 0 rfl (ix4 b 0 j e) (fun a ha => ?_) ?_).trans ?_
    · match a with
      | 0 => rfl
      | 1 => exact absurd rfl ha
      | 2 => rfl
      | 3 => rfl
    · rfl
    · refine broadcastInDim_apply _ _ _ _ _ fun a => ?_
      match a with
      | 0 => rfl
      | 1 => rfl
      | 2 => rfl

/-- The context's rows of a sequence. -/
theorem stack_ctx (x y : S2x8x2048.Idx → EReal) (b : Fin 2) (p : Fin 4) (hp : p.val = 2 * b.val + 1) (j : Fin 8) (e : Fin 2048) :
    stack x y (ix3 p j e) = y (ix3 b j e) := by
  unfold stack
  refine (shapeCast_apply _ _ _ (ix4 b 1 j e) ?_).trans ?_
  · rw [Shape.rowMajor_val_three, Shape.rowMajor_val_four]
    show ((b.val * 2 + 1) * 8 + j.val) * 2048 + e.val = (p.val * 8 + j.val) * 2048 + e.val
    omega
  · refine (concatenate_apply_piece (t := S2x2x8x2048) 1 _ _ _ 1 (by simp) S2x1x8x2048 _ rfl rfl 1 rfl (ix4 b 0 j e) (fun a ha => ?_) ?_).trans ?_
    · match a with
      | 0 => rfl
      | 1 => exact absurd rfl ha
      | 2 => rfl
      | 3 => rfl
    · rfl
    · refine broadcastInDim_apply _ _ _ _ _ fun a => ?_
      match a with
      | 0 => rfl
      | 1 => rfl
      | 2 => rfl

/-- The packed table of eight rows a sequence: three for the latents, three for the context, the gain and the bias. -/
def pack (p : S2x8x2048.Idx → EReal) (z : S2x3x2048.Idx → EReal) : S4x8x2048.Idx → EReal :=
  stack (cat3 (extractStridedSlice S2x3x2048 ![0, 0, 0] p (by decide)) (extractStridedSlice S2x2x2048 ![0, 6, 0] p (by decide)) z)
    (cat3 (extractStridedSlice S2x3x2048 ![0, 3, 0] p (by decide)) (extractStridedSlice S2x2x2048 ![0, 6, 0] p (by decide)) z)

/-- Six rows a sequence, then the gain and the bias. -/
def withNorm (p : S2x6x2048.Idx → EReal) (g b : S2048.Idx → EReal) : S2x8x2048.Idx → EReal :=
  concatenate S2x8x2048 1 [⟨S2x6x2048, p⟩, ⟨S2x2x2048, broadcastInDim S2x2x2048 ![0, 1, 2] (by decide)
    (broadcastInDim S1x2x2048 ![1, 2] (by decide) (concatenate S2x2048 0
      [⟨S1x2048, broadcastInDim S1x2048 ![1] (by decide) g⟩, ⟨S1x2048, broadcastInDim S1x2048 ![1] (by decide) b⟩] cat_gb))⟩] cat_six

/-- The six rows. -/
theorem withNorm_row (p : S2x6x2048.Idx → EReal) (g b : S2048.Idx → EReal) (s : Fin 2) (j : Fin 6) (j' : Fin 8) (hj : j'.val = j.val) (e : Fin 2048) :
    withNorm p g b (ix3 s j' e) = p (ix3 s j e) := by
  unfold withNorm
  refine concatenate_apply_piece (t := S2x8x2048) 1 _ _ _ 0 (by simp) S2x6x2048 p rfl rfl 0 rfl _ (fun x hx => ?_) ?_
  · match x with
    | 0 => rfl
    | 1 => exact absurd rfl hx
    | 2 => rfl
  · show 0 + j.val = j'.val
    omega

/-- The gain and the bias. -/
theorem withNorm_gb (p : S2x6x2048.Idx → EReal) (g b : S2048.Idx → EReal) (s : Fin 2) (e : Fin 2048) :
    withNorm p g b (ix3 s 6 e) = g (ix1 e) ∧ withNorm p g b (ix3 s 7 e) = b (ix1 e) := by
  unfold withNorm
  constructor
  · refine (concatenate_apply_piece (t := S2x8x2048) 1 _ _ _ 1 (by simp) S2x2x2048 _ rfl rfl 6 rfl (ix3 s 0 e) (fun x hx => ?_) rfl).trans ?_
    · match x with
      | 0 => rfl
      | 1 => exact absurd rfl hx
      | 2 => rfl
    · pointwise
  · refine (concatenate_apply_piece (t := S2x8x2048) 1 _ _ _ 1 (by simp) S2x2x2048 _ rfl rfl 6 rfl (ix3 s 1 e) (fun x hx => ?_) rfl).trans ?_
    · match x with
      | 0 => rfl
      | 1 => exact absurd rfl hx
      | 2 => rfl
    · pointwise

/-- A latent row of the packed table. -/
theorem pack_lat (p : S2x6x2048.Idx → EReal) (g b : S2048.Idx → EReal) (z : S2x3x2048.Idx → EReal) (s : Fin 2) (q : Fin 4) (hq : q.val = 2 * s.val)
    (j : Fin 3) (e : Fin 2048) : pack (withNorm p g b) z (ix3 q ⟨j.val, by omega⟩ e) = p (ix3 s ⟨j.val, by omega⟩ e) := by
  unfold pack
  rw [stack_lat _ _ s q hq, cat3_fst _ _ _ s j _ rfl]
  refine Eq.trans (congrArg (withNorm p g b) (?_ : _ = ix3 s ⟨j.val, by omega⟩ e)) (withNorm_row p g b s ⟨j.val, by omega⟩ _ rfl e)
  funext a
  match a with
  | 0 => exact Fin.ext (Nat.zero_add _)
  | 1 => exact Fin.ext (Nat.zero_add _)
  | 2 => exact Fin.ext (Nat.zero_add _)

/-- A context row of the packed table. -/
theorem pack_ctx (p : S2x6x2048.Idx → EReal) (g b : S2048.Idx → EReal) (z : S2x3x2048.Idx → EReal) (s : Fin 2) (q : Fin 4) (hq : q.val = 2 * s.val + 1)
    (j : Fin 3) (e : Fin 2048) : pack (withNorm p g b) z (ix3 q ⟨j.val, by omega⟩ e) = p (ix3 s ⟨3 + j.val, by omega⟩ e) := by
  unfold pack
  rw [stack_ctx _ _ s q hq, cat3_fst _ _ _ s j _ rfl]
  refine Eq.trans (congrArg (withNorm p g b) (?_ : _ = ix3 s ⟨3 + j.val, by omega⟩ e)) (withNorm_row p g b s ⟨3 + j.val, by omega⟩ _ rfl e)
  funext a
  match a with
  | 0 => exact Fin.ext (Nat.zero_add _)
  | 1 => rfl
  | 2 => exact Fin.ext (Nat.zero_add _)

/-- The gain and the bias in the packed table. -/
theorem pack_gb (p : S2x6x2048.Idx → EReal) (g b : S2048.Idx → EReal) (z : S2x3x2048.Idx → EReal) (q : Fin 4) (e : Fin 2048) :
    pack (withNorm p g b) z (ix3 q 3 e) = g (ix1 e) ∧ pack (withNorm p g b) z (ix3 q 4 e) = b (ix1 e) := by
  have key : ∀ (s : Fin 2) (j : Fin 2) (k : Fin 8), k.val = 6 + j.val →
      extractStridedSlice S2x2x2048 ![0, 6, 0] (withNorm p g b) (by decide) (ix3 s j e) = withNorm p g b (ix3 s k e) := fun s j k hk => by
    refine congrArg (withNorm p g b) (funext fun a => ?_)
    match a with
    | 0 => exact Fin.ext (Nat.zero_add _)
    | 1 => exact Fin.ext hk.symm
    | 2 => exact Fin.ext (Nat.zero_add _)
  unfold pack
  rcases (by omega : q.val = 2 * (q.val / 2) ∨ q.val = 2 * (q.val / 2) + 1) with h | h
  · rw [stack_lat _ _ ⟨q.val / 2, by omega⟩ q h, stack_lat _ _ ⟨q.val / 2, by omega⟩ q h, cat3_snd _ _ _ _ 0 3 rfl, cat3_snd _ _ _ _ 1 4 rfl]
    exact ⟨(key _ 0 6 rfl).trans (withNorm_gb p g b _ e).1, (key _ 1 7 rfl).trans (withNorm_gb p g b _ e).2⟩
  · rw [stack_ctx _ _ ⟨q.val / 2, by omega⟩ q h, stack_ctx _ _ ⟨q.val / 2, by omega⟩ q h, cat3_snd _ _ _ _ 0 3 rfl, cat3_snd _ _ _ _ 1 4 rfl]
    exact ⟨(key _ 0 6 rfl).trans (withNorm_gb p g b _ e).1, (key _ 1 7 rfl).trans (withNorm_gb p g b _ e).2⟩

end Cert.Table

end
-- ==== Proof.ModRows.lean ====
/- The six modulation rows a sequence's table begins with: three of the sequence, for its latents, and three that all sequences share, for the context. -/
module

public import proofs.«01_k».proof.Proof.Table

@[expose] public section

set_option maxRecDepth 16384

noncomputable section

namespace Cert.Table

open Idealize.ShloMosaic

abbrev S1x1x2048 : Shape := ⟨3, ![1, 1, 2048]⟩
abbrev S2x1x2048 : Shape := ⟨3, ![2, 1, 2048]⟩
abbrev S3x2048 : Shape := ⟨2, ![3, 2048]⟩
abbrev S1x3x2048 : Shape := ⟨3, ![1, 3, 2048]⟩
abbrev S8x6x2048 : Shape := ⟨3, ![8, 6, 2048]⟩

/-- Three rows of each sequence stand side by side. -/
theorem cat_seq : Shape.Concatenates [S2x1x2048, S2x1x2048, S2x1x2048] S2x3x2048 1 := by decide

/-- Three shared rows stand one below the other. -/
theorem cat_shared : Shape.Concatenates [S1x2048, S1x2048, S1x2048] S3x2048 0 := by decide

/-- Three rows and three make six. -/
theorem cat_both : Shape.Concatenates [S2x3x2048, S2x3x2048] S2x6x2048 1 := by decide

/-- One modulation row of each sequence. -/
def seqRow (k : ℕ) (h : S8x6x2048.Slices ![0, k, 0] S2x1x2048) (x : S8x6x2048.Idx → EReal) : S2x1x2048.Idx → EReal :=
  broadcastInDim S2x1x2048 ![0, 2] (by decide) (shapeCast S2x2048 (extractStridedSlice S2x1x2048 ![0, k, 0] x h) (by decide))

/-- One modulation row of the context. -/
def sharedRow (k : ℕ) (h : S8x6x2048.Slices ![2, k, 0] S1x1x2048) (x : S8x6x2048.Idx → EReal) : S1x2048.Idx → EReal :=
  broadcastInDim S1x2048 ![1] (by decide) (shapeCast S2048 (extractStridedSlice S1x1x2048 ![2, k, 0] x h) (by decide))

/-- A sequence's row is its modulation vector. -/
theorem seqRow_apply (k : ℕ) (h : S8x6x2048.Slices ![0, k, 0] S2x1x2048) (x : S8x6x2048.Idx → EReal) (s : Fin 2) (s' : Fin 8) (hs : s'.val = s.val)
    (k' : Fin 6) (hk : k'.val = k) (e : Fin 2048) : seqRow k h x (ix3 s 0 e) = x (ix3 s' k' e) := by
  unfold seqRow
  refine (broadcastInDim_apply _ _ _ _ (ix2 s e) fun a => ?_).trans ?_
  · match a with
    | 0 => rfl
    | 1 => rfl
  refine (shapeCast_apply _ _ _ (ix3 s 0 e) ?_).trans ?_
  · rw [Shape.rowMajor_val_three, Shape.rowMajor_val_two]
    show (s.val * 1 + 0) * 2048 + e.val = s.val * 2048 + e.val
    omega
  refine congrArg x (funext fun a => ?_)
  match a with
  | 0 => exact Fin.ext ((Nat.zero_add _).trans hs.symm)
  | 1 => exact Fin.ext hk.symm
  | 2 => exact Fin.ext (Nat.zero_add _)

/-- A shared row is its modulation vector. -/
theorem sharedRow_apply (k : ℕ) (h : S8x6x2048.Slices ![2, k, 0] S1x1x2048) (x : S8x6x2048.Idx → EReal)
    (k' : Fin 6) (hk : k'.val = k) (e : Fin 2048) : sharedRow k h x (ix2 0 e) = x (ix3 2 k' e) := by
  unfold sharedRow
  refine (broadcastInDim_apply _ _ _ _ (ix1 e) fun a => ?_).trans ?_
  · match a with
    | 0 => rfl
  refine (shapeCast_apply _ _ _ (ix3 0 0 e) ?_).trans ?_
  · rw [Shape.rowMajor_val_three, Shape.rowMajor_val_one]
    show (0 * 1 + 0) * 2048 + e.val = e.val
    omega
  refine congrArg x (funext fun a => ?_)
  match a with
  | 0 => rfl
  | 1 => exact Fin.ext hk.symm
  | 2 => exact Fin.ext (Nat.zero_add _)

/-- Three rows of each sequence. -/
def seqRows (a b c : S2x1x2048.Idx → EReal) : S2x3x2048.Idx → EReal :=
  concatenate S2x3x2048 1 [⟨S2x1x2048, a⟩, ⟨S2x1x2048, b⟩, ⟨S2x1x2048, c⟩] cat_seq

/-- They are the three rows. -/
theorem seqRows_apply (a b c : S2x1x2048.Idx → EReal) (s : Fin 2) (e : Fin 2048) :
    seqRows a b c (ix3 s 0 e) = a (ix3 s 0 e) ∧ seqRows a b c (ix3 s 1 e) = b (ix3 s 0 e) ∧ seqRows a b c (ix3 s 2 e) = c (ix3 s 0 e) := by
  unfold seqRows
  refine ⟨concatenate_apply_piece (t := S2x3x2048) 1 _ _ _ 0 (by simp) S2x1x2048 _ rfl rfl 0 rfl (ix3 s 0 e) (fun x hx => ?_) rfl,
    concatenate_apply_piece (t := S2x3x2048) 1 _ _ _ 1 (by simp) S2x1x2048 _ rfl rfl 1 rfl (ix3 s 0 e) (fun x hx => ?_) rfl,
    concatenate_apply_piece (t := S2x3x2048) 1 _ _ _ 2 (by simp) S2x1x2048 _ rfl rfl 2 rfl (ix3 s 0 e) (fun x hx => ?_) rfl⟩
  all_goals
    match x with
    | 0 => rfl
    | 1 => exact absurd rfl hx
    | 2 => rfl

/-- Three shared rows, repeated for each sequence. -/
def sharedRows (a b c : S1x2048.Idx → EReal) : S2x3x2048.Idx → EReal :=
  broadcastInDim S2x3x2048 ![0, 1, 2] (by decide) (broadcastInDim S1x3x2048 ![1, 2] (by decide)
    (concatenate S3x2048 0 [⟨S1x2048, a⟩, ⟨S1x2048, b⟩, ⟨S1x2048, c⟩] cat_shared))

/-- A repeated row is the row. -/
theorem sharedRows_read (v : S3x2048.Idx → EReal) (s : Fin 2) (j : Fin 3) (e : Fin 2048) :
    broadcastInDim S2x3x2048 ![0, 1, 2] (by decide) (broadcastInDim S1x3x2048 ![1, 2] (by decide) v) (ix3 s j e) = v (ix2 j e) := by
  refine (broadcastInDim_apply _ _ _ _ (ix3 0 j e) fun a => ?_).trans (broadcastInDim_apply _ _ _ _ (ix2 j e) fun a => ?_)
  · match a with
    | 0 => rfl
    | 1 => rfl
    | 2 => rfl
  · match a with
    | 0 => rfl
    | 1 => rfl

/-- They are the three rows. -/
theorem sharedRows_apply (a b c : S1x2048.Idx → EReal) (s : Fin 2) (e : Fin 2048) :
    sharedRows a b c (ix3 s 0 e) = a (ix2 0 e) ∧ sharedRows a b c (ix3 s 1 e) = b (ix2 0 e) ∧ sharedRows a b c (ix3 s 2 e) = c (ix2 0 e) := by
  unfold sharedRows
  refine ⟨(sharedRows_read _ s 0 e).trans (concatenate_apply_piece (t := S3x2048) 0 _ _ _ 0 (by simp) S1x2048 _ rfl rfl 0 rfl (ix2 0 e) (fun x hx => ?_) rfl),
    (sharedRows_read _ s 1 e).trans (concatenate_apply_piece (t := S3x2048) 0 _ _ _ 1 (by simp) S1x2048 _ rfl rfl 1 rfl (ix2 0 e) (fun x hx => ?_) rfl),
    (sharedRows_read _ s 2 e).trans (concatenate_apply_piece (t := S3x2048) 0 _ _ _ 2 (by simp) S1x2048 _ rfl rfl 2 rfl (ix2 0 e) (fun x hx => ?_) rfl)⟩
  all_goals
    match x with
    | 0 => exact absurd rfl hx
    | 1 => rfl

/-- The latents' rows and the context's. -/
def bothRows (a b : S2x3x2048.Idx → EReal) : S2x6x2048.Idx → EReal :=
  concatenate S2x6x2048 1 [⟨S2x3x2048, a⟩, ⟨S2x3x2048, b⟩] cat_both

/-- The first three rows and the last three. -/
theorem bothRows_apply (a b : S2x3x2048.Idx → EReal) (s : Fin 2) (j : Fin 3) (e : Fin 2048) :
    bothRows a b (ix3 s ⟨j.val, by omega⟩ e) = a (ix3 s j e) ∧ bothRows a b (ix3 s ⟨3 + j.val, by omega⟩ e) = b (ix3 s j e) := by
  unfold bothRows
  refine ⟨concatenate_apply_piece (t := S2x6x2048) 1 _ _ _ 0 (by simp) S2x3x2048 _ rfl rfl 0 rfl (ix3 s j e) (fun x hx => ?_) (Nat.zero_add _),
    concatenate_apply_piece (t := S2x6x2048) 1 _ _ _ 1 (by simp) S2x3x2048 _ rfl rfl 3 rfl (ix3 s j e) (fun x hx => ?_) rfl⟩
  all_goals
    match x with
    | 0 => rfl
    | 1 => exact absurd rfl hx
    | 2 => rfl

/-- The six modulation rows: the update's gate, the token's scale and shift, for the latents and for the context. -/
def modRows (x : S8x6x2048.Idx → EReal) : S2x6x2048.Idx → EReal :=
  bothRows (seqRows (seqRow 2 (by decide) x) (seqRow 4 (by decide) x) (seqRow 3 (by decide) x))
    (sharedRows (sharedRow 2 (by decide) x) (sharedRow 4 (by decide) x) (sharedRow 3 (by decide) x))

/-- The table those rows, a gain and a bias pack into. -/
def modTable (x : S8x6x2048.Idx → EReal) (g b : S2048.Idx → EReal) : S4x8x2048.Idx → EReal :=
  pack (withNorm (modRows x) g b) (fun _ => Ideal.ofBits .f32 0x00000000#32)

/-- A part's rows of the table: the part's modulation vectors, the gain and the bias. A part is a sequence's latents or its context. -/
theorem modTable_apply (x : S8x6x2048.Idx → EReal) (g b : S2048.Idx → EReal) (q : Fin 4) (s : Fin 8)
    (hs : s.val = if q.val % 2 = 0 then q.val / 2 else 2) (e : Fin 2048) :
    modTable x g b (ix3 q 0 e) = x (ix3 s 2 e) ∧ modTable x g b (ix3 q 1 e) = x (ix3 s 4 e) ∧ modTable x g b (ix3 q 2 e) = x (ix3 s 3 e)
      ∧ modTable x g b (ix3 q 3 e) = g (ix1 e) ∧ modTable x g b (ix3 q 4 e) = b (ix1 e) := by
  unfold modTable
  have hgb := pack_gb (modRows x) g b (fun _ => Ideal.ofBits .f32 0x00000000#32) q e
  have hl := fun t : Fin 2 => seqRows_apply (seqRow 2 (by decide) x) (seqRow 4 (by decide) x) (seqRow 3 (by decide) x) t e
  have hc := fun t : Fin 2 => sharedRows_apply (sharedRow 2 (by decide) x) (sharedRow 4 (by decide) x) (sharedRow 3 (by decide) x) t e
  have hb := fun (t : Fin 2) (j : Fin 3) => bothRows_apply (seqRows (seqRow 2 (by decide) x) (seqRow 4 (by decide) x) (seqRow 3 (by decide) x))
    (sharedRows (sharedRow 2 (by decide) x) (sharedRow 4 (by decide) x) (sharedRow 3 (by decide) x)) t j e
  by_cases h : q.val % 2 = 0
  · rw [if_pos h] at hs
    have hq : q.val = 2 * (⟨q.val / 2, by omega⟩ : Fin 2).val := by show q.val = 2 * (q.val / 2); omega
    have hp := fun j => (pack_lat (modRows x) g b (fun _ => Ideal.ofBits .f32 0x00000000#32) _ q hq j e).trans (hb _ j).1
    exact ⟨(hp 0).trans ((hl _).1.trans (seqRow_apply 2 _ x _ s hs 2 rfl e)), (hp 1).trans ((hl _).2.1.trans (seqRow_apply 4 _ x _ s hs 4 rfl e)),
      (hp 2).trans ((hl _).2.2.trans (seqRow_apply 3 _ x _ s hs 3 rfl e)), hgb⟩
  · rw [if_neg h] at hs
    have e2 : s = 2 := Fin.ext hs
    subst e2
    have hq : q.val = 2 * (⟨q.val / 2, by omega⟩ : Fin 2).val + 1 := by show q.val = 2 * (q.val / 2) + 1; omega
    have hp := fun j => (pack_ctx (modRows x) g b (fun _ => Ideal.ofBits .f32 0x00000000#32) _ q hq j e).trans (hb _ j).2
    exact ⟨(hp 0).trans ((hc _).1.trans (sharedRow_apply 2 _ x 2 rfl e)), (hp 1).trans ((hc _).2.1.trans (sharedRow_apply 4 _ x 4 rfl e)),
      (hp 2).trans ((hc _).2.2.trans (sharedRow_apply 3 _ x 3 rfl e)), hgb⟩

end Cert.Table

end
-- ==== Proof.OutValue.lean ====
/- The last layer's output projection: the operands the kernel finds, and its three results as the reference's. -/
module

public import proofs.«01_k».proof.Proof.OutPoint
public import proofs.«01_k».proof.Proof.OutRef
public import proofs.«01_k».proof.Proof.ModRows

@[expose] public section

set_option maxRecDepth 16384

noncomputable section

namespace Cert.OutIdeal.Hand

open Cert.OutIdeal Cert.OutIdeal.Gen Idealize.ShloMosaic Idealize.ShloMosaic.TcCoe Idealize.SL.Sem
open Idealize.ShloMosaic.Pipeline (Dat)
open Cert.OutRefIdeal.Read

variable (m : (ℓ : Loc nD τ sig) → Buf (Elt Ideal) ℓ) (ρ : Dev nD → PrngReg)

/-- The table the kernel finds in its fourth operand. -/
theorem V_tab (c : Dev nD) : V m c main_v45 = Table.modTable (m ((c : Thread nD τ).loc main_arg3)) (m ((c : Thread nD τ).loc main_arg4))
    (m ((c : Thread nD τ).loc main_arg5)) := by
  chain_rfl

/-- The kernel finds both sequences' rows stacked in its first operand. -/
theorem V_a (c : Dev nD) : V m c main_v33 = shapeCast S33280x4096 (m ((c : Thread nD τ).loc main_arg0)) shapeCasts_S2x16640x4096_S33280x4096 := by
  chain_rfl

/-- The kernel finds the residual rows of both sequences stacked in its third operand. -/
theorem V_x (c : Dev nD) : V m c main_v34 = shapeCast S33280x2048 (m ((c : Thread nD τ).loc main_arg2)) shapeCasts_S2x16640x2048_S33280x2048 := by
  chain_rfl

/-- The kernel finds the weights in its second operand. -/
theorem V_w (c : Dev nD) : (V m c main_v29 : S4096x2048.Idx → EReal) = m ((c : Thread nD τ).loc main_arg1) := by
  refine Eq.trans (b := truncf (F := Ideal) (φ := .f32) .bf16 (m ((c : Thread nD τ).loc main_arg1)) bitsLt_bf16_f32) ?_ rfl
  chain_rfl

/-- The zeros the router's columns are written into. -/
theorem zeros_eq : (broadcastInDim S2048x128 ![] bcast_S_S2048x128 (constant (F := Ideal) S_ .f32 0x00000000#32)) = fun _ => Ideal.ofBits .f32 0x00000000#32 := rfl

/-- Where they are written. -/
theorem origin_eq : (broadcastInDim S1 ![] bcast_S_S1 (constantI S_ 32 0#32)) = fun _ => 0#32 := rfl

/-- A row of the router's weights keeps its row. -/
theorem window_row (j : S2048x16.Idx) : scatter_S2048x128_S1_S2048x16_01_n_1_0.window j 0 = (j 0).val := rfl

/-- A column of the router's weights keeps its column. -/
theorem window_col (j : S2048x16.Idx) : scatter_S2048x128_S1_S2048x16_01_n_1_0.window j 1 = (j 1).val := rfl

/-- The kernel finds the router's columns, written into zeros, in its fifth operand. -/
theorem V_scatter (c : Dev nD) : V m c main_v32 = Host.scatter scatter_S2048x128_S1_S2048x16_01_n_1_0 (fun _ b => b)
    (broadcastInDim S2048x128 ![] bcast_S_S2048x128 (constant (F := Ideal) S_ .f32 0x00000000#32))
    (broadcastInDim S1 ![] bcast_S_S1 (constantI S_ 32 0#32)) (m ((c : Thread nD τ).loc main_arg6)) := by
  entry_read
  rfl

/-- The kernel finds the router's padded columns in its fifth operand. -/
theorem V_router (c : Dev nD) : V m c main_v32 = Router.rpad (m ((c : Thread nD τ).loc main_arg6)) := by
  rw [V_scatter, zeros_eq, origin_eq]
  exact Router.scatter_eq scatter_S2048x128_S1_S2048x16_01_n_1_0 window_row window_col (m ((c : Thread nD τ).loc main_arg6)) _
    (fun i => by simp [Ideal.ofBits, Ideal.ieee])

/-- Where the blocks of a point lie. -/
theorem idx : ∀ t : Fin cfg0.N, (win0_0.index t 0 = min t.val 64 ∧ win0_0.index t 1 = 0)
    ∧ (win0_1.index t 0 = 0 ∧ win0_1.index t 1 = 0)
    ∧ (win0_2.index t 0 = t.val - 1 ∧ win0_2.index t 1 = 0)
    ∧ (win0_3.index t 0 = 0 ∧ win0_3.index t 1 = 0 ∧ win0_3.index t 2 = 0)
    ∧ (win0_4.index t 0 = 0 ∧ win0_4.index t 1 = 0)
    ∧ (win0_5.index t 0 = t.val - 1 ∧ win0_5.index t 1 = 0)
    ∧ (win0_6.index t 0 = t.val - 1 ∧ win0_6.index t 1 = 0)
    ∧ (win0_7.index t 0 = t.val - 1 ∧ win0_7.index t 1 = 0) := (by decide +kernel : ∀ t : Fin grid0.N, _)

/-- The first point writes no result back. -/
theorem flushes : ∀ t : Fin cfg0.N, ((cfg0.win 5).flush t = true → ¬t.val % 66 = 0) ∧ ((cfg0.win 6).flush t = true → ¬t.val % 66 = 0)
    ∧ ((cfg0.win 7).flush t = true → ¬t.val % 66 = 0) := (by decide +kernel : ∀ t : Fin grid0.N, _)

/-- A block of the rows. -/
theorem a_apply (c : Dev nD) (t : Fin cfg0.N) (p : S512x4096.Idx) (i : S33280x4096.Idx)
    (h0 : (i 0).val = min t.val 64 * 512 + (p 0).val) (h1 : (i 1).val = (p 1).val) :
    iblk m c 0 t p = shapeCast S33280x4096 (m ((c : Thread nD τ).loc main_arg0)) shapeCasts_S2x16640x4096_S33280x4096 i := by
  rw [← V_a m c]
  obtain ⟨⟨e0, e1⟩, -⟩ := idx t
  blk_ext [iblk, e0, e1]

/-- The weights' one block is the weights. -/
theorem w_apply (c : Dev nD) (t : Fin cfg0.N) (p : S4096x2048.Idx) :
    (iblk m c 1 t p : EReal) = m ((c : Thread nD τ).loc main_arg1) p := by
  obtain ⟨-, ⟨e0, e1⟩, -⟩ := idx t
  have h : ((cfg0.win 1).blk t).view.emb p = p := by blk_ext [e0, e1]
  exact (congrArg (V m c (Pipeline.arrRef spec0 1)) h).trans (congrFun (V_w m c) p)

/-- A block of the residual. -/
theorem x_apply (c : Dev nD) (t : Fin cfg0.N) (p : S512x2048.Idx) (i : S33280x2048.Idx)
    (h0 : (i 0).val = (t.val - 1) * 512 + (p 0).val) (h1 : (i 1).val = (p 1).val) :
    iblk m c 2 t p = shapeCast S33280x2048 (m ((c : Thread nD τ).loc main_arg2)) shapeCasts_S2x16640x2048_S33280x2048 i := by
  rw [← V_x m c]
  obtain ⟨-, -, ⟨e0, e1⟩, -⟩ := idx t
  blk_ext [iblk, e0, e1]

/-- The table's one block is the table. -/
theorem tab_apply (c : Dev nD) (t : Fin cfg0.N) (p : S4x8x2048.Idx) :
    (iblk m c 3 t p : EReal) = Table.modTable (m ((c : Thread nD τ).loc main_arg3)) (m ((c : Thread nD τ).loc main_arg4))
      (m ((c : Thread nD τ).loc main_arg5)) p := by
  obtain ⟨-, -, -, ⟨e0, e1, e2⟩, -⟩ := idx t
  have h : ((cfg0.win 3).blk t).view.emb p = p := by blk_ext [e0, e1, e2]
  exact (congrArg (V m c (Pipeline.arrRef spec0 3)) h).trans (congrFun (V_tab m c) p)

/-- The router's one block is the router's padded columns. -/
theorem router_apply (c : Dev nD) (t : Fin cfg0.N) (p : S2048x128.Idx) :
    (iblk m c 4 t p : EReal) = Router.rpad (m ((c : Thread nD τ).loc main_arg6)) p := by
  obtain ⟨-, -, -, -, ⟨e0, e1⟩, -⟩ := idx t
  have h : ((cfg0.win 4).blk t).view.emb p = p := by blk_ext [e0, e1]
  exact (congrArg (V m c (Pipeline.arrRef spec0 4)) h).trans (congrFun (V_router m c) p)

/-- A stacked row is its sequence's row. -/
theorem stack_apply {α : Type} {n : ℕ} (x : (⟨3, ![2, 16640, n]⟩ : Shape).Idx → α) (h : (⟨3, ![2, 16640, n]⟩ : Shape).ShapeCasts ⟨2, ![33280, n]⟩)
    (b : Fin 2) (r : Fin 16640) (R : Fin 33280) (hR : R.val = b.val * 16640 + r.val) (e : Fin n) :
    shapeCast ⟨2, ![33280, n]⟩ x h (ix2 R e) = x (ix3 b r e) := by
  refine shapeCast_apply _ _ _ _ ?_
  refine (Shape.rowMajor_val_three (d := ![2, 16640, n]) _).trans (Eq.trans ?_ (Shape.rowMajor_val_two (d := ![33280, n]) _).symm)
  show (b.val * 16640 + r.val) * n + e.val = R.val * n + e.val
  rw [hR]

/-- The product kept from the point before is the reference's product. -/
theorem kept_apply (c : Dev nD) (t : Fin cfg0.N) (h0 : ¬t.val % 66 = 0) (r : Fin 512) (b : Fin 2) (n : Fin 16640)
    (hn : (t.val - 1) * 512 + r.val = b.val * 16640 + n.val) (e : Fin 2048) :
    (kept m c t (ix2 r e) : EReal) = val_main_v1 (F := Ideal) (m ((c : Thread nD τ).loc main_arg0)) (m ((c : Thread nD τ).loc main_arg1)) (ix3 b n e) := by
  have ht : t.val < 66 := t.isLt
  have hN := n.isLt
  refine (congrFun (st m c ⟨t.val - 1, Nat.lt_of_le_of_lt (Nat.sub_le _ _) t.isLt⟩) (ix2 r e)).trans ?_
  refine Eq.trans ?_ (Cert.OutRefIdeal.Hand.product_apply _ _ b n e).symm
  refine Finset.sum_congr rfl fun k _ => ?_
  have hR : b.val * 16640 + n.val < 33280 := by omega
  refine congr (congrArg HMul.hMul ((a_apply m c _ (ix2 r k) (ix2 ⟨b.val * 16640 + n.val, hR⟩ k) ?_ rfl).trans (stack_apply _ _ b n _ rfl k))) (w_apply m c _ (ix2 k e))
  show b.val * 16640 + n.val = min (t.val - 1) 64 * 512 + r.val
  omega

/-- The parameter rows of a row's part. -/
theorem par_apply (c : Dev nD) (t : Fin cfg0.N) (r : ℕ) (s : Fin 8)
    (hs : s.val = if (Fin.ofNat 4 (PointBlock.part t.val r)).val % 2 = 0 then (Fin.ofNat 4 (PointBlock.part t.val r)).val / 2 else 2) (e : Fin 2048) :
    PointBlock.par (iblk m c 3 t) t.val r 0 e = m ((c : Thread nD τ).loc main_arg3) (ix3 s 2 e)
    ∧ PointBlock.par (iblk m c 3 t) t.val r 1 e = m ((c : Thread nD τ).loc main_arg3) (ix3 s 4 e)
    ∧ PointBlock.par (iblk m c 3 t) t.val r 2 e = m ((c : Thread nD τ).loc main_arg3) (ix3 s 3 e)
    ∧ PointBlock.par (iblk m c 3 t) t.val r 3 e = m ((c : Thread nD τ).loc main_arg4) (ix1 e)
    ∧ PointBlock.par (iblk m c 3 t) t.val r 4 e = m ((c : Thread nD τ).loc main_arg5) (ix1 e) := by
  obtain ⟨h0, h1, h2, h3, h4⟩ := Table.modTable_apply (m ((c : Thread nD τ).loc main_arg3)) (m ((c : Thread nD τ).loc main_arg4))
    (m ((c : Thread nD τ).loc main_arg5)) _ s hs e
  exact ⟨(tab_apply m c t _).trans h0, (tab_apply m c t _).trans h1, (tab_apply m c t _).trans h2, (tab_apply m c t _).trans h3, (tab_apply m c t _).trans h4⟩

/-- A row before the normalisation is the reference's. -/
theorem row_apply (c : Dev nD) (t : Fin cfg0.N) (h0 : ¬t.val % 66 = 0) (r : Fin 512) (b : Fin 2) (n : Fin 16640) (s : Fin 8)
    (hn : (t.val - 1) * 512 + r.val = b.val * 16640 + n.val)
    (hs : s.val = if (Fin.ofNat 4 (PointBlock.part t.val r.val)).val % 2 = 0 then (Fin.ofNat 4 (PointBlock.part t.val r.val)).val / 2 else 2) :
    PointBlock.row (kept m c t) (iblk m c 2 t) (iblk m c 3 t) t.val r
      = Cert.OutRefIdeal.Hand.row (m ((c : Thread nD τ).loc main_arg0)) (m ((c : Thread nD τ).loc main_arg1))
        (m ((c : Thread nD τ).loc main_arg2)) (m ((c : Thread nD τ).loc main_arg3)) b n s := by
  have hN := n.isLt
  have hR : b.val * 16640 + n.val < 33280 := by omega
  have e0 : (fun e => PointBlock.par (iblk m c 3 t) t.val r.val 0 e) = fun e => m ((c : Thread nD τ).loc main_arg3) (ix3 s 2 e) :=
    funext fun e => (par_apply m c t r.val s hs e).1
  have e1 : (fun e => (kept m c t (ix2 r e) : EReal))
      = fun e => val_main_v1 (F := Ideal) (m ((c : Thread nD τ).loc main_arg0)) (m ((c : Thread nD τ).loc main_arg1)) (ix3 b n e) :=
    funext fun e => kept_apply m c t h0 r b n hn e
  have e2 : (fun e => (iblk m c 2 t (ix2 r e) : EReal)) = fun e => m ((c : Thread nD τ).loc main_arg2) (ix3 b n e) :=
    funext fun e => (x_apply m c t (ix2 r e) (ix2 ⟨b.val * 16640 + n.val, hR⟩ e) hn.symm rfl).trans (stack_apply _ _ b n _ rfl e)
  exact congr (congr (congrArg RowNorm.update e2) e1) e0

/-- A row's token is the reference's. -/
theorem token_apply (c : Dev nD) (t : Fin cfg0.N) (h0 : ¬t.val % 66 = 0) (r : Fin 512) (b : Fin 2) (n : Fin 16640) (s : Fin 8)
    (hn : (t.val - 1) * 512 + r.val = b.val * 16640 + n.val)
    (hs : s.val = if (Fin.ofNat 4 (PointBlock.part t.val r.val)).val % 2 = 0 then (Fin.ofNat 4 (PointBlock.part t.val r.val)).val / 2 else 2) :
    PointBlock.token (kept m c t) (iblk m c 2 t) (iblk m c 3 t) t.val r
      = Cert.OutRefIdeal.Hand.tok (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) b n s := by
  have hp := par_apply m c t r.val s hs
  exact congr (congr (congr (congr (congrArg RowNorm.token (row_apply m c t h0 r b n s hn hs)) (funext fun e => (hp e).2.2.2.1)) (funext fun e => (hp e).2.2.2.2))
    (funext fun e => (hp e).2.1)) (funext fun e => (hp e).2.2.1)

/-- The normalised rows after the run. -/
theorem final5 (c : Dev nD) : (dats m 0 c).arrAt 5 cfg0.N
    = val_main_v68 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 5 _ (by decide +kernel) fun t hf y => ?_
  have h0 := (flushes t).1 hf
  have ht : t.val < 66 := t.isLt
  have hy : (y 0).val < 512 := (y 0).isLt
  obtain ⟨-, -, -, -, -, ⟨i0, i1⟩, -⟩ := idx t
  obtain ⟨b, n, s, hn, hs, hs'⟩ := PointBlock.place t.val (y 0).val h0 ht hy
  blk_simp
  rw [after0_5, out5 m c t h0]
  refine Eq.trans ?_ (Cert.OutRefIdeal.Hand.stacked_norm_apply _ _ _ _ _ _ b n (y 1) s hs _ ?_ ?_).symm
  · have hp := par_apply m c t (y 0).val s hs' (y 1)
    exact congr (congr (congr (congrArg RowNorm.norm (row_apply m c t h0 (y 0) b n s hn hs')) hp.2.2.2.1) hp.2.2.2.2) rfl
  · blk_simp [i0]
    show _ = b.val * 16640 + n.val
    omega
  · blk_simp [i1]

/-- The tokens after the run. -/
theorem final6 (c : Dev nD) : (dats m 0 c).arrAt 6 cfg0.N
    = val_main_v69 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have h0 := (flushes t).2.1 hf
  have ht : t.val < 66 := t.isLt
  have hy : (y 0).val < 512 := (y 0).isLt
  obtain ⟨-, -, -, -, -, -, ⟨i0, i1⟩, -⟩ := idx t
  obtain ⟨b, n, s, hn, hs, hs'⟩ := PointBlock.place t.val (y 0).val h0 ht hy
  blk_simp
  rw [after0_6]
  refine (out6 m c t h0 y).trans (Eq.trans ?_ ((Cert.OutRefIdeal.Hand.stored_token_apply _ _ _ _ _ _ _).trans
    (Cert.OutRefIdeal.Hand.stacked_token_apply _ _ _ _ _ _ b n (y 1) s hs _ ?_ ?_)).symm)
  · exact congrFun (token_apply m c t h0 (y 0) b n s hn hs') (y 1)
  · blk_simp [i0]
    show _ = b.val * 16640 + n.val
    omega
  · blk_simp [i1]

/-- Every operand is finite. -/
structure AllFinite (x0 : FVec Ideal S2x16640x4096 .bf16) (x1 : FVec Ideal S4096x2048 .f32) (x2 : FVec Ideal S2x16640x2048 .f32)
    (x3 : FVec Ideal S8x6x2048 .f32) (x4 x5 : FVec Ideal S2048 .f32) (x6 : FVec Ideal S2048x16 .f32) : Prop where
  rows : ∀ i, RowNorm.Finite (x0 i)
  weights : ∀ i, RowNorm.Finite (x1 i)
  residual : ∀ i, RowNorm.Finite (x2 i)
  mods : ∀ (s : Fin 8) (j : Fin 6) e, s.val < 3 → 2 ≤ j.val → j.val < 5 → RowNorm.Finite (x3 (ix3 s j e))
  gain : ∀ i, RowNorm.Finite (x4 i)
  bias : ∀ i, RowNorm.Finite (x5 i)
  router : ∀ i, RowNorm.Finite (x6 i)

/-- The tokens of finite operands are finite. -/
theorem tok_finite (x0 : FVec Ideal S2x16640x4096 .bf16) (x1 : FVec Ideal S4096x2048 .f32) (x2 : FVec Ideal S2x16640x2048 .f32)
    (x3 : FVec Ideal S8x6x2048 .f32) (x4 x5 : FVec Ideal S2048 .f32) (x6 : FVec Ideal S2048x16 .f32) (h : AllFinite x0 x1 x2 x3 x4 x5 x6)
    (b : Fin 2) (n : Fin 16640) (s : Fin 8) (hs : s.val < 3) (e : Fin 2048) :
    RowNorm.Finite (Cert.OutRefIdeal.Hand.tok x0 x1 x2 x3 x4 x5 b n s e) :=
  RowNorm.token_finite (RowNorm.update_finite (fun k => h.residual _)
      (fun k => by
        rw [Cert.OutRefIdeal.Hand.product_apply]
        exact RowNorm.Finite.sum fun j => (h.rows _).mul (h.weights _))
      (fun k => h.mods s 2 k hs (by decide) (by decide)))
    (fun k => h.gain _) (fun k => h.bias _) (fun k => h.mods s 4 k hs (by decide) (by decide)) (fun k => h.mods s 3 k hs (by decide) (by decide)) e

/-- The padded columns of finite weights are finite. -/
theorem rpad_finite (w : FVec Ideal S2048x16 .f32) (h : ∀ i, RowNorm.Finite (w i)) (i : S2048x128.Idx) : RowNorm.Finite (Router.rpad w i) := by
  unfold Router.rpad
  split
  · exact h _
  · exact ⟨0, EReal.coe_zero.symm⟩

/-- The logits after the run. -/
theorem final7 (c : Dev nD) (hfin : AllFinite (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))) : (dats m 0 c).arrAt 7 cfg0.N
    = val_main_v67 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 7 _ (by decide +kernel) fun t hf y => ?_
  have h0 := (flushes t).2.2 hf
  have ht : t.val < 66 := t.isLt
  have hy : (y 0).val < 512 := (y 0).isLt
  obtain ⟨-, -, -, -, -, -, -, ⟨i0, i1⟩⟩ := idx t
  obtain ⟨b, n, s, hn, hs, hs'⟩ := PointBlock.place t.val (y 0).val h0 ht hy
  have hb := b.isLt
  have hs3 : s.val < 3 := by split at hs <;> omega
  blk_simp
  rw [after0_7, out7 m c t h0]
  refine Eq.trans ?_ (Cert.OutRefIdeal.Hand.logit_apply _ _ _ _ _ _ _ b n s hs _ ?_).symm
  · unfold PointBlock.logit
    rw [token_apply m c t h0 (y 0) b n s hn hs']
    simp only [router_apply]
    refine (RowNorm.split_product (fun k => tok_finite _ _ _ _ _ _ _ hfin b n s hs3 k) (fun k => rpad_finite _ hfin.router _)).trans ?_
    refine Finset.sum_congr rfl fun k _ => congrArg (_ * ·) (congrArg _ (congrArg (ix2 k) (Fin.ext ?_)))
    blk_simp [i1]
  · blk_simp [i0]
    show _ = b.val * 16640 + n.val
    omega

end Cert.OutIdeal.Hand

end
-- ==== Proof.GlaTile.lean ====
/-
  One grid point of the forward attention, tile by tile: sixteen result tiles (four chunks of 64 rows by four heads) and
  the four heads' states, each written as the same two formulas over the point's blocks.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Chunk `c` of a block of keys or queries, at head `h`. -/
def tileK (c h : Fin 4) (x : FVec F S256x512 .f32) : FVec F S64x128 .f32 :=
  extractStridedSlice S64x128 ![64 * c.val, 128 * h.val] x
    ((by decide : ∀ c h : Fin 4, S256x512.Slices ![64 * c.val, 128 * h.val] S64x128) c h)

/-- Chunk `c` of a block of values, at head `h`. -/
def tileV (c h : Fin 4) (x : FVec F S256x1024 .f32) : FVec F S64x256 .bf16 :=
  truncf .bf16 (extractStridedSlice S64x256 ![64 * c.val, 256 * h.val] x
    ((by decide : ∀ c h : Fin 4, S256x1024.Slices ![64 * c.val, 256 * h.val] S64x256) c h)) bitsLt_bf16_f32

/-- Chunk `c` of the log gates, all heads. -/
def chunkG (c : Fin 4) (x : FVec F S256x512 .f32) : FVec F S64x512 .f32 :=
  extractStridedSlice S64x512 ![64 * c.val, 0] x
    ((by decide : ∀ c : Fin 4, S256x512.Slices ![64 * c.val, 0] S64x512) c)

/-- The running sums of a chunk's log gates: the lower triangle of ones times their two halves. -/
def sums (x : FVec F S64x512 .f32) : FVec F S64x512 .f32 :=
  addf (matmul dot_S64x64_S64x512_S64x512_1_0_0_1_n_n none k0_pay6 (truncf .bf16 x bitsLt_bf16_f32) (constant S64x512 .f32 0x00000000#32))
    (matmul dot_S64x64_S64x512_S64x512_1_0_0_1_n_n none k0_pay6
      (truncf .bf16 (subf x (extf .f32 (truncf .bf16 x bitsLt_bf16_f32) bitsLt_bf16_f32)) bitsLt_bf16_f32) (constant S64x512 .f32 0x00000000#32))

/-- The running sums at head `h`. -/
def headG (h : Fin 4) (x : FVec F S64x512 .f32) : FVec F S64x128 .f32 :=
  extractStridedSlice S64x128 ![0, 128 * h.val] x
    ((by decide : ∀ h : Fin 4, S64x512.Slices ![0, 128 * h.val] S64x128) h)

/-- The last running sum. -/
def lastRow (b : FVec F S64x128 .f32) : FVec F S1x128 .f32 :=
  extractStridedSlice S1x128 ![63, 0] b slices_S64x128_o63_0_S1x128

/-- Half of the last running sum. -/
def halfRow (b : FVec F S64x128 .f32) : FVec F S1x128 .f32 :=
  mulf (broadcast S1x128 (Scalar.ofBits .f32 0x3F000000#32)) (lastRow b)

/-- The running sums of chunk `c` at head `h`, from the log gates before their scaling. -/
def tileB (g : FVec F S256x512 .f32) (c h : Fin 4) : FVec F S64x128 .f32 := headG h (sums (chunkG c (k0_pay8 g)))

/-- The state of head `h` after a chunk. -/
def stepS (S : FVec F S256x128 .f32) (b k : FVec F S64x128 .f32) (v : FVec F S64x256 .bf16) : FVec F S256x128 .f32 :=
  k0_pay23 S b (lastRow b) k v

/-- The result tile of a chunk at one head. -/
def tileO (S : FVec F S256x128 .f32) (b q k : FVec F S64x128 .f32) (v : FVec F S64x256 .bf16) : FVec F S1x64x256 .f32 :=
  k0_pay24 k0_pay5 S b (halfRow b) q k v

/-- The state of head `h` before chunk `n` of a point. -/
def stateAt (g k : FVec F S256x512 .f32) (v : FVec F S256x1024 .f32) (h : Fin 4) (S : FVec F S256x128 .f32) : ℕ → FVec F S256x128 .f32
  | 0 => S
  | n + 1 => stepS (stateAt g k v h S n) (tileB g ⟨n % 4, Nat.mod_lt _ (by decide)⟩ h) (tileK ⟨n % 4, Nat.mod_lt _ (by decide)⟩ h k) (tileV ⟨n % 4, Nat.mod_lt _ (by decide)⟩ h v)

/-- The result tile of chunk `c` at head `h` of a point. -/
def outAt (g q k : FVec F S256x512 .f32) (v : FVec F S256x1024 .f32) (S : Fin 4 → FVec F S256x128 .f32) (c h : Fin 4) : FVec F S1x64x256 .f32 :=
  tileO (stateAt g k v h (S h) c.val) (tileB g c h) (tileK c h q) (tileK c h k) (tileV c h v)

/-- A point's whole result block, from its tiles. -/
def blockO (f : Fin 4 → Fin 4 → FVec F S1x64x256 .f32) : Vec F S1x256x1024 .f32 := fun y =>
  f ⟨(y 1).val / 64, by have : (y 1).val < 256 := (y 1).isLt; omega⟩ ⟨(y 2).val / 256, by have : (y 2).val < 1024 := (y 2).isLt; omega⟩
    (ix3 (0 : Fin 1) (⟨(y 1).val % 64, Nat.mod_lt _ (by decide)⟩ : Fin 64) (⟨(y 2).val % 256, Nat.mod_lt _ (by decide)⟩ : Fin 256))

/-- An entry of one tile is the block's entry at the tile's place. -/
theorem blockO_eq (f : Fin 4 → Fin 4 → FVec F S1x64x256 .f32) (c h : Fin 4) (w : FVec F S1x64x256 .f32) (e : w = f c h)
    (x : S1x64x256.Idx) (y : S1x256x1024.Idx) (h1 : (y 1).val = 64 * c.val + (x 1).val) (h2 : (y 2).val = 256 * h.val + (x 2).val) :
    w x = blockO f y := by
  subst e
  have x0 : (x 0).val < 1 := (x 0).isLt
  have x1 : (x 1).val < 64 := (x 1).isLt
  have x2 : (x 2).val < 256 := (x 2).isLt
  unfold blockO
  have ec : (⟨(y 1).val / 64, by have : (y 1).val < 256 := (y 1).isLt; omega⟩ : Fin 4) = c := Fin.ext (show (y 1).val / 64 = c.val by omega)
  have eh : (⟨(y 2).val / 256, by have : (y 2).val < 1024 := (y 2).isLt; omega⟩ : Fin 4) = h := Fin.ext (show (y 2).val / 256 = h.val by omega)
  rw [ec, eh]
  refine congrArg _ (funext fun a => Fin.ext ?_)
  match a with
  | 0 => exact (show (x 0).val = 0 by omega)
  | 1 => exact (show (x 1).val = (y 1).val % 64 by omega)
  | 2 => exact (show (x 2).val = (y 2).val % 256 by omega)

/-- The four heads' states, stacked. -/
def stackS (f : Fin 4 → FVec F S256x128 .f32) : Vec F S4x256x128 .f32 := fun y => f (y 0) (ix2 (y 1) (y 2))

/-- One head's state is the stack's at that head. -/
theorem stackS_eq (f : Fin 4 → FVec F S256x128 .f32) (h : Fin 4) (w : FVec F S1x256x128 .f32)
    (e : w = shapeCast S1x256x128 (f h) shapeCasts_S256x128_S1x256x128)
    (x : S1x256x128.Idx) (y : S4x256x128.Idx) (h0 : (y 0).val = h.val + (x 0).val) (h1 : (y 1).val = (x 1).val) (h2 : (y 2).val = (x 2).val) :
    w x = stackS f y := by
  subst e
  have x0 : (x 0).val < 1 := (x 0).isLt
  unfold stackS
  have eh : y 0 = h := Fin.ext (by omega)
  rw [eh]
  refine shapeCast_apply (f h) shapeCasts_S256x128_S1x256x128 x (ix2 (y 1) (y 2)) ?_
  rw [Shape.rowMajor_val_three, Shape.rowMajor_val_two]
  show (y 1).val * 128 + (y 2).val = ((x 0).val * 256 + (x 1).val) * 128 + (x 2).val
  rw [h1, h2]
  omega

/-- One head of a stack of states. -/
def headS (x : Vec F S4x256x128 .f32) (h : Fin 4) : FVec F S256x128 .f32 := fun i => x (ix3 h (i 0) (i 1))

/-- A load of one head of the states. -/
theorem ld_head (x : Vec F S4x256x128 .f32) (h : Fin 4) (inb : ∀ a : Fin 3, ![h.val, 0, 0] a + S1x256x128.size a ≤ S4x256x128.size a) :
    shapeCast S256x128 (View.ld x (Rect.unit (s := S4x256x128) ![h.val, 0, 0] S1x256x128.size inb)) shapeCasts_S1x256x128_S256x128 = headS x h := by
  funext i
  refine Eq.trans (shapeCast_apply _ shapeCasts_S1x256x128_S256x128 i (ix3 (0 : Fin 1) (i 0) (i 1)) ?_) ?_
  · rw [Shape.rowMajor_val_three, Shape.rowMajor_val_two]
    show (0 * 256 + (i 0).val) * 128 + (i 1).val = (i 0).val * 128 + (i 1).val
    omega
  · rw [View.ld_apply]
    unfold headS
    refine congrArg x (funext fun a => Fin.ext ?_)
    rw [Rect.idx_unit_val]
    match a with
    | 0 => exact (show h.val + 0 = h.val from rfl)
    | 1 => exact (show 0 + (i 0).val = (i 0).val from Nat.zero_add _)
    | 2 => exact (show 0 + (i 1).val = (i 1).val from Nat.zero_add _)

end Cert.KernelIdeal.Hand

end
-- ==== Proof.GlaPoint.lean ====
/-
  What one grid point of the forward attention writes: its result block and the states it leaves, as the tiles' formulas.
-/
module

public import proofs.«01_k».proof.Proof.GlaTile

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The load of head 0's state. -/
theorem load0 (x : Vec F S4x256x128 .f32) (inb : ∀ a : Fin 3, (![0, 0, 0] : Fin 3 → ℕ) a + (![1, 256, 128] : Fin 3 → ℕ) a ≤ S4x256x128.size a) :
    k0_pay12 (View.ld x (Rect.unit (s := S4x256x128) ![0, 0, 0] ![1, 256, 128] inb)) = headS x 0 := ld_head x 0 inb

/-- The load of head 1's state. -/
theorem load1 (x : Vec F S4x256x128 .f32) (inb : ∀ a : Fin 3, (![1, 0, 0] : Fin 3 → ℕ) a + (![1, 256, 128] : Fin 3 → ℕ) a ≤ S4x256x128.size a) :
    k0_pay13 (View.ld x (Rect.unit (s := S4x256x128) ![1, 0, 0] ![1, 256, 128] inb)) = headS x 1 := ld_head x 1 inb

/-- The load of head 2's state. -/
theorem load2 (x : Vec F S4x256x128 .f32) (inb : ∀ a : Fin 3, (![2, 0, 0] : Fin 3 → ℕ) a + (![1, 256, 128] : Fin 3 → ℕ) a ≤ S4x256x128.size a) :
    k0_pay14 (View.ld x (Rect.unit (s := S4x256x128) ![2, 0, 0] ![1, 256, 128] inb)) = headS x 2 := ld_head x 2 inb

/-- The load of head 3's state. -/
theorem load3 (x : Vec F S4x256x128 .f32) (inb : ∀ a : Fin 3, (![3, 0, 0] : Fin 3 → ℕ) a + (![1, 256, 128] : Fin 3 → ℕ) a ≤ S4x256x128.size a) :
    k0_pay15 (View.ld x (Rect.unit (s := S4x256x128) ![3, 0, 0] ![1, 256, 128] inb)) = headS x 3 := ld_head x 3 inb

/-- One head's state is the stack's at that head, where it is stored. -/
theorem stackS_emb (f : Fin 4 → FVec F S256x128 .f32) (h : Fin 4) (w : FVec F S1x256x128 .f32)
    (e : w = shapeCast S1x256x128 (f h) shapeCasts_S256x128_S1x256x128)
    (inb : ∀ a : Fin 3, (![h.val, 0, 0] : Fin 3 → ℕ) a + (![1, 256, 128] : Fin 3 → ℕ) a ≤ S4x256x128.size a) (x : S1x256x128.Idx) :
    w x = stackS f ((Rect.unit (s := S4x256x128) ![h.val, 0, 0] ![1, 256, 128] inb).emb x) :=
  stackS_eq f h w e x _ (Rect.idx_unit_val (s := S4x256x128) (off := ![h.val, 0, 0]) (inb := inb) (x := x) (a := 0))
    ((Rect.idx_unit_val (s := S4x256x128) (off := ![h.val, 0, 0]) (inb := inb) (x := x) (a := 1)).trans (Nat.zero_add _))
    ((Rect.idx_unit_val (s := S4x256x128) (off := ![h.val, 0, 0]) (inb := inb) (x := x) (a := 2)).trans (Nat.zero_add _))

/-- A point's log gates before their scaling. -/
def gateOf (c : Dev nD) (t : Fin cfg0.N) : FVec F S256x512 .f32 := k0_pay7 (iblk m c 3 t) (iblk m c 4 t) (iblk m c 5 t)

/-- The states before a point: zero at the first point of a sequence, else what the point before left. -/
def before (c : Dev nD) (t : Fin cfg0.N) : Vec F S4x256x128 .f32 :=
  if t.val % 65 = 0 then k0_pay4 else (outsAt0 m c (t.val - 1) (Nat.lt_of_le_of_lt (Nat.sub_le _ _) t.isLt)).2

/-- A point's result block. -/
def blockAt (c : Dev nD) (t : Fin cfg0.N) (S : Vec F S4x256x128 .f32) : Vec F S1x256x1024 .f32 :=
  blockO (outAt (gateOf m c t) (k0_pay9 (X0_0 m c t)) (k0_pay10 (X0_1 m c t)) (k0_pay11 (X0_2 m c t)) (headS S))

/-- The states after a point. -/
def stackAt (c : Dev nD) (t : Fin cfg0.N) (S : Vec F S4x256x128 .f32) : Vec F S4x256x128 .f32 :=
  stackS fun h => stateAt (gateOf m c t) (k0_pay10 (X0_1 m c t)) (k0_pay11 (X0_2 m c t)) h (headS S h) 4

/-- The result block of a point of case B. -/
theorem out_B (c : Dev nD) (t : Fin cfg0.N) (h0 : ¬t.val % 65 = 0) :
    (outsAt0 m c t.val t.isLt).1 = blockAt m c t ((outsAt0 m c (t.val - 1) (Nat.lt_of_le_of_lt (Nat.sub_le _ _) t.isLt)).2) := by
  rw [outsAt0_B m c t h0]
  dsimp only
  frame_out
  simp only [read_unread_whole]
  unfold blockAt
  funext y
  canon_tiles x hy
  · exact blockO_eq _ 3 3 _ (by simp only [load0, load1, load2, load3]; rfl) x y (by simpa using hy1) (by simpa using hy2)
  · exact blockO_eq _ 3 2 _ (by simp only [load0, load1, load2, load3]; rfl) x y (by simpa using hy1) (by simpa using hy2)
  · exact blockO_eq _ 3 1 _ (by simp only [load0, load1, load2, load3]; rfl) x y (by simpa using hy1) (by simpa using hy2)
  · exact blockO_eq _ 3 0 _ (by simp only [load0, load1, load2, load3]; rfl) x y (by simpa using hy1) (by simpa using hy2)
  · exact blockO_eq _ 2 3 _ (by simp only [load0, load1, load2, load3]; rfl) x y (by simpa using hy1) (by simpa using hy2)
  · exact blockO_eq _ 2 2 _ (by simp only [load0, load1, load2, load3]; rfl) x y (by simpa using hy1) (by simpa using hy2)
  · exact blockO_eq _ 2 1 _ (by simp only [load0, load1, load2, load3]; rfl) x y (by simpa using hy1) (by simpa using hy2)
  · exact blockO_eq _ 2 0 _ (by simp only [load0, load1, load2, load3]; rfl) x y (by simpa using hy1) (by simpa using hy2)
  · exact blockO_eq _ 1 3 _ (by simp only [load0, load1, load2, load3]; rfl) x y (by simpa using hy1) (by simpa using hy2)
  · exact blockO_eq _ 1 2 _ (by simp only [load0, load1, load2, load3]; rfl) x y (by simpa using hy1) (by simpa using hy2)
  · exact blockO_eq _ 1 1 _ (by simp only [load0, load1, load2, load3]; rfl) x y (by simpa using hy1) (by simpa using hy2)
  · exact blockO_eq _ 1 0 _ (by simp only [load0, load1, load2, load3]; rfl) x y (by simpa using hy1) (by simpa using hy2)
  · exact blockO_eq _ 0 3 _ (by simp only [load0, load1, load2, load3]; rfl) x y (by simpa using hy1) (by simpa using hy2)
  · exact blockO_eq _ 0 2 _ (by simp only [load0, load1, load2, load3]; rfl) x y (by simpa using hy1) (by simpa using hy2)
  · exact blockO_eq _ 0 1 _ (by simp only [load0, load1, load2, load3]; rfl) x y (by simpa using hy1) (by simpa using hy2)
  · exact blockO_eq _ 0 0 _ (by simp only [load0, load1, load2, load3]; rfl) x y (by simpa using hy1) (by simpa using hy2)

/-- The states a point of case B leaves. -/
theorem st_B (c : Dev nD) (t : Fin cfg0.N) (h0 : ¬t.val % 65 = 0) :
    (outsAt0 m c t.val t.isLt).2 = stackAt m c t ((outsAt0 m c (t.val - 1) (Nat.lt_of_le_of_lt (Nat.sub_le _ _) t.isLt)).2) := by
  rw [outsAt0_B m c t h0]
  dsimp only
  frame_out
  simp only [read_unread_whole]
  unfold stackAt
  funext y
  canon_tiles x hy
  · exact stackS_eq _ 3 _ (by simp only [load0, load1, load2, load3]; rfl) x y (by simpa using hy0) hy1 hy2
  · exact stackS_eq _ 2 _ (by simp only [load0, load1, load2, load3]; rfl) x y (by simpa using hy0) hy1 hy2
  · exact stackS_eq _ 1 _ (by simp only [load0, load1, load2, load3]; rfl) x y (by simpa using hy0) hy1 hy2
  · exact stackS_eq _ 0 _ (by simp only [load0, load1, load2, load3]; rfl) x y (by simpa using hy0) hy1 hy2

/-- The result block of a point of case A. -/
theorem out_A (c : Dev nD) (t : Fin cfg0.N) (h0 : t.val % 65 = 0) :
    (outsAt0 m c t.val t.isLt).1 = blockAt m c t (k0_pay4) := by
  rw [outsAt0_A m c t h0]
  dsimp only
  frame_open
  simp (disch := decide) only [↓ View.readCov_skip, ↓ View.readCov_cons_toLoadRect, ↓ View.readCov_fill]
  frame_out
  unfold blockAt
  funext y
  canon_tiles x hy
  · exact blockO_eq _ 3 3 _ (by simp only [load0, load1, load2, load3]; rfl) x y (by simpa using hy1) (by simpa using hy2)
  · exact blockO_eq _ 3 2 _ (by simp only [load0, load1, load2, load3]; rfl) x y (by simpa using hy1) (by simpa using hy2)
  · exact blockO_eq _ 3 1 _ (by simp only [load0, load1, load2, load3]; rfl) x y (by simpa using hy1) (by simpa using hy2)
  · exact blockO_eq _ 3 0 _ (by simp only [load0, load1, load2, load3]; rfl) x y (by simpa using hy1) (by simpa using hy2)
  · exact blockO_eq _ 2 3 _ (by simp only [load0, load1, load2, load3]; rfl) x y (by simpa using hy1) (by simpa using hy2)
  · exact blockO_eq _ 2 2 _ (by simp only [load0, load1, load2, load3]; rfl) x y (by simpa using hy1) (by simpa using hy2)
  · exact blockO_eq _ 2 1 _ (by simp only [load0, load1, load2, load3]; rfl) x y (by simpa using hy1) (by simpa using hy2)
  · exact blockO_eq _ 2 0 _ (by simp only [load0, load1, load2, load3]; rfl) x y (by simpa using hy1) (by simpa using hy2)
  · exact blockO_eq _ 1 3 _ (by simp only [load0, load1, load2, load3]; rfl) x y (by simpa using hy1) (by simpa using hy2)
  · exact blockO_eq _ 1 2 _ (by simp only [load0, load1, load2, load3]; rfl) x y (by simpa using hy1) (by simpa using hy2)
  · exact blockO_eq _ 1 1 _ (by simp only [load0, load1, load2, load3]; rfl) x y (by simpa using hy1) (by simpa using hy2)
  · exact blockO_eq _ 1 0 _ (by simp only [load0, load1, load2, load3]; rfl) x y (by simpa using hy1) (by simpa using hy2)
  · exact blockO_eq _ 0 3 _ (by simp only [load0, load1, load2, load3]; rfl) x y (by simpa using hy1) (by simpa using hy2)
  · exact blockO_eq _ 0 2 _ (by simp only [load0, load1, load2, load3]; rfl) x y (by simpa using hy1) (by simpa using hy2)
  · exact blockO_eq _ 0 1 _ (by simp only [load0, load1, load2, load3]; rfl) x y (by simpa using hy1) (by simpa using hy2)
  · exact blockO_eq _ 0 0 _ (by simp only [load0, load1, load2, load3]; rfl) x y (by simpa using hy1) (by simpa using hy2)

/-- The states a point of case A leaves. -/
theorem st_A (c : Dev nD) (t : Fin cfg0.N) (h0 : t.val % 65 = 0) :
    (outsAt0 m c t.val t.isLt).2 = stackAt m c t (k0_pay4) := by
  rw [outsAt0_A m c t h0]
  dsimp only
  frame_open
  simp (disch := decide) only [↓ View.readCov_skip, ↓ View.readCov_cons_toLoadRect, ↓ View.readCov_fill]
  frame_out
  unfold stackAt
  funext y
  refine View.canon_append_of_piecesOf (stackS _) [_] [_, _, _, _] ⟨fun x => ?_, fun x => ?_, fun x => ?_, fun x => ?_, trivial⟩ y (View.cover_of_tiled _ ![1, 256, 128] (by rfl) y)
  · exact stackS_emb _ 3 _ (by simp only [load0, load1, load2, load3]; rfl) inb_S4x256x128_S1x256x128_3_0_0 x
  · exact stackS_emb _ 2 _ (by simp only [load0, load1, load2, load3]; rfl) inb_S4x256x128_S1x256x128_2_0_0 x
  · exact stackS_emb _ 1 _ (by simp only [load0, load1, load2, load3]; rfl) inb_S4x256x128_S1x256x128_1_0_0 x
  · exact stackS_emb _ 0 _ (by simp only [load0, load1, load2, load3]; rfl) inb_S4x256x128_S1x256x128_0_0_0 x

/-- A point's result block and states, over the states before it. -/
theorem point_eq (c : Dev nD) (t : Fin cfg0.N) :
    (outsAt0 m c t.val t.isLt).1 = blockAt m c t (before m c t) ∧ (outsAt0 m c t.val t.isLt).2 = stackAt m c t (before m c t) := by
  by_cases h0 : t.val % 65 = 0
  · unfold before
    rw [if_pos h0]
    exact ⟨out_A m c t h0, st_A m c t h0⟩
  · unfold before
    rw [if_neg h0]
    exact ⟨out_B m c t h0, st_B m c t h0⟩

end Cert.KernelIdeal.Hand

end
-- ==== Proof.GlaRead.lean ====
/- What the forward attention's kernel reads at a grid point: its blocks of the argument, and the gate's weights and bias its host code
   prepares, index by index. -/
module

public import proofs.«01_k».proof.Proof.GlaPoint
public import proofs.«01_k».proof.Proof.HostBlock
public import Idealize.ShloMosaic.Lib.Pipeline.ValueKit
public import Idealize.ShloMosaic.Lib.Pointwise
public import Idealize.ShloMosaic.Lib.ValueIdx

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of a point lie, on the batch axis. -/
theorem idx_b : ∀ t : Fin cfg0.N, win0_0.index t 0 = t.val / 65 ∧ win0_1.index t 0 = t.val / 65 ∧ win0_2.index t 0 = t.val / 65
    ∧ win0_3.index t 0 = t.val / 65 ∧ win0_6.index t 0 = t.val / 65 := (by decide +kernel : ∀ t : Fin grid0.N, _)

/-- Where the blocks of a point lie, on the axis of rows. -/
theorem idx_r : ∀ t : Fin cfg0.N, win0_0.index t 1 = (t.val % 65 + 64) % 65 ∧ win0_1.index t 1 = (t.val % 65 + 64) % 65
    ∧ win0_2.index t 1 = (t.val % 65 + 64) % 65 ∧ win0_3.index t 1 = (t.val % 65 + 64) % 65 ∧ win0_6.index t 1 = (t.val % 65 + 64) % 65 :=
  (by decide +kernel : ∀ t : Fin grid0.N, _)

/-- Where the blocks of a point lie, on the axis of columns. -/
theorem idx_e : ∀ t : Fin cfg0.N, win0_0.index t 2 = 6 ∧ win0_1.index t 2 = 7 ∧ win0_2.index t 2 = 4 ∧ win0_3.index t 2 = 48 ∧ win0_6.index t 2 = 0 :=
  (by decide +kernel : ∀ t : Fin grid0.N, _)

/-- Where the prepared blocks lie. -/
theorem idx_z : ∀ t : Fin cfg0.N, (win0_4.index t 0 = 0 ∧ win0_4.index t 1 = 0 ∧ win0_4.index t 2 = 0)
    ∧ (win0_5.index t 0 = 0 ∧ win0_5.index t 1 = 0 ∧ win0_5.index t 2 = 0) := (by decide +kernel : ∀ t : Fin grid0.N, _)

/-- The kernel's first operand is its first argument. -/
theorem V_u (c : Dev nD) : V m c main_arg0 = m ((c : Thread nD τ).loc main_arg0) := by
  entry_read
  rfl

/-- The query block, read at an index. -/
theorem q_read (c : Dev nD) (t : Fin cfg0.N) (p : S1x256x512.Idx) (i : S2x16640x6272.Idx) (h0 : (i 0).val = t.val / 65)
    (h1 : (i 1).val = (t.val % 65 + 64) % 65 * 256 + (p 1).val) (h2 : (i 2).val = 3072 + (p 2).val) :
    X0_0 m c t p = m ((c : Thread nD τ).loc main_arg0) i := by
  have e0 := (idx_b t).1
  have e1 := (idx_r t).1
  have e2 := (idx_e t).1
  unfold X0_0 Pipeline.Window.fill
  rw [dif_pos (moved0_0 t p), ← V_u m c]
  blk_ext [iblk, e0, e1, e2]

/-- The key block, read at an index. -/
theorem k_read (c : Dev nD) (t : Fin cfg0.N) (p : S1x256x512.Idx) (i : S2x16640x6272.Idx) (h0 : (i 0).val = t.val / 65)
    (h1 : (i 1).val = (t.val % 65 + 64) % 65 * 256 + (p 1).val) (h2 : (i 2).val = 3584 + (p 2).val) :
    X0_1 m c t p = m ((c : Thread nD τ).loc main_arg0) i := by
  have e0 := (idx_b t).2.1
  have e1 := (idx_r t).2.1
  have e2 := (idx_e t).2.1
  unfold X0_1 Pipeline.Window.fill
  rw [dif_pos (moved0_1 t p), ← V_u m c]
  blk_ext [iblk, e0, e1, e2]

/-- The value block, read at an index. -/
theorem v_read (c : Dev nD) (t : Fin cfg0.N) (p : S1x256x1024.Idx) (i : S2x16640x6272.Idx) (h0 : (i 0).val = t.val / 65)
    (h1 : (i 1).val = (t.val % 65 + 64) % 65 * 256 + (p 1).val) (h2 : (i 2).val = 4096 + (p 2).val) :
    X0_2 m c t p = m ((c : Thread nD τ).loc main_arg0) i := by
  have e0 := (idx_b t).2.2.1
  have e1 := (idx_r t).2.2.1
  have e2 := (idx_e t).2.2.1
  unfold X0_2 Pipeline.Window.fill
  rw [dif_pos (moved0_2 t p), ← V_u m c]
  blk_ext [iblk, e0, e1, e2]

/-- The block of gate columns, read at an index. -/
theorem g_read (c : Dev nD) (t : Fin cfg0.N) (p : S1x256x128.Idx) (i : S2x16640x6272.Idx) (h0 : (i 0).val = t.val / 65)
    (h1 : (i 1).val = (t.val % 65 + 64) % 65 * 256 + (p 1).val) (h2 : (i 2).val = 6144 + (p 2).val) :
    iblk m c 3 t p = m ((c : Thread nD τ).loc main_arg0) i := by
  have e0 := (idx_b t).2.2.2.1
  have e1 := (idx_r t).2.2.2.1
  have e2 := (idx_e t).2.2.2.1
  rw [← V_u m c]
  blk_ext [iblk, e0, e1, e2]

/-- Where the block of gate weights lies. -/
theorem w_emb (t : Fin cfg0.N) (p : S1x128x512.Idx) (i : S2x128x512.Idx) (h0 : (i 0).val = 0)
    (h1 : (i 1).val = (p 1).val) (h2 : (i 2).val = (p 2).val) : ((cfg0.win 4).blk t).view.emb p = i := by
  obtain ⟨⟨e0, e1, e2⟩, -⟩ := idx_z t
  have := (p 0).isLt
  blk_ext [e0, e1, e2]

/-- The block of gate weights, read at an index, of any array. -/
theorem w_read (A : S2x128x512.Idx → EReal) (t : Fin cfg0.N) (p : S1x128x512.Idx) (i : S2x128x512.Idx) (h0 : (i 0).val = 0)
    (h1 : (i 1).val = (p 1).val) (h2 : (i 2).val = (p 2).val) : ((cfg0.win 4).blk t).view.read (Elt Ideal) A p = A i :=
  congrArg A (w_emb t p i h0 h1 h2)

/-- Where the bias lies. -/
theorem z_emb (t : Fin cfg0.N) (p : S1x1x512.Idx) (i : S2x1x512.Idx) (h0 : (i 0).val = 0)
    (h2 : (i 2).val = (p 2).val) : ((cfg0.win 5).blk t).view.emb p = i := by
  obtain ⟨-, e0, e1, e2⟩ := idx_z t
  have := (p 0).isLt
  have := (i 1).isLt
  have := (p 1).isLt
  blk_ext [e0, e1, e2]

/-- The bias, read at an index, of any array. -/
theorem z_read (A : S2x1x512.Idx → EReal) (t : Fin cfg0.N) (p : S1x1x512.Idx) (i : S2x1x512.Idx) (h0 : (i 0).val = 0)
    (h2 : (i 2).val = (p 2).val) : ((cfg0.win 5).blk t).view.read (Elt Ideal) A p = A i :=
  congrArg A (z_emb t p i h0 h2)

/-- Where an element of a window of weights lands: on the window's batch, at the window's first row plus its own. -/
theorem land (idx : IVec S2 32) (p q : BitVec 32) (h0 : idx (ix1 0) = p) (h1 : idx (ix1 1) = q) (j : S16x512.Idx) :
    scatter_S2x128x512_S2_S16x512_01_0_01_0.start j idx 0 + scatter_S2x128x512_S2_S16x512_01_0_01_0.window j 0 = p.toInt
    ∧ scatter_S2x128x512_S2_S16x512_01_0_01_0.start j idx 1 + scatter_S2x128x512_S2_S16x512_01_0_01_0.window j 1 = q.toInt + (j 0).val
    ∧ scatter_S2x128x512_S2_S16x512_01_0_01_0.start j idx 2 + scatter_S2x128x512_S2_S16x512_01_0_01_0.window j 2 = (j 1).val := by
  refine ⟨?_, ?_, ?_⟩
  · rw [← h0]
    show (idx _).toInt + ((0 : ℕ) : ℤ) = _
    rw [Int.natCast_zero, add_zero]
    refine congrArg (fun t => (idx t).toInt) (funext fun a => ?_)
    match a with
    | ⟨0, _⟩ => rfl
  · rw [← h1]
    show (idx _).toInt + (((j 0).val : ℕ) : ℤ) = _
    refine congrArg (fun t => (idx t).toInt + (((j 0).val : ℕ) : ℤ)) (funext fun a => ?_)
    match a with
    | ⟨0, _⟩ => rfl
  · show (0 : ℤ) + (((j 1).val : ℕ) : ℤ) = _
    rw [zero_add]

/-- The gate weights as the kernel reads them, on the first batch: 16 rows of weights, then zero rows. -/
theorem pad_apply (x : S2x128x512.Idx → EReal) (hx : ∀ i, x i = 0) (i0 i1 : IVec S2 32)
    (a0 : i0 (ix1 0) = 0#32) (a1 : i0 (ix1 1) = 0#32) (b0 : i1 (ix1 0) = 1#32) (w0 w1 : S16x512.Idx → EReal) (r : Fin 128) (e : Fin 512) :
    Host.scatter scatter_S2x128x512_S2_S16x512_01_0_01_0 (fun _ b => b)
      (Host.scatter scatter_S2x128x512_S2_S16x512_01_0_01_0 (fun _ b => b) x i0 w0) i1 w1 (ix3 0 r e)
      = if h : r.val < 16 then w0 (ix2 ⟨r.val, h⟩ e) else 0 := by
  rw [HostBlock.scatter_miss _ _ _ _ _ fun j => ⟨0, fun hj => absurd (show (1#32 : BitVec 32).toInt = (0 : ℤ) from (land i1 1#32 _ b0 rfl j).1.symm.trans hj) (by decide)⟩]
  split
  · next h =>
    refine HostBlock.scatter_hit _ _ _ _ _ (ix2 ⟨r.val, h⟩ e) (fun a => ?_) (fun j hj => ?_)
    · obtain ⟨p0, p1, p2⟩ := land i0 _ _ a0 a1 (ix2 ⟨r.val, h⟩ e)
      match a with
      | 0 => exact p0
      | 1 => exact p1.trans (zero_add _)
      | 2 => exact p2
    · obtain ⟨-, p1, p2⟩ := land i0 _ _ a0 a1 j
      have q1 : (0 : ℤ) + ((j 0).val : ℤ) = (r.val : ℤ) := p1.symm.trans (hj 1)
      have q2 : ((j 1).val : ℤ) = (e.val : ℤ) := p2.symm.trans (hj 2)
      refine (eq_ix2 j).trans ?_
      have e0 : j 0 = (⟨r.val, h⟩ : Fin 16) := Fin.ext (by show (j 0).val = r.val; omega)
      have e1 : j 1 = e := Fin.ext (by exact_mod_cast q2)
      rw [e0, e1]
  · next h =>
    rw [HostBlock.scatter_miss _ _ _ _ _ fun j => ⟨1, fun hj => ?_⟩, hx]
    have q1 : (0 : ℤ) + ((j 0).val : ℤ) = (r.val : ℤ) := (land i0 _ _ a0 a1 j).2.1.symm.trans hj
    have : (j 0).val < 16 := (j 0).isLt
    omega

/-- The first batch of the gate weights, before they are padded. -/
theorem first_w (w : S2x16x512.Idx → EReal) (r : Fin 16) (e : Fin 512) :
    shapeCast S16x512 (extractStridedSlice S1x16x512 ![0, 0, 0] w slices_S2x16x512_S1x16x512_0_0_0) shapeCasts_S1x16x512_S16x512 (ix2 r e)
      = w (ix3 0 r e) := by
  refine (shapeCast_apply _ _ _ (ix3 0 r e) ?_).trans ?_
  · rw [Shape.rowMajor_val_two, Shape.rowMajor_val_three]
    show (0 * 16 + r.val) * 512 + e.val = r.val * 512 + e.val
    omega
  · refine congrArg w (funext fun a => ?_)
    match a with
    | ⟨0, _⟩ => rfl
    | ⟨1, _⟩ => exact Fin.ext (Nat.zero_add _)
    | ⟨2, _⟩ => exact Fin.ext (Nat.zero_add _)

/-- The gate weights the kernel finds, on the first batch. -/
theorem V_w (c : Dev nD) (r : Fin 128) (e : Fin 512) : V m c main_v12 (ix3 0 r e)
    = if h : r.val < 16 then m ((c : Thread nD τ).loc main_arg1) (ix3 0 ⟨r.val, h⟩ e) else (0 : EReal) := by
  refine Eq.trans ?_ ((pad_apply (fun _ => Ideal.ofBits .f32 0x00000000#32) (fun i => by simp [Ideal.ofBits, Ideal.ieee])
    (concatenate S2 0 [⟨S1, fun _ => 0#32⟩, ⟨S1, fun _ => 0#32⟩] concatenates_S1_S1_S2_d0)
    (concatenate S2 0 [⟨S1, fun _ => 1#32⟩, ⟨S1, fun _ => 16#32⟩] concatenates_S1_S1_S2_d0) ?_ ?_ ?_
    (shapeCast S16x512 (extractStridedSlice S1x16x512 ![0, 0, 0] (m ((c : Thread nD τ).loc main_arg1)) slices_S2x16x512_S1x16x512_0_0_0) shapeCasts_S1x16x512_S16x512)
    (shapeCast S16x512 (extractStridedSlice S1x16x512 ![1, 0, 0] (m ((c : Thread nD τ).loc main_arg1)) slices_S2x16x512_S1x16x512_1_0_0) shapeCasts_S1x16x512_S16x512) r e).trans ?_)
  · refine congrFun ?_ _
    entry_read
    rfl
  · rw [concatenate_pair_apply]; rfl
  · rw [concatenate_pair_apply]; rfl
  · rw [concatenate_pair_apply]; rfl
  · split
    · exact first_w _ _ _
    · rfl

/-- The block of gate weights, read at an index. -/
theorem w_apply (c : Dev nD) (t : Fin cfg0.N) (r : Fin 128) (e : Fin 512) : iblk m c 4 t (ix3 0 r e)
    = if h : r.val < 16 then m ((c : Thread nD τ).loc main_arg1) (ix3 0 ⟨r.val, h⟩ e) else (0 : EReal) :=
  (w_read (V m c (Pipeline.arrRef spec0 4)) t (ix3 0 r e) (ix3 0 r e) rfl rfl rfl).trans (V_w m c r e)

/-- The bias the kernel finds, on the first batch. -/
theorem V_z (c : Dev nD) : V m c main_v13 = shapeCast S2x1x512 (m ((c : Thread nD τ).loc main_arg2)) shapeCasts_S2x512_S2x1x512 := by
  entry_read
  rfl

/-- The bias, read at an index. -/
theorem z_apply (c : Dev nD) (t : Fin cfg0.N) (e : Fin 512) : iblk m c 5 t (ix3 0 0 e) = m ((c : Thread nD τ).loc main_arg2) (ix2 0 e) := by
  refine (z_read (V m c (Pipeline.arrRef spec0 5)) t (ix3 0 0 e) (ix3 0 0 e) rfl rfl).trans
    ((congrFun (show V m c (Pipeline.arrRef spec0 5) = shapeCast S2x1x512 (m ((c : Thread nD τ).loc main_arg2)) shapeCasts_S2x512_S2x1x512 from V_z m c) _).trans ?_)
  refine shapeCast_apply _ _ _ (ix2 0 e) ?_
  rw [Shape.rowMajor_val_two, Shape.rowMajor_val_three]
  rfl

end Cert.KernelIdeal.Hand

end
-- ==== Proof.GlaMath.lean ====
/- The forward attention's pieces over the extended reals: what the kernel makes of a chunk, read at an index, and the two spellings of
   the decay. -/
module

public import proofs.«01_k».proof.Proof.GlaTile
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe

theorem half_value : Ideal.ofBits .f32 1056964608#32 = ((1 / 2 : ℝ) : EReal) := by
  simp only [Ideal.ofBits, Ideal.ieee]
  simp
  rw [← EReal.coe_mul]
  norm_num

theorem eighty_value : Ideal.ofBits .f32 1117782016#32 = ((80 : ℝ) : EReal) := by
  simp only [Ideal.ofBits, Ideal.ieee]
  simp
  rw [← EReal.coe_mul]
  norm_num

theorem sixteenth_value : Ideal.ofBits .f32 1031798784#32 = ((1 / 16 : ℝ) : EReal) := by
  simp only [Ideal.ofBits, Ideal.ieee]
  simp
  rw [← EReal.coe_mul]
  norm_num

theorem sixteen_value : Ideal.ofBits .f32 1098907648#32 = ((16 : ℝ) : EReal) := by
  simp only [Ideal.ofBits, Ideal.ieee]
  simp
  rw [← EReal.coe_mul]
  norm_num

theorem mask_word : ∀ x i : Fin 64, IntOp.cmpi .sle (BitVec.ofNat 32 x.val) (BitVec.ofNat 32 i.val) = if x ≤ i then 1#1 else 0#1 := by
  decide +kernel

theorem mask_real (x i : Fin 64) : FloatOps.sitofp (F := Ideal) .f32
    (BitVec.setWidth 32 (IntOp.cmpi .sle (BitVec.ofNat 32 x.val) (BitVec.ofNat 32 i.val))) = if x ≤ i then (1 : EReal) else 0 := by
  rw [mask_word]
  split
  · show (((BitVec.setWidth 32 1#1).toInt : ℝ) : EReal) = 1
    norm_num
  · show (((BitVec.setWidth 32 0#1).toInt : ℝ) : EReal) = 0
    norm_num

/-- A running sum of finite rows, the rows' rounding parts being zero. -/
theorem sums_apply (x : FVec Ideal S64x512 .f32) (i : Fin 64) (e : Fin 512) (f : Fin 64 → ℝ) (hf : ∀ t, x (ix2 t e) = ((f t : ℝ) : EReal)) :
    sums x (ix2 i e) = ((∑ t : Fin 64, if t ≤ i then f t else 0 : ℝ) : EReal) := by
  have h : sums x (ix2 i e) = ∑ t : Fin 64, FloatOps.sitofp (F := Ideal) .f32
        (BitVec.setWidth 32 (IntOp.cmpi .sle (BitVec.ofNat 32 t.val) (BitVec.ofNat 32 i.val))) * x (ix2 t e)
      + ∑ t : Fin 64, FloatOps.sitofp (F := Ideal) .f32
        (BitVec.setWidth 32 (IntOp.cmpi .sle (BitVec.ofNat 32 t.val) (BitVec.ofNat 32 i.val))) * (x (ix2 t e) - x (ix2 t e)) := by
    pointwise [sums, k0_pay6, k0_pay5]
  rw [h]
  have h1 : ∀ t : Fin 64, FloatOps.sitofp (F := Ideal) .f32
        (BitVec.setWidth 32 (IntOp.cmpi .sle (BitVec.ofNat 32 t.val) (BitVec.ofNat 32 i.val))) * x (ix2 t e)
      = (((if t ≤ i then f t else 0 : ℝ)) : EReal) := fun t => by
    rw [mask_real, hf]
    split
    · exact one_mul _
    · rw [zero_mul]; rfl
  have h2 : ∀ t : Fin 64, FloatOps.sitofp (F := Ideal) .f32
        (BitVec.setWidth 32 (IntOp.cmpi .sle (BitVec.ofNat 32 t.val) (BitVec.ofNat 32 i.val))) * (x (ix2 t e) - x (ix2 t e)) = 0 := fun t => by
    rw [hf, ← EReal.coe_sub, sub_self]
    exact mul_zero _
  rw [Finset.sum_congr rfl fun t _ => h1 t, Finset.sum_congr rfl fun t _ => h2 t, Finset.sum_const_zero, add_zero]
  exact (map_sum (⟨⟨fun r : ℝ => (r : EReal), rfl⟩, fun a b => EReal.coe_add a b⟩ : ℝ →+ EReal) _ _).symm

/-- The state after a chunk. -/
theorem stepS_apply (S : FVec Ideal S256x128 .f32) (b : FVec Ideal S64x128 .f32) (k : FVec Ideal S64x128 .f32) (v : FVec Ideal S64x256 .bf16)
    (y : Fin 256) (d : Fin 128) : stepS S b k v (ix2 y d) = Ideal.exp (b (ix2 63 d)) * (S (ix2 y d) : EReal)
      + ∑ j : Fin 64, v (ix2 j y) * (k (ix2 j d) * Ideal.exp (b (ix2 63 d) - b (ix2 j d))) := by
  pointwise [stepS, k0_pay23, lastRow]

/-- The decay between two rows, split at half of the chunk's last: the clamps do nothing where the chunk's decay is at least `-160`. -/
theorem decay_split (bi bj bl : ℝ) (h0 : -160 ≤ bl) (h1 : bl ≤ bi) (h2 : bi ≤ 0) (h3 : bl ≤ bj) (h4 : bj ≤ 0) :
    Ideal.exp (min ((bi : EReal) - Ideal.ofBits .f32 1056964608#32 * (bl : EReal)) (Ideal.ofBits .f32 1117782016#32))
      * Ideal.exp (min (Ideal.ofBits .f32 1056964608#32 * (bl : EReal) - (bj : EReal)) (Ideal.ofBits .f32 1117782016#32))
      = Ideal.exp ((bi : EReal) - (bj : EReal)) := by
  rw [half_value, eighty_value, ← EReal.coe_mul, ← EReal.coe_sub, ← EReal.coe_sub, ← EReal.coe_sub,
    min_eq_left (EReal.coe_le_coe_iff.2 (by linarith)), min_eq_left (EReal.coe_le_coe_iff.2 (by linarith))]
  show ((Real.exp _ : ℝ) : EReal) * ((Real.exp _ : ℝ) : EReal) = ((Real.exp _ : ℝ) : EReal)
  rw [← EReal.coe_mul, ← Real.exp_add]
  congr 2
  ring

/-- A chunk's rows: the attention within the chunk and the state's share. -/
theorem tileO_apply (S : FVec Ideal S256x128 .f32) (b q k : FVec Ideal S64x128 .f32) (v : FVec Ideal S64x256 .bf16)
    (i : Fin 64) (y : Fin 256) (B : Fin 64 → Fin 128 → ℝ) (hB : ∀ t d, b (ix2 t d) = ((B t d : ℝ) : EReal))
    (h0 : ∀ d, -160 ≤ B 63 d) (h1 : ∀ t d, B 63 d ≤ B t d) (h2 : ∀ t d, B t d ≤ 0) :
    tileO S b q k v (ix3 0 i y) = ∑ x : Fin 64, (v (ix2 x y) : EReal) *
        ∑ e : Fin 128, q (ix2 i e) * k (ix2 x e) * Ideal.exp (if x ≤ i then (b (ix2 i e) : EReal) - b (ix2 x e) else ⊥)
      + ∑ e : Fin 128, (S (ix2 y e) : EReal) * (q (ix2 i e) * Ideal.exp (b (ix2 i e))) := by
  have h : tileO S b q k v (ix3 0 i y) = ∑ x : Fin 64, Scalar.select (IntOp.cmpi .sle (BitVec.ofNat 32 x.val) (BitVec.ofNat 32 i.val))
      ((∑ e : Fin 128, q (ix2 i e) * Ideal.exp (min (b (ix2 i e) - Ideal.ofBits .f32 1056964608#32 * b (ix2 63 e)) (Ideal.ofBits .f32 1117782016#32))
        * (k (ix2 x e) * Ideal.exp (min (Ideal.ofBits .f32 1056964608#32 * b (ix2 63 e) - b (ix2 x e)) (Ideal.ofBits .f32 1117782016#32))))
        * v (ix2 x y) : EReal) 0
      + ∑ e : Fin 128, q (ix2 i e) * Ideal.exp (b (ix2 i e)) * S (ix2 y e) := by
    pointwise [tileO, k0_pay24, k0_pay5, lastRow, halfRow]
  rw [h]
  refine congrArg₂ (fun a c : EReal => a + c) (Finset.sum_congr rfl fun x _ => ?_) (Finset.sum_congr rfl fun e _ => mul_comm _ _)
  rw [mask_word]
  by_cases hc : x ≤ i
  · rw [if_pos hc]
    refine (mul_comm (_ : EReal) _).trans (congrArg (fun a : EReal => (v (ix2 x y) : EReal) * a) (Finset.sum_congr rfl fun e _ => ?_))
    rw [if_pos hc]
    have hs := decay_split (B i e) (B x e) (B 63 e) (h0 e) (h1 i e) (h2 i e) (h1 x e) (h2 x e)
    rw [← hB, ← hB, ← hB] at hs
    rw [← hs]
    exact mul_mul_mul_comm (_ : EReal) _ _ _
  · rw [if_neg hc]
    refine Eq.trans (show _ = (0 : EReal) from rfl) ?_
    symm
    refine (congrArg (fun a : EReal => (v (ix2 x y) : EReal) * a) (Finset.sum_eq_zero fun e _ => ?_)).trans (mul_zero _)
    rw [if_neg hc]
    exact mul_zero _

theorem chunkG_apply (c : Fin 4) (g : FVec Ideal S256x512 .f32) (i : Fin 64) (e : Fin 512) :
    chunkG c g (ix2 i e) = g (ix2 ⟨64 * c.val + i.val, by omega⟩ e) := by
  fin_cases c <;> pointwise [chunkG]

theorem headG_apply (h : Fin 4) (x : FVec Ideal S64x512 .f32) (i : Fin 64) (d : Fin 128) :
    headG h x (ix2 i d) = x (ix2 i ⟨128 * h.val + d.val, by omega⟩) := by
  fin_cases h <;> pointwise [headG]

theorem tileK_apply (c h : Fin 4) (x : FVec Ideal S256x512 .f32) (i : Fin 64) (d : Fin 128) :
    tileK c h x (ix2 i d) = x (ix2 ⟨64 * c.val + i.val, by omega⟩ ⟨128 * h.val + d.val, by omega⟩) := by
  pointwise [tileK]

theorem tileV_apply (c h : Fin 4) (x : FVec Ideal S256x1024 .f32) (i : Fin 64) (y : Fin 256) :
    tileV c h x (ix2 i y) = x (ix2 ⟨64 * c.val + i.val, by omega⟩ ⟨256 * h.val + y.val, by omega⟩) := by
  pointwise [tileV]

end Cert.KernelIdeal.Hand

end
-- ==== Proof.RefRun.lean ====
/-
  The scan of the reference, one chunk a trip: the values carried around its loop are the states of the recursion
  `step`, and the run ends with the result read off the last state.
-/
module

public import proofs.«01_k».proof.Proof.Gen.ReferenceIdeal.Run
public import proofs.«01_k».proof.Proof.Gen.ReferenceIdeal.Step

@[expose] public section

set_option maxRecDepth 16384

noncomputable section

namespace Cert.ReferenceIdeal.Scan

open Cert.ReferenceIdeal Cert.ReferenceIdeal.Gen Cert.ReferenceIdeal.Value Cert.ReferenceIdeal.Step
open Idealize.ShloMosaic Idealize.ShloMosaic.TcCoe Idealize.SL.Sem Idealize.ShloMosaic.StableHlo

variable {F : FTy → Type} [FloatOps F]

/-- The buffers of the loop hold the state `s` before trip `j`. -/
structure At (W : Valuation τ sig (Elt F)) (s : State F) (j : ℕ) : Prop where
  state : W (Proc.devRef .tc main_v39_6) = s.main_v39_6
  stack : W (Proc.devRef .tc main_v39_7) = s.main_v39_7
  q : W (Proc.devRef .tc main_v39_0) = s.main_v39_0
  k : W (Proc.devRef .tc main_v39_1) = s.main_v39_1
  v : W (Proc.devRef .tc main_v39_2) = s.main_v39_2
  g : W (Proc.devRef .tc main_v39_3) = s.main_v39_3
  trip : W (Proc.devRef .tc main_v39_5) = constantI S_ 32 (BitVec.ofNat 32 j)
  mask : W (Proc.devRef .tc main_v39_4) = K_main_v28 (F := F)

/-- The linear-attention state after one trip. -/
theorem next_state {W : Valuation τ sig (Elt F)} {s : State F} {j : ℕ} (h : At W s j) :
    Value.step_main_v39_6 W = (step j s).main_v39_6 := by
  obtain ⟨s6, s7, s0, s1, s2, s3⟩ := s
  obtain ⟨h6, h7, h0, h1, h2, h3, h5, h4⟩ := h
  dsimp only at h6 h7 h0 h1 h2 h3
  subst h6 h7 h0 h1 h2 h3
  unfold Value.step_main_v39_6 res_main_while0b_v46 res_main_while0b_v49 res_main_while0b_v47
  simp only [h5]
  rfl

/-- The stack of chunk outputs after one trip. -/
theorem next_stack {W : Valuation τ sig (Elt F)} {s : State F} {j : ℕ} (h : At W s j) :
    Value.step_main_v39_7 W = (step j s).main_v39_7 := by
  obtain ⟨s6, s7, s0, s1, s2, s3⟩ := s
  obtain ⟨h6, h7, h0, h1, h2, h3, h5, h4⟩ := h
  dsimp only at h6 h7 h0 h1 h2 h3
  subst h6 h7 h0 h1 h2 h3
  unfold Value.step_main_v39_7 res_main_while0b_v45 res_main_while0b_v46 res_main_while0b_v49 res_main_while0b_v47
  simp only [h5, h4]
  rfl

/-- One trip takes the buffers from the state `s` to the state after it. -/
theorem At.next {W : Valuation τ sig (Elt F)} {s : State F} {j : ℕ} (h : At W s j) : At (STEP W) (step j s) (j + 1) where
  state := (STEP_main_v39_6 W).trans (next_state h)
  stack := (STEP_main_v39_7 W).trans (next_stack h)
  q := (STEP_main_v39_0 W).trans h.q
  k := (STEP_main_v39_1 W).trans h.k
  v := (STEP_main_v39_2 W).trans h.v
  g := (STEP_main_v39_3 W).trans h.g
  mask := (STEP_main_v39_4 W).trans h.mask
  trip := by
    rw [STEP_main_v39_5 W]
    unfold Value.step_main_v39_5
    rw [h.trip]
    exact funext fun _ => (BitVec.ofNat_add j 1).symm

variable (m : (ℓ : Loc nD τ sig) → Buf (Elt F) ℓ) (ρ : Dev nD → PrngReg)

/-- The state before the first trip. -/
abbrev start (c : Dev nD) : State F :=
  init (m ((c.tc : Thread nD τ).loc main_arg0)) (m ((c.tc : Thread nD τ).loc main_arg1)) (m ((c.tc : Thread nD τ).loc main_arg2))

/-- The states before each trip. -/
def scan (c : Dev nD) : ℕ → State F
  | 0 => start m c
  | j + 1 => step j (scan c j)

set_option maxRecDepth 65536 in
/-- The operations before the loop leave the first state. -/
theorem at_start (c : Dev nD) : At (entryContents preI m c) (start m c) 0 := by
  constructor
  all_goals simp only [entryContents, afterL_cons, afterL_nil]
  all_goals after_reads_simp
  all_goals rfl

theorem at_scan (c : Dev nD) (j : ℕ) : At (STEP^[j] (entryContents preI m c)) (scan m c j) j := by
  induction j with
  | zero => exact at_start m c
  | succ j ih =>
    rw [Function.iterate_succ_apply']
    exact ih.next

/-- The reference ends with its result read off the last state, its arguments unchanged. -/
theorem run_scan : θ_run (defs (F := F)) (onTc (τ := τ) (main (F := F))) ⟨m, fun _ => 0, ρ⟩ fun r => ∀ c : Dev nD,
      r.2.mem ((c.tc : Thread nD τ).loc main_v44) = R_main_v44 (scan m c 260)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  unfold Value.out_main_v44 R_main_v44
  rw [(at_scan m c 260).stack]

end Cert.ReferenceIdeal.Scan

end
-- ==== Proof.RefRead.lean ====
/- The forward attention's reference before its loop, read at an index: the rows reordered, the queries, keys and values in chunks,
   and the log gates. -/
module

public import proofs.«01_k».proof.Proof.RefRun
public import Idealize.ShloMosaic.Lib.Pointwise

@[expose] public section

set_option maxRecDepth 16384

noncomputable section

namespace Cert.ReferenceIdeal.Scan

open Cert.ReferenceIdeal Cert.ReferenceIdeal.Step Idealize.ShloMosaic Idealize.ShloMosaic.TcCoe Idealize.SL.Sem

/-- The row of the argument that stands at row `r` of the scan's order: the context's rows first, then the latents'. -/
def rowAt (r : Fin 16640) : Fin 16640 := ⟨if r.val < 256 then 16384 + r.val else r.val - 256, by have := r.isLt; split <;> omega⟩

variable (x : FVec Ideal S2x16640x6272 .f32) (w : FVec Ideal S2x16x512 .f32) (z : FVec Ideal S2x512 .f32)

/-- The reordered rows. -/
theorem seq_apply (b : Fin 2) (r : Fin 16640) (e : Fin 6272) : A_main_v2 (F := Ideal) x w z (ix3 b r e) = x (ix3 b (rowAt r) e) := by
  unfold A_main_v2
  rw [concatenate_pair_apply]
  split
  · next h =>
    have h' : r.val < 256 := h
    refine congrArg x (funext fun a => ?_)
    match a with
    | ⟨0, _⟩ => exact Fin.ext (Nat.zero_add _)
    | ⟨1, _⟩ => exact Fin.ext (by unfold rowAt; exact (if_pos h').symm)
    | ⟨2, _⟩ => exact Fin.ext (Nat.zero_add _)
  · next h =>
    have h' : ¬ r.val < 256 := h
    refine congrArg x (funext fun a => ?_)
    match a with
    | ⟨0, _⟩ => exact Fin.ext (Nat.zero_add _)
    | ⟨1, _⟩ => exact Fin.ext ((Nat.zero_add _).trans (by unfold rowAt; exact (if_neg h').symm))
    | ⟨2, _⟩ => exact Fin.ext (Nat.zero_add _)

/-- Row `i` of chunk `n` in the scan's order. -/
def chunkRow (n : Fin 260) (i : Fin 64) : Fin 16640 := ⟨n.val * 64 + i.val, by have := n.isLt; have := i.isLt; omega⟩

/-- A head's lane among 128 per head. -/
def lane128 (h : Fin 4) (d : Fin 128) : Fin 512 := ⟨h.val * 128 + d.val, by have := h.isLt; have := d.isLt; omega⟩

/-- A head's lane among 256 per head. -/
def lane256 (h : Fin 4) (y : Fin 256) : Fin 1024 := ⟨h.val * 256 + y.val, by have := h.isLt; have := y.isLt; omega⟩

theorem v17_apply (b : Fin 2) (r : Fin 16640) (e : Fin 512) :
    A_main_v17 (F := Ideal) x w z (ix3 b r e) = x (ix3 b (rowAt r) ⟨3072 + e.val, by have := e.isLt; omega⟩) := by
  rw [← seq_apply x w z]
  unfold A_main_v17
  refine congrArg (A_main_v2 (F := Ideal) x w z) (funext fun a => ?_)
  match a with
  | ⟨0, _⟩ => exact Fin.ext (Nat.zero_add _)
  | ⟨1, _⟩ => exact Fin.ext (Nat.zero_add _)
  | ⟨2, _⟩ => rfl

theorem v21_apply (b : Fin 2) (r : Fin 16640) (e : Fin 512) :
    A_main_v21 (F := Ideal) x w z (ix3 b r e) = x (ix3 b (rowAt r) ⟨3584 + e.val, by have := e.isLt; omega⟩) := by
  rw [← seq_apply x w z]
  unfold A_main_v21
  refine congrArg (A_main_v2 (F := Ideal) x w z) (funext fun a => ?_)
  match a with
  | ⟨0, _⟩ => exact Fin.ext (Nat.zero_add _)
  | ⟨1, _⟩ => exact Fin.ext (Nat.zero_add _)
  | ⟨2, _⟩ => rfl

theorem v23_apply (b : Fin 2) (r : Fin 16640) (e : Fin 1024) :
    A_main_v23 (F := Ideal) x w z (ix3 b r e) = x (ix3 b (rowAt r) ⟨4096 + e.val, by have := e.isLt; omega⟩) := by
  rw [← seq_apply x w z]
  unfold A_main_v23
  refine congrArg (A_main_v2 (F := Ideal) x w z) (funext fun a => ?_)
  match a with
  | ⟨0, _⟩ => exact Fin.ext (Nat.zero_add _)
  | ⟨1, _⟩ => exact Fin.ext (Nat.zero_add _)
  | ⟨2, _⟩ => rfl

theorem v31_v20 (n : Fin 260) (b : Fin 2) (i : Fin 64) (h : Fin 4) (d : Fin 128) :
    A_main_v31 (F := Ideal) x w z (ix5 n b i h d) = A_main_v20 (F := Ideal) x w z (ix4 b (chunkRow n i) h d) := by
  pointwise [A_main_v31, A_main_v30, chunkRow]

theorem v18_v17 (b : Fin 2) (r : Fin 16640) (h : Fin 4) (d : Fin 128) :
    A_main_v18 (F := Ideal) x w z (ix4 b r h d) = A_main_v17 (F := Ideal) x w z (ix3 b r (lane128 h d)) := by
  pointwise [A_main_v18, lane128]

theorem v33_v21 (n : Fin 260) (b : Fin 2) (i : Fin 64) (h : Fin 4) (d : Fin 128) :
    A_main_v33 (F := Ideal) x w z (ix5 n b i h d) = A_main_v21 (F := Ideal) x w z (ix3 b (chunkRow n i) (lane128 h d)) := by
  pointwise [A_main_v33, A_main_v32, A_main_v22, chunkRow, lane128]

theorem v35_v23 (n : Fin 260) (b : Fin 2) (i : Fin 64) (h : Fin 4) (y : Fin 256) :
    A_main_v35 (F := Ideal) x w z (ix5 n b i h y) = A_main_v23 (F := Ideal) x w z (ix3 b (chunkRow n i) (lane256 h y)) := by
  pointwise [A_main_v35, A_main_v34, A_main_v24, chunkRow, lane256]

theorem v37_v16 (n : Fin 260) (b : Fin 2) (i : Fin 64) (h : Fin 4) (d : Fin 128) :
    A_main_v37 (F := Ideal) x w z (ix5 n b i h d) = A_main_v16 (F := Ideal) x w z (ix3 b (chunkRow n i) (lane128 h d)) := by
  pointwise [A_main_v37, A_main_v36, A_main_v25, chunkRow, lane128]

theorem mulf_at {s : Shape} (p q : FVec Ideal s .f32) (j : s.Idx) (a c : EReal) (hp : p j = a) (hq : q j = c) :
    mulf p q j = a * c := by subst hp hq; rfl

theorem scale_apply (b : Fin 2) (r : Fin 16640) (h : Fin 4) (d : Fin 128) :
    K_main_v19 (F := Ideal) (ix4 b r h d) = Ideal.ofBits .f32 0x3DB504F3#32 := by
  unfold K_main_v19
  generalize hk : K_main_cst_0 (F := Ideal) = k
  have e : broadcastInDim S2x16640x4x128 ![] Gen.bcast_S_S2x16640x4x128 k (ix4 b r h d) = k (fun a => a.elim0) := congrArg k (funext fun a => a.elim0)
  exact e.trans (by subst hk; rfl)

/-- A chunk's queries, scaled. -/
theorem queries_apply (n : Fin 260) (b : Fin 2) (i : Fin 64) (h : Fin 4) (d : Fin 128) :
    A_main_v31 (F := Ideal) x w z (ix5 n b i h d)
      = x (ix3 b (rowAt (chunkRow n i)) ⟨3072 + (lane128 h d).val, by have := (lane128 h d).isLt; omega⟩) * Ideal.ofBits .f32 0x3DB504F3#32 := by
  refine (v31_v20 x w z n b i h d).trans ?_
  unfold A_main_v20
  exact mulf_at _ _ _ _ _ ((v18_v17 x w z b (chunkRow n i) h d).trans (v17_apply x w z b (chunkRow n i) (lane128 h d)))
    (scale_apply b (chunkRow n i) h d)

/-- A chunk's keys. -/
theorem keys_apply (n : Fin 260) (b : Fin 2) (i : Fin 64) (h : Fin 4) (d : Fin 128) :
    A_main_v33 (F := Ideal) x w z (ix5 n b i h d)
      = x (ix3 b (rowAt (chunkRow n i)) ⟨3584 + (lane128 h d).val, by have := (lane128 h d).isLt; omega⟩) :=
  (v33_v21 x w z n b i h d).trans (v21_apply x w z b (chunkRow n i) (lane128 h d))

/-- A chunk's values. -/
theorem values_apply (n : Fin 260) (b : Fin 2) (i : Fin 64) (h : Fin 4) (y : Fin 256) :
    A_main_v35 (F := Ideal) x w z (ix5 n b i h y)
      = x (ix3 b (rowAt (chunkRow n i)) ⟨4096 + (lane256 h y).val, by have := (lane256 h y).isLt; omega⟩) :=
  (v35_v23 x w z n b i h y).trans (v23_apply x w z b (chunkRow n i) (lane256 h y))

/-- The log gate of a row before its nonlinearity. -/
def gateArg (x : FVec Ideal S2x16640x6272 .f32) (w : FVec Ideal S2x16x512 .f32) (z : FVec Ideal S2x512 .f32)
    (b : Fin 2) (r : Fin 16640) (e : Fin 512) : EReal :=
  ∑ j : Fin 16, x (ix3 b r ⟨6144 + j.val, by have := j.isLt; omega⟩) * w (ix3 0 j e) + z (ix2 0 e)

theorem v11_apply (b : Fin 2) (r : Fin 16640) (e : Fin 512) :
    A_main_v11 (F := Ideal) x w z (ix3 b r e) = gateArg x w z b (rowAt r) e := by
  have h : A_main_v11 (F := Ideal) x w z (ix3 b r e)
      = ∑ j : Fin 16, A_main_v2 (F := Ideal) x w z (ix3 b r ⟨6144 + j.val, by have := j.isLt; omega⟩) * w (ix3 0 j e) + z (ix2 0 e) := by
    pointwise [A_main_v11, A_main_v10, A_main_v9, A_main_v8, A_main_v7, A_main_v6, A_main_v5, A_main_v4, A_main_v3]
  rw [h]
  exact congrArg (fun t : EReal => t + z (ix2 0 e)) (Finset.sum_congr rfl fun j _ => by rw [seq_apply])

/-- A row's log gate: minus the softplus of minus its argument, by sixteen. -/
def softGate (t : EReal) : EReal :=
  Ideal.div (-(max (-t) 0 + Ideal.log1p (Ideal.exp (-FloatOps.absf (F := Ideal) (φ := .f32) (-t))))) (Ideal.ofBits .f32 1098907648#32)

theorem v16_apply (b : Fin 2) (r : Fin 16640) (e : Fin 512) :
    A_main_v16 (F := Ideal) x w z (ix3 b r e) = softGate (gateArg x w z b (rowAt r) e) := by
  rw [← v11_apply]
  pointwise [A_main_v16, A_main_v14, A_main_v13, A_main_call0_v11, A_main_call0_v10, A_main_call0_v9, A_main_call0_v8, A_main_call0_v7,
    A_main_call0_v6, A_main_call0_v4, A_main_call0_v3, A_main_call0_v1, A_main_v12, K_main_call0_v2, K_main_call0_v0, K_main_call0_v5,
    K_main_call0_cst, K_main_v15, K_main_cst]
  unfold softGate
  rw [if_neg (not_not_intro rfl)]

/-- A chunk's log gates. -/
theorem gates_apply (n : Fin 260) (b : Fin 2) (i : Fin 64) (h : Fin 4) (d : Fin 128) :
    A_main_v37 (F := Ideal) x w z (ix5 n b i h d) = softGate (gateArg x w z b (rowAt (chunkRow n i)) (lane128 h d)) :=
  (v37_v16 x w z n b i h d).trans (v16_apply x w z b (chunkRow n i) (lane128 h d))

end Cert.ReferenceIdeal.Scan

end
-- ==== Proof.GlaGate.lean ====
/- The log gate over the extended reals: the kernel's product of rows split in two halves is the plain product where the rows are finite,
   and its spelling of the log sigmoid is the reference's. -/
module

public import proofs.«01_k».proof.Proof.GlaMath
public import proofs.«01_k».proof.Proof.RefRead

@[expose] public section

set_option maxRecDepth 16384

noncomputable section

namespace Cert.KernelIdeal.Hand

open Cert.KernelIdeal Cert.KernelIdeal.Gen Idealize.ShloMosaic Idealize.ShloMosaic.TcCoe
open Cert.ReferenceIdeal.Scan (softGate)

/-- Row and column of the padded gate product: the two halves' three products are the plain product of the sixteen lanes. -/
theorem split_product (G W : Fin 128 → EReal) (hG : ∀ x : Fin 128, x.val < 16 → ∃ r : ℝ, G x = r)
    (hW : ∀ x : Fin 128, x.val < 16 → ∃ r : ℝ, W x = r) (h0 : ∀ x : Fin 128, 16 ≤ x.val → W x = 0) :
    ∑ x : Fin 128, G x * W x + ∑ x : Fin 128, G x * (W x - W x) + ∑ x : Fin 128, (G x - G x) * W x
      = ∑ j : Fin 16, G ⟨j.val, by omega⟩ * W ⟨j.val, by omega⟩ := by
  have h1 : ∀ x : Fin 128, G x * (W x - W x) = 0 := fun x => by
    by_cases hx : x.val < 16
    · obtain ⟨r, hr⟩ := hW x hx
      rw [hr, ← EReal.coe_sub, sub_self]
      exact mul_zero _
    · rw [h0 x (by omega), sub_zero, mul_zero]
  have h2 : ∀ x : Fin 128, (G x - G x) * W x = 0 := fun x => by
    by_cases hx : x.val < 16
    · obtain ⟨r, hr⟩ := hG x hx
      rw [hr, ← EReal.coe_sub, sub_self]
      exact zero_mul _
    · rw [h0 x (by omega), mul_zero]
  rw [Finset.sum_congr rfl fun x _ => h1 x, Finset.sum_congr rfl fun x _ => h2 x, Finset.sum_const_zero, add_zero, add_zero]
  refine (Fin.sum_univ_add (fun x : Fin (16 + 112) => G x * W x)).trans ?_
  rw [Finset.sum_eq_zero (f := fun i : Fin 112 => G (Fin.natAdd 16 i) * W (Fin.natAdd 16 i)) (fun i _ => by
    rw [h0 _ (show 16 ≤ 16 + i.val by omega), mul_zero]), add_zero]
  rfl

/-- The kernel's log gate of a row before its nonlinearity. -/
def hardGate (t : EReal) : EReal :=
  (min t 0 - Ideal.log (1 + Ideal.exp (0 - FloatOps.absf (F := Ideal) (φ := .f32) t))) * Ideal.ofBits .f32 1031798784#32

/-- The log gate the kernel makes of a row and its weights. -/
theorem gate_apply (g : Vec Ideal S1x256x128 .f32) (w : Vec Ideal S1x128x512 .f32) (b : Vec Ideal S1x1x512 .f32) (i : Fin 256) (e : Fin 512)
    (hG : ∀ x : Fin 128, x.val < 16 → ∃ r : ℝ, g (ix3 0 i x) = (r : EReal))
    (hW : ∀ x : Fin 128, x.val < 16 → ∃ r : ℝ, w (ix3 0 x e) = (r : EReal)) (h0 : ∀ x : Fin 128, 16 ≤ x.val → w (ix3 0 x e) = (0 : EReal)) :
    k0_pay8 (k0_pay7 g w b) (ix2 i e)
      = hardGate (∑ j : Fin 16, (g (ix3 0 i ⟨j.val, by omega⟩) : EReal) * w (ix3 0 ⟨j.val, by omega⟩ e) + b (ix3 0 0 e)) := by
  rw [← split_product (fun x => g (ix3 0 i x)) (fun x => w (ix3 0 x e)) hG hW h0]
  unfold hardGate
  pointwise [k0_pay8, k0_pay7]

theorem absf_ereal (t : EReal) : FloatOps.absf (F := Ideal) (φ := .f32) t = max t (-t) := rfl

theorem coe_max' (a b : ℝ) : ((max a b : ℝ) : EReal) = max (a : EReal) b := EReal.coe_strictMono.monotone.map_max

theorem coe_min' (a b : ℝ) : ((min a b : ℝ) : EReal) = min (a : EReal) b := EReal.coe_strictMono.monotone.map_min

theorem log_one' : Ideal.log 1 = 0 := by
  rw [← EReal.coe_one, Ideal.log_coe, if_neg (by norm_num), Real.log_one, EReal.coe_zero]

/-- Where the gate's argument is at least `-39`, both spellings give one real number, between `-40/16` and zero. -/
theorem gate_value (t : EReal) (ht : ((-39 : ℝ) : EReal) ≤ t) :
    ∃ r : ℝ, hardGate t = r ∧ softGate t = r ∧ -(5 / 2) ≤ r ∧ r ≤ 0 := by
  have h16 : ((16 : ℝ) : EReal) ≠ 0 := by exact_mod_cast (by norm_num : (16 : ℝ) ≠ 0)
  induction t with
  | bot => exact absurd (le_bot_iff.1 ht) (EReal.coe_ne_bot _)
  | top =>
    refine ⟨0, ?_, ?_, by norm_num, le_refl _⟩
    · unfold hardGate
      rw [absf_ereal, sixteenth_value]
      simp [log_one']
    · unfold softGate
      rw [absf_ereal, sixteen_value]
      simp [Ideal.log1p, log_one', Ideal.div]
  | coe r =>
    have hr : -39 ≤ r := by exact_mod_cast ht
    have hp : (0 : ℝ) < 1 + Real.exp (-|r|) := by positivity
    have habs : FloatOps.absf (F := Ideal) (φ := .f32) (r : EReal) = ((|r| : ℝ) : EReal) := by
      rw [absf_ereal, ← EReal.coe_neg]; exact (coe_max' r (-r)).symm
    have habs' : FloatOps.absf (F := Ideal) (φ := .f32) (-(r : EReal)) = ((|r| : ℝ) : EReal) := by
      rw [absf_ereal, neg_neg, max_comm, ← EReal.coe_neg]; exact (coe_max' r (-r)).symm
    have hlog : Ideal.log (1 + ((Real.exp (-|r|) : ℝ) : EReal)) = ((Real.log (1 + Real.exp (-|r|)) : ℝ) : EReal) := by
      rw [← EReal.coe_one, ← EReal.coe_add, Ideal.log_coe, if_neg (not_le.2 hp)]
    have hl0 : 0 ≤ Real.log (1 + Real.exp (-|r|)) := Real.log_nonneg (by have := Real.exp_pos (-|r|); linarith)
    have hl1 : Real.log (1 + Real.exp (-|r|)) ≤ 1 := by
      refine (Real.log_le_sub_one_of_pos hp).trans ?_
      have : Real.exp (-|r|) ≤ 1 := Real.exp_le_one_iff.2 (by have := abs_nonneg r; linarith)
      linarith
    refine ⟨(min r 0 - Real.log (1 + Real.exp (-|r|))) * (1 / 16), ?_, ?_, ?_, ?_⟩
    · unfold hardGate
      rw [habs, sixteenth_value, zero_sub, ← EReal.coe_neg, Ideal.exp_coe, hlog]
      rw [show min (r : EReal) 0 = ((min r 0 : ℝ) : EReal) from (coe_min' r 0).symm, ← EReal.coe_sub, ← EReal.coe_mul]
    · unfold softGate
      rw [habs', sixteen_value, ← EReal.coe_neg, ← EReal.coe_neg, Ideal.exp_coe, Ideal.log1p, hlog]
      rw [show max ((-r : ℝ) : EReal) 0 = ((max (-r) 0 : ℝ) : EReal) from (coe_max' (-r) 0).symm, ← EReal.coe_add, ← EReal.coe_neg]
      unfold Ideal.div
      rw [if_neg h16, ← EReal.coe_inv, ← EReal.coe_mul]
      congr 1
      have : max (-r) 0 = -min r 0 := by rw [← neg_zero (G := ℝ), max_neg_neg, neg_zero]
      rw [this]
      ring
    · rcases min_choice r 0 with h | h <;> rw [h] <;> linarith
    · have := min_le_right r 0
      linarith

end Cert.KernelIdeal.Hand

end
-- ==== Proof.RefStep.lean ====
/- The forward attention's reference: one trip of its loop read at an index, and the loop's states as a recurrence. -/
module

public import proofs.«01_k».proof.Proof.RefRun
public import Idealize.ShloMosaic.Lib.Pointwise
public import Idealize.ShloMosaic.Lib.WordCmp
public import Idealize.ShloMosaic.Lib.DynamicIndex

@[expose] public section

set_option maxRecDepth 16384

noncomputable section

namespace Cert.ReferenceIdeal.Scan

open Cert.ReferenceIdeal Cert.ReferenceIdeal.Step Idealize.ShloMosaic Idealize.ShloMosaic.TcCoe Idealize.SL.Sem

theorem foldl_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The windows of a running sum over 64 rows, turned to a sum over the rows up to one. -/
theorem sum_window (f : Fin 64 → EReal) (i : Fin 64) :
    ∑ n : Fin 64, (if hn : 63 ≤ i.val + n.val then f ⟨i.val + n.val - 63, by omega⟩ else 0) = ∑ j : Fin 64, if j ≤ i then f j else 0 := by
  refine Fintype.sum_equiv (Equiv.addRight (i + 1)) _ _ fun n => ?_
  have hv : (n + (i + 1)).val = (n.val + (i.val + 1) % 64) % 64 := by simp [Fin.val_add]
  have hi := i.isLt
  have hn := n.isLt
  show _ = if n + (i + 1) ≤ i then f (n + (i + 1)) else 0
  by_cases hc : 63 ≤ i.val + n.val
  · have he : n + (i + 1) = ⟨i.val + n.val - 63, by omega⟩ := Fin.ext (by rw [hv]; show _ = i.val + n.val - 63; omega)
    rw [dif_pos hc, he, if_pos (by show i.val + n.val - 63 ≤ i.val; omega)]
  · rw [dif_neg hc, if_neg]
    show ¬ (n + (i + 1)).val ≤ i.val
    rw [hv]
    omega

abbrev win : Shape := ⟨4, ![1, 64, 1, 1]⟩

theorem win_numel : win.numel = 64 := by decide +kernel

theorem win_pos : ∀ n : Fin win.numel, (win.rowMajor.symm n 0).val = 0 ∧ (win.rowMajor.symm n 1).val = n.val
    ∧ (win.rowMajor.symm n 2).val = 0 ∧ (win.rowMajor.symm n 3).val = 0 := by decide +kernel

/-- The running sum of a chunk's rows. -/
theorem running_apply (f : FVec Ideal S2x64x4x128 .f32) (init : FVec Ideal S_ .f32) (hinit : init (Shape.Idx.first Gen.h_S_) = (0 : EReal))
    (b : Fin 2) (i : Fin 64) (h : Fin 4) (d : Fin 128) :
    Host.reduceWindowAdd ![1, 64, 1, 1] ![1, 1, 1, 1] ![0, 63, 0, 0] ![0, 0, 0, 0] f init
      Gen.reduceWindows_S2x64x4x128_S2x64x4x128_w1s1p0_0_w64s1p63_0_w1s1p0_0_w1s1p0_0 Gen.h_S_ (ix4 b i h d)
      = ∑ j : Fin 64, if j ≤ i then (f (ix4 b j h d) : EReal) else 0 := by
  have hi := i.isLt
  have hb := b.isLt
  have hh := h.isLt
  have hd := d.isLt
  show Ideal.hostReduceWindowAdd (s := S2x64x4x128) ![1, 64, 1, 1] ![1, 1, 1, 1] ![0, 63, 0, 0] ![0, 0, 0, 0]
    Gen.reduceWindows_S2x64x4x128_S2x64x4x128_w1s1p0_0_w64s1p63_0_w1s1p0_0_w1s1p0_0 f (init (Shape.Idx.first Gen.h_S_)) (ix4 b i h d) = _
  unfold Ideal.hostReduceWindowAdd Host.reduceWindow
  refine (foldl_sum _ _ _).trans ?_
  rw [hinit, zero_add, ← List.ofFn_eq_map, List.sum_ofFn, ← sum_window (fun j => (f (ix4 b j h d) : EReal)) i]
  refine Fintype.sum_equiv (finCongr win_numel) _ _ fun n => ?_
  obtain ⟨h0, h1, h2, h3⟩ := win_pos n
  have hn : n.val < 64 := (finCongr win_numel n).isLt
  by_cases hc : 63 ≤ i.val + n.val
  · rw [dif_pos (show 63 ≤ i.val + (finCongr win_numel n).val from hc), dif_pos]
    · refine congrArg f (funext fun a => Fin.ext ?_)
      match a with
      | ⟨0, _⟩ => show b.val * 1 + (win.rowMajor.symm n 0).val - 0 = b.val; omega
      | ⟨1, _⟩ => show i.val * 1 + (win.rowMajor.symm n 1).val - 63 = i.val + n.val - 63; omega
      | ⟨2, _⟩ => show h.val * 1 + (win.rowMajor.symm n 2).val - 0 = h.val; omega
      | ⟨3, _⟩ => show d.val * 1 + (win.rowMajor.symm n 3).val - 0 = d.val; omega
    · intro a
      match a with
      | ⟨0, _⟩ => show 0 ≤ b.val * 1 + (win.rowMajor.symm n 0).val ∧ b.val * 1 + (win.rowMajor.symm n 0).val - 0 < 2; omega
      | ⟨1, _⟩ => show 63 ≤ i.val * 1 + (win.rowMajor.symm n 1).val ∧ i.val * 1 + (win.rowMajor.symm n 1).val - 63 < 64; omega
      | ⟨2, _⟩ => show 0 ≤ h.val * 1 + (win.rowMajor.symm n 2).val ∧ h.val * 1 + (win.rowMajor.symm n 2).val - 0 < 4; omega
      | ⟨3, _⟩ => show 0 ≤ d.val * 1 + (win.rowMajor.symm n 3).val ∧ d.val * 1 + (win.rowMajor.symm n 3).val - 0 < 128; omega
  · rw [dif_neg (show ¬ 63 ≤ i.val + (finCongr win_numel n).val from hc), dif_neg]
    intro hin
    have e : 63 ≤ i.val * 1 + (win.rowMajor.symm n 1).val := (hin 1).1
    omega

/-- Trip `j`'s slice begins at entry `j` of the stacked axis. -/
theorem starts (j : ℕ) (hj : j < 260) : ∀ k : Fin 5, ((![(constantI S_ 32 (BitVec.ofNat 32 j) : (⟨S_, .i32⟩ : BufTy).Contents (Elt Ideal)),
    constantI S_ 32 0#32, constantI S_ 32 0#32, constantI S_ 32 0#32, constantI S_ 32 0#32] :
    Fin 5 → (⟨S_, .i32⟩ : BufTy).Contents (Elt Ideal)) k (Shape.Idx.first Gen.h_S_)).toInt = ((![j, 0, 0, 0, 0] : Fin 5 → ℕ) k : ℤ) := by
  intro k
  match k with
  | ⟨0, _⟩ =>
    show (BitVec.ofNat 32 j).toInt = (j : ℤ)
    rw [BitVec.toInt_eq_toNat_of_lt (by rw [BitVec.toNat_ofNat]; omega), BitVec.toNat_ofNat, Nat.mod_eq_of_lt (by omega)]
  | ⟨1, _⟩ => rfl
  | ⟨2, _⟩ => rfl
  | ⟨3, _⟩ => rfl
  | ⟨4, _⟩ => rfl

theorem slices128 (j : ℕ) (hj : j < 260) : S260x2x64x4x128.Slices ![j, 0, 0, 0, 0] S1x2x64x4x128 := by
  refine ⟨rfl, fun a => ?_⟩
  match a with
  | ⟨0, _⟩ => show j + 1 ≤ 260; omega
  | ⟨1, _⟩ => show 0 + 2 ≤ 2; omega
  | ⟨2, _⟩ => show 0 + 64 ≤ 64; omega
  | ⟨3, _⟩ => show 0 + 4 ≤ 4; omega
  | ⟨4, _⟩ => show 0 + 128 ≤ 128; omega

theorem slices256 (j : ℕ) (hj : j < 260) : S260x2x64x4x256.Slices ![j, 0, 0, 0, 0] S1x2x64x4x256 := by
  refine ⟨rfl, fun a => ?_⟩
  match a with
  | ⟨0, _⟩ => show j + 1 ≤ 260; omega
  | ⟨1, _⟩ => show 0 + 2 ≤ 2; omega
  | ⟨2, _⟩ => show 0 + 64 ≤ 64; omega
  | ⟨3, _⟩ => show 0 + 4 ≤ 4; omega
  | ⟨4, _⟩ => show 0 + 256 ≤ 256; omega

/-- An array's entry `j`, cut out and read as one chunk. -/
theorem cut128 (j : ℕ) (hj : j < 260) (f : FVec Ideal S260x2x64x4x128 .f32) (b : Fin 2) (i : Fin 64) (h : Fin 4) (d : Fin 128) :
    shapeCast S2x64x4x128 (extractStridedSlice S1x2x64x4x128 ![j, 0, 0, 0, 0] f (slices128 j hj)) Gen.shapeCasts_S1x2x64x4x128_S2x64x4x128
      (ix4 b i h d) = f (ix5 ⟨j, hj⟩ b i h d) := by
  pointwise []

theorem cut256 (j : ℕ) (hj : j < 260) (f : FVec Ideal S260x2x64x4x256 .f32) (b : Fin 2) (i : Fin 64) (h : Fin 4) (d : Fin 256) :
    shapeCast S2x64x4x256 (extractStridedSlice S1x2x64x4x256 ![j, 0, 0, 0, 0] f (slices256 j hj)) Gen.shapeCasts_S1x2x64x4x256_S2x64x4x256
      (ix4 b i h d) = f (ix5 ⟨j, hj⟩ b i h d) := by
  pointwise []

variable (j : ℕ) (hj : j < 260) (s : State Ideal) (b : Fin 2) (i : Fin 64) (h : Fin 4) (d : Fin 128) (y : Fin 256)

include hj in
theorem q_chunk : b5 j s (ix4 b i h d) = s.main_v39_0 (ix5 ⟨j, hj⟩ b i h d) := by
  unfold b5 b4
  rw [Host.dynamicSlice_eq_extractStridedSlice S1x2x64x4x128 _ _ ![j, 0, 0, 0, 0] _ (slices128 j hj) (starts j hj)]
  exact cut128 j hj _ b i h d

include hj in
theorem k_chunk : b11 j s (ix4 b i h d) = s.main_v39_1 (ix5 ⟨j, hj⟩ b i h d) := by
  unfold b11 b10
  rw [Host.dynamicSlice_eq_extractStridedSlice S1x2x64x4x128 _ _ ![j, 0, 0, 0, 0] _ (slices128 j hj) (starts j hj)]
  exact cut128 j hj _ b i h d

include hj in
theorem v_chunk : b17 j s (ix4 b i h y) = s.main_v39_2 (ix5 ⟨j, hj⟩ b i h y) := by
  unfold b17 b16
  rw [Host.dynamicSlice_eq_extractStridedSlice S1x2x64x4x256 _ _ ![j, 0, 0, 0, 0] _ (slices256 j hj) (starts j hj)]
  exact cut256 j hj _ b i h y

include hj in
theorem g_chunk : b23 j s (ix4 b i h d) = s.main_v39_3 (ix5 ⟨j, hj⟩ b i h d) := by
  unfold b23 b22
  rw [Host.dynamicSlice_eq_extractStridedSlice S1x2x64x4x128 _ _ ![j, 0, 0, 0, 0] _ (slices128 j hj) (starts j hj)]
  exact cut128 j hj _ b i h d

/-- The chunk's running log decay. -/
theorem decay_apply : b26 j s (ix4 b i h d) = ∑ t : Fin 64, if t ≤ i then (b23 j s (ix4 b t h d) : EReal) else 0 := by
  unfold b26
  refine running_apply _ _ ?_ b i h d
  unfold b25 b24
  show Ideal.ofBits .f32 0#32 = 0
  simp [Ideal.ofBits, Ideal.ieee]

theorem mask_value : ∀ i k : Fin 64, (K_main_v27 (F := Ideal)) (ix2 i k) = if k ≤ i then 1#1 else 0#1 := by
  intro i k
  have e : ∀ i k : Fin 64, Scalar.select (IntOp.cmpi .sge (IntOp.addi (BitVec.ofNat 32 i.val) 0#32) (BitVec.ofNat 32 k.val)) 1#1 0#1
      = if k ≤ i then 1#1 else 0#1 := by decide +kernel
  exact e i k

theorem mask_apply (i k : Fin 64) : K_main_v28 (F := Ideal) (ix5 0 i k 0 0) = if k ≤ i then 1#1 else 0#1 := by
  rw [← mask_value]
  unfold K_main_v28
  refine congrArg (K_main_v27 (F := Ideal)) (funext fun a => ?_)
  match a with
  | ⟨0, _⟩ => rfl
  | ⟨1, _⟩ => rfl

/-- The log of the decay between two rows of a chunk, and minus infinity above the diagonal. -/
theorem gap_apply (k : Fin 64) : b36 j s (ix5 b i k h d)
    = if k ≤ i then (b26 j s (ix4 b i h d) : EReal) - b26 j s (ix4 b k h d) else ⊥ := by
  have e : b36 j s (ix5 b i k h d) = Scalar.select (K_main_v28 (F := Ideal) (ix5 0 i k 0 0)) (b26 j s (ix4 b i h d) - b26 j s (ix4 b k h d) : EReal)
      (Ideal.ofBits FTy.f32 4286578688#32) := by
    pointwise [b36, b35, b34, b33, b32, b31, b30, b29, b28, b27]
  rw [e, mask_apply]
  by_cases hc : k ≤ i
  · rw [if_pos hc, if_pos hc]; rfl
  · rw [if_neg hc, if_neg hc]
    show Ideal.ofBits FTy.f32 4286578688#32 = ⊥
    simp [Ideal.ofBits, Ideal.ieee]

/-- The state after a trip. -/
theorem next_apply : b66 j s (ix4 b h d y) = Ideal.exp (b26 j s (ix4 b 63 h d)) * (s.main_v39_6 (ix4 b h d y) : EReal) +
    ∑ t : Fin 64, b11 j s (ix4 b t h d) * Ideal.exp (b26 j s (ix4 b 63 h d) - b26 j s (ix4 b t h d)) * b17 j s (ix4 b t h y) := by
  pointwise [b66, b65, b64, b63, b62, b61, b60, b59, b58, b57, b56, b55, b54]

/-- The rows a trip makes. -/
theorem rows_apply : b53 j s (ix4 b i h y) = ∑ t : Fin 64, (b17 j s (ix4 b t h y) : EReal) *
      ∑ e : Fin 128, b5 j s (ix4 b i h e) * b11 j s (ix4 b t h e) * Ideal.exp (b36 j s (ix5 b i t h e)) +
    ∑ e : Fin 128, (s.main_v39_6 (ix4 b h e y) : EReal) * (b5 j s (ix4 b i h e) * Ideal.exp (b26 j s (ix4 b i h e))) := by
  pointwise [b53, b52, b51, b50, b49, b48, b47, b46, b45, b44, b43, b42, b41, b40, b39, b38, b37]

theorem piled_apply : b67 j s (ix5 0 b i h y) = b53 j s (ix4 b i h y) := by
  pointwise [b67]

include hj in
/-- The piled rows after a trip. -/
theorem pile_apply (n : Fin 260) : b72 j s (ix5 n b i h y) = if n.val = j then b53 j s (ix4 b i h y) else s.main_v39_7 (ix5 n b i h y) := by
  unfold b72
  rw [Host.dynamicUpdateSlice_eq_updateSlice _ _ _ _ ![j, 0, 0, 0, 0] (fun a => by
    refine (congrArg (fun t : ℤ => (min (max t 0) _).toNat) (starts j hj a)).trans ?_
    match a with
    | ⟨0, _⟩ => show (min (max (j : ℤ) 0) ((260 - 1 : ℕ) : ℤ)).toNat = j; omega
    | ⟨1, _⟩ => rfl
    | ⟨2, _⟩ => rfl
    | ⟨3, _⟩ => rfl
    | ⟨4, _⟩ => rfl) (slices256 j hj), updateSlice_apply]
  by_cases hc : n.val = j
  · rw [if_pos hc, dif_pos, ← piled_apply]
    · refine congrArg (b67 j s) (funext fun a => Fin.ext ?_)
      match a with
      | ⟨0, _⟩ => show n.val - j = 0; omega
      | ⟨1, _⟩ => rfl
      | ⟨2, _⟩ => rfl
      | ⟨3, _⟩ => rfl
      | ⟨4, _⟩ => rfl
    · intro a
      match a with
      | ⟨0, _⟩ => show j ≤ n.val ∧ n.val < j + 1; omega
      | ⟨1, _⟩ => exact ⟨Nat.zero_le _, by show b.val < 0 + 2; omega⟩
      | ⟨2, _⟩ => exact ⟨Nat.zero_le _, by show i.val < 0 + 64; omega⟩
      | ⟨3, _⟩ => exact ⟨Nat.zero_le _, by show h.val < 0 + 4; omega⟩
      | ⟨4, _⟩ => exact ⟨Nat.zero_le _, by show y.val < 0 + 256; omega⟩
  · rw [if_neg hc, dif_neg]
    intro hin
    have e : j ≤ n.val ∧ n.val < j + 1 := hin 0
    omega

end Cert.ReferenceIdeal.Scan

end
-- ==== Proof.RefScan.lean ====
/- The forward attention's reference: the arrays its loop carries unchanged, the first state, and its result as the rows of the chunks. -/
module

public import proofs.«01_k».proof.Proof.RefRead
public import proofs.«01_k».proof.Proof.RefStep

@[expose] public section

set_option maxRecDepth 16384

noncomputable section

namespace Cert.ReferenceIdeal.Scan

open Cert.ReferenceIdeal Cert.ReferenceIdeal.Step Idealize.ShloMosaic Idealize.ShloMosaic.TcCoe Idealize.SL.Sem

variable (m : (ℓ : Loc nD τ sig) → Buf (Elt Ideal) ℓ) (c : Dev nD)

/-- The queries before each trip are the first ones. -/
theorem scan_q (n : ℕ) : (scan m c n).main_v39_0 = (start m c).main_v39_0 := by
  induction n with
  | zero => rfl
  | succ n ih => exact ih

/-- The keys before each trip are the first ones. -/
theorem scan_k (n : ℕ) : (scan m c n).main_v39_1 = (start m c).main_v39_1 := by
  induction n with
  | zero => rfl
  | succ n ih => exact ih

/-- The values before each trip are the first ones. -/
theorem scan_v (n : ℕ) : (scan m c n).main_v39_2 = (start m c).main_v39_2 := by
  induction n with
  | zero => rfl
  | succ n ih => exact ih

/-- The log gates before each trip are the first ones. -/
theorem scan_g (n : ℕ) : (scan m c n).main_v39_3 = (start m c).main_v39_3 := by
  induction n with
  | zero => rfl
  | succ n ih => exact ih

/-- The first state is zero. -/
theorem start_zero (b : Fin 2) (h : Fin 4) (d : Fin 128) (y : Fin 256) : (scan m c 0).main_v39_6 (ix4 b h d y) = (0 : EReal) := by
  show Ideal.ofBits .f32 0x00000000#32 = 0
  simp [Ideal.ofBits, Ideal.ieee]

/-- The state after a trip. -/
theorem scan_state (n : ℕ) : (scan m c (n + 1)).main_v39_6 = b66 n (scan m c n) := rfl

/-- After `N` trips the pile holds the rows of every chunk before `N`. -/
theorem scan_pile (N : ℕ) (hN : N ≤ 260) (n : Fin 260) (hn : n.val < N) (b : Fin 2) (i : Fin 64) (h : Fin 4) (y : Fin 256) :
    (scan m c N).main_v39_7 (ix5 n b i h y) = b53 n.val (scan m c n.val) (ix4 b i h y) := by
  induction N with
  | zero => exact absurd hn (Nat.not_lt_zero _)
  | succ N ih =>
    refine (pile_apply N (by omega) (scan m c N) b i h y n).trans ?_
    split
    · next e => rw [← e]
    · next e => exact ih (by omega) (by omega)

/-- The pile with its rows in the scan's order. -/
theorem rows_order (T : S260x2x64x4x256.Idx → EReal) (b : Fin 2) (n : Fin 260) (i : Fin 64) (h : Fin 4) (y : Fin 256) :
    shapeCast S2x16640x1024 (transpose S2x260x64x4x256 [1, 0, 2, 3, 4] T Gen.transposes_S260x2x64x4x256_S2x260x64x4x256_1_0_2_3_4)
      Gen.shapeCasts_S2x260x64x4x256_S2x16640x1024 (ix3 b (chunkRow n i) (lane256 h y)) = T (ix5 n b i h y) := by
  refine (shapeCast_apply _ _ _ (ix5 b n i h y) ?_).trans ?_
  · rw [Shape.rowMajor_val_three, Shape.rowMajor_val_five]
    show ((((b.val * 260 + n.val) * 64 + i.val) * 4 + h.val) * 256 + y.val) = (b.val * 16640 + (n.val * 64 + i.val)) * 1024 + (h.val * 256 + y.val)
    omega
  · refine congrArg T (funext fun a => ?_)
    match a with
    | ⟨0, _⟩ => rfl
    | ⟨1, _⟩ => rfl
    | ⟨2, _⟩ => rfl
    | ⟨3, _⟩ => rfl
    | ⟨4, _⟩ => rfl

/-- The rows put back in the argument's order, of any rows in the scan's order. -/
theorem back_order (R : S2x16640x1024.Idx → EReal) (b : Fin 2) (r : Fin 16640) (e : Fin 1024) :
    concatenate S2x16640x1024 1 [⟨S2x16384x1024, extractStridedSlice S2x16384x1024 ![0, 256, 0] R Gen.slices_S2x16640x1024_S2x16384x1024_0_256_0⟩,
        ⟨S2x256x1024, extractStridedSlice S2x256x1024 ![0, 0, 0] R Gen.slices_S2x16640x1024_S2x256x1024_0_0_0⟩]
      Gen.concatenates_S2x16384x1024_S2x256x1024_S2x16640x1024_d1 (ix3 b (rowAt r) e) = R (ix3 b r e) := by
  have hr := r.isLt
  rw [concatenate_pair_apply]
  split
  · next h =>
    have h' : (rowAt r).val < 16384 := h
    have h2 : ¬ r.val < 256 := fun hc => by unfold rowAt at h'; dsimp only at h'; rw [if_pos hc] at h'; omega
    refine congrArg R (funext fun a => ?_)
    match a with
    | ⟨0, _⟩ => exact Fin.ext (Nat.zero_add _)
    | ⟨1, _⟩ => exact Fin.ext (by show 256 + (rowAt r).val = r.val; unfold rowAt; dsimp only; rw [if_neg h2]; omega)
    | ⟨2, _⟩ => exact Fin.ext (Nat.zero_add _)
  · next h =>
    have h' : ¬ (rowAt r).val < 16384 := h
    have h2 : r.val < 256 := by_contra fun hc => by unfold rowAt at h'; dsimp only at h'; rw [if_neg hc] at h'; omega
    refine congrArg R (funext fun a => ?_)
    match a with
    | ⟨0, _⟩ => exact Fin.ext (Nat.zero_add _)
    | ⟨1, _⟩ => exact Fin.ext (by show 0 + ((rowAt r).val - 16384) = r.val; unfold rowAt; dsimp only; rw [if_pos h2]; omega)
    | ⟨2, _⟩ => exact Fin.ext (Nat.zero_add _)

/-- The result, row by row: a chunk's rows stand where the argument's rows of that chunk stand. -/
theorem result_apply (b : Fin 2) (n : Fin 260) (i : Fin 64) (h : Fin 4) (y : Fin 256) :
    R_main_v44 (scan m c 260) (ix3 b (rowAt (chunkRow n i)) (lane256 h y)) = b53 n.val (scan m c n.val) (ix4 b i h y) :=
  (back_order _ b (chunkRow n i) (lane256 h y)).trans ((rows_order _ b n i h y).trans (scan_pile m c 260 (le_refl _) n n.isLt b i h y))

end Cert.ReferenceIdeal.Scan

end
-- ==== Proof.GlaScan.lean ====
/- One chunk of the forward attention, kernel against reference: from the same state the tiles' formulas give the trip's state and rows. -/
module

public import proofs.«01_k».proof.Proof.GlaRead
public import proofs.«01_k».proof.Proof.GlaGate
public import proofs.«01_k».proof.Proof.RefScan

@[expose] public section

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.Scan (softGate gateArg scan rowAt chunkRow lane128 lane256)
open Cert.ReferenceIdeal.Step (State b5 b11 b17 b23 b26 b36 b53 b66)

/-- The tiles of a chunk hold what the reference's trip `j` from state `s` reads at batch `b` and head `h`. -/
structure Agrees (j : ℕ) (s : State Ideal) (b : Fin 2) (h : Fin 4) (B : Fin 64 → Fin 128 → ℝ)
    (bT qT kT : FVec Ideal S64x128 .f32) (vT : FVec Ideal S64x256 .bf16) : Prop where
  sum : ∀ i d, bT (ix2 i d) = ((B i d : ℝ) : EReal)
  decay : ∀ i d, b26 j s (ix4 b i h d) = ((B i d : ℝ) : EReal)
  q : ∀ i d, b5 j s (ix4 b i h d) = qT (ix2 i d)
  k : ∀ i d, b11 j s (ix4 b i h d) = kT (ix2 i d)
  v : ∀ i y, b17 j s (ix4 b i h y) = vT (ix2 i y)

variable {j : ℕ} {s : State Ideal} {b : Fin 2} {h : Fin 4} {B : Fin 64 → Fin 128 → ℝ}
  {bT qT kT : FVec Ideal S64x128 .f32} {vT : FVec Ideal S64x256 .bf16} {S : FVec Ideal S256x128 .f32}

/-- The state after the chunk. -/
theorem Agrees.step (A : Agrees j s b h B bT qT kT vT) (hS : ∀ (y : Fin 256) (d : Fin 128), s.main_v39_6 (ix4 b h d y) = S (ix2 y d))
    (y : Fin 256) (d : Fin 128) : b66 j s (ix4 b h d y) = stepS S bT kT vT (ix2 y d) := by
  rw [Cert.ReferenceIdeal.Scan.next_apply, stepS_apply, hS]
  simp only [A.decay, A.k, A.v, A.sum]
  congr 1
  exact Finset.sum_congr rfl fun t _ => mul_comm _ _

/-- The rows of the chunk. -/
theorem Agrees.rows (A : Agrees j s b h B bT qT kT vT) (hS : ∀ (y : Fin 256) (d : Fin 128), s.main_v39_6 (ix4 b h d y) = S (ix2 y d))
    (h0 : ∀ d, -160 ≤ B 63 d) (h1 : ∀ t d, B 63 d ≤ B t d) (h2 : ∀ t d, B t d ≤ 0) (i : Fin 64) (y : Fin 256) :
    b53 j s (ix4 b i h y) = tileO S bT qT kT vT (ix3 0 i y) := by
  rw [Cert.ReferenceIdeal.Scan.rows_apply, tileO_apply S bT qT kT vT i y B A.sum h0 h1 h2]
  simp only [Cert.ReferenceIdeal.Scan.gap_apply, A.decay, A.q, A.k, A.v, A.sum, hS]

/-- What the arguments are taken to satisfy: the gate's columns and its weights are finite, its argument is nowhere below `-39`. -/
structure InRange (U : FVec Ideal S2x16640x6272 .f32) (W : FVec Ideal S2x16x512 .f32) (Z : FVec Ideal S2x512 .f32) : Prop where
  col : ∀ (b : Fin 2) (r : Fin 16640) (x : Fin 16), ∃ a : ℝ, U (ix3 b r ⟨6144 + x.val, by omega⟩) = (a : EReal)
  weight : ∀ (x : Fin 16) (e : Fin 512), ∃ a : ℝ, W (ix3 0 x e) = (a : EReal)
  low : ∀ (b : Fin 2) (r : Fin 16640) (e : Fin 512), ((-39 : ℝ) : EReal) ≤ gateArg U W Z b r e

variable {U : FVec Ideal S2x16640x6272 .f32} {W : FVec Ideal S2x16x512 .f32} {Z : FVec Ideal S2x512 .f32}

/-- The log gate, a real number. -/
def logGate (R : InRange U W Z) (b : Fin 2) (r : Fin 16640) (e : Fin 512) : ℝ := (gate_value _ (R.low b r e)).choose

theorem logGate_spec (R : InRange U W Z) (b : Fin 2) (r : Fin 16640) (e : Fin 512) :
    hardGate (gateArg U W Z b r e) = logGate R b r e ∧ softGate (gateArg U W Z b r e) = logGate R b r e
      ∧ -(5 / 2) ≤ logGate R b r e ∧ logGate R b r e ≤ 0 := (gate_value _ (R.low b r e)).choose_spec

/-- The running sum of a chunk's log gates. -/
def sumGate (R : InRange U W Z) (b : Fin 2) (n : Fin 260) (h : Fin 4) (i : Fin 64) (d : Fin 128) : ℝ :=
  ∑ t : Fin 64, if t ≤ i then logGate R b (rowAt (chunkRow n t)) (lane128 h d) else 0

theorem sumGate_last (R : InRange U W Z) (b : Fin 2) (n : Fin 260) (h : Fin 4) (d : Fin 128) : -160 ≤ sumGate R b n h 63 d := by
  have e : ∑ _t : Fin 64, (-(5 / 2) : ℝ) = -160 := by norm_num
  rw [← e]
  refine Finset.sum_le_sum fun t _ => ?_
  rw [if_pos (show t ≤ (63 : Fin 64) from Fin.le_last t)]
  exact (logGate_spec R b _ _).2.2.1

theorem sumGate_mono (R : InRange U W Z) (b : Fin 2) (n : Fin 260) (h : Fin 4) (i : Fin 64) (d : Fin 128) :
    sumGate R b n h 63 d ≤ sumGate R b n h i d := by
  refine Finset.sum_le_sum fun t _ => ?_
  rw [if_pos (show t ≤ (63 : Fin 64) from Fin.le_last t)]
  split
  · exact le_refl _
  · exact (logGate_spec R b _ _).2.2.2

theorem sumGate_nonpos (R : InRange U W Z) (b : Fin 2) (n : Fin 260) (h : Fin 4) (i : Fin 64) (d : Fin 128) : sumGate R b n h i d ≤ 0 := by
  refine Finset.sum_nonpos fun t _ => ?_
  split
  · exact (logGate_spec R b _ _).2.2.2
  · exact le_refl _

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The two programs hold the same arguments. -/
structure Same (U : FVec Ideal S2x16640x6272 .f32) (W : FVec Ideal S2x16x512 .f32) (Z : FVec Ideal S2x512 .f32) : Prop where
  u : m ((c : Thread nD τ).loc main_arg0) = U
  w : m ((c : Thread nD τ).loc main_arg1) = W
  z : m ((c : Thread nD τ).loc main_arg2) = Z
  u' : m' ((c.tc : Thread Cert.ReferenceIdeal.nD Cert.ReferenceIdeal.τ).loc Cert.ReferenceIdeal.main_arg0) = U
  w' : m' ((c.tc : Thread Cert.ReferenceIdeal.nD Cert.ReferenceIdeal.τ).loc Cert.ReferenceIdeal.main_arg1) = W
  z' : m' ((c.tc : Thread Cert.ReferenceIdeal.nD Cert.ReferenceIdeal.τ).loc Cert.ReferenceIdeal.main_arg2) = Z

/-- The batch of a point. -/
def batchOf (t : Fin cfg0.N) : Fin 2 := ⟨t.val / 65, by have : t.val < 130 := lt_of_lt_of_eq t.isLt N_0; omega⟩

/-- The chunk of a point and a place in it. -/
def chunkOf (t : Fin cfg0.N) (k : Fin 4) : Fin 260 := ⟨4 * (t.val % 65) + k.val, by omega⟩

/-- A row of a point's block is the row of its chunk. -/
theorem row_val (t : Fin cfg0.N) (k : Fin 4) (i : Fin 64) :
    (rowAt (chunkRow (chunkOf t k) i)).val = (t.val % 65 + 64) % 65 * 256 + (64 * k.val + i.val) := by
  unfold rowAt chunkRow chunkOf
  dsimp only
  split <;> omega

variable {m m' c}

/-- The log gates a point makes. -/
theorem gates_point (R : InRange U W Z) (E : Same m m' c U W Z) (t : Fin cfg0.N) (k : Fin 4) (i : Fin 64) (e : Fin 512) :
    k0_pay8 (gateOf m c t) (ix2 ⟨64 * k.val + i.val, by omega⟩ e) = ((logGate R (batchOf t) (rowAt (chunkRow (chunkOf t k) i)) e : ℝ) : EReal) := by
  have hg : ∀ x : Fin 128, (iblk m c 3 t (ix3 0 (⟨64 * k.val + i.val, by omega⟩ : Fin 256) x) : EReal)
      = U (ix3 (batchOf t) (rowAt (chunkRow (chunkOf t k) i)) ⟨6144 + x.val, by omega⟩) := fun x =>
    (g_read m c t (ix3 0 (⟨64 * k.val + i.val, by omega⟩ : Fin 256) x) (ix3 (batchOf t) (rowAt (chunkRow (chunkOf t k) i)) ⟨6144 + x.val, by omega⟩) rfl (row_val t k i) rfl).trans (congrFun E.u _)
  have hw : ∀ x : Fin 128, (iblk m c 4 t (ix3 0 x e) : EReal) = if h : x.val < 16 then W (ix3 0 ⟨x.val, h⟩ e) else 0 := fun x => by
    refine (w_apply m c t x e).trans ?_
    split
    · exact congrFun E.w _
    · rfl
  rw [← (logGate_spec R _ _ _).1]
  unfold gateOf
  refine (gate_apply (iblk m c 3 t) (iblk m c 4 t) (iblk m c 5 t) _ e (fun x hx => ?_) (fun x hx => ?_) (fun x hx => ?_)).trans
    (congrArg hardGate ?_)
  · obtain ⟨a, ha⟩ := R.col (batchOf t) (rowAt (chunkRow (chunkOf t k) i)) ⟨x.val, hx⟩
    exact ⟨a, (hg x).trans ha⟩
  · obtain ⟨a, ha⟩ := R.weight ⟨x.val, hx⟩ e
    exact ⟨a, (hw x).trans ((dif_pos hx).trans ha)⟩
  · exact (hw x).trans (dif_neg (by omega))
  · unfold gateArg
    refine congr (congrArg HAdd.hAdd (Finset.sum_congr rfl fun x _ => ?_)) ((z_apply m c t e).trans (congrFun E.z _))
    exact congr (congrArg HMul.hMul (hg _)) ((hw _).trans (dif_pos x.isLt))

/-- The scaled query block. -/
theorem query_apply (x : Vec Ideal S1x256x512 .f32) (r : Fin 256) (e : Fin 512) :
    k0_pay9 x (ix2 r e) = (x (ix3 0 r e) : EReal) * Ideal.ofBits .f32 0x3DB504F3#32 := by
  pointwise [k0_pay9]

/-- The key block. -/
theorem key_apply (x : Vec Ideal S1x256x512 .f32) (r : Fin 256) (e : Fin 512) : k0_pay10 x (ix2 r e) = x (ix3 0 r e) := by
  pointwise [k0_pay10]

/-- The value block. -/
theorem value_apply (x : Vec Ideal S1x256x1024 .f32) (r : Fin 256) (e : Fin 1024) : k0_pay11 x (ix2 r e) = x (ix3 0 r e) := by
  pointwise [k0_pay11]

/-- A sum of reals, taken to the extended reals. -/
theorem coe_sum' (f : Fin 64 → ℝ) : ((∑ x, f x : ℝ) : EReal) = ∑ x, ((f x : ℝ) : EReal) :=
  map_sum (⟨⟨Real.toEReal, EReal.coe_zero⟩, EReal.coe_add⟩ : ℝ →+ EReal) f Finset.univ

/-- The tiles of a chunk hold what the reference's trip reads. -/
theorem agrees (R : InRange U W Z) (E : Same m m' c U W Z) (t : Fin cfg0.N) (k h : Fin 4) :
    Agrees (chunkOf t k).val (scan m' c (chunkOf t k).val) (batchOf t) h (sumGate R (batchOf t) (chunkOf t k) h)
      (tileB (gateOf m c t) k h) (tileK k h (k0_pay9 (X0_0 m c t))) (tileK k h (k0_pay10 (X0_1 m c t))) (tileV k h (k0_pay11 (X0_2 m c t))) := by
  have hn := (chunkOf t k).isLt
  have lane : ∀ d : Fin 128, (⟨128 * h.val + d.val, by omega⟩ : Fin 512) = lane128 h d := fun d => Fin.ext (by
    show 128 * h.val + d.val = h.val * 128 + d.val; omega)
  have laneV : ∀ y : Fin 256, (⟨256 * h.val + y.val, by omega⟩ : Fin 1024) = lane256 h y := fun y => Fin.ext (by
    show 256 * h.val + y.val = h.val * 256 + y.val; omega)
  refine ⟨fun i d => ?_, fun i d => ?_, fun i d => ?_, fun i d => ?_, fun i y => ?_⟩
  · unfold tileB
    rw [headG_apply, lane d]
    exact sums_apply _ i _ _ fun x => (chunkG_apply k _ x _).trans (gates_point R E t k x _)
  · rw [Cert.ReferenceIdeal.Scan.decay_apply]
    have hx : ∀ x : Fin 64, (b23 (chunkOf t k).val (scan m' c (chunkOf t k).val) (ix4 (batchOf t) x h d) : EReal)
        = ((logGate R (batchOf t) (rowAt (chunkRow (chunkOf t k) x)) (lane128 h d) : ℝ) : EReal) := fun x => by
      rw [← (logGate_spec R _ _ _).2.1, ← Cert.ReferenceIdeal.Scan.gates_apply, Cert.ReferenceIdeal.Scan.g_chunk _ hn,
        Cert.ReferenceIdeal.Scan.scan_g, ← E.u', ← E.w', ← E.z']
      rfl
    simp only [hx]
    unfold sumGate
    rw [coe_sum']
    refine Finset.sum_congr rfl fun x _ => ?_
    split <;> rfl
  · rw [Cert.ReferenceIdeal.Scan.q_chunk _ hn, Cert.ReferenceIdeal.Scan.scan_q, tileK_apply, lane d]
    refine Eq.trans ?_ ((query_apply _ _ _).trans (congrArg (· * Ideal.ofBits .f32 0x3DB504F3#32) ((q_read m c t (ix3 0 (⟨64 * k.val + i.val, by omega⟩ : Fin 256) (lane128 h d))
      (ix3 (batchOf t) (rowAt (chunkRow (chunkOf t k) i)) ⟨3072 + (lane128 h d).val, by omega⟩) rfl (row_val t k i) rfl).trans (congrFun E.u _)))).symm
    rw [← Cert.ReferenceIdeal.Scan.queries_apply U W Z (chunkOf t k), ← E.u', ← E.w', ← E.z']
    rfl
  · rw [Cert.ReferenceIdeal.Scan.k_chunk _ hn, Cert.ReferenceIdeal.Scan.scan_k, tileK_apply, lane d]
    refine Eq.trans ?_ ((key_apply _ _ _).trans ((k_read m c t (ix3 0 (⟨64 * k.val + i.val, by omega⟩ : Fin 256) (lane128 h d))
      (ix3 (batchOf t) (rowAt (chunkRow (chunkOf t k) i)) ⟨3584 + (lane128 h d).val, by omega⟩) rfl (row_val t k i) rfl).trans (congrFun E.u _))).symm
    rw [← Cert.ReferenceIdeal.Scan.keys_apply U W Z (chunkOf t k), ← E.u', ← E.w', ← E.z']
    rfl
  · rw [Cert.ReferenceIdeal.Scan.v_chunk _ hn, Cert.ReferenceIdeal.Scan.scan_v, tileV_apply, laneV y]
    refine Eq.trans ?_ ((value_apply _ _ _).trans ((v_read m c t (ix3 0 (⟨64 * k.val + i.val, by omega⟩ : Fin 256) (lane256 h y))
      (ix3 (batchOf t) (rowAt (chunkRow (chunkOf t k) i)) ⟨4096 + (lane256 h y).val, by omega⟩) rfl (row_val t k i) rfl).trans (congrFun E.u _))).symm
    rw [← Cert.ReferenceIdeal.Scan.values_apply U W Z (chunkOf t k), ← E.u', ← E.w', ← E.z']
    rfl

end Cert.KernelIdeal.Hand

end
-- ==== Proof.GlaFinal.lean ====
/- The forward attention, kernel against reference: the states before every grid point are the scan's, so every block of the result is
   the reference's rows. -/
module

public import proofs.«01_k».proof.Proof.GlaScan

@[expose] public section

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.Scan (scan rowAt chunkRow lane256)
open Cert.ReferenceIdeal.Step (State b53 b66 R_main_v44)

variable {m : (ℓ : Loc nD τ sig) → Buf (Elt Ideal) ℓ}
  {m' : (ℓ : Loc Cert.ReferenceIdeal.nD Cert.ReferenceIdeal.τ Cert.ReferenceIdeal.sig) → Buf (Elt Ideal) ℓ} {c : Dev nD}
  {U : FVec Ideal S2x16640x6272 .f32} {W : FVec Ideal S2x16x512 .f32} {Z : FVec Ideal S2x512 .f32}

/-- The states within a point are the scan's. -/
theorem state_point (R : InRange U W Z) (E : Same m m' c U W Z) (t : Fin cfg0.N) (h : Fin 4) (S : FVec Ideal S256x128 .f32)
    (hS : ∀ (y : Fin 256) (d : Fin 128), (scan m' c (4 * (t.val % 65))).main_v39_6 (ix4 (batchOf t) h d y) = S (ix2 y d)) (n : ℕ) (hn : n ≤ 4)
    (y : Fin 256) (d : Fin 128) : (scan m' c (4 * (t.val % 65) + n)).main_v39_6 (ix4 (batchOf t) h d y)
      = stateAt (gateOf m c t) (k0_pay10 (X0_1 m c t)) (k0_pay11 (X0_2 m c t)) h S n (ix2 y d) := by
  induction n generalizing y d with
  | zero => exact hS y d
  | succ n ih =>
    have hk : (⟨n % 4, Nat.mod_lt _ (by decide)⟩ : Fin 4) = ⟨n, hn⟩ := Fin.ext (Nat.mod_eq_of_lt hn)
    rw [stateAt, hk]
    exact (agrees R E t ⟨n, hn⟩ h).step (fun y d => ih (Nat.le_of_succ_le hn) y d) y d

/-- The states before a point are the scan's. -/
theorem before_eq (R : InRange U W Z) (E : Same m m' c U W Z) (n : ℕ) (hn : n < cfg0.N) (h : Fin 4) (y : Fin 256) (d : Fin 128) :
    (scan m' c (4 * (n % 65))).main_v39_6 (ix4 (batchOf ⟨n, hn⟩) h d y) = before m c ⟨n, hn⟩ (ix3 h y d) := by
  induction n generalizing h y d with
  | zero =>
    unfold before
    rw [if_pos (Nat.zero_mod 65)]
    refine (Cert.ReferenceIdeal.Scan.start_zero m' c _ h d y).trans (Eq.symm ?_)
    show Ideal.ofBits .f32 0x00000000#32 = 0
    simp [Ideal.ofBits, Ideal.ieee]
  | succ n ih =>
    unfold before
    by_cases h0 : (n + 1) % 65 = 0
    · rw [if_pos h0, h0]
      refine (Cert.ReferenceIdeal.Scan.start_zero m' c _ h d y).trans (Eq.symm ?_)
      show Ideal.ofBits .f32 0x00000000#32 = 0
      simp [Ideal.ofBits, Ideal.ieee]
    · rw [if_neg h0]
      have hb : batchOf ⟨n + 1, hn⟩ = batchOf ⟨n, Nat.lt_of_succ_lt hn⟩ := Fin.ext (by show (n + 1) / 65 = n / 65; omega)
      have hs : 4 * ((n + 1) % 65) = 4 * (n % 65) + 4 := by omega
      rw [hb, hs]
      refine Eq.trans ?_ (congrFun (point_eq m c ⟨n, Nat.lt_of_succ_lt hn⟩).2 (ix3 h y d)).symm
      exact state_point R E ⟨n, Nat.lt_of_succ_lt hn⟩ h _ (fun y d => ih (Nat.lt_of_succ_lt hn) h y d) 4 (le_refl 4) y d

/-- A tile of a point's result block is the rows of its chunk. -/
theorem tile_point (R : InRange U W Z) (E : Same m m' c U W Z) (t : Fin cfg0.N) (k h : Fin 4) (i : Fin 64) (y : Fin 256) :
    outAt (gateOf m c t) (k0_pay9 (X0_0 m c t)) (k0_pay10 (X0_1 m c t)) (k0_pay11 (X0_2 m c t)) (headS (before m c t)) k h (ix3 0 i y)
      = R_main_v44 (scan m' c 260) (ix3 (batchOf t) (rowAt (chunkRow (chunkOf t k) i)) (lane256 h y)) := by
  rw [Cert.ReferenceIdeal.Scan.result_apply]
  unfold outAt
  exact ((agrees R E t k h).rows (fun y d => state_point R E t h _ (fun y d => before_eq R E t.val t.isLt h y d) k.val (Nat.le_of_lt k.isLt) y d)
    (sumGate_last R _ _ h) (sumGate_mono R _ _ h) (sumGate_nonpos R _ _ h) i y).symm

/-- Where a point's result block lies. -/
theorem out_emb (t : Fin cfg0.N) (p : S1x256x1024.Idx) (i : S2x16640x1024.Idx) (h0 : (i 0).val = t.val / 65)
    (h1 : (i 1).val = (t.val % 65 + 64) % 65 * 256 + (p 1).val) (h2 : (i 2).val = (p 2).val) : ((cfg0.win 6).blk t).view.emb p = i := by
  have e0 := (idx_b t).2.2.2.2
  have e1 := (idx_r t).2.2.2.2
  have e2 := (idx_e t).2.2.2.2
  have := (p 0).isLt
  blk_ext [e0, e1, e2]

/-- The result array after the run. -/
theorem final (R : InRange U W Z) (E : Same m m' c U W Z) : (dats m 0 c).arrAt 6 cfg0.N = R_main_v44 (scan m' c 260) := by
  refine (dats m 0 c).arrAt_eq_of_covers 6 _ (by decide +kernel) fun t hf y => ?_
  have b1 : (y 1).val < 256 := (y 1).isLt
  have b2 : (y 2).val < 1024 := (y 2).isLt
  refine Eq.trans (congrFun ((after0_6 m c t).trans (point_eq m c t).1) y) (Eq.trans ?_ (congrArg (R_main_v44 (scan m' c 260)) (out_emb t y
    (ix3 (batchOf t) (rowAt (chunkRow (chunkOf t ⟨(y 1).val / 64, by omega⟩) ⟨(y 1).val % 64, by omega⟩))
      (lane256 ⟨(y 2).val / 256, by omega⟩ ⟨(y 2).val % 256, by omega⟩)) rfl ?_ ?_)).symm)
  · exact tile_point R E t _ _ _ _
  · refine (row_val t _ _).trans ?_
    dsimp only
    omega
  · show (y 2).val / 256 * 256 + (y 2).val % 256 = (y 2).val
    omega

end Cert.KernelIdeal.Hand

end
-- ==== Proof.GlaClaim.lean ====
/- The forward attention: what the precondition says of the arguments, and the equality of the two results. -/
module

public import proofs.«01_k».proof.Defs
public import proofs.«01_k».proof.Proof.GlaFinal
public import proofs.«01_k».proof.Proof.Gen.KernelIdeal.Value
public import proofs.«01_k».proof.Proof.Gen.Pre_gates_in_range

@[expose] public section

set_option maxRecDepth 16384

noncomputable section

namespace Cert.Proof.Gla

open Idealize.ShloMosaic Idealize.ShloMosaic.TcCoe Idealize.SL.Sem
open Cert.Pre_gates_in_range (fn S2x16640x6272 S2x16x512 S2x512 S2x16640x16 S16x512 S2x16640x512)
open Cert.KernelIdeal.Hand (InRange)
open Cert.ReferenceIdeal.Scan (gateArg)

variable (U : FVec Ideal S2x16640x6272 .f32) (W : FVec Ideal S2x16x512 .f32) (Z : FVec Ideal S2x512 .f32)

theorem infinity_value : Ideal.ofBits .f32 0x7F800000#32 = ⊤ := by simp [Ideal.ofBits, Ideal.ieee]

theorem bound_value : Ideal.ofBits .f32 0xC21C0000#32 = ((-39 : ℝ) : EReal) := by
  simp only [Ideal.ofBits, Ideal.ieee]
  simp
  rw [← EReal.coe_mul]
  norm_num

/-- A number whose absolute value lies below infinity is real. -/
theorem real_of_lt (x : EReal) (h : max x (-x) < ⊤) : ∃ a : ℝ, x = (a : EReal) := by
  induction x with
  | bot => simp at h
  | top => simp at h
  | coe a => exact ⟨a, rfl⟩

/-- A comparison that reads one holds. -/
theorem lt_of_word (x y : EReal) (h : Ideal.cmp .olt x y = 1#1) : x < y := by
  by_contra hn
  simp [Ideal.cmp, hn] at h

theorem le_of_word (x y : EReal) (h : Ideal.cmp .oge x y = 1#1) : y ≤ x := by
  by_contra hn
  simp [Ideal.cmp, hn] at h

/-- The precondition's first part at an index. -/
theorem col_word (b : Fin 2) (r : Fin 16640) (x : Fin 16) :
    (fn (F := Ideal) U W Z).1 (ix3 b r x) = Ideal.cmp .olt (max (U (ix3 b r ⟨6144 + x.val, by omega⟩)) (-(U (ix3 b r ⟨6144 + x.val, by omega⟩) : EReal)))
      (Ideal.ofBits .f32 0x7F800000#32) := by
  have e : (⟨6144 + x.val, by omega⟩ : Fin 6272) = ⟨6144 + x.val, by omega⟩ := rfl
  have hi : extractStridedSlice S2x16640x16 ![0, 0, 6144] U Cert.Pre_gates_in_range.Gen.slices_S2x16640x6272_S2x16640x16_0_0_6144 (ix3 b r x)
      = U (ix3 b r ⟨6144 + x.val, by omega⟩) := congrArg U (funext fun a => match a with
    | ⟨0, _⟩ => Fin.ext (Nat.zero_add _)
    | ⟨1, _⟩ => Fin.ext (Nat.zero_add _)
    | ⟨2, _⟩ => rfl)
  rw [← hi]
  rfl

/-- The precondition's second part at an index. -/
theorem weight_word (x : Fin 16) (e : Fin 512) :
    (fn (F := Ideal) U W Z).2.1 (ix2 x e) = Ideal.cmp .olt (max (W (ix3 0 x e)) (-(W (ix3 0 x e) : EReal))) (Ideal.ofBits .f32 0x7F800000#32) := by
  pointwise [fn]
  rfl

/-- The precondition's third part at an index. -/
theorem low_word (b : Fin 2) (r : Fin 16640) (e : Fin 512) :
    (fn (F := Ideal) U W Z).2.2 (ix3 b r e) = Ideal.cmp .oge (gateArg U W Z b r e) (Ideal.ofBits .f32 0xC21C0000#32) := by
  unfold gateArg
  pointwise [fn]

/-- What the precondition says. -/
theorem in_range (h1 : (fn (F := Ideal) U W Z).1 = fun _ => 1#1) (h2 : (fn (F := Ideal) U W Z).2.1 = fun _ => 1#1)
    (h3 : (fn (F := Ideal) U W Z).2.2 = fun _ => 1#1) : InRange U W Z where
  col b r x := real_of_lt _ (infinity_value ▸ lt_of_word _ _ ((col_word U W Z b r x).symm.trans (congrFun h1 _)))
  weight x e := real_of_lt _ (infinity_value ▸ lt_of_word _ _ ((weight_word U W Z x e).symm.trans (congrFun h2 _)))
  low b r e := bound_value ▸ le_of_word _ _ ((low_word U W Z b r e).symm.trans (congrFun h3 _))

/-- The attention's reference keeps its arguments and ends with every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Scan.run_scan (F := Ideal) m ρ)

/-- The kernel's forward attention is the reference's, for all arguments whose gates are in range. -/
theorem algebraic : Cert.algebraic_KernelIdeal_ReferenceIdeal_pre_gates_in_range (hKernelIdeal := Cert.KernelIdeal.Gen.facts)
    (hReferenceIdeal := Cert.ReferenceIdeal.Gen.facts) (hPre_gates_in_range := Cert.Pre_gates_in_range.Gen.facts) := by
  intro m ρ m' ρ' hpre hagree
  refine ⟨fun c => Cert.ReferenceIdeal.Step.R_main_v44 (Cert.ReferenceIdeal.Scan.scan m' c 260), ?_, ?_⟩
  · refine (θ_run Cert.KernelIdeal.defs _ _).mono (fun _ h c => ⟨(h c).1.trans ?_, (h c).2⟩) (Cert.KernelIdeal.Value.run_blocks m ρ)
    exact Cert.KernelIdeal.Hand.final (in_range _ _ _ (hpre c).1 (hpre c).2.1 (hpre c).2.2)
      ⟨rfl, rfl, rfl, (hagree c).1, (hagree c).2.1, (hagree c).2.2⟩
  · exact Cert.ReferenceIdeal.Scan.run_scan (F := Ideal) m' ρ'

end Cert.Proof.Gla

end
-- ==== Proof.OutClaim.lean ====
/- The last layer's output projection against its reference: what the precondition says of the arguments, and the equality of the three results. -/
module

public import proofs.«01_k».proof.Defs
public import proofs.«01_k».proof.Proof.OutValue
public import proofs.«01_k».proof.Proof.GlaClaim
public import proofs.«01_k».proof.Proof.Gen.OutRefIdeal.Read
public import proofs.«01_k».proof.Proof.Gen.OutRefIdeal.Run
public import proofs.«01_k».proof.Proof.Gen.Pre_late_finite
public import Idealize.ShloMosaic.Lib.Quiescent

@[expose] public section

set_option maxRecDepth 16384

noncomputable section

namespace Cert.Proof.Out

open Idealize.ShloMosaic Idealize.ShloMosaic.TcCoe Idealize.SL.Sem
open Cert.Pre_late_finite (fn S2x16640x4096 S4096x2048 S2x16640x2048 S8x6x2048 S2048 S2048x16)

variable (x0 : FVec Ideal S2x16640x4096 .bf16) (x1 : FVec Ideal S4096x2048 .f32) (x2 : FVec Ideal S2x16640x2048 .f32)
  (x3 : FVec Ideal S8x6x2048 .f32) (x4 x5 : FVec Ideal S2048 .f32) (x6 : FVec Ideal S2048x16 .f32)

/-- The short format's infinity. -/
theorem infinity_short : Ideal.ofBits .bf16 0x7F80#16 = ⊤ := by simp [Ideal.ofBits, Ideal.ieee]

/-- A number the precondition's comparison passes is finite. -/
theorem finite_of_word (x : EReal) (h : Ideal.cmp .olt (max x (-x)) (Ideal.ofBits .f32 0x7F800000#32) = 1#1) : RowNorm.Finite x :=
  Gla.real_of_lt x (Gla.infinity_value ▸ Gla.lt_of_word _ _ h)

/-- A number of the short format the precondition's comparison passes is finite. -/
theorem finite_of_short_word (x : EReal) (h : Ideal.cmp .olt (max x (-x)) (Ideal.ofBits .bf16 0x7F80#16) = 1#1) : RowNorm.Finite x :=
  Gla.real_of_lt x (infinity_short ▸ Gla.lt_of_word _ _ h)

/-- The precondition's fourth part at an index. -/
theorem mods_word (s : Fin 3) (j : Fin 3) (e : Fin 2048) (s' : Fin 8) (hs : s'.val = s.val) (j' : Fin 6) (hj : j'.val = 2 + j.val) :
    (fn (F := Ideal) x0 x1 x2 x3 x4 x5 x6).2.2.2.1 (ix3 s j e)
      = Ideal.cmp .olt (max (x3 (ix3 s' j' e)) (-(x3 (ix3 s' j' e) : EReal))) (Ideal.ofBits .f32 0x7F800000#32) := by
  have hi : extractStridedSlice Cert.Pre_late_finite.S3x3x2048 ![0, 2, 0] x3 Cert.Pre_late_finite.Gen.slices_S8x6x2048_S3x3x2048_0_2_0 (ix3 s j e)
      = x3 (ix3 s' j' e) := congrArg x3 (funext fun a => match a with
    | ⟨0, _⟩ => Fin.ext ((Nat.zero_add _).trans hs.symm)
    | ⟨1, _⟩ => Fin.ext hj.symm
    | ⟨2, _⟩ => Fin.ext (Nat.zero_add _))
  rw [← hi]
  rfl

/-- What the precondition says. -/
theorem all_finite (h0 : (fn (F := Ideal) x0 x1 x2 x3 x4 x5 x6).1 = fun _ => 1#1)
    (h1 : (fn (F := Ideal) x0 x1 x2 x3 x4 x5 x6).2.1 = fun _ => 1#1)
    (h2 : (fn (F := Ideal) x0 x1 x2 x3 x4 x5 x6).2.2.1 = fun _ => 1#1)
    (h3 : (fn (F := Ideal) x0 x1 x2 x3 x4 x5 x6).2.2.2.1 = fun _ => 1#1)
    (h4 : (fn (F := Ideal) x0 x1 x2 x3 x4 x5 x6).2.2.2.2.1 = fun _ => 1#1)
    (h5 : (fn (F := Ideal) x0 x1 x2 x3 x4 x5 x6).2.2.2.2.2.1 = fun _ => 1#1)
    (h6 : (fn (F := Ideal) x0 x1 x2 x3 x4 x5 x6).2.2.2.2.2.2 = fun _ => 1#1) :
    Cert.OutIdeal.Hand.AllFinite x0 x1 x2 x3 x4 x5 x6 where
  rows i := finite_of_short_word (x0 i) (congrFun h0 i)
  weights i := finite_of_word (x1 i) (congrFun h1 i)
  residual i := finite_of_word (x2 i) (congrFun h2 i)
  mods s j e hs hj hj' := finite_of_word _ ((mods_word x0 x1 x2 x3 x4 x5 x6 ⟨s.val, hs⟩ ⟨j.val - 2, by omega⟩ e s rfl j
    (show j.val = 2 + (j.val - 2) by omega)).symm.trans (congrFun h3 _))
  gain i := finite_of_word (x4 i) (congrFun h4 i)
  bias i := finite_of_word (x5 i) (congrFun h5 i)
  router i := finite_of_word (x6 i) (congrFun h6 i)

/-- The reference of the call keeps its arguments and ends with every counter at zero. -/
theorem reference_frame : Cert.quiescent_OutRefIdeal (hOutRefIdeal := Cert.OutRefIdeal.Gen.facts) := fun m ρ _ =>
  (θ_run Cert.OutRefIdeal.defs _ _).mono
    (fun r h => ⟨fun c => (h c).2.2.2, Idealize.ShloMosaic.sem_eq_zero_of_no_sems (by decide) r.2⟩)
    (Cert.OutRefIdeal.Value.run (F := Ideal) m ρ)

/-- The kernel's three results are the reference's, for all finite arguments. -/
theorem algebraic : Cert.algebraic_OutIdeal_OutRefIdeal_pre_late_finite (hOutIdeal := Cert.OutIdeal.Gen.facts)
    (hOutRefIdeal := Cert.OutRefIdeal.Gen.facts) (hPre_late_finite := Cert.Pre_late_finite.Gen.facts) := by
  intro m ρ m' ρ' hpre hagree
  refine ⟨fun c => Cert.OutRefIdeal.Read.val_main_v68 (F := Ideal)
      (m ((c.tc : Thread Cert.OutIdeal.nD Cert.OutIdeal.τ).loc Cert.OutIdeal.main_arg0))
      (m ((c.tc : Thread Cert.OutIdeal.nD Cert.OutIdeal.τ).loc Cert.OutIdeal.main_arg1))
      (m ((c.tc : Thread Cert.OutIdeal.nD Cert.OutIdeal.τ).loc Cert.OutIdeal.main_arg2))
      (m ((c.tc : Thread Cert.OutIdeal.nD Cert.OutIdeal.τ).loc Cert.OutIdeal.main_arg3))
      (m ((c.tc : Thread Cert.OutIdeal.nD Cert.OutIdeal.τ).loc Cert.OutIdeal.main_arg4))
      (m ((c.tc : Thread Cert.OutIdeal.nD Cert.OutIdeal.τ).loc Cert.OutIdeal.main_arg5)),
    fun c => Cert.OutRefIdeal.Read.val_main_v69 (F := Ideal)
      (m ((c.tc : Thread Cert.OutIdeal.nD Cert.OutIdeal.τ).loc Cert.OutIdeal.main_arg0))
      (m ((c.tc : Thread Cert.OutIdeal.nD Cert.OutIdeal.τ).loc Cert.OutIdeal.main_arg1))
      (m ((c.tc : Thread Cert.OutIdeal.nD Cert.OutIdeal.τ).loc Cert.OutIdeal.main_arg2))
      (m ((c.tc : Thread Cert.OutIdeal.nD Cert.OutIdeal.τ).loc Cert.OutIdeal.main_arg3))
      (m ((c.tc : Thread Cert.OutIdeal.nD Cert.OutIdeal.τ).loc Cert.OutIdeal.main_arg4))
      (m ((c.tc : Thread Cert.OutIdeal.nD Cert.OutIdeal.τ).loc Cert.OutIdeal.main_arg5)),
    fun c => Cert.OutRefIdeal.Read.val_main_v67 (F := Ideal)
      (m ((c.tc : Thread Cert.OutIdeal.nD Cert.OutIdeal.τ).loc Cert.OutIdeal.main_arg0))
      (m ((c.tc : Thread Cert.OutIdeal.nD Cert.OutIdeal.τ).loc Cert.OutIdeal.main_arg1))
      (m ((c.tc : Thread Cert.OutIdeal.nD Cert.OutIdeal.τ).loc Cert.OutIdeal.main_arg2))
      (m ((c.tc : Thread Cert.OutIdeal.nD Cert.OutIdeal.τ).loc Cert.OutIdeal.main_arg3))
      (m ((c.tc : Thread Cert.OutIdeal.nD Cert.OutIdeal.τ).loc Cert.OutIdeal.main_arg4))
      (m ((c.tc : Thread Cert.OutIdeal.nD Cert.OutIdeal.τ).loc Cert.OutIdeal.main_arg5))
      (m ((c.tc : Thread Cert.OutIdeal.nD Cert.OutIdeal.τ).loc Cert.OutIdeal.main_arg6)), ?_, ?_⟩
  · exact (θ_run Cert.OutIdeal.defs _ _).mono (fun _ h c => ⟨(h c).1.trans (Cert.OutIdeal.Hand.final5 m c), (h c).2.1.trans (Cert.OutIdeal.Hand.final6 m c),
      (h c).2.2.1.trans (Cert.OutIdeal.Hand.final7 m c (all_finite _ _ _ _ _ _ _ (hpre c).1 (hpre c).2.1 (hpre c).2.2.1 (hpre c).2.2.2.1 (hpre c).2.2.2.2.1
        (hpre c).2.2.2.2.2.1 (hpre c).2.2.2.2.2.2)), (h c).2.2.2⟩) (Cert.OutIdeal.Value.run_blocks m ρ)
  · refine (θ_run Cert.OutRefIdeal.defs _ _).mono (fun _ h c => ⟨((h c).1.trans (Cert.OutRefIdeal.Read.val_main_v68_eq m' c)).trans ?_,
      ((h c).2.1.trans (Cert.OutRefIdeal.Read.val_main_v69_eq m' c)).trans ?_, ((h c).2.2.1.trans (Cert.OutRefIdeal.Read.val_main_v67_eq m' c)).trans ?_, (h c).2.2.2⟩)
      (Cert.OutRefIdeal.Value.run (F := Ideal) m' ρ')
    · rw [(hagree c).1, (hagree c).2.1, (hagree c).2.2.1, (hagree c).2.2.2.1, (hagree c).2.2.2.2.1, (hagree c).2.2.2.2.2.1]
    · rw [(hagree c).1, (hagree c).2.1, (hagree c).2.2.1, (hagree c).2.2.2.1, (hagree c).2.2.2.2.1, (hagree c).2.2.2.2.2.1]
    · rw [(hagree c).1, (hagree c).2.1, (hagree c).2.2.1, (hagree c).2.2.2.1, (hagree c).2.2.2.2.1, (hagree c).2.2.2.2.2.1, (hagree c).2.2.2.2.2.2]

end Cert.Proof.Out

end
-- ==== Proof.MixPoint.lean ====
/- One grid point of the first layer's output projection: what it leaves in its result blocks and in the rows it keeps for the next point. -/
module

public import proofs.«01_k».proof.Proof.PointBlock
public import proofs.«01_k».proof.Proof.Gen.MixIdeal.Value
public import Idealize.ShloMosaic.Lib.Pipeline.ValueKit
public import Idealize.ShloMosaic.Lib.Pointwise
public import Idealize.ShloMosaic.Lib.Pipeline.ReadBack
public import Idealize.ShloMosaic.Lib.ValueIdx

@[expose] public section

set_option maxRecDepth 16384

noncomputable section

namespace Cert.MixIdeal.Hand

open Cert.MixIdeal Cert.MixIdeal.Gen Idealize.ShloMosaic Idealize.ShloMosaic.TcCoe Idealize.SL.Sem
open Idealize.ShloMosaic.Pipeline (Dat)
open Cert.PointBlock (part)

variable (m : (ℓ : Loc nD τ sig) → Buf (Elt Ideal) ℓ) (ρ : Dev nD → PrngReg)

/-- Where the parameter rows of a point's two tiles start. -/
theorem off : ∀ t : Fin cfg0.N, ((k0_off1 (grid0.coords t) 0#32) 0 = part t.val 0 ∧ (k0_off1 (grid0.coords t) 0#32) 1 = 0 ∧ (k0_off1 (grid0.coords t) 0#32) 2 = 0)
    ∧ ((k0_off1 (grid0.coords t) 1#32) 0 = part t.val 256 ∧ (k0_off1 (grid0.coords t) 1#32) 1 = 0 ∧ (k0_off1 (grid0.coords t) 1#32) 2 = 0) :=
  (by decide +kernel : ∀ t : Fin grid0.N, _)

/-- The product of two blocks of rows with the weights of their halves. -/
def prodBlock (a : FVec Ideal S512x1024 .f32) (a' : FVec Ideal S512x1024 .bf16) (w w' : FVec Ideal S1024x2048 .bf16) : FVec Ideal S512x2048 .f32 :=
  fun y => (∑ k : Fin 1024, (a (ix2 (y 0) k) : EReal) * w (ix2 k (y 1))) + ∑ k : Fin 1024, (a' (ix2 (y 0) k) : EReal) * w' (ix2 k (y 1))

/-- The first tile's product. -/
theorem prod_apply0 (a : FVec Ideal S256x1024 .f32) (a' : FVec Ideal S256x1024 .bf16) (w w' : FVec Ideal S1024x2048 .bf16) (y : S256x2048.Idx) :
    (k0_pay18 (F := Ideal) a w a' w' y : EReal)
      = (∑ k : Fin 1024, (a (ix2 (y 0) k) : EReal) * w (ix2 k (y 1))) + ∑ k : Fin 1024, (a' (ix2 (y 0) k) : EReal) * w' (ix2 k (y 1)) := by
  pointwise [k0_pay18]

/-- The second tile's product. -/
theorem prod_apply1 (a : FVec Ideal S256x1024 .f32) (a' : FVec Ideal S256x1024 .bf16) (w w' : FVec Ideal S1024x2048 .bf16) (y : S256x2048.Idx) :
    (k0_pay1 (F := Ideal) (k0_pay19 a w) a' w' y : EReal)
      = (∑ k : Fin 1024, (a (ix2 (y 0) k) : EReal) * w (ix2 k (y 1))) + ∑ k : Fin 1024, (a' (ix2 (y 0) k) : EReal) * w' (ix2 k (y 1)) := by
  pointwise [k0_pay1, k0_pay19]

/-- A tile's rows in a block's product. -/
theorem prod_rows (a : FVec Ideal S512x1024 .f32) (a' : FVec Ideal S512x1024 .bf16) (w w' : FVec Ideal S1024x2048 .bf16) (o : ℕ)
    (h h' : ∀ b, (![o, 0] : Fin 2 → ℕ) b + (![256, 1024] : Fin 2 → ℕ) b ≤ S512x1024.size b) (x : S256x2048.Idx) (y : S512x2048.Idx)
    (h0 : (y 0).val = o + (x 0).val) (h1 : (y 1).val = (x 1).val) :
    (∑ k : Fin 1024, (View.ld (Val := Elt Ideal) (S := S512x1024) (e' := .f32) a (Rect.unit ![o, 0] ![256, 1024] h) (ix2 (x 0) k) : EReal) * w (ix2 k (x 1)))
      + ∑ k : Fin 1024, (View.ld (Val := Elt Ideal) (S := S512x1024) (e' := .bf16) a' (Rect.unit ![o, 0] ![256, 1024] h') (ix2 (x 0) k) : EReal) * w' (ix2 k (x 1))
      = prodBlock a a' w w' y := by
  have e1 : x 1 = y 1 := Fin.ext h1.symm
  refine congr (congrArg HAdd.hAdd (Finset.sum_congr rfl fun k _ => ?_)) (Finset.sum_congr rfl fun k _ => ?_)
  · exact congr (congrArg HMul.hMul (PointBlock.tile_ld (φ := .f32) a h (x 0) k (y 0) h0)) (congrArg (fun e => (w (ix2 k e) : EReal)) e1)
  · exact congr (congrArg HMul.hMul (PointBlock.tile_ld (φ := .bf16) a' h' (x 0) k (y 0) h0)) (congrArg (fun e => (w' (ix2 k e) : EReal)) e1)

/-- The first tile's product is its rows of the block's. -/
theorem prod_tile0 (a : FVec Ideal S512x1024 .f32) (a' : FVec Ideal S512x1024 .bf16) (w w' : FVec Ideal S1024x2048 .bf16) (o : ℕ)
    (h h' : ∀ b, (![o, 0] : Fin 2 → ℕ) b + (![256, 1024] : Fin 2 → ℕ) b ≤ S512x1024.size b) (x : S256x2048.Idx) (y : S512x2048.Idx)
    (h0 : (y 0).val = o + (x 0).val) (h1 : (y 1).val = (x 1).val) :
    (k0_pay18 (F := Ideal) (View.ld (Val := Elt Ideal) (S := S512x1024) (e' := .f32) a (Rect.unit ![o, 0] ![256, 1024] h)) w
      (View.ld (Val := Elt Ideal) (S := S512x1024) (e' := .bf16) a' (Rect.unit ![o, 0] ![256, 1024] h')) w' x : EReal) = prodBlock a a' w w' y :=
  (prod_apply0 _ _ w w' x).trans (prod_rows a a' w w' o h h' x y h0 h1)

/-- The second tile's product is its rows of the block's. -/
theorem prod_tile1 (a : FVec Ideal S512x1024 .f32) (a' : FVec Ideal S512x1024 .bf16) (w w' : FVec Ideal S1024x2048 .bf16) (o : ℕ)
    (h h' : ∀ b, (![o, 0] : Fin 2 → ℕ) b + (![256, 1024] : Fin 2 → ℕ) b ≤ S512x1024.size b) (x : S256x2048.Idx) (y : S512x2048.Idx)
    (h0 : (y 0).val = o + (x 0).val) (h1 : (y 1).val = (x 1).val) :
    (k0_pay1 (F := Ideal) (k0_pay19 (View.ld (Val := Elt Ideal) (S := S512x1024) (e' := .f32) a (Rect.unit ![o, 0] ![256, 1024] h)) w)
      (View.ld (Val := Elt Ideal) (S := S512x1024) (e' := .bf16) a' (Rect.unit ![o, 0] ![256, 1024] h')) w' x : EReal) = prodBlock a a' w w' y :=
  (prod_apply1 _ _ w w' x).trans (prod_rows a a' w w' o h h' x y h0 h1)

/-- The rows a point of the second kind keeps. -/
theorem st_B (c : Dev nD) (t : Fin cfg0.N) (h0 : ¬t.val % 66 = 0) :
    (outsAt0 m c t.val t.isLt).2.2.2 = prodBlock (iblk m c 0 t) (iblk m c 1 t) (iblk m c 2 t) (iblk m c 3 t) := by
  rw [outsAt0_B m c t h0]
  dsimp only
  frame_out
  funext y
  canon_tiles x hy
  · exact prod_tile1 (iblk m c 0 t) (iblk m c 1 t) (iblk m c 2 t) (iblk m c 3 t) 256 _ _ x y hy0 hy1
  · exact prod_tile0 (iblk m c 0 t) (iblk m c 1 t) (iblk m c 2 t) (iblk m c 3 t) 0 _ _ x y (by omega) hy1

/-- The rows the first point keeps. -/
theorem st_A (c : Dev nD) (t : Fin cfg0.N) (h0 : t.val % 66 = 0) :
    (outsAt0 m c t.val t.isLt).2.2.2 = prodBlock (iblk m c 0 t) (iblk m c 1 t) (iblk m c 2 t) (iblk m c 3 t) := by
  rw [outsAt0_A m c t h0]
  dsimp only
  frame_open
  simp (disch := decide) only [↓ View.readCov_skip, ↓ View.readCov_cons_toLoadRect, ↓ View.readCov_fill]
  frame_out
  funext y
  refine View.canon_append_of_piecesOf (Val := Elt Ideal) (e := .f32) (prodBlock (iblk m c 0 t) (iblk m c 1 t) (iblk m c 2 t) (iblk m c 3 t)) [_] [_, _] ⟨fun x => ?_, fun x => ?_, trivial⟩ y (View.cover_of_tiled _ ![256, 2048] (by rfl) y)
  · refine prod_tile1 (iblk m c 0 t) (iblk m c 1 t) (iblk m c 2 t) (iblk m c 3 t) 256 _ _ x _ ?_ ?_
    · exact Rect.idx_unit_val (s := S512x2048) (off := ![256, 0]) (size := ![256, 2048]) (inb := inb_S512x2048_S256x2048_256_0) (x := x) (a := 0)
    · exact (Rect.idx_unit_val (s := S512x2048) (off := ![256, 0]) (size := ![256, 2048]) (inb := inb_S512x2048_S256x2048_256_0) (x := x) (a := 1)).trans (Nat.zero_add _)
  · refine prod_tile0 (iblk m c 0 t) (iblk m c 1 t) (iblk m c 2 t) (iblk m c 3 t) 0 _ _ x _ ?_ ?_
    · exact Rect.idx_unit_val (s := S512x2048) (off := ![0, 0]) (size := ![256, 2048]) (inb := inb_S512x2048_S256x2048_0_0) (x := x) (a := 0)
    · exact (Rect.idx_unit_val (s := S512x2048) (off := ![0, 0]) (size := ![256, 2048]) (inb := inb_S512x2048_S256x2048_0_0) (x := x) (a := 1)).trans (Nat.zero_add _)

/-- The rows a point keeps: its block's product. -/
theorem st (c : Dev nD) (t : Fin cfg0.N) : (outsAt0 m c t.val t.isLt).2.2.2 = prodBlock (iblk m c 0 t) (iblk m c 1 t) (iblk m c 2 t) (iblk m c 3 t) := by
  by_cases h0 : t.val % 66 = 0
  · exact st_A m c t h0
  · exact st_B m c t h0

/-- What the point before left. -/
def kept (c : Dev nD) (t : Fin cfg0.N) : FVec Ideal S512x2048 .f32 :=
  (outsAt0 m c (t.val - 1) (Nat.lt_of_le_of_lt (Nat.sub_le _ _) t.isLt)).2.2.2

/-- A tile read as it is. -/
theorem pay3_eq (v : FVec Ideal S256x2048 .f32) : k0_pay3 (F := Ideal) v = v := by
  funext y
  pointwise [k0_pay3]

/-- The normalised rows and the tokens of a tile. -/
theorem tile (s x : FVec Ideal S512x2048 .f32) (A : FVec Ideal S4x8x2048 .f32) (t o : ℕ) (ho : o = 0 ∨ o = 256)
    (h : ∀ a, (![o, 0] : Fin 2 → ℕ) a + (![256, 2048] : Fin 2 → ℕ) a ≤ S512x2048.size a) (off : Fin 3 → ℕ)
    (h' : ∀ a, off a + (![1, 8, 2048] : Fin 3 → ℕ) a ≤ S4x8x2048.size a) (hq : off 0 = part t o ∧ off 1 = 0 ∧ off 2 = 0)
    (i : S256x2048.Idx) (y : S512x2048.Idx) (h0 : (y 0).val = o + (i 0).val) (h1 : (y 1).val = (i 1).val) :
    (k0_pay5 (F := Ideal) (View.ld (Val := Elt Ideal) (S := S512x2048) (e' := .f32) s (Rect.unit ![o, 0] ![256, 2048] h))
      (k0_pay3 (View.ld (Val := Elt Ideal) (S := S512x2048) (e' := .f32) x (Rect.unit ![o, 0] ![256, 2048] h)))
      (k0_pay4 (View.ld (Val := Elt Ideal) (S := S4x8x2048) (e' := .f32) A (Rect.unit off ![1, 8, 2048] h'))) i : EReal) = PointBlock.normed s x A t y
    ∧ (k0_pay6 (F := Ideal) (View.ld (Val := Elt Ideal) (S := S512x2048) (e' := .f32) s (Rect.unit ![o, 0] ![256, 2048] h))
      (k0_pay3 (View.ld (Val := Elt Ideal) (S := S512x2048) (e' := .f32) x (Rect.unit ![o, 0] ![256, 2048] h)))
      (k0_pay4 (View.ld (Val := Elt Ideal) (S := S4x8x2048) (e' := .f32) A (Rect.unit off ![1, 8, 2048] h'))) i : EReal) = PointBlock.token s x A t (y 0) (y 1) := by
  rw [pay3_eq]
  have e1 : i = ix2 (i 0) (y 1) := (eq_ix2 i).trans (congrArg (ix2 (i 0)) (Fin.ext h1.symm : (i 1 : Fin 2048) = y 1))
  have hy := PointBlock.tile_eq s x A (View.ld (Val := Elt Ideal) (S := S512x2048) (e' := .f32) s (Rect.unit ![o, 0] ![256, 2048] h))
    (View.ld (Val := Elt Ideal) (S := S512x2048) (e' := .f32) x (Rect.unit ![o, 0] ![256, 2048] h))
    (View.ld (Val := Elt Ideal) (S := S4x8x2048) (e' := .f32) A (Rect.unit off ![1, 8, 2048] h')) t o ho
    (fun r e R hR => PointBlock.tile_ld (φ := .f32) s h r e R hR) (fun r e R hR => PointBlock.tile_ld (φ := .f32) x h r e R hR)
    (fun j e => PointBlock.par_ld A off h' t o hq.1 hq.2.1 hq.2.2 j e) (i 0) (y 1) (y 0) h0
  rw [e1]
  exact ⟨hy.1.trans (congrArg _ (eq_ix2 y).symm), hy.2⟩

/-- The logits of a tile. -/
theorem logit_apply (v : FVec Ideal S256x2048 .f32) (w : FVec Ideal S2048x128 .f32) (r : Fin 256) (j : Fin 128) :
    (k0_pay17 (F := Ideal) v w (ix2 r j) : EReal) = (∑ k : Fin 2048, (v (ix2 r k) : EReal) * w (ix2 k j))
      + (∑ k : Fin 2048, (v (ix2 r k) : EReal) * ((w (ix2 k j) : EReal) - w (ix2 k j))) + ∑ k : Fin 2048, ((v (ix2 r k) : EReal) - v (ix2 r k)) * w (ix2 k j) := by
  pointwise [k0_pay17]

/-- The logits of a tile are its rows of the block's. -/
theorem logit_tile (s x : FVec Ideal S512x2048 .f32) (A : FVec Ideal S4x8x2048 .f32) (w : FVec Ideal S2048x128 .f32) (t : ℕ)
    (v : FVec Ideal S256x2048 .f32) (i : S256x128.Idx) (y : S512x128.Idx) (h1 : (y 1).val = (i 1).val)
    (hv : ∀ k : Fin 2048, (v (ix2 (i 0) k) : EReal) = PointBlock.token s x A t (y 0) k) :
    (k0_pay17 (F := Ideal) v w i : EReal) = PointBlock.logit s x A w t y := by
  have e1 : i = ix2 (i 0) (y 1) := (eq_ix2 i).trans (congrArg (ix2 (i 0)) (Fin.ext h1.symm : (i 1 : Fin 128) = y 1))
  rw [e1]
  refine (logit_apply v w (i 0) (y 1)).trans ?_
  simp only [hv]
  rfl

/-- The normalised rows a point writes. -/
theorem out7 (c : Dev nD) (t : Fin cfg0.N) (h0 : ¬t.val % 66 = 0) :
    (outsAt0 m c t.val t.isLt).1 = PointBlock.normed (kept m c t) (iblk m c 4 t) (iblk m c 5 t) t.val := by
  rw [outsAt0_B m c t h0]
  dsimp only
  frame_out
  simp only [read_unread_whole]
  funext y
  canon_tiles x hy
  · exact (tile (kept m c t) (iblk m c 4 t) (iblk m c 5 t) t.val 256 (.inr rfl) _ _ _ (off t).2 x y hy0 hy1).1
  · exact (tile (kept m c t) (iblk m c 4 t) (iblk m c 5 t) t.val 0 (.inl rfl) _ _ _ (off t).1 x y (by omega) hy1).1

/-- The tokens a point writes. -/
theorem out8 (c : Dev nD) (t : Fin cfg0.N) (h0 : ¬t.val % 66 = 0) (y : S512x2048.Idx) :
    ((outsAt0 m c t.val t.isLt).2.1 y : EReal) = PointBlock.token (kept m c t) (iblk m c 4 t) (iblk m c 5 t) t.val (y 0) (y 1) := by
  rw [outsAt0_B m c t h0]
  dsimp only
  frame_out
  simp only [read_unread_whole]
  canon_tiles x hy
  · exact (tile (kept m c t) (iblk m c 4 t) (iblk m c 5 t) t.val 256 (.inr rfl) _ _ _ (off t).2 x y hy0 hy1).2
  · exact (tile (kept m c t) (iblk m c 4 t) (iblk m c 5 t) t.val 0 (.inl rfl) _ _ _ (off t).1 x y (by omega) hy1).2

/-- The logits a point writes. -/
theorem out9 (c : Dev nD) (t : Fin cfg0.N) (h0 : ¬t.val % 66 = 0) :
    (outsAt0 m c t.val t.isLt).2.2.1 = PointBlock.logit (kept m c t) (iblk m c 4 t) (iblk m c 5 t) (iblk m c 6 t) t.val := by
  rw [outsAt0_B m c t h0]
  dsimp only
  frame_out
  simp only [read_unread_whole]
  funext y
  canon_tiles x hy
  · exact logit_tile (kept m c t) (iblk m c 4 t) (iblk m c 5 t) (iblk m c 6 t) t.val _ x y hy1
      fun k => (tile (kept m c t) (iblk m c 4 t) (iblk m c 5 t) t.val 256 (.inr rfl) _ _ _ (off t).2 (ix2 (x 0) k) (ix2 (y 0) k) hy0 rfl).2
  · exact logit_tile (kept m c t) (iblk m c 4 t) (iblk m c 5 t) (iblk m c 6 t) t.val _ x y hy1
      fun k => (tile (kept m c t) (iblk m c 4 t) (iblk m c 5 t) t.val 0 (.inl rfl) _ _ _ (off t).1 (ix2 (x 0) k) (ix2 (y 0) k) (by show (y 0).val = 0 + (x 0).val; omega) rfl).2

end Cert.MixIdeal.Hand

end
-- ==== Proof.MixRef.lean ====
/- The reference of the first layer's output projection, index by index. -/
module

public import proofs.«01_k».proof.Proof.Finite
public import proofs.«01_k».proof.Proof.Router
public import proofs.«01_k».proof.Proof.Gen.MixRefIdeal.Read
public import Idealize.ShloMosaic.Lib.Pipeline.ValueKit
public import Idealize.ShloMosaic.Lib.Pointwise
public import Idealize.ShloMosaic.Lib.ValueIdx
public import Idealize.ShloMosaic.Lib.KernelVsHost

@[expose] public section

set_option maxRecDepth 16384

noncomputable section

namespace Cert.MixRefIdeal.Hand

open Cert.MixRefIdeal Cert.MixRefIdeal.Read Idealize.ShloMosaic Idealize.ShloMosaic.TcCoe

variable (x0 : FVec Ideal S2x16640x1024 .f32) (x1 : FVec Ideal S2x16640x1024 .bf16) (x2 : FVec Ideal S2048x2048 .f32) (x3 : FVec Ideal S2x16640x2048 .f32)
  (x4 : FVec Ideal S8x6x2048 .f32) (x5 x6 : FVec Ideal S2048 .f32) (x7 : FVec Ideal S2048x16 .f32)

/-- The left half of two arrays side by side is the first, the right half the second. -/
theorem halves_apply (x y : S2x16640x1024.Idx → EReal) (b : Fin 2) (r : Fin 16640) (k : Fin 1024) (L R : Fin 2048) (hL : L.val = k.val) (hR : R.val = 1024 + k.val) :
    concatenate S2x16640x2048 2 [⟨S2x16640x1024, x⟩, ⟨S2x16640x1024, y⟩] Gen.concatenates_S2x16640x1024_S2x16640x1024_S2x16640x2048_d2 (ix3 b r L) = x (ix3 b r k)
    ∧ concatenate S2x16640x2048 2 [⟨S2x16640x1024, x⟩, ⟨S2x16640x1024, y⟩] Gen.concatenates_S2x16640x1024_S2x16640x1024_S2x16640x2048_d2 (ix3 b r R) = y (ix3 b r k) := by
  refine ⟨concatenate_apply_piece (t := S2x16640x2048) 2 _ _ _ 0 (by simp) S2x16640x1024 _ rfl rfl 0 rfl (ix3 b r k) (fun a ha => ?_) ((Nat.zero_add _).trans hL.symm),
    concatenate_apply_piece (t := S2x16640x2048) 2 _ _ _ 1 (by simp) S2x16640x1024 _ rfl rfl 1024 rfl (ix3 b r k) (fun a ha => ?_) hR.symm⟩
  · match a with
    | 0 => rfl
    | 1 => rfl
    | 2 => exact absurd rfl ha
  · match a with
    | 0 => rfl
    | 1 => rfl
    | 2 => exact absurd rfl ha

/-- Where a half's column lies among the columns of both. -/
abbrev left (k : Fin 1024) : Fin 2048 := ⟨k.val, by omega⟩

/-- Where the other half's column lies. -/
abbrev right (k : Fin 1024) : Fin 2048 := ⟨1024 + k.val, by omega⟩

/-- A sum over both halves' columns. -/
theorem sum_halves (f : Fin 2048 → EReal) : ∑ k, f k = (∑ k : Fin 1024, f (left k)) + ∑ k : Fin 1024, f (right k) :=
  Fin.sum_univ_add (a := 1024) (b := 1024) f

/-- The product with the layer's output weights, half by half. -/
theorem product_apply (b : Fin 2) (r : Fin 16640) (e : Fin 2048) :
    (val_main_v2 (F := Ideal) x0 x1 x2 (ix3 b r e) : EReal) = (∑ k : Fin 1024, x0 (ix3 b r k) * x2 (ix2 (left k) e))
      + ∑ k : Fin 1024, x1 (ix3 b r k) * x2 (ix2 (right k) e) := by
  have hl : ∀ k, lidx_main_v2 (ix3 b r e) k = ix3 b r k := fun k => by
    funext a
    match a with
    | 0 => rfl
    | 1 => rfl
    | 2 => rfl
  have hr : ∀ k, ridx_main_v2 (ix3 b r e) k = ix2 k e := fun k => by
    funext a
    match a with
    | 0 => rfl
    | 1 => rfl
  rw [val_main_v2_apply]
  simp only [hl, hr]
  unfold val_main_v1
  rw [sum_halves]
  have h := fun k => halves_apply x0 (val_main_v0 (F := Ideal) x1) b r k (left k) (right k) rfl rfl
  simp only [fun k => (h k).1, fun k => (h k).2, val_main_v0_apply]
  rfl

/-- The update's gate: the sequence's for the latents, the shared one for the context. -/
theorem gate_apply (b : Fin 2) (r : Fin 16640) (e : Fin 2048) (s : Fin 8) (hs : s.val = if r.val < 16384 then b.val else 2) :
    (val_main_v15 (F := Ideal) x4 (ix3 b r e) : EReal) = x4 (ix3 s 2 e) := by
  have he := e.isLt
  rw [val_main_v15_apply, val_main_call0_v0_apply, val_main_v8_apply, val_main_v7_apply, val_main_v5_apply, val_main_v6_apply, val_main_c_apply,
    val_main_call0_v1_apply, val_main_v11_apply, val_main_v10_apply, val_main_v9_apply, val_main_call0_v2_apply, val_main_v14_apply, val_main_v13_apply, val_main_v12_apply]
  refine (RowNorm.select_latent r.val r.isLt _ _).trans ?_
  by_cases h : r.val < 16384
  · rw [if_pos h] at hs ⊢
    refine congrArg x4 (funext fun a => ?_)
    match a with
    | 0 => exact Fin.ext (show (b.val * 2048 + e.val) / 2048 = s.val by omega)
    | 1 => rfl
    | 2 => exact Fin.ext (show (b.val * 2048 + e.val) % 2048 = e.val by omega)
  · rw [if_neg h] at hs ⊢
    refine congrArg x4 (funext fun a => ?_)
    match a with
    | 0 => exact Fin.ext hs.symm
    | 1 => rfl
    | 2 => exact Fin.ext (show e.val % 2048 = e.val by omega)

/-- The token's scale: the sequence's for the latents, the shared one for the context. -/
theorem scale_apply (b : Fin 2) (r : Fin 16640) (e : Fin 2048) (s : Fin 8) (hs : s.val = if r.val < 16384 then b.val else 2) :
    (val_main_v50 (F := Ideal) x4 (ix3 b r e) : EReal) = x4 (ix3 s 4 e) := by
  have he := e.isLt
  rw [val_main_v50_apply, val_main_call1_v0_apply, val_main_v43_apply, val_main_v42_apply, val_main_v40_apply, val_main_v41_apply, val_main_c_5_apply,
    val_main_call1_v1_apply, val_main_v46_apply, val_main_v45_apply, val_main_v44_apply, val_main_call1_v2_apply, val_main_v49_apply, val_main_v48_apply, val_main_v47_apply]
  refine (RowNorm.select_latent r.val r.isLt _ _).trans ?_
  by_cases h : r.val < 16384
  · rw [if_pos h] at hs ⊢
    refine congrArg x4 (funext fun a => ?_)
    match a with
    | 0 => exact Fin.ext (show (b.val * 2048 + e.val) / 2048 = s.val by omega)
    | 1 => rfl
    | 2 => exact Fin.ext (show (b.val * 2048 + e.val) % 2048 = e.val by omega)
  · rw [if_neg h] at hs ⊢
    refine congrArg x4 (funext fun a => ?_)
    match a with
    | 0 => exact Fin.ext hs.symm
    | 1 => rfl
    | 2 => exact Fin.ext (show e.val % 2048 = e.val by omega)

/-- The token's shift: the sequence's for the latents, the shared one for the context. -/
theorem shift_apply (b : Fin 2) (r : Fin 16640) (e : Fin 2048) (s : Fin 8) (hs : s.val = if r.val < 16384 then b.val else 2) :
    (val_main_v64 (F := Ideal) x4 (ix3 b r e) : EReal) = x4 (ix3 s 3 e) := by
  have he := e.isLt
  rw [val_main_v64_apply, val_main_call2_v0_apply, val_main_v57_apply, val_main_v56_apply, val_main_v54_apply, val_main_v55_apply, val_main_c_7_apply,
    val_main_call2_v1_apply, val_main_v60_apply, val_main_v59_apply, val_main_v58_apply, val_main_call2_v2_apply, val_main_v63_apply, val_main_v62_apply, val_main_v61_apply]
  refine (RowNorm.select_latent r.val r.isLt _ _).trans ?_
  by_cases h : r.val < 16384
  · rw [if_pos h] at hs ⊢
    refine congrArg x4 (funext fun a => ?_)
    match a with
    | 0 => exact Fin.ext (show (b.val * 2048 + e.val) / 2048 = s.val by omega)
    | 1 => rfl
    | 2 => exact Fin.ext (show (b.val * 2048 + e.val) % 2048 = e.val by omega)
  · rw [if_neg h] at hs ⊢
    refine congrArg x4 (funext fun a => ?_)
    match a with
    | 0 => exact Fin.ext hs.symm
    | 1 => rfl
    | 2 => exact Fin.ext (show e.val % 2048 = e.val by omega)

/-- The row before the normalisation. -/
def row (b : Fin 2) (r : Fin 16640) (s : Fin 8) : Fin 2048 → EReal :=
  RowNorm.update (fun e => x3 (ix3 b r e)) (fun e => val_main_v2 (F := Ideal) x0 x1 x2 (ix3 b r e)) (fun e => x4 (ix3 s 2 e))

/-- The residual with the gated product added. -/
theorem row_apply (b : Fin 2) (r : Fin 16640) (e : Fin 2048) (s : Fin 8) (hs : s.val = if r.val < 16384 then b.val else 2) :
    (val_main_v17 (F := Ideal) x0 x1 x2 x3 x4 (ix3 b r e) : EReal) = row x0 x1 x2 x3 x4 b r s e := by
  rw [val_main_v17_apply, val_main_v4_apply, val_main_v3_apply, val_main_v16_apply, gate_apply x4 b r e s hs]
  rfl

/-- The zero a sum starts from. -/
theorem zero_add_const (x : EReal) : Ideal.ofBits .f32 0x00000000#32 + x = x := by
  simp [Ideal.ofBits, Ideal.ieee]

/-- A row minus its mean. -/
theorem centred_apply (b : Fin 2) (r : Fin 16640) (e : Fin 2048) :
    (val_main_v23 (F := Ideal) x0 x1 x2 x3 x4 (ix3 b r e) : EReal)
      = RowNorm.centred (fun k => val_main_v17 (F := Ideal) x0 x1 x2 x3 x4 (ix3 b r k)) e := by
  rw [val_main_v23_apply, val_main_v22_apply, val_main_v21_apply, val_main_v20_apply, val_main_v19_apply, val_main_v18_apply]
  have h : ∀ k, idx_main_v18 (idx_main_v19 (idx_main_v22 (ix3 b r e))) k = ix3 b r k := fun k => by
    funext a
    match a with
    | 0 => rfl
    | 1 => rfl
    | 2 => rfl
  simp only [h]
  show _ - Ideal.div (Ideal.ofBits .f32 0x00000000#32 + _) _ = _
  rw [zero_add_const]
  rfl

/-- The scale of a row. -/
theorem lift_apply (b : Fin 2) (r : Fin 16640) (e : Fin 2048) :
    (val_main_v32 (F := Ideal) x0 x1 x2 x3 x4 (ix3 b r e) : EReal)
      = RowNorm.scale fun k => val_main_v17 (F := Ideal) x0 x1 x2 x3 x4 (ix3 b r k) := by
  rw [val_main_v32_apply, val_main_v31_apply, val_main_v30_apply, val_main_v29_apply, val_main_v28_apply, val_main_v27_apply, val_main_v26_apply,
    val_main_v25_apply]
  have h : ∀ k, idx_main_v25 (idx_main_v26 (idx_main_v32 (ix3 b r e))) k = ix3 b r k := fun k => by
    funext a
    match a with
    | 0 => rfl
    | 1 => rfl
    | 2 => rfl
  simp only [h, val_main_v24_apply]
  have hc := fun k => centred_apply x0 x1 x2 x3 x4 b r k
  unfold RowNorm.scale
  simp only [← hc]
  show Ideal.rsqrt (Ideal.div (Ideal.ofBits .f32 0x00000000#32 + _) _ + _) = _
  rw [zero_add_const]
  rfl

/-- The normalised rows. -/
theorem norm_apply (b : Fin 2) (r : Fin 16640) (e : Fin 2048) (s : Fin 8) (hs : s.val = if r.val < 16384 then b.val else 2) :
    (val_main_v39 (F := Ideal) x0 x1 x2 x3 x4 x5 x6 (ix3 b r e) : EReal) = RowNorm.norm (row x0 x1 x2 x3 x4 b r s) (x5 (ix1 e)) (x6 (ix1 e)) e := by
  rw [val_main_v39_apply, val_main_v38_apply, val_main_v37_apply, val_main_v36_apply, val_main_v35_apply, val_main_v34_apply, val_main_v33_apply]
  have h5 : idx_main_v34 (idx_main_v35 (ix3 b r e)) = ix1 e := by
    funext a
    match a with
    | 0 => rfl
  have h6 : idx_main_v37 (idx_main_v38 (ix3 b r e)) = ix1 e := by
    funext a
    match a with
    | 0 => rfl
  rw [h5, h6]
  refine Eq.trans ?_ (congrArg (fun v => RowNorm.norm v (x5 (ix1 e)) (x6 (ix1 e)) e) (funext fun k => row_apply x0 x1 x2 x3 x4 b r k s hs))
  exact congr (congrArg HAdd.hAdd (congr (congrArg HMul.hMul (congr (congrArg HMul.hMul (centred_apply x0 x1 x2 x3 x4 b r e)) (lift_apply x0 x1 x2 x3 x4 b r e))) rfl)) rfl

/-- A row's token. -/
def tok (b : Fin 2) (r : Fin 16640) (s : Fin 8) : Fin 2048 → EReal :=
  RowNorm.token (row x0 x1 x2 x3 x4 b r s) (fun e => x5 (ix1 e)) (fun e => x6 (ix1 e)) (fun e => x4 (ix3 s 4 e)) (fun e => x4 (ix3 s 3 e))

/-- The tokens. -/
theorem token_apply (b : Fin 2) (r : Fin 16640) (e : Fin 2048) (s : Fin 8) (hs : s.val = if r.val < 16384 then b.val else 2) :
    (val_main_v65 (F := Ideal) x0 x1 x2 x3 x4 x5 x6 (ix3 b r e) : EReal) = tok x0 x1 x2 x3 x4 x5 x6 b r s e := by
  rw [val_main_v65_apply, val_main_v53_apply, val_main_v52_apply, val_main_v51_apply, shift_apply x4 b r e s hs, scale_apply x4 b r e s hs,
    norm_apply x0 x1 x2 x3 x4 x5 x6 b r e s hs]
  rfl

/-- The normalised rows of both sequences, stacked. -/
theorem stacked_norm_apply (b : Fin 2) (r : Fin 16640) (e : Fin 2048) (s : Fin 8) (hs : s.val = if r.val < 16384 then b.val else 2)
    (i : S33280x2048.Idx) (h0 : (i 0).val = b.val * 16640 + r.val) (h1 : (i 1).val = e.val) :
    (val_main_v69 (F := Ideal) x0 x1 x2 x3 x4 x5 x6 i : EReal) = RowNorm.norm (row x0 x1 x2 x3 x4 b r s) (x5 (ix1 e)) (x6 (ix1 e)) e := by
  have he := e.isLt
  rw [val_main_v69_apply]
  refine Eq.trans (congrArg _ (funext fun a => ?_)) (norm_apply x0 x1 x2 x3 x4 x5 x6 b r e s hs)
  match a with
  | 0 => exact Fin.ext (show ((i 0).val * 2048 + (i 1).val) / 34078720 = b.val by omega)
  | 1 => exact Fin.ext (show ((i 0).val * 2048 + (i 1).val) / 2048 % 16640 = r.val by omega)
  | 2 => exact Fin.ext (show ((i 0).val * 2048 + (i 1).val) % 2048 = e.val by omega)

/-- The tokens of both sequences, stacked. -/
theorem stacked_token_apply (b : Fin 2) (r : Fin 16640) (e : Fin 2048) (s : Fin 8) (hs : s.val = if r.val < 16384 then b.val else 2)
    (i : S33280x2048.Idx) (h0 : (i 0).val = b.val * 16640 + r.val) (h1 : (i 1).val = e.val) :
    (val_main_v66 (F := Ideal) x0 x1 x2 x3 x4 x5 x6 i : EReal) = tok x0 x1 x2 x3 x4 x5 x6 b r s e := by
  have he := e.isLt
  rw [val_main_v66_apply]
  refine Eq.trans (congrArg _ (funext fun a => ?_)) (token_apply x0 x1 x2 x3 x4 x5 x6 b r e s hs)
  match a with
  | 0 => exact Fin.ext (show ((i 0).val * 2048 + (i 1).val) / 34078720 = b.val by omega)
  | 1 => exact Fin.ext (show ((i 0).val * 2048 + (i 1).val) / 2048 % 16640 = r.val by omega)
  | 2 => exact Fin.ext (show ((i 0).val * 2048 + (i 1).val) % 2048 = e.val by omega)

/-- The stored tokens. -/
theorem stored_token_apply (i : S33280x2048.Idx) :
    (val_main_v70 (F := Ideal) x0 x1 x2 x3 x4 x5 x6 i : EReal) = val_main_v66 (F := Ideal) x0 x1 x2 x3 x4 x5 x6 i := by
  rw [val_main_v70_apply]
  rfl

/-- The router's logits: the tokens' products with the router's columns, then zero columns. -/
theorem logit_apply (b : Fin 2) (r : Fin 16640) (s : Fin 8) (hs : s.val = if r.val < 16384 then b.val else 2)
    (i : S33280x128.Idx) (h0 : (i 0).val = b.val * 16640 + r.val) :
    (val_main_v68 (F := Ideal) x0 x1 x2 x3 x4 x5 x6 x7 i : EReal)
      = ∑ k : Fin 2048, tok x0 x1 x2 x3 x4 x5 x6 b r s k * Router.rpad x7 (ix2 k (i 1)) := by
  unfold val_main_v68 Router.rpad
  by_cases h : (i 1).val < 16
  · refine Eq.trans (pad_apply_of_inside _ _ _ _ _ _ _ i (ix2 (i 0) (⟨(i 1).val, h⟩ : Fin 16)) (fun a => ?_)) ?_
    rotate_left
    · refine Eq.trans (val_main_v67_apply _ _ _ _ _ _ _ _ _) ?_
      refine Finset.sum_congr rfl fun k _ => ?_
      rw [dif_pos (show ((ix2 k (i 1) : Router.S2048x128.Idx) 1).val < 16 from h)]
      refine congr (congrArg HMul.hMul (stacked_token_apply x0 x1 x2 x3 x4 x5 x6 b r k s hs _ h0 rfl)) (congrArg x7 (funext fun a => ?_))
      match a with
      | 0 => rfl
      | 1 => rfl
    · match a with
      | 0 => show (i 0).val = 0 + (i 0).val * (0 + 1); omega
      | 1 => show (i 1).val = 0 + (i 1).val * (0 + 1); omega
  · refine Eq.trans (pad_apply_of_not_inside _ _ _ _ _ _ _ i 1 (fun hin => h (by
      have : ((i 1).val - 0) / (0 + 1) < 16 := hin.2.2
      omega))) ?_
    have e : ∀ k : Fin 2048, (if h : ((ix2 k (i 1) : Router.S2048x128.Idx) 1).val < 16 then x7 (ix2 ((ix2 k (i 1) : Router.S2048x128.Idx) 0) ⟨_, h⟩) else (0 : EReal)) = 0 :=
      fun k => dif_neg h
    simp only [e, mul_zero, Finset.sum_const_zero]
    show FloatOps.sitofp (F := Ideal) .f32 (0#32) = 0
    simp [FloatOps.sitofp]

end Cert.MixRefIdeal.Hand

end
-- ==== Proof.MixValue.lean ====
/- The first layer's output projection: the operands the kernel finds, and its three results as the reference's. -/
module

public import proofs.«01_k».proof.Proof.MixPoint
public import proofs.«01_k».proof.Proof.MixRef
public import proofs.«01_k».proof.Proof.ModRows

@[expose] public section

set_option maxRecDepth 16384

noncomputable section

namespace Cert.MixIdeal.Hand

open Cert.MixIdeal Cert.MixIdeal.Gen Idealize.ShloMosaic Idealize.ShloMosaic.TcCoe Idealize.SL.Sem
open Idealize.ShloMosaic.Pipeline (Dat)
open Cert.MixRefIdeal.Read

variable (m : (ℓ : Loc nD τ sig) → Buf (Elt Ideal) ℓ) (ρ : Dev nD → PrngReg)

/-- The table the kernel finds in its sixth operand. -/
theorem V_tab (c : Dev nD) : V m c main_v48 = Table.modTable (m ((c : Thread nD τ).loc main_arg4)) (m ((c : Thread nD τ).loc main_arg5))
    (m ((c : Thread nD τ).loc main_arg6)) := by
  chain_rfl

/-- The kernel finds both sequences' rows of the first half stacked in its first operand. -/
theorem V_a (c : Dev nD) : V m c main_v35 = shapeCast S33280x1024 (m ((c : Thread nD τ).loc main_arg0)) shapeCasts_S2x16640x1024_S33280x1024 := by
  chain_rfl

/-- The kernel finds both sequences' rows of the second half stacked in its second operand. -/
theorem V_a' (c : Dev nD) : V m c main_v36 = shapeCast S33280x1024 (m ((c : Thread nD τ).loc main_arg1)) shapeCasts_S2x16640x1024_S33280x1024 := by
  chain_rfl

/-- The kernel finds the residual rows of both sequences stacked in its fifth operand. -/
theorem V_x (c : Dev nD) : V m c main_v37 = shapeCast S33280x2048 (m ((c : Thread nD τ).loc main_arg3)) shapeCasts_S2x16640x2048_S33280x2048 := by
  chain_rfl

/-- The kernel finds the first half's weights in its third operand. -/
theorem V_w (c : Dev nD) : V m c main_v30 = extractStridedSlice S1024x2048 ![0, 0]
    (truncf (F := Ideal) (φ := .f32) .bf16 (m ((c : Thread nD τ).loc main_arg2)) bitsLt_bf16_f32) slices_S2048x2048_S1024x2048_0_0 := by
  chain_rfl

/-- The kernel finds the second half's weights in its fourth operand. -/
theorem V_w' (c : Dev nD) : V m c main_v31 = extractStridedSlice S1024x2048 ![1024, 0]
    (truncf (F := Ideal) (φ := .f32) .bf16 (m ((c : Thread nD τ).loc main_arg2)) bitsLt_bf16_f32) slices_S2048x2048_S1024x2048_1024_0 := by
  chain_rfl

/-- A block of rows of a matrix at an index. -/
theorem slice_apply {α : Type} (o : ℕ) (x : S2048x2048.Idx → α) (h : S2048x2048.Slices ![o, 0] S1024x2048) (k : Fin 1024) (K : Fin 2048) (hK : K.val = o + k.val)
    (e : Fin 2048) : extractStridedSlice S1024x2048 ![o, 0] x h (ix2 k e) = x (ix2 K e) :=
  congrArg x (funext fun a => match a with
    | ⟨0, _⟩ => Fin.ext hK.symm
    | ⟨1, _⟩ => Fin.ext (Nat.zero_add _))

/-- The zeros the router's columns are written into. -/
theorem zeros_eq : (broadcastInDim S2048x128 ![] bcast_S_S2048x128 (constant (F := Ideal) S_ .f32 0x00000000#32)) = fun _ => Ideal.ofBits .f32 0x00000000#32 := rfl

/-- Where they are written. -/
theorem origin_eq : (broadcastInDim S1 ![] bcast_S_S1 (constantI S_ 32 0#32)) = fun _ => 0#32 := rfl

/-- A row of the router's weights keeps its row. -/
theorem window_row (j : S2048x16.Idx) : scatter_S2048x128_S1_S2048x16_01_n_1_0.window j 0 = (j 0).val := rfl

/-- A column of the router's weights keeps its column. -/
theorem window_col (j : S2048x16.Idx) : scatter_S2048x128_S1_S2048x16_01_n_1_0.window j 1 = (j 1).val := rfl

/-- The kernel finds the router's columns, written into zeros, in its seventh operand. -/
theorem V_scatter (c : Dev nD) : V m c main_v34 = Host.scatter scatter_S2048x128_S1_S2048x16_01_n_1_0 (fun _ b => b)
    (broadcastInDim S2048x128 ![] bcast_S_S2048x128 (constant (F := Ideal) S_ .f32 0x00000000#32))
    (broadcastInDim S1 ![] bcast_S_S1 (constantI S_ 32 0#32)) (m ((c : Thread nD τ).loc main_arg7)) := by
  entry_read
  rfl

/-- The kernel finds the router's padded columns in its seventh operand. -/
theorem V_router (c : Dev nD) : V m c main_v34 = Router.rpad (m ((c : Thread nD τ).loc main_arg7)) := by
  rw [V_scatter, zeros_eq, origin_eq]
  exact Router.scatter_eq scatter_S2048x128_S1_S2048x16_01_n_1_0 window_row window_col (m ((c : Thread nD τ).loc main_arg7)) _
    (fun i => by simp [Ideal.ofBits, Ideal.ieee])

/-- Where the blocks of a point lie. -/
theorem idx : ∀ t : Fin cfg0.N, (win0_0.index t 0 = min t.val 64 ∧ win0_0.index t 1 = 0)
    ∧ (win0_1.index t 0 = min t.val 64 ∧ win0_1.index t 1 = 0)
    ∧ (win0_2.index t 0 = 0 ∧ win0_2.index t 1 = 0)
    ∧ (win0_3.index t 0 = 0 ∧ win0_3.index t 1 = 0)
    ∧ (win0_4.index t 0 = t.val - 1 ∧ win0_4.index t 1 = 0)
    ∧ (win0_5.index t 0 = 0 ∧ win0_5.index t 1 = 0 ∧ win0_5.index t 2 = 0)
    ∧ (win0_6.index t 0 = 0 ∧ win0_6.index t 1 = 0)
    ∧ (win0_7.index t 0 = t.val - 1 ∧ win0_7.index t 1 = 0)
    ∧ (win0_8.index t 0 = t.val - 1 ∧ win0_8.index t 1 = 0)
    ∧ (win0_9.index t 0 = t.val - 1 ∧ win0_9.index t 1 = 0) := (by decide +kernel : ∀ t : Fin grid0.N, _)

/-- The first point writes no result back. -/
theorem flushes : ∀ t : Fin cfg0.N, ((cfg0.win 7).flush t = true → ¬t.val % 66 = 0) ∧ ((cfg0.win 8).flush t = true → ¬t.val % 66 = 0)
    ∧ ((cfg0.win 9).flush t = true → ¬t.val % 66 = 0) := (by decide +kernel : ∀ t : Fin grid0.N, _)

/-- A block of the first half's rows. -/
theorem a_apply (c : Dev nD) (t : Fin cfg0.N) (p : S512x1024.Idx) (i : S33280x1024.Idx)
    (h0 : (i 0).val = min t.val 64 * 512 + (p 0).val) (h1 : (i 1).val = (p 1).val) :
    iblk m c 0 t p = shapeCast S33280x1024 (m ((c : Thread nD τ).loc main_arg0)) shapeCasts_S2x16640x1024_S33280x1024 i := by
  rw [← V_a m c]
  obtain ⟨⟨e0, e1⟩, -⟩ := idx t
  blk_ext [iblk, e0, e1]

/-- A block of the second half's rows. -/
theorem a_apply' (c : Dev nD) (t : Fin cfg0.N) (p : S512x1024.Idx) (i : S33280x1024.Idx)
    (h0 : (i 0).val = min t.val 64 * 512 + (p 0).val) (h1 : (i 1).val = (p 1).val) :
    iblk m c 1 t p = shapeCast S33280x1024 (m ((c : Thread nD τ).loc main_arg1)) shapeCasts_S2x16640x1024_S33280x1024 i := by
  rw [← V_a' m c]
  obtain ⟨-, ⟨e0, e1⟩, -⟩ := idx t
  blk_ext [iblk, e0, e1]

/-- The first half's weights, one block. -/
theorem w_apply (c : Dev nD) (t : Fin cfg0.N) (k : Fin 1024) (e : Fin 2048) :
    (iblk m c 2 t (ix2 k e) : EReal) = m ((c : Thread nD τ).loc main_arg2) (ix2 (Cert.MixRefIdeal.Hand.left k) e) := by
  obtain ⟨-, -, ⟨e0, e1⟩, -⟩ := idx t
  have h : ((cfg0.win 2).blk t).view.emb (ix2 k e) = ix2 k e := by blk_ext [e0, e1]
  exact (congrArg (V m c (Pipeline.arrRef spec0 2)) h).trans ((congrFun (V_w m c) (ix2 k e)).trans
    (slice_apply 0 (truncf (F := Ideal) (φ := .f32) .bf16 (m ((c : Thread nD τ).loc main_arg2)) bitsLt_bf16_f32) _ k _ (Nat.zero_add _).symm e))

/-- The second half's weights, one block. -/
theorem w_apply' (c : Dev nD) (t : Fin cfg0.N) (k : Fin 1024) (e : Fin 2048) :
    (iblk m c 3 t (ix2 k e) : EReal) = m ((c : Thread nD τ).loc main_arg2) (ix2 (Cert.MixRefIdeal.Hand.right k) e) := by
  obtain ⟨-, -, -, ⟨e0, e1⟩, -⟩ := idx t
  have h : ((cfg0.win 3).blk t).view.emb (ix2 k e) = ix2 k e := by blk_ext [e0, e1]
  exact (congrArg (V m c (Pipeline.arrRef spec0 3)) h).trans ((congrFun (V_w' m c) (ix2 k e)).trans
    (slice_apply 1024 (truncf (F := Ideal) (φ := .f32) .bf16 (m ((c : Thread nD τ).loc main_arg2)) bitsLt_bf16_f32) _ k _ rfl e))

/-- A block of the residual. -/
theorem x_apply (c : Dev nD) (t : Fin cfg0.N) (p : S512x2048.Idx) (i : S33280x2048.Idx)
    (h0 : (i 0).val = (t.val - 1) * 512 + (p 0).val) (h1 : (i 1).val = (p 1).val) :
    iblk m c 4 t p = shapeCast S33280x2048 (m ((c : Thread nD τ).loc main_arg3)) shapeCasts_S2x16640x2048_S33280x2048 i := by
  rw [← V_x m c]
  obtain ⟨-, -, -, -, ⟨e0, e1⟩, -⟩ := idx t
  blk_ext [iblk, e0, e1]

/-- The table's one block is the table. -/
theorem tab_apply (c : Dev nD) (t : Fin cfg0.N) (p : S4x8x2048.Idx) :
    (iblk m c 5 t p : EReal) = Table.modTable (m ((c : Thread nD τ).loc main_arg4)) (m ((c : Thread nD τ).loc main_arg5))
      (m ((c : Thread nD τ).loc main_arg6)) p := by
  obtain ⟨-, -, -, -, -, ⟨e0, e1, e2⟩, -⟩ := idx t
  have h : ((cfg0.win 5).blk t).view.emb p = p := by blk_ext [e0, e1, e2]
  exact (congrArg (V m c (Pipeline.arrRef spec0 5)) h).trans (congrFun (V_tab m c) p)

/-- The router's one block is the router's padded columns. -/
theorem router_apply (c : Dev nD) (t : Fin cfg0.N) (p : S2048x128.Idx) :
    (iblk m c 6 t p : EReal) = Router.rpad (m ((c : Thread nD τ).loc main_arg7)) p := by
  obtain ⟨-, -, -, -, -, -, ⟨e0, e1⟩, -⟩ := idx t
  have h : ((cfg0.win 6).blk t).view.emb p = p := by blk_ext [e0, e1]
  exact (congrArg (V m c (Pipeline.arrRef spec0 6)) h).trans (congrFun (V_router m c) p)

/-- A stacked row is its sequence's row. -/
theorem stack_apply {α : Type} {n : ℕ} (x : (⟨3, ![2, 16640, n]⟩ : Shape).Idx → α) (h : (⟨3, ![2, 16640, n]⟩ : Shape).ShapeCasts ⟨2, ![33280, n]⟩)
    (b : Fin 2) (r : Fin 16640) (R : Fin 33280) (hR : R.val = b.val * 16640 + r.val) (e : Fin n) :
    shapeCast ⟨2, ![33280, n]⟩ x h (ix2 R e) = x (ix3 b r e) := by
  refine shapeCast_apply _ _ _ _ ?_
  refine (Shape.rowMajor_val_three (d := ![2, 16640, n]) _).trans (Eq.trans ?_ (Shape.rowMajor_val_two (d := ![33280, n]) _).symm)
  show (b.val * 16640 + r.val) * n + e.val = R.val * n + e.val
  rw [hR]

/-- The product kept from the point before is the reference's product. -/
theorem kept_apply (c : Dev nD) (t : Fin cfg0.N) (h0 : ¬t.val % 66 = 0) (r : Fin 512) (b : Fin 2) (n : Fin 16640)
    (hn : (t.val - 1) * 512 + r.val = b.val * 16640 + n.val) (e : Fin 2048) :
    (kept m c t (ix2 r e) : EReal) = val_main_v2 (F := Ideal) (m ((c : Thread nD τ).loc main_arg0)) (m ((c : Thread nD τ).loc main_arg1)) (m ((c : Thread nD τ).loc main_arg2)) (ix3 b n e) := by
  have ht : t.val < 66 := t.isLt
  have hN := n.isLt
  refine (congrFun (st m c ⟨t.val - 1, Nat.lt_of_le_of_lt (Nat.sub_le _ _) t.isLt⟩) (ix2 r e)).trans ?_
  refine Eq.trans ?_ (Cert.MixRefIdeal.Hand.product_apply _ _ _ b n e).symm
  have hR : b.val * 16640 + n.val < 33280 := by omega
  have ha (k : Fin 1024) : iblk m c 0 ⟨t.val - 1, Nat.lt_of_le_of_lt (Nat.sub_le _ _) t.isLt⟩ (ix2 r k) = m ((c : Thread nD τ).loc main_arg0) (ix3 b n k) := by
    refine (a_apply m c _ (ix2 r k) (ix2 ⟨b.val * 16640 + n.val, hR⟩ k) ?_ rfl).trans (stack_apply _ _ b n _ rfl k)
    show b.val * 16640 + n.val = min (t.val - 1) 64 * 512 + r.val
    omega
  have ha' (k : Fin 1024) : iblk m c 1 ⟨t.val - 1, Nat.lt_of_le_of_lt (Nat.sub_le _ _) t.isLt⟩ (ix2 r k) = m ((c : Thread nD τ).loc main_arg1) (ix3 b n k) := by
    refine (a_apply' m c _ (ix2 r k) (ix2 ⟨b.val * 16640 + n.val, hR⟩ k) ?_ rfl).trans (stack_apply _ _ b n _ rfl k)
    show b.val * 16640 + n.val = min (t.val - 1) 64 * 512 + r.val
    omega
  refine congr (congrArg HAdd.hAdd (Finset.sum_congr rfl fun k _ => ?_)) (Finset.sum_congr rfl fun k _ => ?_)
  · exact congr (congrArg HMul.hMul (ha k)) (w_apply m c _ k e)
  · exact congr (congrArg HMul.hMul (ha' k)) (w_apply' m c _ k e)

/-- The parameter rows of a row's part. -/
theorem par_apply (c : Dev nD) (t : Fin cfg0.N) (r : ℕ) (s : Fin 8)
    (hs : s.val = if (Fin.ofNat 4 (PointBlock.part t.val r)).val % 2 = 0 then (Fin.ofNat 4 (PointBlock.part t.val r)).val / 2 else 2) (e : Fin 2048) :
    PointBlock.par (iblk m c 5 t) t.val r 0 e = m ((c : Thread nD τ).loc main_arg4) (ix3 s 2 e)
    ∧ PointBlock.par (iblk m c 5 t) t.val r 1 e = m ((c : Thread nD τ).loc main_arg4) (ix3 s 4 e)
    ∧ PointBlock.par (iblk m c 5 t) t.val r 2 e = m ((c : Thread nD τ).loc main_arg4) (ix3 s 3 e)
    ∧ PointBlock.par (iblk m c 5 t) t.val r 3 e = m ((c : Thread nD τ).loc main_arg5) (ix1 e)
    ∧ PointBlock.par (iblk m c 5 t) t.val r 4 e = m ((c : Thread nD τ).loc main_arg6) (ix1 e) := by
  obtain ⟨h0, h1, h2, h3, h4⟩ := Table.modTable_apply (m ((c : Thread nD τ).loc main_arg4)) (m ((c : Thread nD τ).loc main_arg5))
    (m ((c : Thread nD τ).loc main_arg6)) _ s hs e
  exact ⟨(tab_apply m c t _).trans h0, (tab_apply m c t _).trans h1, (tab_apply m c t _).trans h2, (tab_apply m c t _).trans h3, (tab_apply m c t _).trans h4⟩

/-- A row before the normalisation is the reference's. -/
theorem row_apply (c : Dev nD) (t : Fin cfg0.N) (h0 : ¬t.val % 66 = 0) (r : Fin 512) (b : Fin 2) (n : Fin 16640) (s : Fin 8)
    (hn : (t.val - 1) * 512 + r.val = b.val * 16640 + n.val)
    (hs : s.val = if (Fin.ofNat 4 (PointBlock.part t.val r.val)).val % 2 = 0 then (Fin.ofNat 4 (PointBlock.part t.val r.val)).val / 2 else 2) :
    PointBlock.row (kept m c t) (iblk m c 4 t) (iblk m c 5 t) t.val r
      = Cert.MixRefIdeal.Hand.row (m ((c : Thread nD τ).loc main_arg0)) (m ((c : Thread nD τ).loc main_arg1)) (m ((c : Thread nD τ).loc main_arg2))
        (m ((c : Thread nD τ).loc main_arg3)) (m ((c : Thread nD τ).loc main_arg4)) b n s := by
  have hN := n.isLt
  have hR : b.val * 16640 + n.val < 33280 := by omega
  have e0 : (fun e => PointBlock.par (iblk m c 5 t) t.val r.val 0 e) = fun e => m ((c : Thread nD τ).loc main_arg4) (ix3 s 2 e) :=
    funext fun e => (par_apply m c t r.val s hs e).1
  have e1 : (fun e => (kept m c t (ix2 r e) : EReal))
      = fun e => val_main_v2 (F := Ideal) (m ((c : Thread nD τ).loc main_arg0)) (m ((c : Thread nD τ).loc main_arg1)) (m ((c : Thread nD τ).loc main_arg2)) (ix3 b n e) :=
    funext fun e => kept_apply m c t h0 r b n hn e
  have e2 : (fun e => (iblk m c 4 t (ix2 r e) : EReal)) = fun e => m ((c : Thread nD τ).loc main_arg3) (ix3 b n e) :=
    funext fun e => (x_apply m c t (ix2 r e) (ix2 ⟨b.val * 16640 + n.val, hR⟩ e) hn.symm rfl).trans (stack_apply _ _ b n _ rfl e)
  exact congr (congr (congrArg RowNorm.update e2) e1) e0

/-- A row's token is the reference's. -/
theorem token_apply (c : Dev nD) (t : Fin cfg0.N) (h0 : ¬t.val % 66 = 0) (r : Fin 512) (b : Fin 2) (n : Fin 16640) (s : Fin 8)
    (hn : (t.val - 1) * 512 + r.val = b.val * 16640 + n.val)
    (hs : s.val = if (Fin.ofNat 4 (PointBlock.part t.val r.val)).val % 2 = 0 then (Fin.ofNat 4 (PointBlock.part t.val r.val)).val / 2 else 2) :
    PointBlock.token (kept m c t) (iblk m c 4 t) (iblk m c 5 t) t.val r
      = Cert.MixRefIdeal.Hand.tok (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) b n s := by
  have hp := par_apply m c t r.val s hs
  exact congr (congr (congr (congr (congrArg RowNorm.token (row_apply m c t h0 r b n s hn hs)) (funext fun e => (hp e).2.2.2.1)) (funext fun e => (hp e).2.2.2.2))
    (funext fun e => (hp e).2.1)) (funext fun e => (hp e).2.2.1)

/-- The normalised rows after the run. -/
theorem final7 (c : Dev nD) : (dats m 0 c).arrAt 7 cfg0.N
    = val_main_v69 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t hf y => ?_
  have h0 := (flushes t).1 hf
  have ht : t.val < 66 := t.isLt
  have hy : (y 0).val < 512 := (y 0).isLt
  obtain ⟨-, -, -, -, -, -, -, ⟨i0, i1⟩, -⟩ := idx t
  obtain ⟨b, n, s, hn, hs, hs'⟩ := PointBlock.place t.val (y 0).val h0 ht hy
  blk_simp
  rw [after0_7, out7 m c t h0]
  refine Eq.trans ?_ (Cert.MixRefIdeal.Hand.stacked_norm_apply _ _ _ _ _ _ _ b n (y 1) s hs _ ?_ ?_).symm
  · have hp := par_apply m c t (y 0).val s hs' (y 1)
    exact congr (congr (congr (congrArg RowNorm.norm (row_apply m c t h0 (y 0) b n s hn hs')) hp.2.2.2.1) hp.2.2.2.2) rfl
  · blk_simp [i0]
    show _ = b.val * 16640 + n.val
    omega
  · blk_simp [i1]

/-- The tokens after the run. -/
theorem final8 (c : Dev nD) : (dats m 0 c).arrAt 8 cfg0.N
    = val_main_v70 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 8 _ (by decide +kernel) fun t hf y => ?_
  have h0 := (flushes t).2.1 hf
  have ht : t.val < 66 := t.isLt
  have hy : (y 0).val < 512 := (y 0).isLt
  obtain ⟨-, -, -, -, -, -, -, -, ⟨i0, i1⟩, -⟩ := idx t
  obtain ⟨b, n, s, hn, hs, hs'⟩ := PointBlock.place t.val (y 0).val h0 ht hy
  blk_simp
  rw [after0_8]
  refine (out8 m c t h0 y).trans (Eq.trans ?_ ((Cert.MixRefIdeal.Hand.stored_token_apply _ _ _ _ _ _ _ _).trans
    (Cert.MixRefIdeal.Hand.stacked_token_apply _ _ _ _ _ _ _ b n (y 1) s hs _ ?_ ?_)).symm)
  · exact congrFun (token_apply m c t h0 (y 0) b n s hn hs') (y 1)
  · blk_simp [i0]
    show _ = b.val * 16640 + n.val
    omega
  · blk_simp [i1]

/-- Every operand is finite. -/
structure AllFinite (x0 : FVec Ideal S2x16640x1024 .f32) (x1 : FVec Ideal S2x16640x1024 .bf16) (x2 : FVec Ideal S2048x2048 .f32) (x3 : FVec Ideal S2x16640x2048 .f32)
    (x4 : FVec Ideal S8x6x2048 .f32) (x5 x6 : FVec Ideal S2048 .f32) (x7 : FVec Ideal S2048x16 .f32) : Prop where
  rows : ∀ i, RowNorm.Finite (x0 i)
  rows' : ∀ i, RowNorm.Finite (x1 i)
  weights : ∀ i, RowNorm.Finite (x2 i)
  residual : ∀ i, RowNorm.Finite (x3 i)
  mods : ∀ (s : Fin 8) (j : Fin 6) e, s.val < 3 → 2 ≤ j.val → j.val < 5 → RowNorm.Finite (x4 (ix3 s j e))
  gain : ∀ i, RowNorm.Finite (x5 i)
  bias : ∀ i, RowNorm.Finite (x6 i)
  router : ∀ i, RowNorm.Finite (x7 i)

/-- The tokens of finite operands are finite. -/
theorem tok_finite (x0 : FVec Ideal S2x16640x1024 .f32) (x1 : FVec Ideal S2x16640x1024 .bf16) (x2 : FVec Ideal S2048x2048 .f32) (x3 : FVec Ideal S2x16640x2048 .f32)
    (x4 : FVec Ideal S8x6x2048 .f32) (x5 x6 : FVec Ideal S2048 .f32) (x7 : FVec Ideal S2048x16 .f32) (h : AllFinite x0 x1 x2 x3 x4 x5 x6 x7)
    (b : Fin 2) (n : Fin 16640) (s : Fin 8) (hs : s.val < 3) (e : Fin 2048) :
    RowNorm.Finite (Cert.MixRefIdeal.Hand.tok x0 x1 x2 x3 x4 x5 x6 b n s e) :=
  RowNorm.token_finite (RowNorm.update_finite (fun k => h.residual _)
      (fun k => by
        rw [Cert.MixRefIdeal.Hand.product_apply]
        exact (RowNorm.Finite.sum fun j => (h.rows _).mul (h.weights _)).add (RowNorm.Finite.sum fun j => (h.rows' _).mul (h.weights _)))
      (fun k => h.mods s 2 k hs (by decide) (by decide)))
    (fun k => h.gain _) (fun k => h.bias _) (fun k => h.mods s 4 k hs (by decide) (by decide)) (fun k => h.mods s 3 k hs (by decide) (by decide)) e

/-- The padded columns of finite weights are finite. -/
theorem rpad_finite (w : FVec Ideal S2048x16 .f32) (h : ∀ i, RowNorm.Finite (w i)) (i : S2048x128.Idx) : RowNorm.Finite (Router.rpad w i) := by
  unfold Router.rpad
  split
  · exact h _
  · exact ⟨0, EReal.coe_zero.symm⟩

/-- The logits after the run. -/
theorem final9 (c : Dev nD) (hfin : AllFinite (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7))) : (dats m 0 c).arrAt 9 cfg0.N
    = val_main_v68 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 9 _ (by decide +kernel) fun t hf y => ?_
  have h0 := (flushes t).2.2 hf
  have ht : t.val < 66 := t.isLt
  have hy : (y 0).val < 512 := (y 0).isLt
  obtain ⟨-, -, -, -, -, -, -, -, -, ⟨i0, i1⟩⟩ := idx t
  obtain ⟨b, n, s, hn, hs, hs'⟩ := PointBlock.place t.val (y 0).val h0 ht hy
  have hb := b.isLt
  have hs3 : s.val < 3 := by split at hs <;> omega
  blk_simp
  rw [after0_9, out9 m c t h0]
  refine Eq.trans ?_ (Cert.MixRefIdeal.Hand.logit_apply _ _ _ _ _ _ _ _ b n s hs _ ?_).symm
  · unfold PointBlock.logit
    rw [token_apply m c t h0 (y 0) b n s hn hs']
    simp only [router_apply]
    refine (RowNorm.split_product (fun k => tok_finite _ _ _ _ _ _ _ _ hfin b n s hs3 k) (fun k => rpad_finite _ hfin.router _)).trans ?_
    refine Finset.sum_congr rfl fun k _ => congrArg (_ * ·) (congrArg _ (congrArg (ix2 k) (Fin.ext ?_)))
    blk_simp [i1]
  · blk_simp [i0]
    show _ = b.val * 16640 + n.val
    omega

end Cert.MixIdeal.Hand

end
-- ==== Proof.MixClaim.lean ====
/- The first layer's output projection against its reference: what the precondition says of the arguments, and the equality of the three results. -/
module

public import proofs.«01_k».proof.Defs
public import proofs.«01_k».proof.Proof.MixValue
public import proofs.«01_k».proof.Proof.OutClaim
public import proofs.«01_k».proof.Proof.Gen.MixRefIdeal.Read
public import proofs.«01_k».proof.Proof.Gen.MixRefIdeal.Run
public import proofs.«01_k».proof.Proof.Gen.Pre_mix_finite
public import Idealize.ShloMosaic.Lib.Quiescent

@[expose] public section

set_option maxRecDepth 16384

noncomputable section

namespace Cert.Proof.Mix

open Idealize.ShloMosaic Idealize.ShloMosaic.TcCoe Idealize.SL.Sem
open Cert.Pre_mix_finite (fn S2x16640x1024 S2048x2048 S2x16640x2048 S8x6x2048 S2048 S2048x16)

variable (x0 : FVec Ideal S2x16640x1024 .f32) (x1 : FVec Ideal S2x16640x1024 .bf16) (x2 : FVec Ideal S2048x2048 .f32) (x3 : FVec Ideal S2x16640x2048 .f32)
  (x4 : FVec Ideal S8x6x2048 .f32) (x5 x6 : FVec Ideal S2048 .f32) (x7 : FVec Ideal S2048x16 .f32)

/-- The precondition's fifth part at an index. -/
theorem mods_word (s : Fin 3) (j : Fin 3) (e : Fin 2048) (s' : Fin 8) (hs : s'.val = s.val) (j' : Fin 6) (hj : j'.val = 2 + j.val) :
    (fn (F := Ideal) x0 x1 x2 x3 x4 x5 x6 x7).2.2.2.2.1 (ix3 s j e)
      = Ideal.cmp .olt (max (x4 (ix3 s' j' e)) (-(x4 (ix3 s' j' e) : EReal))) (Ideal.ofBits .f32 0x7F800000#32) := by
  have hi : extractStridedSlice Cert.Pre_mix_finite.S3x3x2048 ![0, 2, 0] x4 Cert.Pre_mix_finite.Gen.slices_S8x6x2048_S3x3x2048_0_2_0 (ix3 s j e)
      = x4 (ix3 s' j' e) := congrArg x4 (funext fun a => match a with
    | ⟨0, _⟩ => Fin.ext ((Nat.zero_add _).trans hs.symm)
    | ⟨1, _⟩ => Fin.ext hj.symm
    | ⟨2, _⟩ => Fin.ext (Nat.zero_add _))
  rw [← hi]
  rfl

/-- What the precondition says. -/
theorem all_finite (h0 : (fn (F := Ideal) x0 x1 x2 x3 x4 x5 x6 x7).1 = fun _ => 1#1)
    (h1 : (fn (F := Ideal) x0 x1 x2 x3 x4 x5 x6 x7).2.1 = fun _ => 1#1)
    (h2 : (fn (F := Ideal) x0 x1 x2 x3 x4 x5 x6 x7).2.2.1 = fun _ => 1#1)
    (h3 : (fn (F := Ideal) x0 x1 x2 x3 x4 x5 x6 x7).2.2.2.1 = fun _ => 1#1)
    (h4 : (fn (F := Ideal) x0 x1 x2 x3 x4 x5 x6 x7).2.2.2.2.1 = fun _ => 1#1)
    (h5 : (fn (F := Ideal) x0 x1 x2 x3 x4 x5 x6 x7).2.2.2.2.2.1 = fun _ => 1#1)
    (h6 : (fn (F := Ideal) x0 x1 x2 x3 x4 x5 x6 x7).2.2.2.2.2.2.1 = fun _ => 1#1)
    (h7 : (fn (F := Ideal) x0 x1 x2 x3 x4 x5 x6 x7).2.2.2.2.2.2.2 = fun _ => 1#1) :
    Cert.MixIdeal.Hand.AllFinite x0 x1 x2 x3 x4 x5 x6 x7 where
  rows i := Out.finite_of_word (x0 i) (congrFun h0 i)
  rows' i := Out.finite_of_short_word (x1 i) (congrFun h1 i)
  weights i := Out.finite_of_word (x2 i) (congrFun h2 i)
  residual i := Out.finite_of_word (x3 i) (congrFun h3 i)
  mods s j e hs hj hj' := Out.finite_of_word _ ((mods_word x0 x1 x2 x3 x4 x5 x6 x7 ⟨s.val, hs⟩ ⟨j.val - 2, by omega⟩ e s rfl j
    (show j.val = 2 + (j.val - 2) by omega)).symm.trans (congrFun h4 _))
  gain i := Out.finite_of_word (x5 i) (congrFun h5 i)
  bias i := Out.finite_of_word (x6 i) (congrFun h6 i)
  router i := Out.finite_of_word (x7 i) (congrFun h7 i)

/-- The reference of the call keeps its arguments and ends with every counter at zero. -/
theorem reference_frame : Cert.quiescent_MixRefIdeal (hMixRefIdeal := Cert.MixRefIdeal.Gen.facts) := fun m ρ _ =>
  (θ_run Cert.MixRefIdeal.defs _ _).mono
    (fun r h => ⟨fun c => (h c).2.2.2, Idealize.ShloMosaic.sem_eq_zero_of_no_sems (by decide) r.2⟩)
    (Cert.MixRefIdeal.Value.run (F := Ideal) m ρ)

/-- The kernel's three results are the reference's, for all finite arguments. -/
theorem algebraic : Cert.algebraic_MixIdeal_MixRefIdeal_pre_mix_finite (hMixIdeal := Cert.MixIdeal.Gen.facts)
    (hMixRefIdeal := Cert.MixRefIdeal.Gen.facts) (hPre_mix_finite := Cert.Pre_mix_finite.Gen.facts) := by
  intro m ρ m' ρ' hpre hagree
  refine ⟨fun c => Cert.MixRefIdeal.Read.val_main_v69 (F := Ideal)
      (m ((c.tc : Thread Cert.MixIdeal.nD Cert.MixIdeal.τ).loc Cert.MixIdeal.main_arg0))
      (m ((c.tc : Thread Cert.MixIdeal.nD Cert.MixIdeal.τ).loc Cert.MixIdeal.main_arg1))
      (m ((c.tc : Thread Cert.MixIdeal.nD Cert.MixIdeal.τ).loc Cert.MixIdeal.main_arg2))
      (m ((c.tc : Thread Cert.MixIdeal.nD Cert.MixIdeal.τ).loc Cert.MixIdeal.main_arg3))
      (m ((c.tc : Thread Cert.MixIdeal.nD Cert.MixIdeal.τ).loc Cert.MixIdeal.main_arg4))
      (m ((c.tc : Thread Cert.MixIdeal.nD Cert.MixIdeal.τ).loc Cert.MixIdeal.main_arg5))
      (m ((c.tc : Thread Cert.MixIdeal.nD Cert.MixIdeal.τ).loc Cert.MixIdeal.main_arg6)),
    fun c => Cert.MixRefIdeal.Read.val_main_v70 (F := Ideal)
      (m ((c.tc : Thread Cert.MixIdeal.nD Cert.MixIdeal.τ).loc Cert.MixIdeal.main_arg0))
      (m ((c.tc : Thread Cert.MixIdeal.nD Cert.MixIdeal.τ).loc Cert.MixIdeal.main_arg1))
      (m ((c.tc : Thread Cert.MixIdeal.nD Cert.MixIdeal.τ).loc Cert.MixIdeal.main_arg2))
      (m ((c.tc : Thread Cert.MixIdeal.nD Cert.MixIdeal.τ).loc Cert.MixIdeal.main_arg3))
      (m ((c.tc : Thread Cert.MixIdeal.nD Cert.MixIdeal.τ).loc Cert.MixIdeal.main_arg4))
      (m ((c.tc : Thread Cert.MixIdeal.nD Cert.MixIdeal.τ).loc Cert.MixIdeal.main_arg5))
      (m ((c.tc : Thread Cert.MixIdeal.nD Cert.MixIdeal.τ).loc Cert.MixIdeal.main_arg6)),
    fun c => Cert.MixRefIdeal.Read.val_main_v68 (F := Ideal)
      (m ((c.tc : Thread Cert.MixIdeal.nD Cert.MixIdeal.τ).loc Cert.MixIdeal.main_arg0))
      (m ((c.tc : Thread Cert.MixIdeal.nD Cert.MixIdeal.τ).loc Cert.MixIdeal.main_arg1))
      (m ((c.tc : Thread Cert.MixIdeal.nD Cert.MixIdeal.τ).loc Cert.MixIdeal.main_arg2))
      (m ((c.tc : Thread Cert.MixIdeal.nD Cert.MixIdeal.τ).loc Cert.MixIdeal.main_arg3))
      (m ((c.tc : Thread Cert.MixIdeal.nD Cert.MixIdeal.τ).loc Cert.MixIdeal.main_arg4))
      (m ((c.tc : Thread Cert.MixIdeal.nD Cert.MixIdeal.τ).loc Cert.MixIdeal.main_arg5))
      (m ((c.tc : Thread Cert.MixIdeal.nD Cert.MixIdeal.τ).loc Cert.MixIdeal.main_arg6))
      (m ((c.tc : Thread Cert.MixIdeal.nD Cert.MixIdeal.τ).loc Cert.MixIdeal.main_arg7)), ?_, ?_⟩
  · exact (θ_run Cert.MixIdeal.defs _ _).mono (fun _ h c => ⟨(h c).1.trans (Cert.MixIdeal.Hand.final7 m c), (h c).2.1.trans (Cert.MixIdeal.Hand.final8 m c),
      (h c).2.2.1.trans (Cert.MixIdeal.Hand.final9 m c (all_finite _ _ _ _ _ _ _ _ (hpre c).1 (hpre c).2.1 (hpre c).2.2.1 (hpre c).2.2.2.1 (hpre c).2.2.2.2.1
        (hpre c).2.2.2.2.2.1 (hpre c).2.2.2.2.2.2.1 (hpre c).2.2.2.2.2.2.2)), (h c).2.2.2⟩) (Cert.MixIdeal.Value.run_blocks m ρ)
  · refine (θ_run Cert.MixRefIdeal.defs _ _).mono (fun _ h c => ⟨((h c).1.trans (Cert.MixRefIdeal.Read.val_main_v69_eq m' c)).trans ?_,
      ((h c).2.1.trans (Cert.MixRefIdeal.Read.val_main_v70_eq m' c)).trans ?_, ((h c).2.2.1.trans (Cert.MixRefIdeal.Read.val_main_v68_eq m' c)).trans ?_, (h c).2.2.2⟩)
      (Cert.MixRefIdeal.Value.run (F := Ideal) m' ρ')
    · rw [(hagree c).1, (hagree c).2.1, (hagree c).2.2.1, (hagree c).2.2.2.1, (hagree c).2.2.2.2.1, (hagree c).2.2.2.2.2.1, (hagree c).2.2.2.2.2.2.1]
    · rw [(hagree c).1, (hagree c).2.1, (hagree c).2.2.1, (hagree c).2.2.2.1, (hagree c).2.2.2.2.1, (hagree c).2.2.2.2.2.1, (hagree c).2.2.2.2.2.2.1]
    · rw [(hagree c).1, (hagree c).2.1, (hagree c).2.2.1, (hagree c).2.2.2.1, (hagree c).2.2.2.2.1, (hagree c).2.2.2.2.2.1, (hagree c).2.2.2.2.2.2.1, (hagree c).2.2.2.2.2.2.2]

end Cert.Proof.Mix

end
-- ==== Proof.LastRef.lean ====
/- The reference of the last call, index by index. -/
module

public import proofs.«01_k».proof.Proof.RowNorm
public import proofs.«01_k».proof.Proof.Gen.LastRefIdeal.Read
public import Idealize.ShloMosaic.Lib.Pipeline.ValueKit
public import Idealize.ShloMosaic.Lib.Pointwise
public import Idealize.ShloMosaic.Lib.ValueIdx
public import Idealize.ShloMosaic.Lib.KernelVsHost

@[expose] public section

set_option maxRecDepth 16384

noncomputable section

namespace Cert.LastRefIdeal.Hand

open Cert.LastRefIdeal Cert.LastRefIdeal.Read Idealize.ShloMosaic Idealize.ShloMosaic.TcCoe
open Cert.RowNorm (alpha)

variable (x0 x1 : FVec Ideal S33280x2048 .bf16) (x2 : FVec Ideal S33280x128 .f32) (x3 : FVec Ideal S2x16640x2048 .f32)
  (x4 : FVec Ideal S8x6x2048 .f32) (x5 x6 : FVec Ideal S2048 .f32)

/-- The residual, at a latent row. -/
theorem resid_apply (b : Fin 2) (r : Fin 16384) (e : Fin 2048) :
    (val_main_v12 (F := Ideal) x3 (ix3 b r e) : EReal) = alpha * x3 (ix3 b ⟨r.val, by omega⟩ e) := by
  rw [val_main_v12_apply, val_main_v11_apply, val_main_v10_apply]
  refine congrArg (alpha * ·) (congrArg x3 (funext fun a => ?_))
  match a with
  | 0 => rfl
  | 1 => rfl
  | 2 => rfl

/-- The experts' outputs weighted and added, at a latent row. -/
theorem mixed_apply (b : Fin 2) (r : Fin 16384) (e : Fin 2048) (R : Fin 33280) (hR : R.val = b.val * 16640 + r.val) :
    (val_main_v16 (F := Ideal) x0 x1 x2 (ix3 b r e) : EReal) = x0 (ix2 R e) * x2 (ix2 R 0) + x1 (ix2 R e) * x2 (ix2 R 1) := by
  have he := e.isLt
  rw [val_main_v16_apply, val_main_v9_apply]
  have hi : idx_main_v9 (idx_main_v16 (ix3 b r e)) = ix2 R e := by
    funext a
    match a with
    | 0 => exact Fin.ext (show ((b.val * 16640 + r.val) * 2048 + e.val) / 2048 = R.val by omega)
    | 1 => exact Fin.ext (show ((b.val * 16640 + r.val) * 2048 + e.val) % 2048 = e.val by omega)
  rw [hi, val_main_v8_apply, val_main_v3_apply, val_main_v7_apply, val_main_v0_apply, val_main_v4_apply, val_main_v2_apply, val_main_v1_apply,
    val_main_v6_apply, val_main_v5_apply]
  have h0 : idx_main_v1 (idx_main_v2 (ix2 R e)) = ix2 R 0 := by
    funext a
    match a with
    | 0 => rfl
    | 1 => rfl
  have h1 : idx_main_v5 (idx_main_v6 (ix2 R e)) = ix2 R 1 := by
    funext a
    match a with
    | 0 => rfl
    | 1 => rfl
  rw [h0, h1]
  rfl

/-- The gate of a sequence. -/
theorem gate_apply (b : Fin 2) (r : Fin 16384) (e : Fin 2048) :
    (val_main_v17 (F := Ideal) x4 (ix3 b r e) : EReal) = x4 (ix3 ⟨b.val, by omega⟩ 5 e) := by
  have he := e.isLt
  rw [val_main_v17_apply, val_main_v15_apply, val_main_v14_apply, val_main_v13_apply]
  refine congrArg x4 (funext fun a => ?_)
  match a with
  | 0 => exact Fin.ext (show (b.val * 2048 + e.val) / 2048 = b.val by omega)
  | 1 => rfl
  | 2 => exact Fin.ext (show (b.val * 2048 + e.val) % 2048 = e.val by omega)

/-- The row before the normalisation. -/
theorem sum_apply (b : Fin 2) (r : Fin 16384) (e : Fin 2048) (R : Fin 33280) (hR : R.val = b.val * 16640 + r.val) :
    (val_main_v19 (F := Ideal) x0 x1 x2 x3 x4 (ix3 b r e) : EReal)
      = alpha * x3 (ix3 b ⟨r.val, by omega⟩ e) + x4 (ix3 ⟨b.val, by omega⟩ 5 e) * (x0 (ix2 R e) * x2 (ix2 R 0) + x1 (ix2 R e) * x2 (ix2 R 1)) := by
  rw [val_main_v19_apply, val_main_v18_apply]
  exact congr (congrArg HAdd.hAdd (resid_apply x3 b r e)) (congr (congrArg HMul.hMul (gate_apply x4 b r e)) (mixed_apply x0 x1 x2 b r e R hR))

/-- The zero a sum starts from. -/
theorem zero_add_const (x : EReal) : Ideal.ofBits .f32 0x00000000#32 + x = x := by
  simp [Ideal.ofBits, Ideal.ieee]

/-- A row minus its mean. -/
theorem centred_apply (b : Fin 2) (r : Fin 16384) (e : Fin 2048) :
    (val_main_v25 (F := Ideal) x0 x1 x2 x3 x4 (ix3 b r e) : EReal)
      = RowNorm.centred (fun k => val_main_v19 (F := Ideal) x0 x1 x2 x3 x4 (ix3 b r k)) e := by
  rw [val_main_v25_apply, val_main_v24_apply, val_main_v23_apply, val_main_v22_apply, val_main_v21_apply, val_main_v20_apply]
  have h : ∀ k, idx_main_v20 (idx_main_v21 (idx_main_v24 (ix3 b r e))) k = ix3 b r k := fun k => by
    funext a
    match a with
    | 0 => rfl
    | 1 => rfl
    | 2 => rfl
  simp only [h]
  show _ - Ideal.div (Ideal.ofBits .f32 0x00000000#32 + _) _ = _
  rw [zero_add_const]
  rfl

/-- The scale of a row. -/
theorem scale_apply (b : Fin 2) (r : Fin 16384) (e : Fin 2048) :
    (val_main_v34 (F := Ideal) x0 x1 x2 x3 x4 (ix3 b r e) : EReal)
      = RowNorm.scale fun k => val_main_v19 (F := Ideal) x0 x1 x2 x3 x4 (ix3 b r k) := by
  rw [val_main_v34_apply, val_main_v33_apply, val_main_v32_apply, val_main_v31_apply, val_main_v30_apply, val_main_v29_apply, val_main_v28_apply,
    val_main_v27_apply]
  have h : ∀ k, idx_main_v27 (idx_main_v28 (idx_main_v34 (ix3 b r e))) k = ix3 b r k := fun k => by
    funext a
    match a with
    | 0 => rfl
    | 1 => rfl
    | 2 => rfl
  simp only [h, val_main_v26_apply]
  have hc := fun k => centred_apply x0 x1 x2 x3 x4 b r k
  unfold RowNorm.scale
  simp only [← hc]
  show Ideal.rsqrt (Ideal.div (Ideal.ofBits .f32 0x00000000#32 + _) _ + _) = _
  rw [zero_add_const]
  rfl

/-- The reference's result, at a row of a sequence. -/
theorem ref_apply (b : Fin 2) (r : Fin 16384) (e : Fin 2048) (R : Fin 33280) (hR : R.val = b.val * 16640 + r.val) (i : S32768x2048.Idx)
    (h0 : (i 0).val = b.val * 16384 + r.val) (h1 : (i 1).val = e.val) :
    (val_main_v42 (F := Ideal) x0 x1 x2 x3 x4 x5 x6 i : EReal)
      = RowNorm.norm (fun e => alpha * x3 (ix3 b ⟨r.val, by omega⟩ e)
          + x4 (ix3 ⟨b.val, by omega⟩ 5 e) * (x0 (ix2 R e) * x2 (ix2 R 0) + x1 (ix2 R e) * x2 (ix2 R 1))) (x5 (ix1 e)) (x6 (ix1 e)) e := by
  have he := e.isLt
  rw [val_main_v42_apply]
  have hi : idx_main_v42 i = ix3 b r e := by
    funext a
    match a with
    | 0 => exact Fin.ext (show ((i 0).val * 2048 + (i 1).val) / 33554432 = b.val by omega)
    | 1 => exact Fin.ext (show ((i 0).val * 2048 + (i 1).val) / 2048 % 16384 = r.val by omega)
    | 2 => exact Fin.ext (show ((i 0).val * 2048 + (i 1).val) % 2048 = e.val by omega)
  rw [hi, val_main_v41_apply, val_main_v40_apply, val_main_v39_apply, val_main_v38_apply, val_main_v37_apply, val_main_v36_apply, val_main_v35_apply]
  have h5 : idx_main_v36 (idx_main_v37 (ix3 b r e)) = ix1 e := by
    funext a
    match a with
    | 0 => rfl
  have h6 : idx_main_v39 (idx_main_v40 (ix3 b r e)) = ix1 e := by
    funext a
    match a with
    | 0 => rfl
  rw [h5, h6]
  refine Eq.trans ?_ (congrArg (fun v => RowNorm.norm v (x5 (ix1 e)) (x6 (ix1 e)) e) (funext fun k => sum_apply x0 x1 x2 x3 x4 b r k R hR))
  exact congr (congrArg HAdd.hAdd (congr (congrArg HMul.hMul (congr (congrArg HMul.hMul (centred_apply x0 x1 x2 x3 x4 b r e)) (scale_apply x0 x1 x2 x3 x4 b r e))) rfl)) rfl

end Cert.LastRefIdeal.Hand

end
-- ==== Proof.LastValue.lean ====
/-
  The last call of the model: the two experts' outputs weighted and added, the residual, the last layer norm. Every
  block of the result is the reference's rows.
-/
module

public import proofs.«01_k».proof.Proof.RowNorm
public import proofs.«01_k».proof.Proof.Table
public import proofs.«01_k».proof.Proof.Gen.LastIdeal.Value
public import proofs.«01_k».proof.Proof.LastRef
public import Idealize.ShloMosaic.Lib.Pipeline.ValueKit
public import Idealize.ShloMosaic.Lib.Pointwise
public import Idealize.ShloMosaic.Lib.ValueIdx
public import Idealize.ShloMosaic.Lib.KernelVsHost

@[expose] public section

set_option maxRecDepth 16384

noncomputable section

namespace Cert.LastIdeal.Hand

open Cert.LastIdeal Cert.LastIdeal.Gen Idealize.ShloMosaic Idealize.ShloMosaic.TcCoe Idealize.SL.Sem
open Idealize.ShloMosaic.Pipeline (Dat)
open Cert.RowNorm (alpha)

variable (m : (ℓ : Loc nD τ sig) → Buf (Elt Ideal) ℓ) (ρ : Dev nD → PrngReg)

/-- One block of the result, from the blocks it reads. -/
def block (y0 y1 : FVec Ideal S256x2048 .bf16) (g : FVec Ideal S256x128 .f32) (x : FVec Ideal S256x2048 .f32)
    (p : FVec Ideal S1x8x2048 .f32) : FVec Ideal S256x2048 .f32 :=
  k0_pay1 (k0_pay6 (k0_pay2 g y0) (k0_pay3 y1) (k0_pay4 g) x p) (k0_pay7 p) (k0_pay8 p) (k0_pay9 (k0_pay2 g y0) (k0_pay3 y1) (k0_pay4 g) x p)

/-- The sum before the normalisation. -/
theorem sum_apply (y0 y1 : FVec Ideal S256x2048 .bf16) (g : FVec Ideal S256x128 .f32) (x : FVec Ideal S256x2048 .f32)
    (p : FVec Ideal S1x8x2048 .f32) (r : Fin 256) (e : Fin 2048) :
    (k0_pay6 (F := Ideal) (k0_pay2 g y0) (k0_pay3 y1) (k0_pay4 g) x p (ix2 r e) : EReal)
      = alpha * x (ix2 r e) + p (ix3 0 0 e) * (y0 (ix2 r e) * g (ix2 r 0) + y1 (ix2 r e) * g (ix2 r 1)) := by
  unfold alpha
  pointwise [k0_pay6, k0_pay2, k0_pay3, k0_pay4, k0_pay5]

/-- The normalisation of a block of rows. -/
theorem norm_apply (v : FVec Ideal S256x2048 .f32) (g b : FVec Ideal S1x2048 .f32) (r : Fin 256) (e : Fin 2048)
    (w : FVec Ideal S256x2048 .f32) (hw : ∀ e, w (ix2 r e) = RowNorm.mean fun k => v (ix2 r k)) :
    (k0_pay1 (F := Ideal) v g b w (ix2 r e) : EReal) = RowNorm.norm (fun k => v (ix2 r k)) (g (ix2 0 e)) (b (ix2 0 e)) e := by
  unfold RowNorm.norm RowNorm.scale RowNorm.centred
  unfold RowNorm.lanes RowNorm.small
  pointwise [k0_pay1]
  simp only [hw]

/-- The mean of a block of rows. -/
theorem mean_apply (a b c : FVec Ideal S256x2048 .f32) (x : FVec Ideal S256x2048 .f32) (p : FVec Ideal S1x8x2048 .f32) (r : Fin 256) (e : Fin 2048) :
    (k0_pay9 (F := Ideal) a b c x p (ix2 r e) : EReal) = RowNorm.mean fun k => k0_pay6 a b c x p (ix2 r k) := by
  unfold RowNorm.mean RowNorm.lanes k0_pay9
  generalize k0_pay6 a b c x p = v
  pointwise

/-- One block of the result at an index. -/
theorem block_apply (y0 y1 : FVec Ideal S256x2048 .bf16) (g : FVec Ideal S256x128 .f32) (x : FVec Ideal S256x2048 .f32)
    (p : FVec Ideal S1x8x2048 .f32) (r : Fin 256) (e : Fin 2048) :
    (block y0 y1 g x p (ix2 r e) : EReal) = RowNorm.norm (fun e => alpha * x (ix2 r e) + p (ix3 0 0 e) * (y0 (ix2 r e) * g (ix2 r 0) + y1 (ix2 r e) * g (ix2 r 1)))
      (p (ix3 0 3 e)) (p (ix3 0 4 e)) e := by
  unfold block
  refine (norm_apply _ _ _ r e _ fun e => mean_apply _ _ _ _ _ r e).trans ?_
  have h7 : k0_pay7 p (ix2 0 e) = p (ix3 0 3 e) := by pointwise [k0_pay7, k0_pay5]
  have h8 : k0_pay8 p (ix2 0 e) = p (ix3 0 4 e) := by pointwise [k0_pay8, k0_pay5]
  rw [h7, h8]
  exact congrArg (RowNorm.norm · _ _ e) (funext fun k => sum_apply y0 y1 g x p r k)

/-- The sequence's gate and the context's. -/
def bothGates (x : S8x6x2048.Idx → EReal) : S2x2x2048.Idx → EReal :=
  concatenate S2x2x2048 1
    [⟨S2x1x2048, broadcastInDim S2x1x2048 ![0, 2] bcast_S2x2048_S2x1x2048_0_2
      (shapeCast S2x2048 (extractStridedSlice S2x1x2048 ![0, 5, 0] x slices_S8x6x2048_S2x1x2048_0_5_0) shapeCasts_S2x1x2048_S2x2048)⟩,
     ⟨S2x1x2048, broadcastInDim S2x1x2048 ![0, 1, 2] bcast_S1x1x2048_S2x1x2048_0_1_2
      (broadcastInDim S1x1x2048 ![1, 2] bcast_S1x2048_S1x1x2048_1_2 (broadcastInDim S1x2048 ![1] bcast_S2048_S1x2048_1
        (shapeCast S2048 (extractStridedSlice S1x1x2048 ![2, 5, 0] x slices_S8x6x2048_S1x1x2048_2_5_0) shapeCasts_S1x1x2048_S2048)))⟩]
    concatenates_S2x1x2048_S2x1x2048_S2x2x2048_d1

/-- The first of them: the sequence's gate. -/
theorem bothGates_fst (x : S8x6x2048.Idx → EReal) (s : Fin 2) (e : Fin 2048) :
    bothGates x (ix3 s 0 e) = x (ix3 ⟨s.val, by omega⟩ 5 e) := by
  unfold bothGates
  refine (concatenate_apply_piece (t := S2x2x2048) 1 _ _ _ 0 (by simp) S2x1x2048 _ rfl rfl 0 rfl (ix3 s 0 e) (fun a ha => ?_) rfl).trans ?_
  · match a with
    | 0 => rfl
    | 1 => exact absurd rfl ha
    | 2 => rfl
  refine (broadcastInDim_apply _ _ _ _ (ix2 s e) fun a => ?_).trans ?_
  · match a with
    | 0 => rfl
    | 1 => rfl
  refine (shapeCast_apply _ _ _ (ix3 s 0 e) ?_).trans ?_
  · rw [Shape.rowMajor_val_three, Shape.rowMajor_val_two]
    show (s.val * 1 + 0) * 2048 + e.val = s.val * 2048 + e.val
    omega
  refine congrArg x (funext fun a => ?_)
  match a with
  | 0 => exact Fin.ext (Nat.zero_add _)
  | 1 => rfl
  | 2 => exact Fin.ext (Nat.zero_add _)

/-- The gate's row for the latents, the gate's row for the context, and zeros between them. -/
def gateRows (v : S2x2x2048.Idx → EReal) (z : S2x4x2048.Idx → EReal) : S2x6x2048.Idx → EReal :=
  concatenate S2x6x2048 1
    [⟨S2x1x2048, extractStridedSlice S2x1x2048 ![0, 0, 0] v slices_S2x2x2048_S2x1x2048_0_0_0⟩,
     ⟨S2x2x2048, extractStridedSlice S2x2x2048 ![0, 0, 0] z slices_S2x4x2048_S2x2x2048_0_0_0⟩,
     ⟨S2x1x2048, extractStridedSlice S2x1x2048 ![0, 1, 0] v slices_S2x2x2048_S2x1x2048_0_1_0⟩,
     ⟨S2x2x2048, extractStridedSlice S2x2x2048 ![0, 2, 0] z slices_S2x4x2048_S2x2x2048_0_2_0⟩]
    concatenates_S2x1x2048_S2x2x2048_S2x1x2048_S2x2x2048_S2x6x2048_d1

/-- The first of them. -/
theorem gateRows_fst (v : S2x2x2048.Idx → EReal) (z : S2x4x2048.Idx → EReal) (s : Fin 2) (e : Fin 2048) :
    gateRows v z (ix3 s 0 e) = v (ix3 s 0 e) := by
  unfold gateRows
  refine (concatenate_apply_piece (t := S2x6x2048) 1 _ _ _ 0 (by simp) S2x1x2048 _ rfl rfl 0 rfl (ix3 s 0 e) (fun a ha => ?_) rfl).trans ?_
  · match a with
    | 0 => rfl
    | 1 => exact absurd rfl ha
    | 2 => rfl
  refine congrArg v (funext fun a => ?_)
  match a with
  | 0 => exact Fin.ext (Nat.zero_add _)
  | 1 => rfl
  | 2 => exact Fin.ext (Nat.zero_add _)

/-- The table the kernel finds in its last operand. -/
theorem V_tab (c : Dev nD) : V m c main_v32 = Table.pack (Table.withNorm
    (gateRows (bothGates (m ((c : Thread nD τ).loc main_arg4))) (fun _ => Ideal.ofBits .f32 0x00000000#32)) (m ((c : Thread nD τ).loc main_arg5))
    (m ((c : Thread nD τ).loc main_arg6))) (fun _ => Ideal.ofBits .f32 0x00000000#32) := by
  chain_rfl

/-- The kernel finds the residual rows of both sequences stacked in its fourth operand. -/
theorem V_x (c : Dev nD) : V m c main_v21 = shapeCast S33280x2048 (m ((c : Thread nD τ).loc main_arg3)) shapeCasts_S2x16640x2048_S33280x2048 := by
  entry_read
  rfl

/-- Where the blocks of a point lie. -/
theorem idx : ∀ t : Fin cfg0.N, win0_5.index t 0 = t.val ∧ win0_5.index t 1 = 0
    ∧ (win0_0.index t 0 = t.val / 64 * 65 + t.val % 64 ∧ win0_0.index t 1 = 0)
    ∧ (win0_1.index t 0 = t.val / 64 * 65 + t.val % 64 ∧ win0_1.index t 1 = 0)
    ∧ (win0_2.index t 0 = t.val / 64 * 65 + t.val % 64 ∧ win0_2.index t 1 = 0)
    ∧ (win0_3.index t 0 = t.val / 64 * 65 + t.val % 64 ∧ win0_3.index t 1 = 0)
    ∧ (win0_4.index t 0 = 0 ∧ win0_4.index t 1 = 0 ∧ win0_4.index t 2 = 0) := (by decide +kernel : ∀ t : Fin grid0.N, _)

/-- Where the parameter rows of a point start. -/
theorem off : ∀ t : Fin cfg0.N, (k0_off1 (grid0.coords t)) 0 = 2 * (t.val / 64) ∧ (k0_off1 (grid0.coords t)) 1 = 0 ∧ (k0_off1 (grid0.coords t)) 2 = 0 :=
  (by decide +kernel : ∀ t : Fin grid0.N, _)

/-- A block of the first expert's outputs. -/
theorem y0_apply (c : Dev nD) (t : Fin cfg0.N) (p : S256x2048.Idx) (i : S33280x2048.Idx)
    (h0 : (i 0).val = (t.val / 64 * 65 + t.val % 64) * 256 + (p 0).val) (h1 : (i 1).val = (p 1).val) :
    iblk m c 0 t p = m ((c : Thread nD τ).loc main_arg0) i := by
  obtain ⟨-, -, ⟨e0, e1⟩, -⟩ := idx t
  rw [← V_main_arg0 m c]
  blk_ext [iblk, e0, e1]

/-- A block of the second expert's outputs. -/
theorem y1_apply (c : Dev nD) (t : Fin cfg0.N) (p : S256x2048.Idx) (i : S33280x2048.Idx)
    (h0 : (i 0).val = (t.val / 64 * 65 + t.val % 64) * 256 + (p 0).val) (h1 : (i 1).val = (p 1).val) :
    iblk m c 1 t p = m ((c : Thread nD τ).loc main_arg1) i := by
  obtain ⟨-, -, -, ⟨e0, e1⟩, -⟩ := idx t
  rw [← V_main_arg1 m c]
  blk_ext [iblk, e0, e1]

/-- A block of the gates. -/
theorem g_apply (c : Dev nD) (t : Fin cfg0.N) (p : S256x128.Idx) (i : S33280x128.Idx)
    (h0 : (i 0).val = (t.val / 64 * 65 + t.val % 64) * 256 + (p 0).val) (h1 : (i 1).val = (p 1).val) :
    iblk m c 2 t p = m ((c : Thread nD τ).loc main_arg2) i := by
  obtain ⟨-, -, -, -, ⟨e0, e1⟩, -⟩ := idx t
  rw [← V_main_arg2 m c]
  blk_ext [iblk, e0, e1]

/-- A block of the residual. -/
theorem x_apply (c : Dev nD) (t : Fin cfg0.N) (p : S256x2048.Idx) (i : S33280x2048.Idx)
    (h0 : (i 0).val = (t.val / 64 * 65 + t.val % 64) * 256 + (p 0).val) (h1 : (i 1).val = (p 1).val) :
    iblk m c 3 t p = shapeCast S33280x2048 (m ((c : Thread nD τ).loc main_arg3)) shapeCasts_S2x16640x2048_S33280x2048 i := by
  rw [← V_x m c]
  obtain ⟨-, -, -, -, -, ⟨e0, e1⟩, -⟩ := idx t
  blk_ext [iblk, e0, e1]

/-- Where the table's one block lies. -/
theorem tab_emb (t : Fin cfg0.N) (p : S4x8x2048.Idx) : ((cfg0.win 4).blk t).view.emb p = p := by
  obtain ⟨-, -, -, -, -, -, e0, e1, e2⟩ := idx t
  blk_ext [e0, e1, e2]

/-- The table's one block is the table. -/
theorem tab_apply (c : Dev nD) (t : Fin cfg0.N) (p : S4x8x2048.Idx) : iblk m c 4 t p = V m c main_v32 p :=
  congrArg (V m c (Pipeline.arrRef spec0 4)) (tab_emb t p)

/-- The parameter rows a point loads. -/
theorem tab_ld (A : FVec Ideal S4x8x2048 .f32) (t : Fin cfg0.N) (h : ∀ a, (k0_off1 (grid0.coords t)) a + S1x8x2048.size a ≤ S4x8x2048.size a) (q : Fin 4) (hq : q.val = 2 * (t.val / 64)) (j : Fin 8) (e : Fin 2048) :
    (View.ld (Val := Elt Ideal) (S := S4x8x2048) (e' := .f32) A (Rect.unit (k0_off1 (grid0.coords t)) S1x8x2048.size h) (ix3 0 j e) : EReal) = A (ix3 q j e) := by
  obtain ⟨o0, o1, o2⟩ := off t
  refine congrArg A (funext fun a => Fin.ext ((Rect.idx_unit_val (s := S4x8x2048) (off := k0_off1 (grid0.coords t)) (size := S1x8x2048.size) (inb := h) (x := ix3 0 j e) (a := a)).trans ?_))
  match a with
  | 0 => exact (congrArg (· + 0) o0).trans hq.symm
  | 1 => exact (congrArg (· + j.val) o1).trans (Nat.zero_add _)
  | 2 => exact (congrArg (· + e.val) o2).trans (Nat.zero_add _)

/-- The result array after the run. -/
theorem final (c : Dev nD) : (dats m 0 c).arrAt 5 cfg0.N
    = Cert.LastRefIdeal.Read.val_main_v42 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 5 _ (by decide +kernel) fun t hf y => ?_
  blk_simp
  rw [after0_5]
  unfold outsAt0
  frame_out
  have ht : t.val < 128 := t.isLt
  have hy : (y 0).val < 256 := (y 0).isLt
  obtain ⟨i0, i1, -⟩ := idx t
  have hb : t.val / 64 < 2 := by omega
  let b : Fin 2 := ⟨t.val / 64, hb⟩
  let q : Fin 4 := ⟨2 * (t.val / 64), by omega⟩
  let r : Fin 16384 := ⟨t.val % 64 * 256 + (y 0).val, by omega⟩
  let R : Fin 33280 := ⟨t.val / 64 * 16640 + (t.val % 64 * 256 + (y 0).val), by omega⟩
  have hR : R.val = b.val * 16640 + r.val := rfl
  have hR' : R.val = (t.val / 64 * 65 + t.val % 64) * 256 + (y 0).val := by show t.val / 64 * 16640 + (t.val % 64 * 256 + (y 0).val) = _; omega
  refine Eq.trans (congrArg _ (eq_ix2 y)) ?_
  refine (block_apply (iblk m c 0 t) (iblk m c 1 t) (iblk m c 2 t) (iblk m c 3 t) (View.ld (iblk m c 4 t) (Rect.unit (k0_off1 (grid0.coords t)) S1x8x2048.size _)) (y 0) (y 1)).trans ?_
  refine Eq.trans ?_ (Cert.LastRefIdeal.Hand.ref_apply _ _ _ _ _ _ _ b r (y 1) R hR _ ?_ ?_).symm
  · have ht0 := fun e => (tab_ld (iblk m c 4 t) t (k0_off1_inb (grid0.coords t)) q rfl 0 e).trans ((tab_apply m c t _).trans ((congrFun (V_tab m c) _).trans
      ((Table.pack_lat _ _ _ _ b q rfl 0 e).trans ((gateRows_fst _ _ b e).trans (bothGates_fst _ b e)))))
    have ht3 := (tab_ld (iblk m c 4 t) t (k0_off1_inb (grid0.coords t)) q rfl 3 (y 1)).trans ((tab_apply m c t _).trans ((congrFun (V_tab m c) _).trans (Table.pack_gb _ _ _ _ q (y 1)).1))
    have ht4 := (tab_ld (iblk m c 4 t) t (k0_off1_inb (grid0.coords t)) q rfl 4 (y 1)).trans ((tab_apply m c t _).trans ((congrFun (V_tab m c) _).trans (Table.pack_gb _ _ _ _ q (y 1)).2))
    refine congr (congr (congr (congrArg RowNorm.norm (funext fun e => ?_)) ht3) ht4) rfl
    refine congr (congrArg HAdd.hAdd (congrArg (alpha * ·) ((x_apply m c t (ix2 (y 0) e) (ix2 R e) hR' rfl).trans ?_))) (congr (congrArg HMul.hMul (ht0 e))
      (congr (congrArg HAdd.hAdd (congr (congrArg HMul.hMul (y0_apply m c t (ix2 (y 0) e) (ix2 R e) hR' rfl)) (g_apply m c t (ix2 (y 0) 0) (ix2 R 0) hR' rfl)))
        (congr (congrArg HMul.hMul (y1_apply m c t (ix2 (y 0) e) (ix2 R e) hR' rfl)) (g_apply m c t (ix2 (y 0) 1) (ix2 R 1) hR' rfl))))
    refine shapeCast_apply _ _ _ _ ?_
    refine (Shape.rowMajor_val_three (d := ![2, 16640, 2048]) _).trans (Eq.trans ?_ (Shape.rowMajor_val_two (d := ![33280, 2048]) _).symm)
    show (b.val * 16640 + r.val) * 2048 + e.val = R.val * 2048 + e.val
    rw [hR]
  · blk_simp [i0]
    show _ = t.val / 64 * 16384 + (t.val % 64 * 256 + (y 0).val)
    omega
  · blk_simp [i1]

end Cert.LastIdeal.Hand

end
-- ==== Proof.JoinTable.lean ====
/- The table the first layer's last call reads: the experts' gate of this layer and the scale and shift of the next, for the latents and for the context. -/
module

public import proofs.«01_k».proof.Proof.ModRows
public import proofs.«01_k».proof.Proof.LastValue

@[expose] public section

set_option maxRecDepth 16384

noncomputable section

namespace Cert.Table

open Idealize.ShloMosaic
open Cert.LastIdeal.Hand (bothGates bothGates_fst gateRows gateRows_fst)

abbrev S2x4x2048 : Shape := ⟨3, ![2, 4, 2048]⟩

/-- Two rows of each sequence stand side by side. -/
theorem cat_seq2 : Shape.Concatenates [S2x1x2048, S2x1x2048] S2x2x2048 1 := by decide

/-- Two rows and two make four. -/
theorem cat_both2 : Shape.Concatenates [S2x2x2048, S2x2x2048] S2x4x2048 1 := by decide

/-- Two rows of each sequence. -/
def seqRows2 (a b : S2x1x2048.Idx → EReal) : S2x2x2048.Idx → EReal :=
  concatenate S2x2x2048 1 [⟨S2x1x2048, a⟩, ⟨S2x1x2048, b⟩] cat_seq2

/-- They are the two rows. -/
theorem seqRows2_apply (a b : S2x1x2048.Idx → EReal) (s : Fin 2) (e : Fin 2048) :
    seqRows2 a b (ix3 s 0 e) = a (ix3 s 0 e) ∧ seqRows2 a b (ix3 s 1 e) = b (ix3 s 0 e) := by
  unfold seqRows2
  refine ⟨concatenate_apply_piece (t := S2x2x2048) 1 _ _ _ 0 (by simp) S2x1x2048 _ rfl rfl 0 rfl (ix3 s 0 e) (fun x hx => ?_) rfl,
    concatenate_apply_piece (t := S2x2x2048) 1 _ _ _ 1 (by simp) S2x1x2048 _ rfl rfl 1 rfl (ix3 s 0 e) (fun x hx => ?_) rfl⟩
  all_goals
    match x with
    | 0 => rfl
    | 1 => exact absurd rfl hx
    | 2 => rfl

/-- Two shared rows, repeated for each sequence. -/
def sharedRows2 (a b : S1x2048.Idx → EReal) : S2x2x2048.Idx → EReal :=
  broadcastInDim S2x2x2048 ![0, 1, 2] (by decide) (broadcastInDim S1x2x2048 ![1, 2] (by decide)
    (concatenate S2x2048 0 [⟨S1x2048, a⟩, ⟨S1x2048, b⟩] cat_gb))

/-- A repeated row is the row. -/
theorem sharedRows2_read (v : S2x2048.Idx → EReal) (s : Fin 2) (j : Fin 2) (e : Fin 2048) :
    broadcastInDim S2x2x2048 ![0, 1, 2] (by decide) (broadcastInDim S1x2x2048 ![1, 2] (by decide) v) (ix3 s j e) = v (ix2 j e) := by
  refine (broadcastInDim_apply _ _ _ _ (ix3 0 j e) fun a => ?_).trans (broadcastInDim_apply _ _ _ _ (ix2 j e) fun a => ?_)
  · match a with
    | 0 => rfl
    | 1 => rfl
    | 2 => rfl
  · match a with
    | 0 => rfl
    | 1 => rfl

/-- They are the two rows. -/
theorem sharedRows2_apply (a b : S1x2048.Idx → EReal) (s : Fin 2) (e : Fin 2048) :
    sharedRows2 a b (ix3 s 0 e) = a (ix2 0 e) ∧ sharedRows2 a b (ix3 s 1 e) = b (ix2 0 e) := by
  unfold sharedRows2
  refine ⟨(sharedRows2_read _ s 0 e).trans (concatenate_apply_piece (t := S2x2048) 0 _ _ _ 0 (by simp) S1x2048 _ rfl rfl 0 rfl (ix2 0 e) (fun x hx => ?_) rfl),
    (sharedRows2_read _ s 1 e).trans (concatenate_apply_piece (t := S2x2048) 0 _ _ _ 1 (by simp) S1x2048 _ rfl rfl 1 rfl (ix2 0 e) (fun x hx => ?_) rfl)⟩
  all_goals
    match x with
    | 0 => exact absurd rfl hx
    | 1 => rfl

/-- The latents' two rows and the context's. -/
def bothRows2 (a b : S2x2x2048.Idx → EReal) : S2x4x2048.Idx → EReal :=
  concatenate S2x4x2048 1 [⟨S2x2x2048, a⟩, ⟨S2x2x2048, b⟩] cat_both2

/-- The first two rows and the last two. -/
theorem bothRows2_apply (a b : S2x2x2048.Idx → EReal) (s : Fin 2) (j : Fin 2) (e : Fin 2048) :
    bothRows2 a b (ix3 s ⟨j.val, by omega⟩ e) = a (ix3 s j e) ∧ bothRows2 a b (ix3 s ⟨2 + j.val, by omega⟩ e) = b (ix3 s j e) := by
  unfold bothRows2
  refine ⟨concatenate_apply_piece (t := S2x4x2048) 1 _ _ _ 0 (by simp) S2x2x2048 _ rfl rfl 0 rfl (ix3 s j e) (fun x hx => ?_) (Nat.zero_add _),
    concatenate_apply_piece (t := S2x4x2048) 1 _ _ _ 1 (by simp) S2x2x2048 _ rfl rfl 2 rfl (ix3 s j e) (fun x hx => ?_) rfl⟩
  all_goals
    match x with
    | 0 => rfl
    | 1 => exact absurd rfl hx
    | 2 => rfl

/-- The next layer's scale and shift, for the latents and for the context. -/
def nextRows (x : S8x6x2048.Idx → EReal) : S2x4x2048.Idx → EReal :=
  bothRows2 (seqRows2 (seqRow 1 (by decide) x) (seqRow 0 (by decide) x)) (sharedRows2 (sharedRow 1 (by decide) x) (sharedRow 0 (by decide) x))

/-- They are the modulation vectors one and zero. -/
theorem nextRows_apply (x : S8x6x2048.Idx → EReal) (s : Fin 2) (s' : Fin 8) (hs : s'.val = s.val) (e : Fin 2048) :
    nextRows x (ix3 s 0 e) = x (ix3 s' 1 e) ∧ nextRows x (ix3 s 1 e) = x (ix3 s' 0 e)
      ∧ nextRows x (ix3 s 2 e) = x (ix3 2 1 e) ∧ nextRows x (ix3 s 3 e) = x (ix3 2 0 e) := by
  unfold nextRows
  have hb := fun j => bothRows2_apply (seqRows2 (seqRow 1 (by decide) x) (seqRow 0 (by decide) x)) (sharedRows2 (sharedRow 1 (by decide) x) (sharedRow 0 (by decide) x)) s j e
  have hl := seqRows2_apply (seqRow 1 (by decide) x) (seqRow 0 (by decide) x) s e
  have hc := sharedRows2_apply (sharedRow 1 (by decide) x) (sharedRow 0 (by decide) x) s e
  exact ⟨(hb 0).1.trans (hl.1.trans (seqRow_apply 1 _ x s s' hs 1 rfl e)), (hb 1).1.trans (hl.2.trans (seqRow_apply 0 _ x s s' hs 0 rfl e)),
    (hb 0).2.trans (hc.1.trans (sharedRow_apply 1 _ x 1 rfl e)), (hb 1).2.trans (hc.2.trans (sharedRow_apply 0 _ x 0 rfl e))⟩

/-- The second gate is the context's. -/
theorem bothGates_snd (x : S8x6x2048.Idx → EReal) (s : Fin 2) (e : Fin 2048) : bothGates x (ix3 s 1 e) = x (ix3 2 5 e) := by
  unfold bothGates
  refine (concatenate_apply_piece (t := S2x2x2048) 1 _ _ _ 1 (by simp) S2x1x2048 _ rfl rfl 1 rfl (ix3 s 0 e) (fun a ha => ?_) rfl).trans ?_
  · match a with
    | 0 => rfl
    | 1 => exact absurd rfl ha
    | 2 => rfl
  refine (broadcastInDim_apply _ _ _ _ (ix3 0 0 e) fun a => ?_).trans ((broadcastInDim_apply _ _ _ _ (ix2 0 e) fun a => ?_).trans
    (sharedRow_apply 5 (by decide) x 5 rfl e))
  · match a with
    | 0 => rfl
    | 1 => rfl
    | 2 => rfl
  · match a with
    | 0 => rfl
    | 1 => rfl

/-- The six rows: the gate and two rows for the latents, the gate and two rows for the context. -/
theorem gateRows_apply (v : S2x2x2048.Idx → EReal) (z : S2x4x2048.Idx → EReal) (s : Fin 2) (e : Fin 2048) :
    gateRows v z (ix3 s 1 e) = z (ix3 s 0 e) ∧ gateRows v z (ix3 s 2 e) = z (ix3 s 1 e) ∧ gateRows v z (ix3 s 3 e) = v (ix3 s 1 e)
      ∧ gateRows v z (ix3 s 4 e) = z (ix3 s 2 e) ∧ gateRows v z (ix3 s 5 e) = z (ix3 s 3 e) := by
  unfold gateRows
  refine ⟨(concatenate_apply_piece (t := S2x6x2048) 1 _ _ _ 1 (by simp) S2x2x2048 _ rfl rfl 1 rfl (ix3 s 0 e) (fun a ha => ?_) rfl).trans (congrArg z (funext fun a => ?_)),
    (concatenate_apply_piece (t := S2x6x2048) 1 _ _ _ 1 (by simp) S2x2x2048 _ rfl rfl 1 rfl (ix3 s 1 e) (fun a ha => ?_) rfl).trans (congrArg z (funext fun a => ?_)),
    (concatenate_apply_piece (t := S2x6x2048) 1 _ _ _ 2 (by simp) S2x1x2048 _ rfl rfl 3 rfl (ix3 s 0 e) (fun a ha => ?_) rfl).trans (congrArg v (funext fun a => ?_)),
    (concatenate_apply_piece (t := S2x6x2048) 1 _ _ _ 3 (by simp) S2x2x2048 _ rfl rfl 4 rfl (ix3 s 0 e) (fun a ha => ?_) rfl).trans (congrArg z (funext fun a => ?_)),
    (concatenate_apply_piece (t := S2x6x2048) 1 _ _ _ 3 (by simp) S2x2x2048 _ rfl rfl 4 rfl (ix3 s 1 e) (fun a ha => ?_) rfl).trans (congrArg z (funext fun a => ?_))⟩
  all_goals
    match a with
    | 0 => first | rfl | exact Fin.ext (Nat.zero_add _)
    | 1 => first | exact absurd rfl ha | rfl
    | 2 => first | rfl | exact Fin.ext (Nat.zero_add _)

/-- The table those rows, a gain and a bias pack into. -/
def joinTable (x y : S8x6x2048.Idx → EReal) (g b : S2048.Idx → EReal) : S4x8x2048.Idx → EReal :=
  pack (withNorm (gateRows (bothGates x) (nextRows y)) g b) (fun _ => Ideal.ofBits .f32 0x00000000#32)

/-- A part's rows of the table: this layer's gate, the next layer's scale and shift, the gain and the bias. -/
theorem joinTable_apply (x y : S8x6x2048.Idx → EReal) (g b : S2048.Idx → EReal) (q : Fin 4) (s : Fin 8)
    (hs : s.val = if q.val % 2 = 0 then q.val / 2 else 2) (e : Fin 2048) :
    joinTable x y g b (ix3 q 0 e) = x (ix3 s 5 e) ∧ joinTable x y g b (ix3 q 1 e) = y (ix3 s 1 e) ∧ joinTable x y g b (ix3 q 2 e) = y (ix3 s 0 e)
      ∧ joinTable x y g b (ix3 q 3 e) = g (ix1 e) ∧ joinTable x y g b (ix3 q 4 e) = b (ix1 e) := by
  unfold joinTable
  have hgb := pack_gb (gateRows (bothGates x) (nextRows y)) g b (fun _ => Ideal.ofBits .f32 0x00000000#32) q e
  by_cases h : q.val % 2 = 0
  · rw [if_pos h] at hs
    let t : Fin 2 := ⟨q.val / 2, by omega⟩
    have hq : q.val = 2 * t.val := by show q.val = 2 * (q.val / 2); omega
    have hp := fun j => pack_lat (gateRows (bothGates x) (nextRows y)) g b (fun _ => Ideal.ofBits .f32 0x00000000#32) t q hq j e
    have hg := gateRows_apply (bothGates x) (nextRows y) t e
    have hn := nextRows_apply y t s hs e
    have e5 : s = ⟨t.val, by omega⟩ := Fin.ext hs
    exact ⟨(hp 0).trans ((gateRows_fst _ _ t e).trans ((bothGates_fst x t e).trans (congrArg (fun s => x (ix3 s 5 e)) e5.symm))),
      (hp 1).trans (hg.1.trans hn.1), (hp 2).trans (hg.2.1.trans hn.2.1), hgb⟩
  · rw [if_neg h] at hs
    have e2 : s = 2 := Fin.ext hs
    subst e2
    let t : Fin 2 := ⟨q.val / 2, by omega⟩
    have hq : q.val = 2 * t.val + 1 := by show q.val = 2 * (q.val / 2) + 1; omega
    have hp := fun j => pack_ctx (gateRows (bothGates x) (nextRows y)) g b (fun _ => Ideal.ofBits .f32 0x00000000#32) t q hq j e
    have hg := gateRows_apply (bothGates x) (nextRows y) t e
    have hn := nextRows_apply y t ⟨t.val, by omega⟩ rfl e
    exact ⟨(hp 0).trans (hg.2.2.1.trans (bothGates_snd x t e)), (hp 1).trans (hg.2.2.2.1.trans hn.2.2.1), (hp 2).trans (hg.2.2.2.2.trans hn.2.2.2), hgb⟩

end Cert.Table

end
-- ==== Proof.JoinRef.lean ====
/- The reference of the first layer's last call, index by index. -/
module

public import proofs.«01_k».proof.Proof.Finite
public import proofs.«01_k».proof.Proof.Gen.JoinRefIdeal.Read
public import Idealize.ShloMosaic.Lib.Pipeline.ValueKit
public import Idealize.ShloMosaic.Lib.Pointwise
public import Idealize.ShloMosaic.Lib.ValueIdx
public import Idealize.ShloMosaic.Lib.KernelVsHost

@[expose] public section

set_option maxRecDepth 16384

noncomputable section

namespace Cert.JoinRefIdeal.Hand

open Cert.JoinRefIdeal Cert.JoinRefIdeal.Read Idealize.ShloMosaic Idealize.ShloMosaic.TcCoe

variable (x0 x1 : FVec Ideal S33280x2048 .bf16) (x2 : FVec Ideal S33280x128 .f32) (x3 : FVec Ideal S2x16640x2048 .f32)
  (x4 x5 : FVec Ideal S8x6x2048 .f32) (x6 x7 : FVec Ideal S2048 .f32)

/-- The experts' outputs weighted and added. -/
theorem mixed_apply (b : Fin 2) (r : Fin 16640) (e : Fin 2048) (R : Fin 33280) (hR : R.val = b.val * 16640 + r.val) :
    (val_main_v9 (F := Ideal) x0 x1 x2 (ix3 b r e) : EReal) = x0 (ix2 R e) * x2 (ix2 R 0) + x1 (ix2 R e) * x2 (ix2 R 1) := by
  have he := e.isLt
  rw [val_main_v9_apply]
  have hi : idx_main_v9 (ix3 b r e) = ix2 R e := by
    funext a
    match a with
    | 0 => exact Fin.ext (show ((b.val * 16640 + r.val) * 2048 + e.val) / 2048 = R.val by omega)
    | 1 => exact Fin.ext (show ((b.val * 16640 + r.val) * 2048 + e.val) % 2048 = e.val by omega)
  rw [hi, val_main_v8_apply, val_main_v3_apply, val_main_v7_apply, val_main_v0_apply, val_main_v4_apply, val_main_v2_apply, val_main_v1_apply,
    val_main_v6_apply, val_main_v5_apply]
  have h0 : idx_main_v1 (idx_main_v2 (ix2 R e)) = ix2 R 0 := by
    funext a
    match a with
    | 0 => rfl
    | 1 => rfl
  have h1 : idx_main_v5 (idx_main_v6 (ix2 R e)) = ix2 R 1 := by
    funext a
    match a with
    | 0 => rfl
    | 1 => rfl
  rw [h0, h1]
  rfl

/-- The update's gate: the sequence's for the latents, the shared one for the context. -/
theorem gate_apply (b : Fin 2) (r : Fin 16640) (e : Fin 2048) (s : Fin 8) (hs : s.val = if r.val < 16384 then b.val else 2) :
    (val_main_v22 (F := Ideal) x4 (ix3 b r e) : EReal) = x4 (ix3 s 5 e) := by
  have he := e.isLt
  rw [val_main_v22_apply, val_main_call0_v0_apply, val_main_v15_apply, val_main_v14_apply, val_main_v12_apply, val_main_v13_apply, val_main_c_apply,
    val_main_call0_v1_apply, val_main_v18_apply, val_main_v17_apply, val_main_v16_apply, val_main_call0_v2_apply, val_main_v21_apply, val_main_v20_apply, val_main_v19_apply]
  refine (RowNorm.select_latent r.val r.isLt _ _).trans ?_
  by_cases h : r.val < 16384
  · rw [if_pos h] at hs ⊢
    refine congrArg x4 (funext fun a => ?_)
    match a with
    | 0 => exact Fin.ext (show (b.val * 2048 + e.val) / 2048 = s.val by omega)
    | 1 => rfl
    | 2 => exact Fin.ext (show (b.val * 2048 + e.val) % 2048 = e.val by omega)
  · rw [if_neg h] at hs ⊢
    refine congrArg x4 (funext fun a => ?_)
    match a with
    | 0 => exact Fin.ext hs.symm
    | 1 => rfl
    | 2 => exact Fin.ext (show e.val % 2048 = e.val by omega)

/-- The token's scale: the sequence's for the latents, the shared one for the context. -/
theorem scale_apply (b : Fin 2) (r : Fin 16640) (e : Fin 2048) (s : Fin 8) (hs : s.val = if r.val < 16384 then b.val else 2) :
    (val_main_v57 (F := Ideal) x5 (ix3 b r e) : EReal) = x5 (ix3 s 1 e) := by
  have he := e.isLt
  rw [val_main_v57_apply, val_main_call1_v0_apply, val_main_v50_apply, val_main_v49_apply, val_main_v47_apply, val_main_v48_apply, val_main_c_5_apply,
    val_main_call1_v1_apply, val_main_v53_apply, val_main_v52_apply, val_main_v51_apply, val_main_call1_v2_apply, val_main_v56_apply, val_main_v55_apply, val_main_v54_apply]
  refine (RowNorm.select_latent r.val r.isLt _ _).trans ?_
  by_cases h : r.val < 16384
  · rw [if_pos h] at hs ⊢
    refine congrArg x5 (funext fun a => ?_)
    match a with
    | 0 => exact Fin.ext (show (b.val * 2048 + e.val) / 2048 = s.val by omega)
    | 1 => rfl
    | 2 => exact Fin.ext (show (b.val * 2048 + e.val) % 2048 = e.val by omega)
  · rw [if_neg h] at hs ⊢
    refine congrArg x5 (funext fun a => ?_)
    match a with
    | 0 => exact Fin.ext hs.symm
    | 1 => rfl
    | 2 => exact Fin.ext (show e.val % 2048 = e.val by omega)

/-- The token's shift: the sequence's for the latents, the shared one for the context. -/
theorem shift_apply (b : Fin 2) (r : Fin 16640) (e : Fin 2048) (s : Fin 8) (hs : s.val = if r.val < 16384 then b.val else 2) :
    (val_main_v71 (F := Ideal) x5 (ix3 b r e) : EReal) = x5 (ix3 s 0 e) := by
  have he := e.isLt
  rw [val_main_v71_apply, val_main_call2_v0_apply, val_main_v64_apply, val_main_v63_apply, val_main_v61_apply, val_main_v62_apply, val_main_c_7_apply,
    val_main_call2_v1_apply, val_main_v67_apply, val_main_v66_apply, val_main_v65_apply, val_main_call2_v2_apply, val_main_v70_apply, val_main_v69_apply, val_main_v68_apply]
  refine (RowNorm.select_latent r.val r.isLt _ _).trans ?_
  by_cases h : r.val < 16384
  · rw [if_pos h] at hs ⊢
    refine congrArg x5 (funext fun a => ?_)
    match a with
    | 0 => exact Fin.ext (show (b.val * 2048 + e.val) / 2048 = s.val by omega)
    | 1 => rfl
    | 2 => exact Fin.ext (show (b.val * 2048 + e.val) % 2048 = e.val by omega)
  · rw [if_neg h] at hs ⊢
    refine congrArg x5 (funext fun a => ?_)
    match a with
    | 0 => exact Fin.ext hs.symm
    | 1 => rfl
    | 2 => exact Fin.ext (show e.val % 2048 = e.val by omega)

/-- The row before the normalisation. -/
def row (b : Fin 2) (r : Fin 16640) (s : Fin 8) : Fin 2048 → EReal :=
  RowNorm.update (fun e => x3 (ix3 b r e)) (fun e => val_main_v9 (F := Ideal) x0 x1 x2 (ix3 b r e)) (fun e => x4 (ix3 s 5 e))

/-- The residual with the gated sum of the experts added. -/
theorem row_apply (b : Fin 2) (r : Fin 16640) (e : Fin 2048) (s : Fin 8) (hs : s.val = if r.val < 16384 then b.val else 2) :
    (val_main_v24 (F := Ideal) x0 x1 x2 x3 x4 (ix3 b r e) : EReal) = row x0 x1 x2 x3 x4 b r s e := by
  rw [val_main_v24_apply, val_main_v11_apply, val_main_v10_apply, val_main_v23_apply, gate_apply x4 b r e s hs]
  rfl

/-- The zero a sum starts from. -/
theorem zero_add_const (x : EReal) : Ideal.ofBits .f32 0x00000000#32 + x = x := by
  simp [Ideal.ofBits, Ideal.ieee]

/-- A row minus its mean. -/
theorem centred_apply (b : Fin 2) (r : Fin 16640) (e : Fin 2048) :
    (val_main_v30 (F := Ideal) x0 x1 x2 x3 x4 (ix3 b r e) : EReal)
      = RowNorm.centred (fun k => val_main_v24 (F := Ideal) x0 x1 x2 x3 x4 (ix3 b r k)) e := by
  rw [val_main_v30_apply, val_main_v29_apply, val_main_v28_apply, val_main_v27_apply, val_main_v26_apply, val_main_v25_apply]
  have h : ∀ k, idx_main_v25 (idx_main_v26 (idx_main_v29 (ix3 b r e))) k = ix3 b r k := fun k => by
    funext a
    match a with
    | 0 => rfl
    | 1 => rfl
    | 2 => rfl
  simp only [h]
  show _ - Ideal.div (Ideal.ofBits .f32 0x00000000#32 + _) _ = _
  rw [zero_add_const]
  rfl

/-- The scale of a row. -/
theorem lift_apply (b : Fin 2) (r : Fin 16640) (e : Fin 2048) :
    (val_main_v39 (F := Ideal) x0 x1 x2 x3 x4 (ix3 b r e) : EReal)
      = RowNorm.scale fun k => val_main_v24 (F := Ideal) x0 x1 x2 x3 x4 (ix3 b r k) := by
  rw [val_main_v39_apply, val_main_v38_apply, val_main_v37_apply, val_main_v36_apply, val_main_v35_apply, val_main_v34_apply, val_main_v33_apply,
    val_main_v32_apply]
  have h : ∀ k, idx_main_v32 (idx_main_v33 (idx_main_v39 (ix3 b r e))) k = ix3 b r k := fun k => by
    funext a
    match a with
    | 0 => rfl
    | 1 => rfl
    | 2 => rfl
  simp only [h, val_main_v31_apply]
  have hc := fun k => centred_apply x0 x1 x2 x3 x4 b r k
  unfold RowNorm.scale
  simp only [← hc]
  show Ideal.rsqrt (Ideal.div (Ideal.ofBits .f32 0x00000000#32 + _) _ + _) = _
  rw [zero_add_const]
  rfl

/-- The normalised rows. -/
theorem norm_apply (b : Fin 2) (r : Fin 16640) (e : Fin 2048) (s : Fin 8) (hs : s.val = if r.val < 16384 then b.val else 2) :
    (val_main_v46 (F := Ideal) x0 x1 x2 x3 x4 x6 x7 (ix3 b r e) : EReal) = RowNorm.norm (row x0 x1 x2 x3 x4 b r s) (x6 (ix1 e)) (x7 (ix1 e)) e := by
  rw [val_main_v46_apply, val_main_v45_apply, val_main_v44_apply, val_main_v43_apply, val_main_v42_apply, val_main_v41_apply, val_main_v40_apply]
  have h5 : idx_main_v41 (idx_main_v42 (ix3 b r e)) = ix1 e := by
    funext a
    match a with
    | 0 => rfl
  have h6 : idx_main_v44 (idx_main_v45 (ix3 b r e)) = ix1 e := by
    funext a
    match a with
    | 0 => rfl
  rw [h5, h6]
  refine Eq.trans ?_ (congrArg (fun v => RowNorm.norm v (x6 (ix1 e)) (x7 (ix1 e)) e) (funext fun k => row_apply x0 x1 x2 x3 x4 b r k s hs))
  exact congr (congrArg HAdd.hAdd (congr (congrArg HMul.hMul (congr (congrArg HMul.hMul (centred_apply x0 x1 x2 x3 x4 b r e)) (lift_apply x0 x1 x2 x3 x4 b r e))) rfl)) rfl

/-- A row's token. -/
def tok (b : Fin 2) (r : Fin 16640) (s : Fin 8) : Fin 2048 → EReal :=
  RowNorm.token (row x0 x1 x2 x3 x4 b r s) (fun e => x6 (ix1 e)) (fun e => x7 (ix1 e)) (fun e => x5 (ix3 s 1 e)) (fun e => x5 (ix3 s 0 e))

/-- The tokens. -/
theorem token_apply (b : Fin 2) (r : Fin 16640) (e : Fin 2048) (s : Fin 8) (hs : s.val = if r.val < 16384 then b.val else 2) :
    (val_main_v72 (F := Ideal) x0 x1 x2 x3 x4 x5 x6 x7 (ix3 b r e) : EReal) = tok x0 x1 x2 x3 x4 x5 x6 x7 b r s e := by
  rw [val_main_v72_apply, val_main_v60_apply, val_main_v59_apply, val_main_v58_apply, shift_apply x5 b r e s hs, scale_apply x5 b r e s hs,
    norm_apply x0 x1 x2 x3 x4 x6 x7 b r e s hs]
  rfl

/-- The normalised rows of both sequences, stacked. -/
theorem stacked_norm_apply (b : Fin 2) (r : Fin 16640) (e : Fin 2048) (s : Fin 8) (hs : s.val = if r.val < 16384 then b.val else 2)
    (i : S33280x2048.Idx) (h0 : (i 0).val = b.val * 16640 + r.val) (h1 : (i 1).val = e.val) :
    (val_main_v73 (F := Ideal) x0 x1 x2 x3 x4 x6 x7 i : EReal) = RowNorm.norm (row x0 x1 x2 x3 x4 b r s) (x6 (ix1 e)) (x7 (ix1 e)) e := by
  have he := e.isLt
  rw [val_main_v73_apply]
  refine Eq.trans (congrArg _ (funext fun a => ?_)) (norm_apply x0 x1 x2 x3 x4 x6 x7 b r e s hs)
  match a with
  | 0 => exact Fin.ext (show ((i 0).val * 2048 + (i 1).val) / 34078720 = b.val by omega)
  | 1 => exact Fin.ext (show ((i 0).val * 2048 + (i 1).val) / 2048 % 16640 = r.val by omega)
  | 2 => exact Fin.ext (show ((i 0).val * 2048 + (i 1).val) % 2048 = e.val by omega)

/-- The tokens of both sequences, stacked. -/
theorem stacked_token_apply (b : Fin 2) (r : Fin 16640) (e : Fin 2048) (s : Fin 8) (hs : s.val = if r.val < 16384 then b.val else 2)
    (i : S33280x2048.Idx) (h0 : (i 0).val = b.val * 16640 + r.val) (h1 : (i 1).val = e.val) :
    (val_main_v74 (F := Ideal) x0 x1 x2 x3 x4 x5 x6 x7 i : EReal) = tok x0 x1 x2 x3 x4 x5 x6 x7 b r s e := by
  have he := e.isLt
  rw [val_main_v74_apply]
  refine Eq.trans (congrArg _ (funext fun a => ?_)) (token_apply x0 x1 x2 x3 x4 x5 x6 x7 b r e s hs)
  match a with
  | 0 => exact Fin.ext (show ((i 0).val * 2048 + (i 1).val) / 34078720 = b.val by omega)
  | 1 => exact Fin.ext (show ((i 0).val * 2048 + (i 1).val) / 2048 % 16640 = r.val by omega)
  | 2 => exact Fin.ext (show ((i 0).val * 2048 + (i 1).val) % 2048 = e.val by omega)

/-- The stored tokens. -/
theorem stored_token_apply (i : S33280x2048.Idx) :
    (val_main_v75 (F := Ideal) x0 x1 x2 x3 x4 x5 x6 x7 i : EReal) = val_main_v74 (F := Ideal) x0 x1 x2 x3 x4 x5 x6 x7 i := by
  rw [val_main_v75_apply]
  rfl

end Cert.JoinRefIdeal.Hand

end
-- ==== Proof.JoinValue.lean ====
/- The first layer's last call: the operands the kernel finds, and its two results as the reference's. -/
module

public import proofs.«01_k».proof.Proof.RowBlock
public import proofs.«01_k».proof.Proof.JoinTable
public import proofs.«01_k».proof.Proof.JoinRef
public import proofs.«01_k».proof.Proof.Gen.JoinIdeal.Value
public import Idealize.ShloMosaic.Lib.Pipeline.ValueKit
public import Idealize.ShloMosaic.Lib.Pointwise
public import Idealize.ShloMosaic.Lib.ValueIdx

@[expose] public section

set_option maxRecDepth 16384

noncomputable section

namespace Cert.JoinIdeal.Hand

open Cert.JoinIdeal Cert.JoinIdeal.Gen Idealize.ShloMosaic Idealize.ShloMosaic.TcCoe Idealize.SL.Sem
open Idealize.ShloMosaic.Pipeline (Dat)
open Cert.JoinRefIdeal.Read

variable (m : (ℓ : Loc nD τ sig) → Buf (Elt Ideal) ℓ) (ρ : Dev nD → PrngReg)

/-- The two experts' outputs of a block of rows, weighted and added. -/
theorem mix_apply (g : FVec Ideal S256x128 .f32) (y0 y1 : FVec Ideal S256x2048 .bf16) (r : Fin 256) (e : Fin 2048) :
    (k0_pay4 (F := Ideal) g y0 y1 (ix2 r e) : EReal) = y0 (ix2 r e) * g (ix2 r 0) + y1 (ix2 r e) * g (ix2 r 1) := by
  pointwise [k0_pay4]

/-- A block of rows taken in its own shape. -/
theorem pay5_eq (x : FVec Ideal S256x2048 .f32) : k0_pay5 (F := Ideal) x = x := by
  funext y
  exact shapeCast_apply _ _ _ _ rfl

/-- The normalised rows of a block. -/
theorem norm_apply (y x : FVec Ideal S256x2048 .f32) (p : FVec Ideal S1x8x2048 .f32) (r : Fin 256) (e : Fin 2048) :
    (k0_pay2 (F := Ideal) y x p (ix2 r e) : EReal)
      = RowNorm.norm (RowNorm.update (fun e => x (ix2 r e)) (fun e => y (ix2 r e)) (fun e => p (ix3 0 0 e))) (p (ix3 0 3 e)) (p (ix3 0 4 e)) e := by
  refine Eq.trans (b := RowBlock.normBlock (RowBlock.sumBlock y x (RowBlock.table p)) (RowBlock.table p) (ix2 r e)) rfl ?_
  refine (RowBlock.tile_apply y x (RowBlock.table p) r e).1.trans ?_
  have h := RowBlock.table_apply p
  simp only [h]

/-- The modulated rows of a block. -/
theorem token_apply (y x : FVec Ideal S256x2048 .f32) (p : FVec Ideal S1x8x2048 .f32) (r : Fin 256) (e : Fin 2048) :
    (k0_pay3 (F := Ideal) y x p (ix2 r e) : EReal)
      = RowNorm.token (RowNorm.update (fun e => x (ix2 r e)) (fun e => y (ix2 r e)) (fun e => p (ix3 0 0 e)))
            (fun e => p (ix3 0 3 e)) (fun e => p (ix3 0 4 e)) (fun e => p (ix3 0 1 e)) (fun e => p (ix3 0 2 e)) e := by
  refine Eq.trans (b := RowBlock.tokenBlock (RowBlock.normBlock (RowBlock.sumBlock y x (RowBlock.table p)) (RowBlock.table p)) (RowBlock.table p) (ix2 r e)) rfl ?_
  refine (RowBlock.tile_apply y x (RowBlock.table p) r e).2.trans ?_
  have h := RowBlock.table_apply p
  simp only [h]

/-- The table the kernel finds in its fifth operand. -/
theorem V_tab (c : Dev nD) : V m c main_v48 = Table.joinTable (m ((c : Thread nD τ).loc main_arg4)) (m ((c : Thread nD τ).loc main_arg5))
    (m ((c : Thread nD τ).loc main_arg6)) (m ((c : Thread nD τ).loc main_arg7)) := by
  chain_rfl

/-- The kernel finds the residual rows of both sequences stacked in its fourth operand. -/
theorem V_x (c : Dev nD) : V m c main_v37 = shapeCast S33280x2048 (m ((c : Thread nD τ).loc main_arg3)) shapeCasts_S2x16640x2048_S33280x2048 := by
  chain_rfl

/-- Where the blocks of a point lie. -/
theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0 ∧ win0_4.index t 2 = 0)
    ∧ (win0_5.index t 0 = t.val ∧ win0_5.index t 1 = 0)
    ∧ (win0_6.index t 0 = t.val ∧ win0_6.index t 1 = 0) := (by decide +kernel : ∀ t : Fin grid0.N, _)

/-- The part a point's rows belong to: a sequence's latents or its context. -/
def part (t : ℕ) : ℕ := 2 * (t / 65) + (if t % 65 = 64 then 1 else 0)

/-- Where the parameter rows of a point start. -/
theorem off : ∀ t : Fin cfg0.N, (k0_off1 (grid0.coords t)) 0 = part t.val ∧ (k0_off1 (grid0.coords t)) 1 = 0 ∧ (k0_off1 (grid0.coords t)) 2 = 0 :=
  (by decide +kernel : ∀ t : Fin grid0.N, _)

/-- A block of the first expert's outputs. -/
theorem y0_apply (c : Dev nD) (t : Fin cfg0.N) (p : S256x2048.Idx) (i : S33280x2048.Idx)
    (h0 : (i 0).val = t.val * 256 + (p 0).val) (h1 : (i 1).val = (p 1).val) :
    iblk m c 0 t p = m ((c : Thread nD τ).loc main_arg0) i := by
  obtain ⟨⟨e0, e1⟩, -⟩ := idx t
  rw [← V_main_arg0 m c]
  blk_ext [iblk, e0, e1]

/-- A block of the second expert's outputs. -/
theorem y1_apply (c : Dev nD) (t : Fin cfg0.N) (p : S256x2048.Idx) (i : S33280x2048.Idx)
    (h0 : (i 0).val = t.val * 256 + (p 0).val) (h1 : (i 1).val = (p 1).val) :
    iblk m c 1 t p = m ((c : Thread nD τ).loc main_arg1) i := by
  obtain ⟨-, ⟨e0, e1⟩, -⟩ := idx t
  rw [← V_main_arg1 m c]
  blk_ext [iblk, e0, e1]

/-- A block of the gates. -/
theorem g_apply (c : Dev nD) (t : Fin cfg0.N) (p : S256x128.Idx) (i : S33280x128.Idx)
    (h0 : (i 0).val = t.val * 256 + (p 0).val) (h1 : (i 1).val = (p 1).val) :
    iblk m c 2 t p = m ((c : Thread nD τ).loc main_arg2) i := by
  obtain ⟨-, -, ⟨e0, e1⟩, -⟩ := idx t
  rw [← V_main_arg2 m c]
  blk_ext [iblk, e0, e1]

/-- A block of the residual. -/
theorem x_apply (c : Dev nD) (t : Fin cfg0.N) (p : S256x2048.Idx) (i : S33280x2048.Idx)
    (h0 : (i 0).val = t.val * 256 + (p 0).val) (h1 : (i 1).val = (p 1).val) :
    iblk m c 3 t p = shapeCast S33280x2048 (m ((c : Thread nD τ).loc main_arg3)) shapeCasts_S2x16640x2048_S33280x2048 i := by
  rw [← V_x m c]
  obtain ⟨-, -, -, ⟨e0, e1⟩, -⟩ := idx t
  blk_ext [iblk, e0, e1]

/-- The table's one block is the table. -/
theorem tab_apply (c : Dev nD) (t : Fin cfg0.N) (p : S4x8x2048.Idx) :
    (iblk m c 4 t p : EReal) = Table.joinTable (m ((c : Thread nD τ).loc main_arg4)) (m ((c : Thread nD τ).loc main_arg5))
      (m ((c : Thread nD τ).loc main_arg6)) (m ((c : Thread nD τ).loc main_arg7)) p := by
  obtain ⟨-, -, -, -, ⟨e0, e1, e2⟩, -⟩ := idx t
  have h : ((cfg0.win 4).blk t).view.emb p = p := by blk_ext [e0, e1, e2]
  exact (congrArg (V m c (Pipeline.arrRef spec0 4)) h).trans (congrFun (V_tab m c) p)

/-- The parameter rows a point loads. -/
theorem tab_ld (A : FVec Ideal S4x8x2048 .f32) (t : Fin cfg0.N) (h : ∀ a, (k0_off1 (grid0.coords t)) a + S1x8x2048.size a ≤ S4x8x2048.size a) (q : Fin 4) (hq : q.val = part t.val) (j : Fin 8) (e : Fin 2048) :
    (View.ld (Val := Elt Ideal) (S := S4x8x2048) (e' := .f32) A (Rect.unit (k0_off1 (grid0.coords t)) S1x8x2048.size h) (ix3 0 j e) : EReal) = A (ix3 q j e) := by
  obtain ⟨o0, o1, o2⟩ := off t
  refine congrArg A (funext fun a => Fin.ext ((Rect.idx_unit_val (s := S4x8x2048) (off := k0_off1 (grid0.coords t)) (size := S1x8x2048.size) (inb := h) (x := ix3 0 j e) (a := a)).trans ?_))
  match a with
  | 0 => exact (congrArg (· + 0) o0).trans hq.symm
  | 1 => exact (congrArg (· + j.val) o1).trans (Nat.zero_add _)
  | 2 => exact (congrArg (· + e.val) o2).trans (Nat.zero_add _)

/-- Where a row of a point's blocks lies among both sequences' rows, and which modulation vectors its part has. -/
theorem place (t r : ℕ) (ht : t < 130) (hr : r < 256) : ∃ (b : Fin 2) (n : Fin 16640) (q : Fin 4) (s : Fin 8),
    t * 256 + r = b.val * 16640 + n.val ∧ q.val = part t ∧ (s.val = if n.val < 16384 then b.val else 2)
      ∧ s.val = if q.val % 2 = 0 then q.val / 2 else 2 := by
  have hp : part t < 4 := by unfold part; split <;> omega
  by_cases h : t % 65 = 64
  · have hp' : part t = 2 * (t / 65) + 1 := by unfold part; rw [if_pos h]
    refine ⟨⟨t / 65, by omega⟩, ⟨t % 65 * 256 + r, by omega⟩, ⟨part t, hp⟩, 2, ?_, rfl, ?_, ?_⟩
    · show t * 256 + r = t / 65 * 16640 + (t % 65 * 256 + r)
      omega
    · exact (if_neg (show ¬t % 65 * 256 + r < 16384 by omega)).symm
    · exact (if_neg (show ¬part t % 2 = 0 by omega)).symm
  · have hp' : part t = 2 * (t / 65) := by unfold part; rw [if_neg h, Nat.add_zero]
    refine ⟨⟨t / 65, by omega⟩, ⟨t % 65 * 256 + r, by omega⟩, ⟨part t, hp⟩, ⟨t / 65, by omega⟩, ?_, rfl, ?_, ?_⟩
    · show t * 256 + r = t / 65 * 16640 + (t % 65 * 256 + r)
      omega
    · exact (if_pos (show t % 65 * 256 + r < 16384 by omega)).symm
    · refine Eq.trans ?_ (if_pos (show part t % 2 = 0 by omega)).symm
      show t / 65 = part t / 2
      omega

/-- A stacked row is its sequence's row. -/
theorem stack_apply {α : Type} {n : ℕ} (x : (⟨3, ![2, 16640, n]⟩ : Shape).Idx → α) (h : (⟨3, ![2, 16640, n]⟩ : Shape).ShapeCasts ⟨2, ![33280, n]⟩)
    (b : Fin 2) (r : Fin 16640) (R : Fin 33280) (hR : R.val = b.val * 16640 + r.val) (e : Fin n) :
    shapeCast ⟨2, ![33280, n]⟩ x h (ix2 R e) = x (ix3 b r e) := by
  refine shapeCast_apply _ _ _ _ ?_
  refine (Shape.rowMajor_val_three (d := ![2, 16640, n]) _).trans (Eq.trans ?_ (Shape.rowMajor_val_two (d := ![33280, n]) _).symm)
  show (b.val * 16640 + r.val) * n + e.val = R.val * n + e.val
  rw [hR]

/-- The parameter rows a point loads are its part's modulation vectors, the gain and the bias. -/
theorem par_apply (c : Dev nD) (t : Fin cfg0.N) (h : ∀ a, (k0_off1 (grid0.coords t)) a + S1x8x2048.size a ≤ S4x8x2048.size a) (p : FVec Ideal S1x8x2048 .f32)
    (hp : p = View.ld (Val := Elt Ideal) (S := S4x8x2048) (e' := .f32) (iblk m c 4 t) (Rect.unit (k0_off1 (grid0.coords t)) S1x8x2048.size h)) (q : Fin 4) (hq : q.val = part t.val)
    (s : Fin 8) (hs : s.val = if q.val % 2 = 0 then q.val / 2 else 2) (e : Fin 2048) :
    (p (ix3 0 0 e) : EReal) = m ((c : Thread nD τ).loc main_arg4) (ix3 s 5 e)
    ∧ (p (ix3 0 1 e) : EReal) = m ((c : Thread nD τ).loc main_arg5) (ix3 s 1 e)
    ∧ (p (ix3 0 2 e) : EReal) = m ((c : Thread nD τ).loc main_arg5) (ix3 s 0 e)
    ∧ (p (ix3 0 3 e) : EReal) = m ((c : Thread nD τ).loc main_arg6) (ix1 e)
    ∧ (p (ix3 0 4 e) : EReal) = m ((c : Thread nD τ).loc main_arg7) (ix1 e) := by
  subst hp
  have hl := fun j => (tab_ld (iblk m c 4 t) t h q hq j e).trans (tab_apply m c t _)
  obtain ⟨h0, h1, h2, h3, h4⟩ := Table.joinTable_apply (m ((c : Thread nD τ).loc main_arg4)) (m ((c : Thread nD τ).loc main_arg5))
    (m ((c : Thread nD τ).loc main_arg6)) (m ((c : Thread nD τ).loc main_arg7)) q s hs e
  exact ⟨(hl 0).trans h0, (hl 1).trans h1, (hl 2).trans h2, (hl 3).trans h3, (hl 4).trans h4⟩

/-- A row before the normalisation is the reference's. -/
theorem row_apply (c : Dev nD) (t : Fin cfg0.N) (p : FVec Ideal S1x8x2048 .f32) (r : Fin 256) (b : Fin 2) (n : Fin 16640) (s : Fin 8)
    (hn : t.val * 256 + r.val = b.val * 16640 + n.val)
    (hp : ∀ e, (p (ix3 0 0 e) : EReal) = m ((c : Thread nD τ).loc main_arg4) (ix3 s 5 e)) :
    RowNorm.update (fun e => k0_pay5 (F := Ideal) (iblk m c 3 t) (ix2 r e)) (fun e => k0_pay4 (F := Ideal) (iblk m c 2 t) (iblk m c 0 t) (iblk m c 1 t) (ix2 r e)) (fun e => p (ix3 0 0 e))
      = Cert.JoinRefIdeal.Hand.row (m ((c : Thread nD τ).loc main_arg0)) (m ((c : Thread nD τ).loc main_arg1))
        (m ((c : Thread nD τ).loc main_arg2)) (m ((c : Thread nD τ).loc main_arg3)) (m ((c : Thread nD τ).loc main_arg4)) b n s := by
  have hN := n.isLt
  have hR : b.val * 16640 + n.val < 33280 := by omega
  have e2 : (fun e => (k0_pay5 (F := Ideal) (iblk m c 3 t) (ix2 r e) : EReal)) = fun e => m ((c : Thread nD τ).loc main_arg3) (ix3 b n e) :=
    funext fun e => (congrFun (pay5_eq (iblk m c 3 t)) (ix2 r e)).trans
      ((x_apply m c t (ix2 r e) (ix2 ⟨b.val * 16640 + n.val, hR⟩ e) hn.symm rfl).trans (stack_apply _ _ b n _ rfl e))
  have e1 : (fun e => (k0_pay4 (F := Ideal) (iblk m c 2 t) (iblk m c 0 t) (iblk m c 1 t) (ix2 r e) : EReal))
      = fun e => val_main_v9 (F := Ideal) (m ((c : Thread nD τ).loc main_arg0)) (m ((c : Thread nD τ).loc main_arg1)) (m ((c : Thread nD τ).loc main_arg2)) (ix3 b n e) :=
    funext fun e => by
      refine (mix_apply (iblk m c 2 t) (iblk m c 0 t) (iblk m c 1 t) r e).trans (Eq.trans ?_ (Cert.JoinRefIdeal.Hand.mixed_apply _ _ _ b n e ⟨b.val * 16640 + n.val, hR⟩ rfl).symm)
      exact congr (congrArg HAdd.hAdd (congr (congrArg HMul.hMul (y0_apply m c t (ix2 r e) (ix2 ⟨b.val * 16640 + n.val, hR⟩ e) hn.symm rfl))
          (g_apply m c t (ix2 r 0) (ix2 ⟨b.val * 16640 + n.val, hR⟩ 0) hn.symm rfl)))
        (congr (congrArg HMul.hMul (y1_apply m c t (ix2 r e) (ix2 ⟨b.val * 16640 + n.val, hR⟩ e) hn.symm rfl))
          (g_apply m c t (ix2 r 1) (ix2 ⟨b.val * 16640 + n.val, hR⟩ 1) hn.symm rfl))
  exact congr (congr (congrArg RowNorm.update e2) e1) (funext hp)

/-- The normalised rows after the run. -/
theorem final5 (c : Dev nD) : (dats m 0 c).arrAt 5 cfg0.N
    = val_main_v73 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg6)) (m ((c : Thread nD τ).loc main_arg7)) := by
  refine (dats m 0 c).arrAt_eq_of_covers 5 _ (by decide +kernel) fun t hf y => ?_
  blk_simp
  rw [after0_5]
  unfold outsAt0
  frame_out
  have ht : t.val < 130 := t.isLt
  have hy : (y 0).val < 256 := (y 0).isLt
  obtain ⟨-, -, -, -, -, ⟨i0, i1⟩, -⟩ := idx t
  obtain ⟨b, n, q, s, hn, hq, hs, hs'⟩ := place t.val (y 0).val ht hy
  refine Eq.trans (congrArg _ (eq_ix2 y)) ?_
  refine (norm_apply _ _ _ (y 0) (y 1)).trans ?_
  refine Eq.trans ?_ (Cert.JoinRefIdeal.Hand.stacked_norm_apply _ _ _ _ _ _ _ b n (y 1) s hs _ ?_ ?_).symm
  · have hp := fun e => par_apply m c t (k0_off1_inb (grid0.coords t)) _ rfl q hq s hs' e
    exact congr (congr (congr (congrArg RowNorm.norm (row_apply m c t _ (y 0) b n s hn fun e => (hp e).1)) (hp (y 1)).2.2.2.1) (hp (y 1)).2.2.2.2) rfl
  · blk_simp [i0]
    show _ = b.val * 16640 + n.val
    omega
  · blk_simp [i1]

/-- The next layer's input after the run. -/
theorem final6 (c : Dev nD) : (dats m 0 c).arrAt 6 cfg0.N
    = val_main_v75 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 6 _ (by decide +kernel) fun t hf y => ?_
  blk_simp
  rw [after0_6]
  unfold outsAt0
  frame_out
  have ht : t.val < 130 := t.isLt
  have hy : (y 0).val < 256 := (y 0).isLt
  obtain ⟨-, -, -, -, -, -, ⟨i0, i1⟩⟩ := idx t
  obtain ⟨b, n, q, s, hn, hq, hs, hs'⟩ := place t.val (y 0).val ht hy
  refine Eq.trans (congrArg _ (eq_ix2 y)) ?_
  refine (token_apply _ _ _ (y 0) (y 1)).trans ?_
  refine Eq.trans ?_ ((Cert.JoinRefIdeal.Hand.stored_token_apply _ _ _ _ _ _ _ _ _).trans
    (Cert.JoinRefIdeal.Hand.stacked_token_apply _ _ _ _ _ _ _ _ b n (y 1) s hs _ ?_ ?_)).symm
  · have hp := fun e => par_apply m c t (k0_off1_inb (grid0.coords t)) _ rfl q hq s hs' e
    exact congrFun (congr (congr (congr (congr (congrArg RowNorm.token (row_apply m c t _ (y 0) b n s hn fun e => (hp e).1)) (funext fun e => (hp e).2.2.2.1))
      (funext fun e => (hp e).2.2.2.2)) (funext fun e => (hp e).2.1)) (funext fun e => (hp e).2.2.1)) (y 1)
  · blk_simp [i0]
    show _ = b.val * 16640 + n.val
    omega
  · blk_simp [i1]

end Cert.JoinIdeal.Hand

end
-- ==== Proof.JoinClaim.lean ====
/-
  The first layer's last call against its reference: both leave the same two results, for all arguments.
-/
module

public import proofs.«01_k».proof.Defs
public import proofs.«01_k».proof.Proof.JoinValue
public import proofs.«01_k».proof.Proof.Gen.JoinRefIdeal.Read
public import proofs.«01_k».proof.Proof.Gen.JoinRefIdeal.Run
public import Idealize.ShloMosaic.Lib.Quiescent

@[expose] public section

set_option maxRecDepth 16384

noncomputable section

namespace Cert.Proof.Join

open Idealize.ShloMosaic Idealize.ShloMosaic.TcCoe Idealize.SL.Sem

/-- The reference of the call keeps its arguments and ends with every counter at zero. -/
theorem reference_frame : Cert.quiescent_JoinRefIdeal (hJoinRefIdeal := Cert.JoinRefIdeal.Gen.facts) := fun m ρ _ =>
  (θ_run Cert.JoinRefIdeal.defs _ _).mono
    (fun r h => ⟨fun c => (h c).2.2, Idealize.ShloMosaic.sem_eq_zero_of_no_sems (by decide) r.2⟩)
    (Cert.JoinRefIdeal.Value.run (F := Ideal) m ρ)

/-- The kernel's two results are the reference's, for all arguments. -/
theorem algebraic : Cert.algebraic_JoinIdeal_JoinRefIdeal (hJoinIdeal := Cert.JoinIdeal.Gen.facts)
    (hJoinRefIdeal := Cert.JoinRefIdeal.Gen.facts) := by
  intro m ρ m' ρ' _ hagree
  refine ⟨fun c => Cert.JoinRefIdeal.Read.val_main_v73 (F := Ideal)
      (m ((c.tc : Thread Cert.JoinIdeal.nD Cert.JoinIdeal.τ).loc Cert.JoinIdeal.main_arg0))
      (m ((c.tc : Thread Cert.JoinIdeal.nD Cert.JoinIdeal.τ).loc Cert.JoinIdeal.main_arg1))
      (m ((c.tc : Thread Cert.JoinIdeal.nD Cert.JoinIdeal.τ).loc Cert.JoinIdeal.main_arg2))
      (m ((c.tc : Thread Cert.JoinIdeal.nD Cert.JoinIdeal.τ).loc Cert.JoinIdeal.main_arg3))
      (m ((c.tc : Thread Cert.JoinIdeal.nD Cert.JoinIdeal.τ).loc Cert.JoinIdeal.main_arg4))
      (m ((c.tc : Thread Cert.JoinIdeal.nD Cert.JoinIdeal.τ).loc Cert.JoinIdeal.main_arg6))
      (m ((c.tc : Thread Cert.JoinIdeal.nD Cert.JoinIdeal.τ).loc Cert.JoinIdeal.main_arg7)),
    fun c => Cert.JoinRefIdeal.Read.val_main_v75 (F := Ideal)
      (m ((c.tc : Thread Cert.JoinIdeal.nD Cert.JoinIdeal.τ).loc Cert.JoinIdeal.main_arg0))
      (m ((c.tc : Thread Cert.JoinIdeal.nD Cert.JoinIdeal.τ).loc Cert.JoinIdeal.main_arg1))
      (m ((c.tc : Thread Cert.JoinIdeal.nD Cert.JoinIdeal.τ).loc Cert.JoinIdeal.main_arg2))
      (m ((c.tc : Thread Cert.JoinIdeal.nD Cert.JoinIdeal.τ).loc Cert.JoinIdeal.main_arg3))
      (m ((c.tc : Thread Cert.JoinIdeal.nD Cert.JoinIdeal.τ).loc Cert.JoinIdeal.main_arg4))
      (m ((c.tc : Thread Cert.JoinIdeal.nD Cert.JoinIdeal.τ).loc Cert.JoinIdeal.main_arg5))
      (m ((c.tc : Thread Cert.JoinIdeal.nD Cert.JoinIdeal.τ).loc Cert.JoinIdeal.main_arg6))
      (m ((c.tc : Thread Cert.JoinIdeal.nD Cert.JoinIdeal.τ).loc Cert.JoinIdeal.main_arg7)), ?_, ?_⟩
  · exact (θ_run Cert.JoinIdeal.defs _ _).mono (fun _ h c => ⟨(h c).1.trans (Cert.JoinIdeal.Hand.final5 m c), (h c).2.1.trans (Cert.JoinIdeal.Hand.final6 m c), (h c).2.2⟩)
      (Cert.JoinIdeal.Value.run_blocks m ρ)
  · refine (θ_run Cert.JoinRefIdeal.defs _ _).mono (fun _ h c => ⟨((h c).1.trans (Cert.JoinRefIdeal.Read.val_main_v73_eq m' c)).trans ?_,
      ((h c).2.1.trans (Cert.JoinRefIdeal.Read.val_main_v75_eq m' c)).trans ?_, (h c).2.2⟩)
      (Cert.JoinRefIdeal.Value.run (F := Ideal) m' ρ')
    · rw [(hagree c).1, (hagree c).2.1, (hagree c).2.2.1, (hagree c).2.2.2.1, (hagree c).2.2.2.2.1, (hagree c).2.2.2.2.2.2.1, (hagree c).2.2.2.2.2.2.2]
    · rw [(hagree c).1, (hagree c).2.1, (hagree c).2.2.1, (hagree c).2.2.2.1, (hagree c).2.2.2.2.1, (hagree c).2.2.2.2.2.1, (hagree c).2.2.2.2.2.2.1, (hagree c).2.2.2.2.2.2.2]

end Cert.Proof.Join

end
-- ==== Proof.LastClaim.lean ====
/-
  The last call of the model against its reference: both leave the same result, for all arguments.
-/
module

public import proofs.«01_k».proof.Defs
public import proofs.«01_k».proof.Proof.LastValue
public import proofs.«01_k».proof.Proof.Gen.LastRefIdeal.Read
public import proofs.«01_k».proof.Proof.Gen.LastRefIdeal.Run
public import Idealize.ShloMosaic.Lib.Quiescent

@[expose] public section

set_option maxRecDepth 16384

noncomputable section

namespace Cert.Proof.Last

open Idealize.ShloMosaic Idealize.ShloMosaic.TcCoe Idealize.SL.Sem

/-- The reference of the last call keeps its arguments and ends with every counter at zero. -/
theorem reference_frame : Cert.quiescent_LastRefIdeal (hLastRefIdeal := Cert.LastRefIdeal.Gen.facts) := fun m ρ _ =>
  (θ_run Cert.LastRefIdeal.defs _ _).mono
    (fun r h => ⟨fun c => (h c).2, Idealize.ShloMosaic.sem_eq_zero_of_no_sems (by decide) r.2⟩)
    (Cert.LastRefIdeal.Value.run (F := Ideal) m ρ)

/-- The kernel's result is the reference's, for all arguments. -/
theorem algebraic : Cert.algebraic_LastIdeal_LastRefIdeal (hLastIdeal := Cert.LastIdeal.Gen.facts)
    (hLastRefIdeal := Cert.LastRefIdeal.Gen.facts) := by
  intro m ρ m' ρ' _ hagree
  refine ⟨fun c => Cert.LastRefIdeal.Read.val_main_v42 (F := Ideal)
      (m ((c.tc : Thread Cert.LastIdeal.nD Cert.LastIdeal.τ).loc Cert.LastIdeal.main_arg0))
      (m ((c.tc : Thread Cert.LastIdeal.nD Cert.LastIdeal.τ).loc Cert.LastIdeal.main_arg1))
      (m ((c.tc : Thread Cert.LastIdeal.nD Cert.LastIdeal.τ).loc Cert.LastIdeal.main_arg2))
      (m ((c.tc : Thread Cert.LastIdeal.nD Cert.LastIdeal.τ).loc Cert.LastIdeal.main_arg3))
      (m ((c.tc : Thread Cert.LastIdeal.nD Cert.LastIdeal.τ).loc Cert.LastIdeal.main_arg4))
      (m ((c.tc : Thread Cert.LastIdeal.nD Cert.LastIdeal.τ).loc Cert.LastIdeal.main_arg5))
      (m ((c.tc : Thread Cert.LastIdeal.nD Cert.LastIdeal.τ).loc Cert.LastIdeal.main_arg6)), ?_, ?_⟩
  · exact (θ_run Cert.LastIdeal.defs _ _).mono (fun _ h c => ⟨(h c).1.trans (Cert.LastIdeal.Hand.final m c), (h c).2⟩)
      (Cert.LastIdeal.Value.run_blocks m ρ)
  · refine (θ_run Cert.LastRefIdeal.defs _ _).mono (fun _ h c => ⟨((h c).1.trans (Cert.LastRefIdeal.Read.val_main_v42_eq m' c)).trans ?_, (h c).2⟩)
      (Cert.LastRefIdeal.Value.run (F := Ideal) m' ρ')
    rw [(hagree c).1, (hagree c).2.1, (hagree c).2.2.1, (hagree c).2.2.2.1, (hagree c).2.2.2.2.1, (hagree c).2.2.2.2.2.1, (hagree c).2.2.2.2.2.2]

end Cert.Proof.Last

end
-- ==== Proof.ProjValue.lean ====
/-
  The input projection of the first layer: every tile of the result is the product of a block of rows with a block of
  columns of the weights, padded on the right with zero columns; the whole result is the reference's padded product.
-/
module

public import proofs.«01_k».proof.Defs
public import proofs.«01_k».proof.Proof.HostBlock
public import proofs.«01_k».proof.Proof.Gen.ProjIdeal.Value
public import proofs.«01_k».proof.Proof.Gen.ProjRefIdeal.Read
public import Idealize.ShloMosaic.Lib.Pipeline.ValueKit
public import Idealize.ShloMosaic.Lib.Pointwise
public import Idealize.ShloMosaic.Lib.ValueIdx
public import Idealize.ShloMosaic.Lib.KernelVsHost

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The weights as the kernel reads them: the columns of `w`, then zero columns. -/
def wpad (w : S2048x6176.Idx → EReal) : S2048x6272.Idx → EReal := fun i =>
  if h : (i 1).val < 6176 then w (ix2 (i 0) ⟨(i 1).val, h⟩) else 0

/-- The scatter into the zero array is the padded weights. -/
theorem scatter_eq (w : S2048x6176.Idx → EReal) (x : S2048x6272.Idx → EReal) (hx : ∀ i, x i = 0) :
    Host.scatter scatter_S2048x6272_S1_S2048x6176_01_n_1_0 (fun _ b => b) x (fun _ => 0#32) w = wpad w := by
  have hpos : ∀ (j : S2048x6176.Idx) (a : Fin 2),
      scatter_S2048x6272_S1_S2048x6176_01_n_1_0.start j (fun _ => 0#32) a
        + scatter_S2048x6272_S1_S2048x6176_01_n_1_0.window j a = ((j a).val : Int) := by
    intro j a
    have e0 : scatter_S2048x6272_S1_S2048x6176_01_n_1_0.start j (fun _ => 0#32) a = 0 := by
      unfold ScatterDims.start; split <;> rfl
    rw [e0, zero_add]
    match a with
    | 0 => rfl
    | 1 => rfl
  funext i
  unfold wpad
  split
  · next h =>
    refine HostBlock.scatter_hit _ _ _ _ i (ix2 (i 0) ⟨(i 1).val, h⟩) (fun a => ?_) (fun j hj => ?_)
    · refine (hpos _ a).trans ?_
      match a with
      | 0 => rfl
      | 1 => rfl
    · have h0 := (hpos j 0).symm.trans (hj 0)
      have h1 := (hpos j 1).symm.trans (hj 1)
      refine (eq_ix2 j).trans ?_
      have e0 : j 0 = i 0 := Fin.ext (by exact_mod_cast h0)
      have e1 : j 1 = (⟨(i 1).val, h⟩ : Fin 6176) := Fin.ext (by exact_mod_cast h1)
      rw [e0, e1]
  · next h =>
    rw [HostBlock.scatter_miss _ _ _ _ i fun j => ⟨1, fun hj => ?_⟩, hx]
    have h1 := (hpos j 1).symm.trans hj
    have := (j 1).isLt
    have : (j 1).val < 6176 := this
    omega

/-- The kernel finds the padded weights in its second operand. -/
theorem V_w (c : Dev nD) : V m c main_v3 = wpad (m ((c : Thread nD τ).loc main_arg1)) := by
  refine Eq.trans ?_ (scatter_eq (m ((c : Thread nD τ).loc main_arg1)) (fun _ => Ideal.ofBits .bf16 0x0000#16) (fun i => by simp [Ideal.ofBits, Ideal.ieee]))
  entry_read
  rfl

/-- The kernel finds the rows of both sequences stacked in its first operand. -/
theorem V_h (c : Dev nD) : V m c main_v4 = shapeCast S33280x2048 (m ((c : Thread nD τ).loc main_arg0)) shapeCasts_S2x16640x2048_S33280x2048 := by
  entry_read
  rfl

/-- One tile is the product of its two blocks. -/
theorem pay_apply (a : Vec Ideal S1280x2048 .bf16) (b : Vec Ideal S2048x896 .bf16) (y : S1280x896.Idx) :
    k0_pay1 a b y = ∑ k : Fin 2048, a (ix2 (y 0) k) * b (ix2 k (y 1)) := by
  pointwise [k0_pay1]

/-- The reference, index by index: the product with the padded weights. -/
theorem ref_apply (x0 : S2x16640x2048.Idx → EReal) (x1 : S2048x6176.Idx → EReal) (i : S33280x6272.Idx) :
    Cert.ProjRefIdeal.Read.val_main_v3 (F := Ideal) x0 x1 i
      = ∑ k : Fin 2048, shapeCast S33280x2048 x0 shapeCasts_S2x16640x2048_S33280x2048 (ix2 (i 0) k) * wpad x1 (ix2 k (i 1)) := by
  unfold Cert.ProjRefIdeal.Read.val_main_v3 wpad
  by_cases h : (i 1).val < 6176
  · refine Eq.trans (pad_apply_of_inside _ _ _ _ _ _ _ i (ix2 (i 0) (⟨(i 1).val, h⟩ : Fin 6176)) (fun a => ?_)) ?_
    rotate_left
    · refine Eq.trans (Cert.ProjRefIdeal.Read.val_main_v2_apply _ _ _) ?_
      refine Finset.sum_congr rfl fun k _ => ?_
      rw [dif_pos (show ((ix2 k (i 1) : S2048x6272.Idx) 1).val < 6176 from h)]
      refine congr (congrArg HMul.hMul ?_) ?_
      · show shapeCast S33280x2048 x0 _ _ = _
        refine congrArg _ (funext fun a => ?_)
        match a with
        | 0 => rfl
        | 1 => rfl
      · refine congrArg x1 (funext fun a => ?_)
        match a with
        | 0 => rfl
        | 1 => rfl
    · match a with
      | 0 => show (i 0).val = 0 + (i 0).val * (0 + 1); omega
      | 1 => show (i 1).val = 0 + (i 1).val * (0 + 1); omega
  · refine Eq.trans (pad_apply_of_not_inside _ _ _ _ _ _ _ i 1 (fun hin => h (by
      have : ((i 1).val - 0) / (0 + 1) < 6176 := hin.2.2
      omega))) ?_
    have e : ∀ k : Fin 2048, (if h : ((ix2 k (i 1) : S2048x6272.Idx) 1).val < 6176 then x1 (ix2 ((ix2 k (i 1) : S2048x6272.Idx) 0) ⟨_, h⟩) else (0 : EReal)) = 0 :=
      fun k => dif_neg h
    simp only [e, mul_zero, Finset.sum_const_zero]
    show FloatOps.sitofp (F := Ideal) .f32 (0#32) = 0
    simp [FloatOps.sitofp]

/-- Where the blocks of a point lie. -/
theorem idx : ∀ t : Fin cfg0.N, win0_0.index t 0 = win0_2.index t 0 ∧ win0_0.index t 1 = 0
    ∧ win0_1.index t 0 = 0 ∧ win0_1.index t 1 = win0_2.index t 1 := (by decide +kernel : ∀ t : Fin grid0.N, _)

/-- The row block of a point, read at an index. -/
theorem rows_apply (c : Dev nD) (t : Fin cfg0.N) (p : S1280x2048.Idx) (i : S33280x2048.Idx)
    (h0 : (i 0).val = win0_2.index t 0 * 1280 + (p 0).val) (h1 : (i 1).val = (p 1).val) :
    iblk m c 0 t p = shapeCast S33280x2048 (m ((c : Thread nD τ).loc main_arg0)) shapeCasts_S2x16640x2048_S33280x2048 i := by
  rw [← V_h m c]
  obtain ⟨e0, e1, -, -⟩ := idx t
  blk_ext [iblk, e0, e1]

/-- Where the column block of a point lies. -/
theorem cols_emb (t : Fin cfg0.N) (p : S2048x896.Idx) (i : S2048x6272.Idx)
    (h0 : (i 0).val = (p 0).val) (h1 : (i 1).val = win0_2.index t 1 * 896 + (p 1).val) :
    ((cfg0.win 1).blk t).view.emb p = i := by
  obtain ⟨-, -, e2, e3⟩ := idx t
  blk_ext [e2, e3]

/-- The column block of a point, read at an index, of any array. -/
theorem cols_read (A : S2048x6272.Idx → EReal) (t : Fin cfg0.N) (p : S2048x896.Idx) (i : S2048x6272.Idx)
    (h0 : (i 0).val = (p 0).val) (h1 : (i 1).val = win0_2.index t 1 * 896 + (p 1).val) :
    ((cfg0.win 1).blk t).view.read (Elt Ideal) A p = A i :=
  congrArg A (cols_emb t p i h0 h1)

/-- The column block of a point, read at an index. -/
theorem cols_apply (c : Dev nD) (t : Fin cfg0.N) (p : S2048x896.Idx) (i : S2048x6272.Idx)
    (h0 : (i 0).val = (p 0).val) (h1 : (i 1).val = win0_2.index t 1 * 896 + (p 1).val) :
    iblk m c 1 t p = wpad (m ((c : Thread nD τ).loc main_arg1)) i := by
  exact (cols_read (V m c (Pipeline.arrRef spec0 1)) t p i h0 h1).trans (congrFun (show V m c (Pipeline.arrRef spec0 1) = wpad _ from V_w m c) i)

/-- The result array after the run. -/
theorem final (c : Dev nD) : (dats m 0 c).arrAt 2 cfg0.N
    = Cert.ProjRefIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_apply _ _ _).trans (Eq.trans ?_ (ref_apply _ _ _).symm)
  refine Finset.sum_congr rfl fun k _ => ?_
  refine congr (congrArg HMul.hMul (rows_apply m c t _ _ ?_ ?_)) (cols_apply m c t _ _ ?_ ?_)
  all_goals blk_simp

end Cert.ProjIdeal.Hand

end
-- ==== Proof.ProjClaim.lean ====
/- The first layer's combined projection: the reference's frame and the equality of the two results. -/
module

public import proofs.«01_k».proof.Defs
public import proofs.«01_k».proof.Proof.ProjValue
public import proofs.«01_k».proof.Proof.Gen.ProjRefIdeal.Run
public import Idealize.ShloMosaic.Lib.Quiescent

@[expose] public section

noncomputable section

namespace Cert.Proof.Proj

open Idealize.ShloMosaic Idealize.ShloMosaic.TcCoe Idealize.SL.Sem

/-- The projection's reference keeps its arguments and ends with every counter at zero. -/
theorem reference_frame : Cert.quiescent_ProjRefIdeal (hProjRefIdeal := Cert.ProjRefIdeal.Gen.facts) := fun m ρ _ =>
  (θ_run Cert.ProjRefIdeal.defs _ _).mono
    (fun r h => ⟨fun c => (h c).2, Idealize.ShloMosaic.sem_eq_zero_of_no_sems (by decide) r.2⟩)
    (Cert.ProjRefIdeal.Value.run (F := Ideal) m ρ)

/-- The kernel's projection is the reference's, for all arguments. -/
theorem algebraic : Cert.algebraic_ProjIdeal_ProjRefIdeal (hProjIdeal := Cert.ProjIdeal.Gen.facts)
    (hProjRefIdeal := Cert.ProjRefIdeal.Gen.facts) := by
  intro m ρ m' ρ' _ hagree
  refine ⟨fun c => Cert.ProjRefIdeal.Read.val_main_v3 (F := Ideal)
      (m ((c.tc : Thread Cert.ProjIdeal.nD Cert.ProjIdeal.τ).loc Cert.ProjIdeal.main_arg0))
      (m ((c.tc : Thread Cert.ProjIdeal.nD Cert.ProjIdeal.τ).loc Cert.ProjIdeal.main_arg1)), ?_, ?_⟩
  · exact (θ_run Cert.ProjIdeal.defs _ _).mono (fun _ h c => ⟨(h c).1.trans (Cert.ProjIdeal.Hand.final m c), (h c).2⟩)
      (Cert.ProjIdeal.Value.run_blocks m ρ)
  · refine (θ_run Cert.ProjRefIdeal.defs _ _).mono (fun _ h c => ⟨(h c).1.trans ?_, (h c).2⟩)
      (Cert.ProjRefIdeal.Value.run (F := Ideal) m' ρ')
    rw [(hagree c).1, (hagree c).2]
    rfl

end Cert.Proof.Proj

end
-- ==== Proof.LateValue.lean ====
/-
  The input projection of the second layer: every tile of the result is the product of a block of rows with a block of
  columns of the weights; the whole result is the reference's product.
-/
module

public import proofs.«01_k».proof.Defs
public import proofs.«01_k».proof.Proof.Gen.LateIdeal.Value
public import proofs.«01_k».proof.Proof.Gen.LateRefIdeal.Read
public import proofs.«01_k».proof.Proof.Gen.LateRefIdeal.Run
public import Idealize.ShloMosaic.Lib.Pipeline.ValueKit
public import Idealize.ShloMosaic.Lib.Pointwise
public import Idealize.ShloMosaic.Lib.ValueIdx
public import Idealize.ShloMosaic.Lib.Quiescent

@[expose] public section

set_option maxRecDepth 16384

noncomputable section

namespace Cert.LateIdeal.Hand

open Cert.LateIdeal Cert.LateIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The kernel finds the weights in its second operand. -/
theorem V_w (c : Dev nD) : V m c main_v0 = m ((c : Thread nD τ).loc main_arg1) := by
  entry_read
  rfl

/-- The kernel finds the rows of both sequences stacked in its first operand. -/
theorem V_h (c : Dev nD) : V m c main_v1 = shapeCast S33280x2048 (m ((c : Thread nD τ).loc main_arg0)) shapeCasts_S2x16640x2048_S33280x2048 := by
  entry_read
  rfl

/-- One tile is the product of its two blocks. -/
theorem pay_apply (a : Vec Ideal S1280x2048 .bf16) (b : Vec Ideal S2048x1152 .bf16) (y : S1280x1152.Idx) :
    k0_pay1 a b y = ∑ k : Fin 2048, a (ix2 (y 0) k) * b (ix2 k (y 1)) := by
  pointwise [k0_pay1]

/-- The reference, index by index. -/
theorem ref_apply (x0 : S2x16640x2048.Idx → EReal) (x1 : S2048x10368.Idx → EReal) (i : S33280x10368.Idx) :
    Cert.LateRefIdeal.Read.val_main_v2 (F := Ideal) x0 x1 i
      = ∑ k : Fin 2048, shapeCast S33280x2048 x0 shapeCasts_S2x16640x2048_S33280x2048 (ix2 (i 0) k) * x1 (ix2 k (i 1)) := by
  refine Eq.trans (Cert.LateRefIdeal.Read.val_main_v2_apply _ _ _) ?_
  refine Finset.sum_congr rfl fun k _ => ?_
  refine congr (congrArg HMul.hMul ?_) ?_
  · show shapeCast S33280x2048 x0 _ _ = _
    refine congrArg _ (funext fun a => ?_)
    match a with
    | 0 => rfl
    | 1 => rfl
  · refine congrArg x1 (funext fun a => ?_)
    match a with
    | 0 => rfl
    | 1 => rfl

/-- Where the blocks of a point lie. -/
theorem idx : ∀ t : Fin cfg0.N, win0_0.index t 0 = win0_2.index t 0 ∧ win0_0.index t 1 = 0
    ∧ win0_1.index t 0 = 0 ∧ win0_1.index t 1 = win0_2.index t 1 := (by decide +kernel : ∀ t : Fin grid0.N, _)

/-- Where the row block of a point lies. -/
theorem rows_emb (t : Fin cfg0.N) (p : S1280x2048.Idx) (i : S33280x2048.Idx)
    (h0 : (i 0).val = win0_2.index t 0 * 1280 + (p 0).val) (h1 : (i 1).val = (p 1).val) :
    ((cfg0.win 0).blk t).view.emb p = i := by
  obtain ⟨e0, e1, -, -⟩ := idx t
  blk_ext [e0, e1]

/-- Where the column block of a point lies. -/
theorem cols_emb (t : Fin cfg0.N) (p : S2048x1152.Idx) (i : S2048x10368.Idx)
    (h0 : (i 0).val = (p 0).val) (h1 : (i 1).val = win0_2.index t 1 * 1152 + (p 1).val) :
    ((cfg0.win 1).blk t).view.emb p = i := by
  obtain ⟨-, -, e2, e3⟩ := idx t
  blk_ext [e2, e3]

/-- The row block of a point, read at an index, of any array. -/
theorem rows_read (A : S33280x2048.Idx → EReal) (t : Fin cfg0.N) (p : S1280x2048.Idx) (i : S33280x2048.Idx)
    (h0 : (i 0).val = win0_2.index t 0 * 1280 + (p 0).val) (h1 : (i 1).val = (p 1).val) :
    ((cfg0.win 0).blk t).view.read (Elt Ideal) A p = A i :=
  congrArg A (rows_emb t p i h0 h1)

/-- The column block of a point, read at an index, of any array. -/
theorem cols_read (A : S2048x10368.Idx → EReal) (t : Fin cfg0.N) (p : S2048x1152.Idx) (i : S2048x10368.Idx)
    (h0 : (i 0).val = (p 0).val) (h1 : (i 1).val = win0_2.index t 1 * 1152 + (p 1).val) :
    ((cfg0.win 1).blk t).view.read (Elt Ideal) A p = A i :=
  congrArg A (cols_emb t p i h0 h1)

/-- The row block of a point, read at an index. -/
theorem rows_apply (c : Dev nD) (t : Fin cfg0.N) (p : S1280x2048.Idx) (i : S33280x2048.Idx)
    (h0 : (i 0).val = win0_2.index t 0 * 1280 + (p 0).val) (h1 : (i 1).val = (p 1).val) :
    iblk m c 0 t p = shapeCast S33280x2048 (m ((c : Thread nD τ).loc main_arg0)) shapeCasts_S2x16640x2048_S33280x2048 i :=
  (rows_read (V m c (Pipeline.arrRef spec0 0)) t p i h0 h1).trans (congrFun (show V m c (Pipeline.arrRef spec0 0) = shapeCast _ _ _ from V_h m c) i)

/-- The column block of a point, read at an index. -/
theorem cols_apply (c : Dev nD) (t : Fin cfg0.N) (p : S2048x1152.Idx) (i : S2048x10368.Idx)
    (h0 : (i 0).val = (p 0).val) (h1 : (i 1).val = win0_2.index t 1 * 1152 + (p 1).val) :
    iblk m c 1 t p = m ((c : Thread nD τ).loc main_arg1) i :=
  (cols_read (V m c (Pipeline.arrRef spec0 1)) t p i h0 h1).trans (congrFun (show V m c (Pipeline.arrRef spec0 1) = m ((c : Thread nD τ).loc main_arg1) from V_w m c) i)

/-- The result array after the run. -/
theorem final (c : Dev nD) : (dats m 0 c).arrAt 2 cfg0.N
    = Cert.LateRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_apply _ _ _).trans (Eq.trans ?_ (ref_apply _ _ _).symm)
  refine Finset.sum_congr rfl fun k _ => ?_
  refine congr (congrArg HMul.hMul (rows_apply m c t _ _ ?_ ?_)) (cols_apply m c t _ _ ?_ ?_)
  all_goals blk_simp

end Cert.LateIdeal.Hand

namespace Cert.Proof.Late

open Idealize.ShloMosaic Idealize.ShloMosaic.TcCoe Idealize.SL.Sem

/-- The projection's reference keeps its arguments and ends with every counter at zero. -/
theorem reference_frame : Cert.quiescent_LateRefIdeal (hLateRefIdeal := Cert.LateRefIdeal.Gen.facts) := fun m ρ _ =>
  (θ_run Cert.LateRefIdeal.defs _ _).mono
    (fun r h => ⟨fun c => (h c).2, Idealize.ShloMosaic.sem_eq_zero_of_no_sems (by decide) r.2⟩)
    (Cert.LateRefIdeal.Value.run (F := Ideal) m ρ)

/-- The kernel's projection is the reference's, for all arguments. -/
theorem algebraic : Cert.algebraic_LateIdeal_LateRefIdeal (hLateIdeal := Cert.LateIdeal.Gen.facts)
    (hLateRefIdeal := Cert.LateRefIdeal.Gen.facts) := by
  intro m ρ m' ρ' _ hagree
  refine ⟨fun c => Cert.LateRefIdeal.Read.val_main_v2 (F := Ideal)
      (m ((c.tc : Thread Cert.LateIdeal.nD Cert.LateIdeal.τ).loc Cert.LateIdeal.main_arg0))
      (m ((c.tc : Thread Cert.LateIdeal.nD Cert.LateIdeal.τ).loc Cert.LateIdeal.main_arg1)), ?_, ?_⟩
  · exact (θ_run Cert.LateIdeal.defs _ _).mono (fun _ h c => ⟨(h c).1.trans (Cert.LateIdeal.Hand.final m c), (h c).2⟩)
      (Cert.LateIdeal.Value.run_blocks m ρ)
  · refine (θ_run Cert.LateRefIdeal.defs _ _).mono (fun _ h c => ⟨(h c).1.trans ?_, (h c).2⟩)
      (Cert.LateRefIdeal.Value.run (F := Ideal) m' ρ')
    rw [(hagree c).1, (hagree c).2]
    rfl

end Cert.Proof.Late

end
-- ==== Proof.lean ====
/- Every claim of this directory's certificate, each closed by the theorem that proves it. -/
module

public import proofs.«01_k».proof.Defs
public import proofs.«01_k».proof.Proof.Gen.Kernel.Frame
public import proofs.«01_k».proof.Proof.Gen.KernelIdeal.Frame
public import proofs.«01_k».proof.Proof.Gen.Back.Frame
public import proofs.«01_k».proof.Proof.Gen.BackIdeal.Frame
public import proofs.«01_k».proof.Proof.Gen.Proj.Frame
public import proofs.«01_k».proof.Proof.Gen.ProjIdeal.Frame
public import proofs.«01_k».proof.Proof.Gen.Late.Frame
public import proofs.«01_k».proof.Proof.Gen.LateIdeal.Frame
public import proofs.«01_k».proof.Proof.Gen.Out.Frame
public import proofs.«01_k».proof.Proof.Gen.OutIdeal.Frame
public import proofs.«01_k».proof.Proof.Gen.Mix.Frame
public import proofs.«01_k».proof.Proof.Gen.MixIdeal.Frame
public import proofs.«01_k».proof.Proof.Gen.Join.Frame
public import proofs.«01_k».proof.Proof.Gen.JoinIdeal.Frame
public import proofs.«01_k».proof.Proof.Gen.JoinIdeal.Value
public import proofs.«01_k».proof.Proof.Gen.JoinRefIdeal.Read
public import proofs.«01_k».proof.Proof.Gen.JoinRefIdeal.Run
public import proofs.«01_k».proof.Proof.Gen.Last.Frame
public import proofs.«01_k».proof.Proof.Gen.LastIdeal.Frame
public import proofs.«01_k».proof.Proof.Gen.OutIdeal.Value
public import proofs.«01_k».proof.Proof.Gen.MixIdeal.Value
public import proofs.«01_k».proof.Proof.Gen.LastIdeal.Value
public import proofs.«01_k».proof.Proof.Gen.OutRefIdeal.Read
public import proofs.«01_k».proof.Proof.Gen.OutRefIdeal.Run
public import proofs.«01_k».proof.Proof.Gen.MixRefIdeal.Read
public import proofs.«01_k».proof.Proof.Gen.MixRefIdeal.Run
public import proofs.«01_k».proof.Proof.Gen.LastRefIdeal.Read
public import proofs.«01_k».proof.Proof.Gen.LastRefIdeal.Run
public import proofs.«01_k».proof.Proof.OutClaim
public import proofs.«01_k».proof.Proof.MixClaim
public import proofs.«01_k».proof.Proof.JoinClaim
public import proofs.«01_k».proof.Proof.LastClaim
public import proofs.«01_k».proof.Proof.ProjClaim
public import proofs.«01_k».proof.Proof.LateValue
public import proofs.«01_k».proof.Proof.GlaClaim
public import Idealize.ShloMosaic.Lib.Quiescent

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Back.Gen.facts, Cert.BackIdeal.Gen.facts,
    Cert.Proj.Gen.facts, Cert.ProjIdeal.Gen.facts, Cert.ProjRefIdeal.Gen.facts,
    Cert.Late.Gen.facts, Cert.LateIdeal.Gen.facts, Cert.LateRefIdeal.Gen.facts,
    Cert.Last.Gen.facts, Cert.LastIdeal.Gen.facts, Cert.LastRefIdeal.Gen.facts,
    Cert.Out.Gen.facts, Cert.OutIdeal.Gen.facts, Cert.OutRefIdeal.Gen.facts,
    Cert.Mix.Gen.facts, Cert.MixIdeal.Gen.facts, Cert.MixRefIdeal.Gen.facts,
    Cert.Join.Gen.facts, Cert.JoinIdeal.Gen.facts, Cert.JoinRefIdeal.Gen.facts,
    Cert.Pre_gates_in_range.Gen.facts, Cert.Pre_late_finite.Gen.facts, Cert.Pre_mix_finite.Gen.facts,
    fun m ρ _ => Cert.Kernel.Gen.frame m ρ,
    fun m ρ _ => Cert.KernelIdeal.Gen.frame m ρ,
    fun m ρ _ => Cert.KernelIdeal.Gen.frame m ρ,
    Gla.reference_frame,
    fun m ρ _ => Gla.reference_frame m ρ trivial,
    fun m ρ _ => Cert.Back.Gen.frame m ρ,
    fun m ρ _ => Cert.BackIdeal.Gen.frame m ρ,
    fun m ρ _ => Cert.Proj.Gen.frame m ρ,
    fun m ρ _ => Cert.ProjIdeal.Gen.frame m ρ,
    Proj.reference_frame,
    fun m ρ _ => Cert.Late.Gen.frame m ρ,
    fun m ρ _ => Cert.LateIdeal.Gen.frame m ρ,
    Late.reference_frame,
    fun m ρ _ => Cert.Last.Gen.frame m ρ,
    fun m ρ _ => Cert.LastIdeal.Gen.frame m ρ,
    Last.reference_frame,
    fun m ρ _ => Cert.Out.Gen.frame m ρ,
    fun m ρ _ => Cert.OutIdeal.Gen.frame m ρ,
    fun m ρ _ => Cert.OutIdeal.Gen.frame m ρ,
    Out.reference_frame,
    fun m ρ _ => Out.reference_frame m ρ trivial,
    fun m ρ _ => Cert.Mix.Gen.frame m ρ,
    fun m ρ _ => Cert.MixIdeal.Gen.frame m ρ,
    fun m ρ _ => Cert.MixIdeal.Gen.frame m ρ,
    Mix.reference_frame,
    fun m ρ _ => Mix.reference_frame m ρ trivial,
    fun m ρ _ => Cert.Join.Gen.frame m ρ,
    fun m ρ _ => Cert.JoinIdeal.Gen.frame m ρ,
    Join.reference_frame,
    trivial,
    Gla.algebraic,
    trivial, trivial,
    Proj.algebraic,
    trivial,
    Late.algebraic,
    trivial,
    Last.algebraic,
    trivial,
    Out.algebraic,
    trivial,
    Mix.algebraic,
    trivial,
    Join.algebraic⟩

end Cert.Proof

end
